-- ==== Defs.lean ====
def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite [hPre_finite : Cert.Pre_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite [hPre_finite : Cert.Pre_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))) = (fun _ => 1#1)

def Pre_KernelRelu (m : (ℓ : Loc Cert.KernelRelu.nD Cert.KernelRelu.τ Cert.KernelRelu.sig) → Buf (Elt Bits) ℓ) : Prop :=
  True

def Pre_KernelReluIdeal (m : (ℓ : Loc Cert.KernelReluIdeal.nD Cert.KernelReluIdeal.τ Cert.KernelReluIdeal.sig) → Buf (Elt Ideal) ℓ) : Prop :=
  True

def Pre_ReferenceReluIdeal (m : (ℓ : Loc Cert.ReferenceReluIdeal.nD Cert.ReferenceReluIdeal.τ Cert.ReferenceReluIdeal.sig) → Buf (Elt Ideal) ℓ) : Prop :=
  True

def Pre_KernelSquare (m : (ℓ : Loc Cert.KernelSquare.nD Cert.KernelSquare.τ Cert.KernelSquare.sig) → Buf (Elt Bits) ℓ) : Prop :=
  True

def Pre_KernelSquareIdeal (m : (ℓ : Loc Cert.KernelSquareIdeal.nD Cert.KernelSquareIdeal.τ Cert.KernelSquareIdeal.sig) → Buf (Elt Ideal) ℓ) : Prop :=
  True

def Pre_ReferenceSquareIdeal (m : (ℓ : Loc Cert.ReferenceSquareIdeal.nD Cert.ReferenceSquareIdeal.τ Cert.ReferenceSquareIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_KernelProjIdeal_finite_proj [hPre_finite_proj : Cert.Pre_finite_proj.Facts] (m : (ℓ : Loc Cert.KernelProjIdeal.nD Cert.KernelProjIdeal.τ Cert.KernelProjIdeal.sig) → Buf (Elt Ideal) ℓ) : Prop :=
  ∀ c : Dev Cert.KernelProjIdeal.nD,
    (Cert.Pre_finite_proj.fn (F := Ideal) (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_finite_proj [hPre_finite_proj : Cert.Pre_finite_proj.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_finite_proj.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_finite_norm [hPre_finite_norm : Cert.Pre_finite_norm.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))) = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_finite_norm [hPre_finite_norm : Cert.Pre_finite_norm.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))) = (fun _ => 1#1)

def Pre_KernelBias (m : (ℓ : Loc Cert.KernelBias.nD Cert.KernelBias.τ Cert.KernelBias.sig) → Buf (Elt Bits) ℓ) : Prop :=
  True

def Pre_KernelBiasIdeal (m : (ℓ : Loc Cert.KernelBiasIdeal.nD Cert.KernelBiasIdeal.τ Cert.KernelBiasIdeal.sig) → Buf (Elt Ideal) ℓ) : Prop :=
  True

def Pre_ReferenceBiasIdeal (m : (ℓ : Loc Cert.ReferenceBiasIdeal.nD Cert.ReferenceBiasIdeal.τ Cert.ReferenceBiasIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_KernelQkvIdeal_finite_qkv [hPre_finite_qkv : Cert.Pre_finite_qkv.Facts] (m : (ℓ : Loc Cert.KernelQkvIdeal.nD Cert.KernelQkvIdeal.τ Cert.KernelQkvIdeal.sig) → Buf (Elt Ideal) ℓ) : Prop :=
  ∀ c : Dev Cert.KernelQkvIdeal.nD,
    (Cert.Pre_finite_qkv.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))) = (fun _ => 1#1)

def Pre_ReferenceQkvIdeal (m : (ℓ : Loc Cert.ReferenceQkvIdeal.nD Cert.ReferenceQkvIdeal.τ Cert.ReferenceQkvIdeal.sig) → Buf (Elt Ideal) ℓ) : Prop :=
  True

def Pre_ReferenceQkvIdeal_finite_qkv [hPre_finite_qkv : Cert.Pre_finite_qkv.Facts] (m : (ℓ : Loc Cert.ReferenceQkvIdeal.nD Cert.ReferenceQkvIdeal.τ Cert.ReferenceQkvIdeal.sig) → Buf (Elt Ideal) ℓ) : Prop :=
  ∀ c : Dev Cert.ReferenceQkvIdeal.nD,
    (Cert.Pre_finite_qkv.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))) = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_ReferencePoolIdeal (m : (ℓ : Loc Cert.ReferencePoolIdeal.nD Cert.ReferencePoolIdeal.τ Cert.ReferencePoolIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3))) = (fun _ => 1#1)

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelRes (m : (ℓ : Loc Cert.KernelRes.nD Cert.KernelRes.τ Cert.KernelRes.sig) → Buf (Elt Bits) ℓ) : Prop :=
  True

def Pre_KernelResIdeal (m : (ℓ : Loc Cert.KernelResIdeal.nD Cert.KernelResIdeal.τ Cert.KernelResIdeal.sig) → Buf (Elt Ideal) ℓ) : Prop :=
  True

def Pre_ReferenceResIdeal (m : (ℓ : Loc Cert.ReferenceResIdeal.nD Cert.ReferenceResIdeal.τ Cert.ReferenceResIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite [hKernelAttnIdeal : Cert.KernelAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite [hReferenceAttnIdeal : Cert.ReferenceAttnIdeal.Facts] [hPre_finite : Cert.Pre_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelRelu [hKernelRelu : Cert.KernelRelu.Facts] : Prop :=
  ∀ (m : (ℓ : Loc Cert.KernelRelu.nD Cert.KernelRelu.τ Cert.KernelRelu.sig) → Buf (Elt Bits) ℓ) (g : Dev Cert.KernelRelu.nD → PrngReg), Pre_KernelRelu m →
    θ_run (Cert.KernelRelu.defs (F := Bits)) (onTc (τ := Cert.KernelRelu.τ) (Cert.KernelRelu.main (F := Bits))) ⟨m, fun _ => 0, g⟩ (fun r => (∀ c : Dev Cert.KernelRelu.nD,
      r.2.mem ((c.tc : Thread Cert.KernelRelu.nD Cert.KernelRelu.τ).loc Cert.KernelRelu.main_arg0) = m ((c.tc : Thread Cert.KernelRelu.nD Cert.KernelRelu.τ).loc Cert.KernelRelu.main_arg0)
      ∧ r.2.mem ((c.tc : Thread Cert.KernelRelu.nD Cert.KernelRelu.τ).loc Cert.KernelRelu.main_arg1) = m ((c.tc : Thread Cert.KernelRelu.nD Cert.KernelRelu.τ).loc Cert.KernelRelu.main_arg1)
      ∧ r.2.mem ((c.tc : Thread Cert.KernelRelu.nD Cert.KernelRelu.τ).loc Cert.KernelRelu.main_arg2) = m ((c.tc : Thread Cert.KernelRelu.nD Cert.KernelRelu.τ).loc Cert.KernelRelu.main_arg2))
      ∧ r.2.sem = fun _ => 0)

def quiescent_KernelReluIdeal [hKernelReluIdeal : Cert.KernelReluIdeal.Facts] : Prop :=
  ∀ (m : (ℓ : Loc Cert.KernelReluIdeal.nD Cert.KernelReluIdeal.τ Cert.KernelReluIdeal.sig) → Buf (Elt Ideal) ℓ) (g : Dev Cert.KernelReluIdeal.nD → PrngReg), Pre_KernelReluIdeal m →
    θ_run (Cert.KernelReluIdeal.defs (F := Ideal)) (onTc (τ := Cert.KernelReluIdeal.τ) (Cert.KernelReluIdeal.main (F := Ideal))) ⟨m, fun _ => 0, g⟩ (fun r => (∀ c : Dev Cert.KernelReluIdeal.nD,
      r.2.mem ((c.tc : Thread Cert.KernelReluIdeal.nD Cert.KernelReluIdeal.τ).loc Cert.KernelReluIdeal.main_arg0) = m ((c.tc : Thread Cert.KernelReluIdeal.nD Cert.KernelReluIdeal.τ).loc Cert.KernelReluIdeal.main_arg0)
      ∧ r.2.mem ((c.tc : Thread Cert.KernelReluIdeal.nD Cert.KernelReluIdeal.τ).loc Cert.KernelReluIdeal.main_arg1) = m ((c.tc : Thread Cert.KernelReluIdeal.nD Cert.KernelReluIdeal.τ).loc Cert.KernelReluIdeal.main_arg1)
      ∧ r.2.mem ((c.tc : Thread Cert.KernelReluIdeal.nD Cert.KernelReluIdeal.τ).loc Cert.KernelReluIdeal.main_arg2) = m ((c.tc : Thread Cert.KernelReluIdeal.nD Cert.KernelReluIdeal.τ).loc Cert.KernelReluIdeal.main_arg2))
      ∧ r.2.sem = fun _ => 0)

def quiescent_ReferenceReluIdeal [hReferenceReluIdeal : Cert.ReferenceReluIdeal.Facts] : Prop :=
  ∀ (m : (ℓ : Loc Cert.ReferenceReluIdeal.nD Cert.ReferenceReluIdeal.τ Cert.ReferenceReluIdeal.sig) → Buf (Elt Ideal) ℓ) (g : Dev Cert.ReferenceReluIdeal.nD → PrngReg), Pre_ReferenceReluIdeal m →
    θ_run (Cert.ReferenceReluIdeal.defs (F := Ideal)) (onTc (τ := Cert.ReferenceReluIdeal.τ) (Cert.ReferenceReluIdeal.main (F := Ideal))) ⟨m, fun _ => 0, g⟩ (fun r => (∀ c : Dev Cert.ReferenceReluIdeal.nD,
      r.2.mem ((c.tc : Thread Cert.ReferenceReluIdeal.nD Cert.ReferenceReluIdeal.τ).loc Cert.ReferenceReluIdeal.main_arg0) = m ((c.tc : Thread Cert.ReferenceReluIdeal.nD Cert.ReferenceReluIdeal.τ).loc Cert.ReferenceReluIdeal.main_arg0)
      ∧ r.2.mem ((c.tc : Thread Cert.ReferenceReluIdeal.nD Cert.ReferenceReluIdeal.τ).loc Cert.ReferenceReluIdeal.main_arg1) = m ((c.tc : Thread Cert.ReferenceReluIdeal.nD Cert.ReferenceReluIdeal.τ).loc Cert.ReferenceReluIdeal.main_arg1)
      ∧ r.2.mem ((c.tc : Thread Cert.ReferenceReluIdeal.nD Cert.ReferenceReluIdeal.τ).loc Cert.ReferenceReluIdeal.main_arg2) = m ((c.tc : Thread Cert.ReferenceReluIdeal.nD Cert.ReferenceReluIdeal.τ).loc Cert.ReferenceReluIdeal.main_arg2))
      ∧ r.2.sem = fun _ => 0)

def quiescent_KernelSquare [hKernelSquare : Cert.KernelSquare.Facts] : Prop :=
  ∀ (m : (ℓ : Loc Cert.KernelSquare.nD Cert.KernelSquare.τ Cert.KernelSquare.sig) → Buf (Elt Bits) ℓ) (g : Dev Cert.KernelSquare.nD → PrngReg), Pre_KernelSquare m →
    θ_run (Cert.KernelSquare.defs (F := Bits)) (onTc (τ := Cert.KernelSquare.τ) (Cert.KernelSquare.main (F := Bits))) ⟨m, fun _ => 0, g⟩ (fun r => (∀ c : Dev Cert.KernelSquare.nD,
      r.2.mem ((c.tc : Thread Cert.KernelSquare.nD Cert.KernelSquare.τ).loc Cert.KernelSquare.main_arg0) = m ((c.tc : Thread Cert.KernelSquare.nD Cert.KernelSquare.τ).loc Cert.KernelSquare.main_arg0)
      ∧ r.2.mem ((c.tc : Thread Cert.KernelSquare.nD Cert.KernelSquare.τ).loc Cert.KernelSquare.main_arg1) = m ((c.tc : Thread Cert.KernelSquare.nD Cert.KernelSquare.τ).loc Cert.KernelSquare.main_arg1))
      ∧ r.2.sem = fun _ => 0)

def quiescent_KernelSquareIdeal [hKernelSquareIdeal : Cert.KernelSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg), Pre_KernelSquareIdeal m →
    θ_run (Cert.KernelSquareIdeal.defs (F := Ideal)) (onTc (τ := Cert.KernelSquareIdeal.τ) (Cert.KernelSquareIdeal.main (F := Ideal))) ⟨m, fun _ => 0, g⟩ (fun r => (∀ c : Dev Cert.KernelSquareIdeal.nD,
      r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
      ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ r.2.sem = fun _ => 0)

def quiescent_ReferenceSquareIdeal [hReferenceSquareIdeal : Cert.ReferenceSquareIdeal.Facts] : Prop :=
  ∀ (m : (ℓ : Loc Cert.ReferenceSquareIdeal.nD Cert.ReferenceSquareIdeal.τ Cert.ReferenceSquareIdeal.sig) → Buf (Elt Ideal) ℓ) (g : Dev Cert.ReferenceSquareIdeal.nD → PrngReg), Pre_ReferenceSquareIdeal m →
    θ_run (Cert.ReferenceSquareIdeal.defs (F := Ideal)) (onTc (τ := Cert.ReferenceSquareIdeal.τ) (Cert.ReferenceSquareIdeal.main (F := Ideal))) ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_KernelProjIdeal_pre_finite_proj [hKernelProjIdeal : Cert.KernelProjIdeal.Facts] [hPre_finite_proj : Cert.Pre_finite_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal_finite_proj m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_ReferenceProjIdeal_pre_finite_proj [hReferenceProjIdeal : Cert.ReferenceProjIdeal.Facts] [hPre_finite_proj : Cert.Pre_finite_proj.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_finite_proj m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_KernelNormIdeal_pre_finite_norm [hKernelNormIdeal : Cert.KernelNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_finite_norm m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_ReferenceNormIdeal_pre_finite_norm [hReferenceNormIdeal : Cert.ReferenceNormIdeal.Facts] [hPre_finite_norm : Cert.Pre_finite_norm.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_finite_norm m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelBias [hKernelBias : Cert.KernelBias.Facts] : Prop :=
  ∀ (m : (ℓ : Loc Cert.KernelBias.nD Cert.KernelBias.τ Cert.KernelBias.sig) → Buf (Elt Bits) ℓ) (g : Dev Cert.KernelBias.nD → PrngReg), Pre_KernelBias m →
    θ_run (Cert.KernelBias.defs (F := Bits)) (onTc (τ := Cert.KernelBias.τ) (Cert.KernelBias.main (F := Bits))) ⟨m, fun _ => 0, g⟩ (fun r => (∀ c : Dev Cert.KernelBias.nD,
      r.2.mem ((c.tc : Thread Cert.KernelBias.nD Cert.KernelBias.τ).loc Cert.KernelBias.main_arg0) = m ((c.tc : Thread Cert.KernelBias.nD Cert.KernelBias.τ).loc Cert.KernelBias.main_arg0))
      ∧ r.2.sem = fun _ => 0)

def quiescent_KernelBiasIdeal [hKernelBiasIdeal : Cert.KernelBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg), Pre_KernelBiasIdeal m →
    θ_run (Cert.KernelBiasIdeal.defs (F := Ideal)) (onTc (τ := Cert.KernelBiasIdeal.τ) (Cert.KernelBiasIdeal.main (F := Ideal))) ⟨m, fun _ => 0, g⟩ (fun r => (∀ c : Dev Cert.KernelBiasIdeal.nD,
      r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0))
      ∧ r.2.sem = fun _ => 0)

def quiescent_ReferenceBiasIdeal [hReferenceBiasIdeal : Cert.ReferenceBiasIdeal.Facts] : Prop :=
  ∀ (m : (ℓ : Loc Cert.ReferenceBiasIdeal.nD Cert.ReferenceBiasIdeal.τ Cert.ReferenceBiasIdeal.sig) → Buf (Elt Ideal) ℓ) (g : Dev Cert.ReferenceBiasIdeal.nD → PrngReg), Pre_ReferenceBiasIdeal m →
    θ_run (Cert.ReferenceBiasIdeal.defs (F := Ideal)) (onTc (τ := Cert.ReferenceBiasIdeal.τ) (Cert.ReferenceBiasIdeal.main (F := Ideal))) ⟨m, fun _ => 0, g⟩ (fun r => (∀ c : Dev Cert.ReferenceBiasIdeal.nD,
      r.2.mem ((c.tc : Thread Cert.ReferenceBiasIdeal.nD Cert.ReferenceBiasIdeal.τ).loc Cert.ReferenceBiasIdeal.main_arg0) = m ((c.tc : Thread Cert.ReferenceBiasIdeal.nD Cert.ReferenceBiasIdeal.τ).loc Cert.ReferenceBiasIdeal.main_arg0))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_KernelQkvIdeal_pre_finite_qkv [hKernelQkvIdeal : Cert.KernelQkvIdeal.Facts] [hPre_finite_qkv : Cert.Pre_finite_qkv.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal_finite_qkv m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def quiescent_ReferenceQkvIdeal_pre_finite_qkv [hReferenceQkvIdeal : Cert.ReferenceQkvIdeal.Facts] [hPre_finite_qkv : Cert.Pre_finite_qkv.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal_finite_qkv m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3)
      ∧ r.2.mem ((c.tc : Thread Cert.KernelPool.nD Cert.KernelPool.τ).loc Cert.KernelPool.main_arg4) = m ((c.tc : Thread Cert.KernelPool.nD Cert.KernelPool.τ).loc Cert.KernelPool.main_arg4))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3)
      ∧ r.2.mem ((c.tc : Thread Cert.KernelPoolIdeal.nD Cert.KernelPoolIdeal.τ).loc Cert.KernelPoolIdeal.main_arg4) = m ((c.tc : Thread Cert.KernelPoolIdeal.nD Cert.KernelPoolIdeal.τ).loc Cert.KernelPoolIdeal.main_arg4))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3)
      ∧ r.2.mem ((c.tc : Thread Cert.ReferencePoolIdeal.nD Cert.ReferencePoolIdeal.τ).loc Cert.ReferencePoolIdeal.main_arg4) = m ((c.tc : Thread Cert.ReferencePoolIdeal.nD Cert.ReferencePoolIdeal.τ).loc Cert.ReferencePoolIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4))
      ∧ r.2.sem = fun _ => 0)

def quiescent_KernelRes [hKernelRes : Cert.KernelRes.Facts] : Prop :=
  ∀ (m : (ℓ : Loc Cert.KernelRes.nD Cert.KernelRes.τ Cert.KernelRes.sig) → Buf (Elt Bits) ℓ) (g : Dev Cert.KernelRes.nD → PrngReg), Pre_KernelRes m →
    θ_run (Cert.KernelRes.defs (F := Bits)) (onTc (τ := Cert.KernelRes.τ) (Cert.KernelRes.main (F := Bits))) ⟨m, fun _ => 0, g⟩ (fun r => (∀ c : Dev Cert.KernelRes.nD,
      r.2.mem ((c.tc : Thread Cert.KernelRes.nD Cert.KernelRes.τ).loc Cert.KernelRes.main_arg0) = m ((c.tc : Thread Cert.KernelRes.nD Cert.KernelRes.τ).loc Cert.KernelRes.main_arg0)
      ∧ r.2.mem ((c.tc : Thread Cert.KernelRes.nD Cert.KernelRes.τ).loc Cert.KernelRes.main_arg1) = m ((c.tc : Thread Cert.KernelRes.nD Cert.KernelRes.τ).loc Cert.KernelRes.main_arg1)
      ∧ r.2.mem ((c.tc : Thread Cert.KernelRes.nD Cert.KernelRes.τ).loc Cert.KernelRes.main_arg2) = m ((c.tc : Thread Cert.KernelRes.nD Cert.KernelRes.τ).loc Cert.KernelRes.main_arg2)
      ∧ r.2.mem ((c.tc : Thread Cert.KernelRes.nD Cert.KernelRes.τ).loc Cert.KernelRes.main_arg3) = m ((c.tc : Thread Cert.KernelRes.nD Cert.KernelRes.τ).loc Cert.KernelRes.main_arg3))
      ∧ r.2.sem = fun _ => 0)

def quiescent_KernelResIdeal [hKernelResIdeal : Cert.KernelResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg), Pre_KernelResIdeal m →
    θ_run (Cert.KernelResIdeal.defs (F := Ideal)) (onTc (τ := Cert.KernelResIdeal.τ) (Cert.KernelResIdeal.main (F := Ideal))) ⟨m, fun _ => 0, g⟩ (fun r => (∀ c : Dev Cert.KernelResIdeal.nD,
      r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
      ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
      ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
      ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3))
      ∧ r.2.sem = fun _ => 0)

def quiescent_ReferenceResIdeal [hReferenceResIdeal : Cert.ReferenceResIdeal.Facts] : Prop :=
  ∀ (m : (ℓ : Loc Cert.ReferenceResIdeal.nD Cert.ReferenceResIdeal.τ Cert.ReferenceResIdeal.sig) → Buf (Elt Ideal) ℓ) (g : Dev Cert.ReferenceResIdeal.nD → PrngReg), Pre_ReferenceResIdeal m →
    θ_run (Cert.ReferenceResIdeal.defs (F := Ideal)) (onTc (τ := Cert.ReferenceResIdeal.τ) (Cert.ReferenceResIdeal.main (F := Ideal))) ⟨m, fun _ => 0, g⟩ (fun r => (∀ c : Dev Cert.ReferenceResIdeal.nD,
      r.2.mem ((c.tc : Thread Cert.ReferenceResIdeal.nD Cert.ReferenceResIdeal.τ).loc Cert.ReferenceResIdeal.main_arg0) = m ((c.tc : Thread Cert.ReferenceResIdeal.nD Cert.ReferenceResIdeal.τ).loc Cert.ReferenceResIdeal.main_arg0)
      ∧ r.2.mem ((c.tc : Thread Cert.ReferenceResIdeal.nD Cert.ReferenceResIdeal.τ).loc Cert.ReferenceResIdeal.main_arg1) = m ((c.tc : Thread Cert.ReferenceResIdeal.nD Cert.ReferenceResIdeal.τ).loc Cert.ReferenceResIdeal.main_arg1)
      ∧ r.2.mem ((c.tc : Thread Cert.ReferenceResIdeal.nD Cert.ReferenceResIdeal.τ).loc Cert.ReferenceResIdeal.main_arg2) = m ((c.tc : Thread Cert.ReferenceResIdeal.nD Cert.ReferenceResIdeal.τ).loc Cert.ReferenceResIdeal.main_arg2)
      ∧ r.2.mem ((c.tc : Thread Cert.ReferenceResIdeal.nD Cert.ReferenceResIdeal.τ).loc Cert.ReferenceResIdeal.main_arg3) = m ((c.tc : Thread Cert.ReferenceResIdeal.nD Cert.ReferenceResIdeal.τ).loc Cert.ReferenceResIdeal.main_arg3))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def preserves_KernelAttn_KernelAttnIdeal : Prop :=
  IdealRules.named_const.Statement Cert.KernelAttnIdeal.κ "mask" .f32 0xF149F2CA#32 ⊥

def algebraic_KernelAttnIdeal_ReferenceAttnIdeal_pre_finite [hKernelAttnIdeal : Cert.KernelAttnIdeal.Facts] [hReferenceAttnIdeal : Cert.ReferenceAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v122_0)) (v1 : (c : Dev Cert.KernelAttnIdeal.nD) → Buf (Elt Ideal) ((c.tc : Thread Cert.KernelAttnIdeal.nD Cert.KernelAttnIdeal.τ).loc Cert.KernelAttnIdeal.main_v122_1)) (v2 : (c : Dev Cert.KernelAttnIdeal.nD) → Buf (Elt Ideal) ((c.tc : Thread Cert.KernelAttnIdeal.nD Cert.KernelAttnIdeal.τ).loc Cert.KernelAttnIdeal.main_v122_2)) (v3 : (c : Dev Cert.KernelAttnIdeal.nD) → Buf (Elt Ideal) ((c.tc : Thread Cert.KernelAttnIdeal.nD Cert.KernelAttnIdeal.τ).loc Cert.KernelAttnIdeal.main_v122_3)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v122_0) = v0 c
          ∧ r.2.mem ((c.tc : Thread Cert.KernelAttnIdeal.nD Cert.KernelAttnIdeal.τ).loc Cert.KernelAttnIdeal.main_v122_1) = v1 c
          ∧ r.2.mem ((c.tc : Thread Cert.KernelAttnIdeal.nD Cert.KernelAttnIdeal.τ).loc Cert.KernelAttnIdeal.main_v122_2) = v2 c
          ∧ r.2.mem ((c.tc : Thread Cert.KernelAttnIdeal.nD Cert.KernelAttnIdeal.τ).loc Cert.KernelAttnIdeal.main_v122_3) = v3 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v146) = v0 c
          ∧ r.2.mem ((c.tc : Thread Cert.ReferenceAttnIdeal.nD Cert.ReferenceAttnIdeal.τ).loc Cert.ReferenceAttnIdeal.main_v148) = v1 c
          ∧ r.2.mem ((c.tc : Thread Cert.ReferenceAttnIdeal.nD Cert.ReferenceAttnIdeal.τ).loc Cert.ReferenceAttnIdeal.main_v151) = v2 c
          ∧ r.2.mem ((c.tc : Thread Cert.ReferenceAttnIdeal.nD Cert.ReferenceAttnIdeal.τ).loc Cert.ReferenceAttnIdeal.main_v144) = v3 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelRelu_KernelReluIdeal : Prop :=
  True

def algebraic_KernelReluIdeal_ReferenceReluIdeal [hKernelReluIdeal : Cert.KernelReluIdeal.Facts] [hReferenceReluIdeal : Cert.ReferenceReluIdeal.Facts] : Prop :=
  ∀ (m : (ℓ : Loc Cert.KernelReluIdeal.nD Cert.KernelReluIdeal.τ Cert.KernelReluIdeal.sig) → Buf (Elt Ideal) ℓ) (g : Dev Cert.KernelReluIdeal.nD → PrngReg)
    (m' : (ℓ : Loc Cert.ReferenceReluIdeal.nD Cert.ReferenceReluIdeal.τ Cert.ReferenceReluIdeal.sig) → Buf (Elt Ideal) ℓ) (g' : Dev Cert.ReferenceReluIdeal.nD → PrngReg), Pre_KernelReluIdeal m →
    (∀ c : Dev Cert.KernelReluIdeal.nD,
      m' ((c.tc : Thread Cert.ReferenceReluIdeal.nD Cert.ReferenceReluIdeal.τ).loc Cert.ReferenceReluIdeal.main_arg0) = m ((c.tc : Thread Cert.KernelReluIdeal.nD Cert.KernelReluIdeal.τ).loc Cert.KernelReluIdeal.main_arg0)
      ∧ m' ((c.tc : Thread Cert.ReferenceReluIdeal.nD Cert.ReferenceReluIdeal.τ).loc Cert.ReferenceReluIdeal.main_arg1) = m ((c.tc : Thread Cert.KernelReluIdeal.nD Cert.KernelReluIdeal.τ).loc Cert.KernelReluIdeal.main_arg1)
      ∧ m' ((c.tc : Thread Cert.ReferenceReluIdeal.nD Cert.ReferenceReluIdeal.τ).loc Cert.ReferenceReluIdeal.main_arg2) = m ((c.tc : Thread Cert.KernelReluIdeal.nD Cert.KernelReluIdeal.τ).loc Cert.KernelReluIdeal.main_arg2)) →
    ∃ (v0 : (c : Dev Cert.KernelReluIdeal.nD) → Buf (Elt Ideal) ((c.tc : Thread Cert.KernelReluIdeal.nD Cert.KernelReluIdeal.τ).loc Cert.KernelReluIdeal.main_v0)),
      θ_run (Cert.KernelReluIdeal.defs (F := Ideal)) (onTc (τ := Cert.KernelReluIdeal.τ) (Cert.KernelReluIdeal.main (F := Ideal))) ⟨m, fun _ => 0, g⟩ (fun r => ∀ c : Dev Cert.KernelReluIdeal.nD,
          r.2.mem ((c.tc : Thread Cert.KernelReluIdeal.nD Cert.KernelReluIdeal.τ).loc Cert.KernelReluIdeal.main_v0) = v0 c
          ∧ r.2.mem ((c.tc : Thread Cert.KernelReluIdeal.nD Cert.KernelReluIdeal.τ).loc Cert.KernelReluIdeal.main_arg0) = m ((c.tc : Thread Cert.KernelReluIdeal.nD Cert.KernelReluIdeal.τ).loc Cert.KernelReluIdeal.main_arg0)
          ∧ r.2.mem ((c.tc : Thread Cert.KernelReluIdeal.nD Cert.KernelReluIdeal.τ).loc Cert.KernelReluIdeal.main_arg1) = m ((c.tc : Thread Cert.KernelReluIdeal.nD Cert.KernelReluIdeal.τ).loc Cert.KernelReluIdeal.main_arg1)
          ∧ r.2.mem ((c.tc : Thread Cert.KernelReluIdeal.nD Cert.KernelReluIdeal.τ).loc Cert.KernelReluIdeal.main_arg2) = m ((c.tc : Thread Cert.KernelReluIdeal.nD Cert.KernelReluIdeal.τ).loc Cert.KernelReluIdeal.main_arg2))
      ∧ θ_run (Cert.ReferenceReluIdeal.defs (F := Ideal)) (onTc (τ := Cert.ReferenceReluIdeal.τ) (Cert.ReferenceReluIdeal.main (F := Ideal))) ⟨m', fun _ => 0, g'⟩ (fun r => ∀ c : Dev Cert.ReferenceReluIdeal.nD,
          r.2.mem ((c.tc : Thread Cert.ReferenceReluIdeal.nD Cert.ReferenceReluIdeal.τ).loc Cert.ReferenceReluIdeal.main_v17) = v0 c
          ∧ r.2.mem ((c.tc : Thread Cert.ReferenceReluIdeal.nD Cert.ReferenceReluIdeal.τ).loc Cert.ReferenceReluIdeal.main_arg0) = m' ((c.tc : Thread Cert.ReferenceReluIdeal.nD Cert.ReferenceReluIdeal.τ).loc Cert.ReferenceReluIdeal.main_arg0)
          ∧ r.2.mem ((c.tc : Thread Cert.ReferenceReluIdeal.nD Cert.ReferenceReluIdeal.τ).loc Cert.ReferenceReluIdeal.main_arg1) = m' ((c.tc : Thread Cert.ReferenceReluIdeal.nD Cert.ReferenceReluIdeal.τ).loc Cert.ReferenceReluIdeal.main_arg1)
          ∧ r.2.mem ((c.tc : Thread Cert.ReferenceReluIdeal.nD Cert.ReferenceReluIdeal.τ).loc Cert.ReferenceReluIdeal.main_arg2) = m' ((c.tc : Thread Cert.ReferenceReluIdeal.nD Cert.ReferenceReluIdeal.τ).loc Cert.ReferenceReluIdeal.main_arg2))

def preserves_KernelSquare_KernelSquareIdeal : Prop :=
  True

def algebraic_KernelSquareIdeal_ReferenceSquareIdeal [hKernelSquareIdeal : Cert.KernelSquareIdeal.Facts] [hReferenceSquareIdeal : Cert.ReferenceSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg)
    (m' : (ℓ : Loc Cert.ReferenceSquareIdeal.nD Cert.ReferenceSquareIdeal.τ Cert.ReferenceSquareIdeal.sig) → Buf (Elt Ideal) ℓ) (g' : Dev Cert.ReferenceSquareIdeal.nD → PrngReg), Pre_KernelSquareIdeal m →
    (∀ c : Dev Cert.KernelSquareIdeal.nD,
      m' ((c.tc : Thread Cert.ReferenceSquareIdeal.nD Cert.ReferenceSquareIdeal.τ).loc Cert.ReferenceSquareIdeal.main_arg0) = m ((c.tc : Thread Cert.KernelSquareIdeal.nD Cert.KernelSquareIdeal.τ).loc Cert.KernelSquareIdeal.main_arg0)
      ∧ m' ((c.tc : Thread Cert.ReferenceSquareIdeal.nD Cert.ReferenceSquareIdeal.τ).loc Cert.ReferenceSquareIdeal.main_arg1) = m ((c.tc : Thread Cert.KernelSquareIdeal.nD Cert.KernelSquareIdeal.τ).loc Cert.KernelSquareIdeal.main_arg1)) →
    ∃ (v0 : (c : Dev Cert.KernelSquareIdeal.nD) → Buf (Elt Ideal) ((c.tc : Thread Cert.KernelSquareIdeal.nD Cert.KernelSquareIdeal.τ).loc Cert.KernelSquareIdeal.main_v0)),
      θ_run (Cert.KernelSquareIdeal.defs (F := Ideal)) (onTc (τ := Cert.KernelSquareIdeal.τ) (Cert.KernelSquareIdeal.main (F := Ideal))) ⟨m, fun _ => 0, g⟩ (fun r => ∀ c : Dev Cert.KernelSquareIdeal.nD,
          r.2.mem ((c.tc : Thread Cert.KernelSquareIdeal.nD Cert.KernelSquareIdeal.τ).loc Cert.KernelSquareIdeal.main_v0) = v0 c
          ∧ r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
          ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ θ_run (Cert.ReferenceSquareIdeal.defs (F := Ideal)) (onTc (τ := Cert.ReferenceSquareIdeal.τ) (Cert.ReferenceSquareIdeal.main (F := Ideal))) ⟨m', fun _ => 0, g'⟩ (fun r => ∀ c : Dev Cert.ReferenceSquareIdeal.nD,
          r.2.mem ((c.tc : Thread Cert.ReferenceSquareIdeal.nD Cert.ReferenceSquareIdeal.τ).loc Cert.ReferenceSquareIdeal.main_v8) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1))

def preserves_KernelProj_KernelProjIdeal : Prop :=
  True

def algebraic_KernelProjIdeal_ReferenceProjIdeal_pre_finite_proj [hKernelProjIdeal : Cert.KernelProjIdeal.Facts] [hReferenceProjIdeal : Cert.ReferenceProjIdeal.Facts] [hPre_finite_proj : Cert.Pre_finite_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal_finite_proj m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v0_0)) (v1 : (c : Dev Cert.KernelProjIdeal.nD) → Buf (Elt Ideal) ((c.tc : Thread Cert.KernelProjIdeal.nD Cert.KernelProjIdeal.τ).loc Cert.KernelProjIdeal.main_v0_1)) (v2 : (c : Dev Cert.KernelProjIdeal.nD) → Buf (Elt Ideal) ((c.tc : Thread Cert.KernelProjIdeal.nD Cert.KernelProjIdeal.τ).loc Cert.KernelProjIdeal.main_v0_2)) (v3 : (c : Dev Cert.KernelProjIdeal.nD) → Buf (Elt Ideal) ((c.tc : Thread Cert.KernelProjIdeal.nD Cert.KernelProjIdeal.τ).loc Cert.KernelProjIdeal.main_v0_3)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0_0) = v0 c
          ∧ r.2.mem ((c.tc : Thread Cert.KernelProjIdeal.nD Cert.KernelProjIdeal.τ).loc Cert.KernelProjIdeal.main_v0_1) = v1 c
          ∧ r.2.mem ((c.tc : Thread Cert.KernelProjIdeal.nD Cert.KernelProjIdeal.τ).loc Cert.KernelProjIdeal.main_v0_2) = v2 c
          ∧ r.2.mem ((c.tc : Thread Cert.KernelProjIdeal.nD Cert.KernelProjIdeal.τ).loc Cert.KernelProjIdeal.main_v0_3) = v3 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v13) = v0 c
          ∧ r.2.mem ((c.tc : Thread Cert.ReferenceProjIdeal.nD Cert.ReferenceProjIdeal.τ).loc Cert.ReferenceProjIdeal.main_v15) = v1 c
          ∧ r.2.mem ((c.tc : Thread Cert.ReferenceProjIdeal.nD Cert.ReferenceProjIdeal.τ).loc Cert.ReferenceProjIdeal.main_v16) = v2 c
          ∧ r.2.mem ((c.tc : Thread Cert.ReferenceProjIdeal.nD Cert.ReferenceProjIdeal.τ).loc Cert.ReferenceProjIdeal.main_v17) = v3 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v27) = v0 c
          ∧ r.2.mem ((c.tc : Thread Cert.ReferenceLossIdeal.nD Cert.ReferenceLossIdeal.τ).loc Cert.ReferenceLossIdeal.main_v26) = v1 c
          ∧ r.2.mem ((c.tc : Thread Cert.ReferenceLossIdeal.nD Cert.ReferenceLossIdeal.τ).loc Cert.ReferenceLossIdeal.main_v28) = v2 c
          ∧ r.2.mem ((c.tc : Thread Cert.ReferenceLossIdeal.nD Cert.ReferenceLossIdeal.τ).loc Cert.ReferenceLossIdeal.main_v29) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelNorm_KernelNormIdeal : Prop :=
  True

def algebraic_KernelNormIdeal_ReferenceNormIdeal_pre_finite_norm [hKernelNormIdeal : Cert.KernelNormIdeal.Facts] [hReferenceNormIdeal : Cert.ReferenceNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_finite_norm m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v1_1)) (v2 : (c : Dev Cert.KernelNormIdeal.nD) → Buf (Elt Ideal) ((c.tc : Thread Cert.KernelNormIdeal.nD Cert.KernelNormIdeal.τ).loc Cert.KernelNormIdeal.main_v1_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v1_1) = v1 c
          ∧ r.2.mem ((c.tc : Thread Cert.KernelNormIdeal.nD Cert.KernelNormIdeal.τ).loc Cert.KernelNormIdeal.main_v1_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v40) = v0 c
          ∧ r.2.mem ((c.tc : Thread Cert.ReferenceNormIdeal.nD Cert.ReferenceNormIdeal.τ).loc Cert.ReferenceNormIdeal.main_v41) = v1 c
          ∧ r.2.mem ((c.tc : Thread Cert.ReferenceNormIdeal.nD Cert.ReferenceNormIdeal.τ).loc Cert.ReferenceNormIdeal.main_v23) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelBias_KernelBiasIdeal : Prop :=
  True

def algebraic_KernelBiasIdeal_ReferenceBiasIdeal [hKernelBiasIdeal : Cert.KernelBiasIdeal.Facts] [hReferenceBiasIdeal : Cert.ReferenceBiasIdeal.Facts] : Prop :=
  ∀ (m : (ℓ : Loc Cert.KernelBiasIdeal.nD Cert.KernelBiasIdeal.τ Cert.KernelBiasIdeal.sig) → Buf (Elt Ideal) ℓ) (g : Dev Cert.KernelBiasIdeal.nD → PrngReg)
    (m' : (ℓ : Loc Cert.ReferenceBiasIdeal.nD Cert.ReferenceBiasIdeal.τ Cert.ReferenceBiasIdeal.sig) → Buf (Elt Ideal) ℓ) (g' : Dev Cert.ReferenceBiasIdeal.nD → PrngReg), Pre_KernelBiasIdeal m →
    (∀ c : Dev Cert.KernelBiasIdeal.nD,
      m' ((c.tc : Thread Cert.ReferenceBiasIdeal.nD Cert.ReferenceBiasIdeal.τ).loc Cert.ReferenceBiasIdeal.main_arg0) = m ((c.tc : Thread Cert.KernelBiasIdeal.nD Cert.KernelBiasIdeal.τ).loc Cert.KernelBiasIdeal.main_arg0)) →
    ∃ (v0 : (c : Dev Cert.KernelBiasIdeal.nD) → Buf (Elt Ideal) ((c.tc : Thread Cert.KernelBiasIdeal.nD Cert.KernelBiasIdeal.τ).loc Cert.KernelBiasIdeal.main_v3)),
      θ_run (Cert.KernelBiasIdeal.defs (F := Ideal)) (onTc (τ := Cert.KernelBiasIdeal.τ) (Cert.KernelBiasIdeal.main (F := Ideal))) ⟨m, fun _ => 0, g⟩ (fun r => ∀ c : Dev Cert.KernelBiasIdeal.nD,
          r.2.mem ((c.tc : Thread Cert.KernelBiasIdeal.nD Cert.KernelBiasIdeal.τ).loc Cert.KernelBiasIdeal.main_v3) = v0 c
          ∧ r.2.mem ((c.tc : Thread Cert.KernelBiasIdeal.nD Cert.KernelBiasIdeal.τ).loc Cert.KernelBiasIdeal.main_arg0) = m ((c.tc : Thread Cert.KernelBiasIdeal.nD Cert.KernelBiasIdeal.τ).loc Cert.KernelBiasIdeal.main_arg0))
      ∧ θ_run (Cert.ReferenceBiasIdeal.defs (F := Ideal)) (onTc (τ := Cert.ReferenceBiasIdeal.τ) (Cert.ReferenceBiasIdeal.main (F := Ideal))) ⟨m', fun _ => 0, g'⟩ (fun r => ∀ c : Dev Cert.ReferenceBiasIdeal.nD,
          r.2.mem ((c.tc : Thread Cert.ReferenceBiasIdeal.nD Cert.ReferenceBiasIdeal.τ).loc Cert.ReferenceBiasIdeal.main_v25) = v0 c
          ∧ r.2.mem ((c.tc : Thread Cert.ReferenceBiasIdeal.nD Cert.ReferenceBiasIdeal.τ).loc Cert.ReferenceBiasIdeal.main_arg0) = m' ((c.tc : Thread Cert.ReferenceBiasIdeal.nD Cert.ReferenceBiasIdeal.τ).loc Cert.ReferenceBiasIdeal.main_arg0))

def preserves_KernelQkv_KernelQkvIdeal : Prop :=
  True

def algebraic_KernelQkvIdeal_ReferenceQkvIdeal_pre_finite_qkv [hKernelQkvIdeal : Cert.KernelQkvIdeal.Facts] [hReferenceQkvIdeal : Cert.ReferenceQkvIdeal.Facts] [hPre_finite_qkv : Cert.Pre_finite_qkv.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal_finite_qkv m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)) →
    ∃ (v0 : (c : Dev Cert.KernelQkvIdeal.nD) → Buf (Elt Ideal) ((c.tc : Thread Cert.KernelQkvIdeal.nD Cert.KernelQkvIdeal.τ).loc Cert.KernelQkvIdeal.main_v6_0)) (v1 : (c : Dev Cert.KernelQkvIdeal.nD) → Buf (Elt Ideal) ((c.tc : Thread Cert.KernelQkvIdeal.nD Cert.KernelQkvIdeal.τ).loc Cert.KernelQkvIdeal.main_v6_1)) (v2 : (c : Dev Cert.KernelQkvIdeal.nD) → Buf (Elt Ideal) ((c.tc : Thread Cert.KernelQkvIdeal.nD Cert.KernelQkvIdeal.τ).loc Cert.KernelQkvIdeal.main_v6_2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v6_0) = v0 c
          ∧ r.2.mem ((c.tc : Thread Cert.KernelQkvIdeal.nD Cert.KernelQkvIdeal.τ).loc Cert.KernelQkvIdeal.main_v6_1) = v1 c
          ∧ r.2.mem ((c.tc : Thread Cert.KernelQkvIdeal.nD Cert.KernelQkvIdeal.τ).loc Cert.KernelQkvIdeal.main_v6_2) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v103) = v0 c
          ∧ r.2.mem ((c.tc : Thread Cert.ReferenceQkvIdeal.nD Cert.ReferenceQkvIdeal.τ).loc Cert.ReferenceQkvIdeal.main_v104) = v1 c
          ∧ r.2.mem ((c.tc : Thread Cert.ReferenceQkvIdeal.nD Cert.ReferenceQkvIdeal.τ).loc Cert.ReferenceQkvIdeal.main_v105) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6))

def preserves_KernelPool_KernelPoolIdeal : Prop :=
  True

def preserves_KernelFwd_KernelFwdIdeal : Prop :=
  IdealRules.named_const.Statement Cert.KernelFwdIdeal.κ "mask" .f32 0xF149F2CA#32 ⊥

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v40_0)) (v1 : (c : Dev Cert.KernelFwdIdeal.nD) → Buf (Elt Ideal) ((c.tc : Thread Cert.KernelFwdIdeal.nD Cert.KernelFwdIdeal.τ).loc Cert.KernelFwdIdeal.main_v40_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v40_0) = v0 c
          ∧ r.2.mem ((c.tc : Thread Cert.KernelFwdIdeal.nD Cert.KernelFwdIdeal.τ).loc Cert.KernelFwdIdeal.main_v40_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v90) = v0 c
          ∧ r.2.mem ((c.tc : Thread Cert.ReferenceFwdIdeal.nD Cert.ReferenceFwdIdeal.τ).loc Cert.ReferenceFwdIdeal.main_v91) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)) →
    ∃ (v0 : (c : Dev Cert.KernelMidIdeal.nD) → Buf (Elt Ideal) ((c.tc : Thread Cert.KernelMidIdeal.nD Cert.KernelMidIdeal.τ).loc Cert.KernelMidIdeal.main_v0_0)) (v1 : (c : Dev Cert.KernelMidIdeal.nD) → Buf (Elt Ideal) ((c.tc : Thread Cert.KernelMidIdeal.nD Cert.KernelMidIdeal.τ).loc Cert.KernelMidIdeal.main_v0_1)) (v2 : (c : Dev Cert.KernelMidIdeal.nD) → Buf (Elt Ideal) ((c.tc : Thread Cert.KernelMidIdeal.nD Cert.KernelMidIdeal.τ).loc Cert.KernelMidIdeal.main_v0_2)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v0_0) = v0 c
          ∧ r.2.mem ((c.tc : Thread Cert.KernelMidIdeal.nD Cert.KernelMidIdeal.τ).loc Cert.KernelMidIdeal.main_v0_1) = v1 c
          ∧ r.2.mem ((c.tc : Thread Cert.KernelMidIdeal.nD Cert.KernelMidIdeal.τ).loc Cert.KernelMidIdeal.main_v0_2) = v2 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v22) = v0 c
          ∧ r.2.mem ((c.tc : Thread Cert.ReferenceMidIdeal.nD Cert.ReferenceMidIdeal.τ).loc Cert.ReferenceMidIdeal.main_v11) = v1 c
          ∧ r.2.mem ((c.tc : Thread Cert.ReferenceMidIdeal.nD Cert.ReferenceMidIdeal.τ).loc Cert.ReferenceMidIdeal.main_v25) = v2 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4))

def preserves_KernelRes_KernelResIdeal : Prop :=
  True

def algebraic_KernelResIdeal_ReferenceResIdeal [hKernelResIdeal : Cert.KernelResIdeal.Facts] [hReferenceResIdeal : Cert.ReferenceResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg)
    (m' : (ℓ : Loc Cert.ReferenceResIdeal.nD Cert.ReferenceResIdeal.τ Cert.ReferenceResIdeal.sig) → Buf (Elt Ideal) ℓ) (g' : Dev Cert.ReferenceResIdeal.nD → PrngReg), Pre_KernelResIdeal m →
    (∀ c : Dev Cert.KernelResIdeal.nD,
      m' ((c.tc : Thread Cert.ReferenceResIdeal.nD Cert.ReferenceResIdeal.τ).loc Cert.ReferenceResIdeal.main_arg0) = m ((c.tc : Thread Cert.KernelResIdeal.nD Cert.KernelResIdeal.τ).loc Cert.KernelResIdeal.main_arg0)
      ∧ m' ((c.tc : Thread Cert.ReferenceResIdeal.nD Cert.ReferenceResIdeal.τ).loc Cert.ReferenceResIdeal.main_arg1) = m ((c.tc : Thread Cert.KernelResIdeal.nD Cert.KernelResIdeal.τ).loc Cert.KernelResIdeal.main_arg1)
      ∧ m' ((c.tc : Thread Cert.ReferenceResIdeal.nD Cert.ReferenceResIdeal.τ).loc Cert.ReferenceResIdeal.main_arg2) = m ((c.tc : Thread Cert.KernelResIdeal.nD Cert.KernelResIdeal.τ).loc Cert.KernelResIdeal.main_arg2)
      ∧ m' ((c.tc : Thread Cert.ReferenceResIdeal.nD Cert.ReferenceResIdeal.τ).loc Cert.ReferenceResIdeal.main_arg3) = m ((c.tc : Thread Cert.KernelResIdeal.nD Cert.KernelResIdeal.τ).loc Cert.KernelResIdeal.main_arg3)) →
    ∃ (v0 : (c : Dev Cert.KernelResIdeal.nD) → Buf (Elt Ideal) ((c.tc : Thread Cert.KernelResIdeal.nD Cert.KernelResIdeal.τ).loc Cert.KernelResIdeal.main_v0_0)) (v1 : (c : Dev Cert.KernelResIdeal.nD) → Buf (Elt Ideal) ((c.tc : Thread Cert.KernelResIdeal.nD Cert.KernelResIdeal.τ).loc Cert.KernelResIdeal.main_v0_1)),
      θ_run (Cert.KernelResIdeal.defs (F := Ideal)) (onTc (τ := Cert.KernelResIdeal.τ) (Cert.KernelResIdeal.main (F := Ideal))) ⟨m, fun _ => 0, g⟩ (fun r => ∀ c : Dev Cert.KernelResIdeal.nD,
          r.2.mem ((c.tc : Thread Cert.KernelResIdeal.nD Cert.KernelResIdeal.τ).loc Cert.KernelResIdeal.main_v0_0) = v0 c
          ∧ r.2.mem ((c.tc : Thread Cert.KernelResIdeal.nD Cert.KernelResIdeal.τ).loc Cert.KernelResIdeal.main_v0_1) = v1 c
          ∧ r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
          ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
          ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2)
          ∧ r.2.mem ((c.tc : Thread Cert.KernelResIdeal.nD Cert.KernelResIdeal.τ).loc Cert.KernelResIdeal.main_arg3) = m ((c.tc : Thread Cert.KernelResIdeal.nD Cert.KernelResIdeal.τ).loc Cert.KernelResIdeal.main_arg3))
      ∧ θ_run (Cert.ReferenceResIdeal.defs (F := Ideal)) (onTc (τ := Cert.ReferenceResIdeal.τ) (Cert.ReferenceResIdeal.main (F := Ideal))) ⟨m', fun _ => 0, g'⟩ (fun r => ∀ c : Dev Cert.ReferenceResIdeal.nD,
          r.2.mem ((c.tc : Thread Cert.ReferenceResIdeal.nD Cert.ReferenceResIdeal.τ).loc Cert.ReferenceResIdeal.main_v5) = v0 c
          ∧ r.2.mem ((c.tc : Thread Cert.ReferenceResIdeal.nD Cert.ReferenceResIdeal.τ).loc Cert.ReferenceResIdeal.main_v18) = v1 c
          ∧ r.2.mem ((c.tc : Thread Cert.ReferenceResIdeal.nD Cert.ReferenceResIdeal.τ).loc Cert.ReferenceResIdeal.main_arg0) = m' ((c.tc : Thread Cert.ReferenceResIdeal.nD Cert.ReferenceResIdeal.τ).loc Cert.ReferenceResIdeal.main_arg0)
          ∧ r.2.mem ((c.tc : Thread Cert.ReferenceResIdeal.nD Cert.ReferenceResIdeal.τ).loc Cert.ReferenceResIdeal.main_arg1) = m' ((c.tc : Thread Cert.ReferenceResIdeal.nD Cert.ReferenceResIdeal.τ).loc Cert.ReferenceResIdeal.main_arg1)
          ∧ r.2.mem ((c.tc : Thread Cert.ReferenceResIdeal.nD Cert.ReferenceResIdeal.τ).loc Cert.ReferenceResIdeal.main_arg2) = m' ((c.tc : Thread Cert.ReferenceResIdeal.nD Cert.ReferenceResIdeal.τ).loc Cert.ReferenceResIdeal.main_arg2)
          ∧ r.2.mem ((c.tc : Thread Cert.ReferenceResIdeal.nD Cert.ReferenceResIdeal.τ).loc Cert.ReferenceResIdeal.main_arg3) = m' ((c.tc : Thread Cert.ReferenceResIdeal.nD Cert.ReferenceResIdeal.τ).loc Cert.ReferenceResIdeal.main_arg3))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v0)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v0) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v12) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def Claim : Prop :=
  ∃ (hKernelAttn : Cert.KernelAttn.Facts) (hKernelAttnIdeal : Cert.KernelAttnIdeal.Facts) (hReferenceAttnIdeal : Cert.ReferenceAttnIdeal.Facts) (hKernelRelu : Cert.KernelRelu.Facts) (hKernelReluIdeal : Cert.KernelReluIdeal.Facts) (hReferenceReluIdeal : Cert.ReferenceReluIdeal.Facts) (hKernelSquare : Cert.KernelSquare.Facts) (hKernelSquareIdeal : Cert.KernelSquareIdeal.Facts) (hReferenceSquareIdeal : Cert.ReferenceSquareIdeal.Facts) (hKernelProj : Cert.KernelProj.Facts) (hKernelProjIdeal : Cert.KernelProjIdeal.Facts) (hReferenceProjIdeal : Cert.ReferenceProjIdeal.Facts) (hKernelLoss : Cert.KernelLoss.Facts) (hKernelLossIdeal : Cert.KernelLossIdeal.Facts) (hReferenceLossIdeal : Cert.ReferenceLossIdeal.Facts) (hKernelNorm : Cert.KernelNorm.Facts) (hKernelNormIdeal : Cert.KernelNormIdeal.Facts) (hReferenceNormIdeal : Cert.ReferenceNormIdeal.Facts) (hKernelBias : Cert.KernelBias.Facts) (hKernelBiasIdeal : Cert.KernelBiasIdeal.Facts) (hReferenceBiasIdeal : Cert.ReferenceBiasIdeal.Facts) (hKernelQkv : Cert.KernelQkv.Facts) (hKernelQkvIdeal : Cert.KernelQkvIdeal.Facts) (hReferenceQkvIdeal : Cert.ReferenceQkvIdeal.Facts) (hKernelPool : Cert.KernelPool.Facts) (hKernelPoolIdeal : Cert.KernelPoolIdeal.Facts) (hReferencePoolIdeal : Cert.ReferencePoolIdeal.Facts) (hKernelFwd : Cert.KernelFwd.Facts) (hKernelFwdIdeal : Cert.KernelFwdIdeal.Facts) (hReferenceFwdIdeal : Cert.ReferenceFwdIdeal.Facts) (hKernelMid : Cert.KernelMid.Facts) (hKernelMidIdeal : Cert.KernelMidIdeal.Facts) (hReferenceMidIdeal : Cert.ReferenceMidIdeal.Facts) (hKernelRes : Cert.KernelRes.Facts) (hKernelResIdeal : Cert.KernelResIdeal.Facts) (hReferenceResIdeal : Cert.ReferenceResIdeal.Facts) (hKernelRms : Cert.KernelRms.Facts) (hKernelRmsIdeal : Cert.KernelRmsIdeal.Facts) (hReferenceRmsIdeal : Cert.ReferenceRmsIdeal.Facts) (hPre_finite : Cert.Pre_finite.Facts) (hPre_finite_proj : Cert.Pre_finite_proj.Facts) (hPre_finite_norm : Cert.Pre_finite_norm.Facts) (hPre_finite_qkv : Cert.Pre_finite_qkv.Facts) (hPre_finite_fwd : Cert.Pre_finite_fwd.Facts),
    quiescent_KernelAttn (hKernelAttn := hKernelAttn)
    ∧ quiescent_KernelAttnIdeal (hKernelAttnIdeal := hKernelAttnIdeal)
    ∧ quiescent_KernelAttnIdeal_pre_finite (hKernelAttnIdeal := hKernelAttnIdeal) (hPre_finite := hPre_finite)
    ∧ quiescent_ReferenceAttnIdeal (hReferenceAttnIdeal := hReferenceAttnIdeal)
    ∧ quiescent_ReferenceAttnIdeal_pre_finite (hReferenceAttnIdeal := hReferenceAttnIdeal) (hPre_finite := hPre_finite)
    ∧ quiescent_KernelRelu (hKernelRelu := hKernelRelu)
    ∧ quiescent_KernelReluIdeal (hKernelReluIdeal := hKernelReluIdeal)
    ∧ quiescent_ReferenceReluIdeal (hReferenceReluIdeal := hReferenceReluIdeal)
    ∧ quiescent_KernelSquare (hKernelSquare := hKernelSquare)
    ∧ quiescent_KernelSquareIdeal (hKernelSquareIdeal := hKernelSquareIdeal)
    ∧ quiescent_ReferenceSquareIdeal (hReferenceSquareIdeal := hReferenceSquareIdeal)
    ∧ quiescent_KernelProj (hKernelProj := hKernelProj)
    ∧ quiescent_KernelProjIdeal (hKernelProjIdeal := hKernelProjIdeal)
    ∧ quiescent_KernelProjIdeal_pre_finite_proj (hKernelProjIdeal := hKernelProjIdeal) (hPre_finite_proj := hPre_finite_proj)
    ∧ quiescent_ReferenceProjIdeal (hReferenceProjIdeal := hReferenceProjIdeal)
    ∧ quiescent_ReferenceProjIdeal_pre_finite_proj (hReferenceProjIdeal := hReferenceProjIdeal) (hPre_finite_proj := hPre_finite_proj)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelNorm (hKernelNorm := hKernelNorm)
    ∧ quiescent_KernelNormIdeal (hKernelNormIdeal := hKernelNormIdeal)
    ∧ quiescent_KernelNormIdeal_pre_finite_norm (hKernelNormIdeal := hKernelNormIdeal) (hPre_finite_norm := hPre_finite_norm)
    ∧ quiescent_ReferenceNormIdeal (hReferenceNormIdeal := hReferenceNormIdeal)
    ∧ quiescent_ReferenceNormIdeal_pre_finite_norm (hReferenceNormIdeal := hReferenceNormIdeal) (hPre_finite_norm := hPre_finite_norm)
    ∧ quiescent_KernelBias (hKernelBias := hKernelBias)
    ∧ quiescent_KernelBiasIdeal (hKernelBiasIdeal := hKernelBiasIdeal)
    ∧ quiescent_ReferenceBiasIdeal (hReferenceBiasIdeal := hReferenceBiasIdeal)
    ∧ quiescent_KernelQkv (hKernelQkv := hKernelQkv)
    ∧ quiescent_KernelQkvIdeal (hKernelQkvIdeal := hKernelQkvIdeal)
    ∧ quiescent_KernelQkvIdeal_pre_finite_qkv (hKernelQkvIdeal := hKernelQkvIdeal) (hPre_finite_qkv := hPre_finite_qkv)
    ∧ quiescent_ReferenceQkvIdeal (hReferenceQkvIdeal := hReferenceQkvIdeal)
    ∧ quiescent_ReferenceQkvIdeal_pre_finite_qkv (hReferenceQkvIdeal := hReferenceQkvIdeal) (hPre_finite_qkv := hPre_finite_qkv)
    ∧ quiescent_KernelPool (hKernelPool := hKernelPool)
    ∧ quiescent_KernelPoolIdeal (hKernelPoolIdeal := hKernelPoolIdeal)
    ∧ quiescent_ReferencePoolIdeal (hReferencePoolIdeal := hReferencePoolIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelRes (hKernelRes := hKernelRes)
    ∧ quiescent_KernelResIdeal (hKernelResIdeal := hKernelResIdeal)
    ∧ quiescent_ReferenceResIdeal (hReferenceResIdeal := hReferenceResIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ preserves_KernelAttn_KernelAttnIdeal
    ∧ algebraic_KernelAttnIdeal_ReferenceAttnIdeal_pre_finite (hKernelAttnIdeal := hKernelAttnIdeal) (hReferenceAttnIdeal := hReferenceAttnIdeal) (hPre_finite := hPre_finite)
    ∧ preserves_KernelRelu_KernelReluIdeal
    ∧ algebraic_KernelReluIdeal_ReferenceReluIdeal (hKernelReluIdeal := hKernelReluIdeal) (hReferenceReluIdeal := hReferenceReluIdeal)
    ∧ preserves_KernelSquare_KernelSquareIdeal
    ∧ algebraic_KernelSquareIdeal_ReferenceSquareIdeal (hKernelSquareIdeal := hKernelSquareIdeal) (hReferenceSquareIdeal := hReferenceSquareIdeal)
    ∧ preserves_KernelProj_KernelProjIdeal
    ∧ algebraic_KernelProjIdeal_ReferenceProjIdeal_pre_finite_proj (hKernelProjIdeal := hKernelProjIdeal) (hReferenceProjIdeal := hReferenceProjIdeal) (hPre_finite_proj := hPre_finite_proj)
    ∧ preserves_KernelLoss_KernelLossIdeal
    ∧ algebraic_KernelLossIdeal_ReferenceLossIdeal (hKernelLossIdeal := hKernelLossIdeal) (hReferenceLossIdeal := hReferenceLossIdeal)
    ∧ preserves_KernelNorm_KernelNormIdeal
    ∧ algebraic_KernelNormIdeal_ReferenceNormIdeal_pre_finite_norm (hKernelNormIdeal := hKernelNormIdeal) (hReferenceNormIdeal := hReferenceNormIdeal) (hPre_finite_norm := hPre_finite_norm)
    ∧ preserves_KernelBias_KernelBiasIdeal
    ∧ algebraic_KernelBiasIdeal_ReferenceBiasIdeal (hKernelBiasIdeal := hKernelBiasIdeal) (hReferenceBiasIdeal := hReferenceBiasIdeal)
    ∧ preserves_KernelQkv_KernelQkvIdeal
    ∧ algebraic_KernelQkvIdeal_ReferenceQkvIdeal_pre_finite_qkv (hKernelQkvIdeal := hKernelQkvIdeal) (hReferenceQkvIdeal := hReferenceQkvIdeal) (hPre_finite_qkv := hPre_finite_qkv)
    ∧ preserves_KernelPool_KernelPoolIdeal
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelMid_KernelMidIdeal
    ∧ algebraic_KernelMidIdeal_ReferenceMidIdeal (hKernelMidIdeal := hKernelMidIdeal) (hReferenceMidIdeal := hReferenceMidIdeal)
    ∧ preserves_KernelRes_KernelResIdeal
    ∧ algebraic_KernelResIdeal_ReferenceResIdeal (hKernelResIdeal := hKernelResIdeal) (hReferenceResIdeal := hReferenceResIdeal)
    ∧ preserves_KernelRms_KernelRmsIdeal
    ∧ algebraic_KernelRmsIdeal_ReferenceRmsIdeal (hKernelRmsIdeal := hKernelRmsIdeal) (hReferenceRmsIdeal := hReferenceRmsIdeal)
-- ==== Pre_finite.lean ====
abbrev S4096x512 : Shape := ⟨2, ![4096, 512]⟩
abbrev S8x257 : Shape := ⟨2, ![8, 257]⟩
abbrev S_ : Shape := ⟨0, ![]⟩
abbrev S1 : Shape := ⟨1, ![1]⟩
abbrev S5 : Shape := ⟨1, ![5]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_
  bcast_S_S1 : S_.BroadcastsInDim S1 (![] : Fin 0 → Fin S1.rank)
  concatenates_S1_S1_S1_S1_S1_S5_d0 : Shape.Concatenates [S1, S1, S1, S1, S1] S5 0
  reducesTo_S5_S_d0 : S5.ReducesTo [0] S_

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  let main_c_8 : IVec S_ 1 := constantI S_ 1 1#1
  let main_v26 : IVec S_ 1 := (fun x v => Host.reduce IntOp.andi x v reducesTo_S5_S_d0 h_S_) main_v25 main_c_8
  main_v26

def fn {F : FTy → Type} [FloatOps F] (main_arg0 : FVec F S4096x512 .f32) (main_arg1 : FVec F S4096x512 .f32) (main_arg2 : FVec F S4096x512 .f32) (main_arg3 : FVec F S8x257 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S8x257 .f32 := Host.absf main_arg3
  let main_cst_4 : FVec F S_ .f32 := constant S_ .f32 0x7F800000#32
  let main_v13 : FVec F S8x257 .f32 := broadcastInDim S8x257 ![] bcast_S_S8x257 main_cst_4
  let main_v14 : IVec S8x257 1 := cmpf .olt main_v12 main_v13
  let main_c_5 : IVec S_ 1 := constantI S_ 1 1#1
  let main_v15 : IVec S_ 1 := (fun x v => Host.reduce IntOp.andi x v reducesTo_S8x257_S_d0_1 h_S_) main_v14 main_c_5
  fn_part1 (F := F) main_arg4 main_v3 main_v7 main_v11 main_v15
-- ==== Pre_finite_fwd.lean ====
abbrev S4096x512 : Shape := ⟨2, ![4096, 512]⟩
abbrev S8x257 : Shape := ⟨2, ![8, 257]⟩
abbrev S_ : Shape := ⟨0, ![]⟩
abbrev S1 : Shape := ⟨1, ![1]⟩
abbrev S4 : Shape := ⟨1, ![4]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  let main_c_6 : IVec S_ 1 := constantI S_ 1 1#1
  let main_v21 : IVec S_ 1 := (fun x v => Host.reduce IntOp.andi x v reducesTo_S4_S_d0 h_S_) main_v20 main_c_6
  main_v21

def fn {F : FTy → Type} [FloatOps F] (main_arg0 : FVec F S4096x512 .f32) (main_arg1 : FVec F S4096x512 .f32) (main_arg2 : FVec F S4096x512 .f32) (main_arg3 : FVec F S8x257 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S8x257 .f32 := Host.absf main_arg3
  let main_cst_4 : FVec F S_ .f32 := constant S_ .f32 0x7F800000#32
  let main_v13 : FVec F S8x257 .f32 := broadcastInDim S8x257 ![] bcast_S_S8x257 main_cst_4
  let main_v14 : IVec S8x257 1 := cmpf .olt main_v12 main_v13
  let main_c_5 : IVec S_ 1 := constantI S_ 1 1#1
  let main_v15 : IVec S_ 1 := (fun x v => Host.reduce IntOp.andi x v reducesTo_S8x257_S_d0_1 h_S_) main_v14 main_c_5
  fn_part1 (F := F) main_v3 main_v7 main_v11 main_v15
-- ==== Pre_finite_norm.lean ====
abbrev S4096x4096 : Shape := ⟨2, ![4096, 4096]⟩
abbrev S4x1024x4096 : Shape := ⟨3, ![4, 1024, 4096]⟩
abbrev S4096x1024 : Shape := ⟨2, ![4096, 1024]⟩
abbrev S1x1024 : Shape := ⟨2, ![1, 1024]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x1024x4096 : S_.BroadcastsInDim S4x1024x4096 (![] : Fin 0 → Fin S4x1024x4096.rank)
  reducesTo_S4x1024x4096_S_d0_1_2 : S4x1024x4096.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S1 1 := broadcastInDim S1 ![] bcast_S_S1 main_v4
  let main_v19 : IVec S1 1 := broadcastInDim S1 ![] bcast_S_S1 main_v9
  let main_v20 : IVec S1 1 := broadcastInDim S1 ![] bcast_S_S1 main_v13
  let main_v21 : IVec S1 1 := broadcastInDim S1 ![] bcast_S_S1 main_v17
  let main_v22 : IVec S4 1 := concatenate S4 0 [⟨S1, main_v18⟩, ⟨S1, main_v19⟩, ⟨S1, main_v20⟩, ⟨S1, main_v21⟩] concatenates_S1_S1_S1_S1_S4_d0
  let main_c_6 : IVec S_ 1 := constantI S_ 1 1#1
  let main_v23 : IVec S_ 1 := (fun x v => Host.reduce IntOp.andi x v reducesTo_S4_S_d0 h_S_) main_v22 main_c_6
  main_v23

def fn {F : FTy → Type} [FloatOps F] (main_arg0 : FVec F S4096x4096 .bf16) (main_arg1 : FVec F S4x1024x4096 .bf16) (main_arg2 : FVec F S4096x1024 .f32) (main_arg3 : FVec F S1x1024 .f32) (main_arg4 : FVec F S4096x1024 .f32) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4x1024x4096 .f32 := (extf .f32 · bitsLt_bf16_f32) main_arg1
  let main_v6 : FVec F S4x1024x4096 .f32 := Host.absf main_v5
  let main_cst_0 : FVec F S_ .f32 := constant S_ .f32 0x7F800000#32
  let main_v7 : FVec F S4x1024x4096 .f32 := broadcastInDim S4x1024x4096 ![] bcast_S_S4x1024x4096 main_cst_0
  let main_v8 : IVec S4x1024x4096 1 := cmpf .olt main_v6 main_v7
  let main_c_1 : IVec S_ 1 := constantI S_ 1 1#1
  let main_v9 : IVec S_ 1 := (fun x v => Host.reduce IntOp.andi x v reducesTo_S4x1024x4096_S_d0_1_2 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Pre_finite_proj.lean ====
abbrev S4096x1024 : Shape := ⟨2, ![4096, 1024]⟩
abbrev S4x1024x1024 : Shape := ⟨3, ![4, 1024, 1024]⟩
abbrev S_ : Shape := ⟨0, ![]⟩
abbrev S1 : Shape := ⟨1, ![1]⟩
abbrev S3 : Shape := ⟨1, ![3]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S1 : S_.BroadcastsInDim S1 (![] : Fin 0 → Fin S1.rank)
  concatenates_S1_S1_S1_S3_d0 : Shape.Concatenates [S1, S1, S1] S3 0
  reducesTo_S3_S_d0 : S3.ReducesTo [0] S_

variable [Facts]

def fn_part1 {F : FTy → Type} [FloatOps F] (main_v15 : IVec S1 1) (main_v16 : IVec S1 1) (main_v17 : IVec S1 1) : IVec S_ 1 :=
  let main_v18 : IVec S3 1 := concatenate S3 0 [⟨S1, main_v15⟩, ⟨S1, main_v16⟩, ⟨S1, main_v17⟩] concatenates_S1_S1_S1_S3_d0
  let main_c_4 : IVec S_ 1 := constantI S_ 1 1#1
  let main_v19 : IVec S_ 1 := (fun x v => Host.reduce IntOp.andi x v reducesTo_S3_S_d0 h_S_) main_v18 main_c_4
  main_v19

def fn {F : FTy → Type} [FloatOps F] (main_arg0 : FVec F S4096x1024 .bf16) (main_arg1 : FVec F S4x1024x1024 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x1024x1024 .f32 := (extf .f32 · bitsLt_bf16_f32) main_arg1
  let main_v6 : FVec F S4x1024x1024 .f32 := Host.absf main_v5
  let main_cst_0 : FVec F S_ .f32 := constant S_ .f32 0x7F800000#32
  let main_v7 : FVec F S4x1024x1024 .f32 := broadcastInDim S4x1024x1024 ![] bcast_S_S4x1024x1024 main_cst_0
  let main_v8 : IVec S4x1024x1024 1 := cmpf .olt main_v6 main_v7
  let main_c_1 : IVec S_ 1 := constantI S_ 1 1#1
  let main_v9 : IVec S_ 1 := (fun x v => Host.reduce IntOp.andi x v reducesTo_S4x1024x1024_S_d0_1_2 h_S_) main_v8 main_c_1
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S1 1 := broadcastInDim S1 ![] bcast_S_S1 main_v4
  let main_v16 : IVec S1 1 := broadcastInDim S1 ![] bcast_S_S1 main_v9
  let main_v17 : IVec S1 1 := broadcastInDim S1 ![] bcast_S_S1 main_v14
  fn_part1 (F := F) main_v15 main_v16 main_v17
-- ==== Pre_finite_qkv.lean ====
abbrev S4096x2560 : Shape := ⟨2, ![4096, 2560]⟩
abbrev S4096x512 : Shape := ⟨2, ![4096, 512]⟩
abbrev S4608x512 : Shape := ⟨2, ![4608, 512]⟩
abbrev S4096x1024 : Shape := ⟨2, ![4096, 1024]⟩
abbrev S1x64 : Shape := ⟨2, ![1, 64]⟩
abbrev S_ : Shape := ⟨0, ![]⟩
abbrev S1 : Shape := ⟨1, ![1]⟩
abbrev S5 : Shape := ⟨1, ![5]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4608x512 : S_.BroadcastsInDim S4608x512 (![] : Fin 0 → Fin S4608x512.rank)
  reducesTo_S4608x512_S_d0_1 : S4608x512.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  concatenates_S1_S1_S1_S1_S1_S5_d0 : Shape.Concatenates [S1, S1, S1, S1, S1] S5 0
  reducesTo_S5_S_d0 : S5.ReducesTo [0] S_

variable [Facts]

def fn_part1 {F : FTy → Type} [FloatOps F] (main_arg6 : FVec F S1x64 .f32) (main_v3 : IVec S_ 1) (main_v7 : IVec S_ 1) (main_v11 : IVec S_ 1) (main_v15 : IVec S_ 1) : IVec S_ 1 :=
  let main_v16 : FVec F S1x64 .f32 := Host.absf main_arg6
  let main_cst_6 : FVec F S_ .f32 := constant S_ .f32 0x7F800000#32
  let main_v17 : FVec F S1x64 .f32 := broadcastInDim S1x64 ![] bcast_S_S1x64 main_cst_6
  let main_v18 : IVec S1x64 1 := cmpf .olt main_v16 main_v17
  let main_c_7 : IVec S_ 1 := constantI S_ 1 1#1
  let main_v19 : IVec S_ 1 := (fun x v => Host.reduce IntOp.andi x v reducesTo_S1x64_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  let main_c_8 : IVec S_ 1 := constantI S_ 1 1#1
  let main_v26 : IVec S_ 1 := (fun x v => Host.reduce IntOp.andi x v reducesTo_S5_S_d0 h_S_) main_v25 main_c_8
  main_v26

def fn {F : FTy → Type} [FloatOps F] (main_arg0 : FVec F S4096x2560 .f32) (main_arg1 : FVec F S4096x512 .f32) (main_arg2 : FVec F S4608x512 .f32) (main_arg3 : FVec F S4608x512 .bf16) (main_arg4 : FVec F S4096x1024 .bf16) (main_arg5 : FVec F S1x64 .f32) (main_arg6 : FVec F S1x64 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4608x512 .f32 := Host.absf main_arg2
  let main_cst_2 : FVec F S_ .f32 := constant S_ .f32 0x7F800000#32
  let main_v9 : FVec F S4608x512 .f32 := broadcastInDim S4608x512 ![] bcast_S_S4608x512 main_cst_2
  let main_v10 : IVec S4608x512 1 := cmpf .olt main_v8 main_v9
  let main_c_3 : IVec S_ 1 := constantI S_ 1 1#1
  let main_v11 : IVec S_ 1 := (fun x v => Host.reduce IntOp.andi x v reducesTo_S4608x512_S_d0_1 h_S_) main_v10 main_c_3
  let main_v12 : FVec F S1x64 .f32 := Host.absf main_arg5
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg6 main_v3 main_v7 main_v11 main_v15
-- ==== KernelAttn.lean ====
abbrev S4096x512 : Shape := ⟨2, ![4096, 512]⟩
abbrev S8x257 : Shape := ⟨2, ![8, 257]⟩
abbrev S1x4096x8x64 : Shape := ⟨4, ![1, 4096, 8, 64]⟩
abbrev S1x64x64x8x64 : Shape := ⟨5, ![1, 64, 64, 8, 64]⟩
abbrev S_ : Shape := ⟨0, ![]⟩
abbrev S1x72x64x8x64 : Shape := ⟨5, ![1, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x64 : Shape := ⟨6, ![1, 64, 9, 64, 8, 64]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x8x64x9x64 : Shape := ⟨6, ![1, 64, 8, 64, 9, 64]⟩
abbrev S8x64x9x64 : Shape := ⟨4, ![8, 64, 9, 64]⟩
abbrev S1x1x8x64x9x64 : Shape := ⟨6, ![1, 1, 8, 64, 9, 64]⟩
abbrev S1x64x1x1x9x1 : Shape := ⟨6, ![1, 64, 1, 1, 9, 1]⟩
abbrev S1x64x8x64 : Shape := ⟨4, ![1, 64, 8, 64]⟩
abbrev S1x64x8x64x1x1 : Shape := ⟨6, ![1, 64, 8, 64, 1, 1]⟩
abbrev S1x64x8x64x64 : Shape := ⟨5, ![1, 64, 8, 64, 64]⟩
abbrev S64x8x64 : Shape := ⟨3, ![64, 8, 64]⟩
abbrev S64x64x8 : Shape := ⟨3, ![64, 64, 8]⟩
abbrev S4096x8 : Shape := ⟨2, ![4096, 8]⟩
abbrev S4096x8x64 : Shape := ⟨3, ![4096, 8, 64]⟩
abbrev S9x8x64x64 : Shape := ⟨4, ![9, 8, 64, 64]⟩
abbrev S1x72x4096 : Shape := ⟨3, ![1, 72, 4096]⟩
abbrev S4x72x4096 : Shape := ⟨3, ![4, 72, 4096]⟩
abbrev S4x9x8x64x64 : Shape := ⟨5, ![4, 9, 8, 64, 64]⟩
abbrev S4x8x9x64x64 : Shape := ⟨5, ![4, 8, 9, 64, 64]⟩
abbrev S4x4x2x576x64 : Shape := ⟨5, ![4, 4, 2, 576, 64]⟩
abbrev S4x4x576x2x64 : Shape := ⟨5, ![4, 4, 576, 2, 64]⟩
abbrev S4x4x576x128 : Shape := ⟨4, ![4, 4, 576, 128]⟩
abbrev S4x4x640x128 : Shape := ⟨4, ![4, 4, 640, 128]⟩
abbrev S4x4x640x256 : Shape := ⟨4, ![4, 4, 640, 256]⟩
abbrev S4608x512 : Shape := ⟨2, ![4608, 512]⟩
abbrev S512x4096 : Shape := ⟨2, ![512, 4096]⟩
abbrev S512x4608 : Shape := ⟨2, ![512, 4608]⟩
abbrev S32x2x64x4x2 : Shape := ⟨5, ![32, 2, 64, 4, 2]⟩
abbrev S4x32x2x2x64 : Shape := ⟨5, ![4, 32, 2, 2, 64]⟩
abbrev S4x32x1x256 : Shape := ⟨4, ![4, 32, 1, 256]⟩
abbrev S4x32x8x256 : Shape := ⟨4, ![4, 32, 8, 256]⟩
abbrev S4096x128 : Shape := ⟨2, ![4096, 128]⟩
abbrev S128x4096 : Shape := ⟨2, ![128, 4096]⟩
abbrev S4608x128 : Shape := ⟨2, ![4608, 128]⟩
abbrev S128x4608 : Shape := ⟨2, ![128, 4608]⟩
abbrev S1x1x640x256 : Shape := ⟨4, ![1, 1, 640, 256]⟩
abbrev S1x32x8x256 : Shape := ⟨4, ![1, 32, 8, 256]⟩
abbrev S1x1x576x128 : Shape := ⟨4, ![1, 1, 576, 128]⟩
abbrev S576x128 : Shape := ⟨2, ![576, 128]⟩
abbrev S640x128 : Shape := ⟨2, ![640, 128]⟩
abbrev S128x128 : Shape := ⟨2, ![128, 128]⟩
abbrev S128x256 : Shape := ⟨2, ![128, 256]⟩
abbrev S640x256 : Shape := ⟨2, ![640, 256]⟩
abbrev S1x1x8x256 : Shape := ⟨4, ![1, 1, 8, 256]⟩
abbrev S8x256 : Shape := ⟨2, ![8, 256]⟩
abbrev S1x256 : Shape := ⟨2, ![1, 256]⟩
abbrev S128x640 : Shape := ⟨2, ![128, 640]⟩
abbrev S64x128 : Shape := ⟨2, ![64, 128]⟩
abbrev S256x128 : Shape := ⟨2, ![256, 128]⟩

abbrev nBuf : Space → Nat
  | .hbm => 170
  | .vmem => 29
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S8x257, .f32⟩
  | 4 => ⟨S4096x512, .f32⟩
  | 5 => ⟨S1x4096x8x64, .f32⟩
  | 6 => ⟨S1x4096x8x64, .f32⟩
  | 7 => ⟨S1x4096x8x64, .f32⟩
  | 8 => ⟨S1x64x64x8x64, .f32⟩
  | 9 => ⟨S_, .i32⟩
  | 10 => ⟨S_, .f32⟩
  | 11 => ⟨S1x72x64x8x64, .f32⟩
  | 12 => ⟨S64, .i32⟩
  | 13 => ⟨S64x1, .i32⟩
  | 14 => ⟨S9, .i32⟩
  | 15 => ⟨S1x9, .i32⟩
  | 16 => ⟨S64x9, .i32⟩
  | 17 => ⟨S64x9, .i32⟩
  | 18 => ⟨S64x9, .i32⟩
  | 19 => ⟨S_, .i32⟩
  | 20 => ⟨S64x9, .i32⟩
  | 21 => ⟨S64x9, .i1⟩
  | 22 => ⟨S_, .i32⟩
  | 23 => ⟨S64x9, .i32⟩
  | 24 => ⟨S64x9, .i32⟩
  | 25 => ⟨S64x9, .i32⟩
  | 26 => ⟨S64x9x1, .i32⟩
  | 27 => ⟨S1x64x9x64x8x64, .f32⟩
  | 28 => ⟨S_, .i32⟩
  | 29 => ⟨S64x9, .i32⟩
  | 30 => ⟨S64x9, .i1⟩
  | 31 => ⟨S1x64x64x8x64, .f32⟩
  | 32 => ⟨S_, .i32⟩
  | 33 => ⟨S_, .f32⟩
  | 34 => ⟨S1x72x64x8x64, .f32⟩
  | 35 => ⟨S64, .i32⟩
  | 36 => ⟨S64x1, .i32⟩
  | 37 => ⟨S9, .i32⟩
  | 38 => ⟨S1x9, .i32⟩
  | 39 => ⟨S64x9, .i32⟩
  | 40 => ⟨S64x9, .i32⟩
  | 41 => ⟨S64x9, .i32⟩
  | 42 => ⟨S_, .i32⟩
  | 43 => ⟨S64x9, .i32⟩
  | 44 => ⟨S64x9, .i1⟩
  | 45 => ⟨S_, .i32⟩
  | 46 => ⟨S64x9, .i32⟩
  | 47 => ⟨S64x9, .i32⟩
  | 48 => ⟨S64x9, .i32⟩
  | 49 => ⟨S64x9x1, .i32⟩
  | 50 => ⟨S1x64x9x64x8x64, .f32⟩
  | 51 => ⟨S_, .i32⟩
  | 52 => ⟨S64x9, .i32⟩
  | 53 => ⟨S64x9, .i1⟩
  | 54 => ⟨S64, .i32⟩
  | 55 => ⟨S64x1, .i32⟩
  | 56 => ⟨S576, .i32⟩
  | 57 => ⟨S1x576, .i32⟩
  | 58 => ⟨S_, .i32⟩
  | 59 => ⟨S64x1, .i32⟩
  | 60 => ⟨S64x1, .i32⟩
  | 61 => ⟨S64x576, .i32⟩
  | 62 => ⟨S64x576, .i32⟩
  | 63 => ⟨S64x576, .i32⟩
  | 64 => ⟨S_, .i32⟩
  | 65 => ⟨S_, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i32⟩
  | 75 => ⟨S_, .i32⟩
  | 76 => ⟨S64x576, .i32⟩
  | 77 => ⟨S64x576, .i1⟩
  | 78 => ⟨S_, .i32⟩
  | 79 => ⟨S64x576, .i32⟩
  | 80 => ⟨S64x576, .i32⟩
  | 81 => ⟨S64x576, .i32⟩
  | 82 => ⟨S64x576x1, .i32⟩
  | 83 => ⟨S8x64x576, .f32⟩
  | 84 => ⟨S1x64x64x8x64, .f32⟩
  | 85 => ⟨S1x64x8x64x9x64, .f32⟩
  | 86 => ⟨S_, .f32⟩
  | 87 => ⟨S1x64x8x64x9x64, .f32⟩
  | 88 => ⟨S1x64x8x64x9x64, .f32⟩
  | 89 => ⟨S8x64x9x64, .f32⟩
  | 90 => ⟨S1x1x8x64x9x64, .f32⟩
  | 91 => ⟨S1x64x8x64x9x64, .f32⟩
  | 92 => ⟨S1x64x8x64x9x64, .f32⟩
  | 93 => ⟨S1x64x1x1x9x1, .i1⟩
  | 94 => ⟨S_, .f32⟩
  | 95 => ⟨S_, .f32⟩
  | 96 => ⟨S1x64x8x64x9x64, .i1⟩
  | 97 => ⟨S1x64x8x64x9x64, .f32⟩
  | 98 => ⟨S1x64x8x64x9x64, .f32⟩
  | 99 => ⟨S_, .f32⟩
  | 100 => ⟨S1x64x8x64, .f32⟩
  | 101 => ⟨S1x64x8x64x1x1, .f32⟩
  | 102 => ⟨S1x64x8x64x9x64, .f32⟩
  | 103 => ⟨S1x64x8x64x9x64, .f32⟩
  | 104 => ⟨S1x64x8x64x9x64, .f32⟩
  | 105 => ⟨S_, .f32⟩
  | 106 => ⟨S1x64x8x64, .f32⟩
  | 107 => ⟨S1x64x8x64x1x1, .f32⟩
  | 108 => ⟨S1x64x8x64x9x64, .f32⟩
  | 109 => ⟨S1x64x8x64x9x64, .f32⟩
  | 110 => ⟨S1x64x8x64x64, .f32⟩
  | 111 => ⟨S1x64x64x8x64, .f32⟩
  | 112 => ⟨S4096x512, .f32⟩
  | 113 => ⟨S1x64x8x64, .f32⟩
  | 114 => ⟨S1x64x8x64, .f32⟩
  | 115 => ⟨S64x8x64, .f32⟩
  | 116 => ⟨S64x64x8, .f32⟩
  | 117 => ⟨S4096x8, .f32⟩
  | 118 => ⟨S4096x512, .f32⟩
  | 119 => ⟨S4096x8x64, .f32⟩
  | 120 => ⟨S_, .f32⟩
  | 121 => ⟨S4096x8, .f32⟩
  | 122 => ⟨S8x64x9x64, .f32⟩
  | 123 => ⟨S9x8x64x64, .f32⟩
  | 124 => ⟨S1x72x4096, .f32⟩
  | 125 => ⟨S4x72x4096, .f32⟩
  | 126 => ⟨S4x9x8x64x64, .f32⟩
  | 127 => ⟨S4x8x9x64x64, .f32⟩
  | _ => ⟨S4096x512, .f32⟩

abbrev hbmTy0_1 (i : Nat) : BufTy := match i % 128 with
  | 0 => ⟨S4x4x2x576x64, .f32⟩
  | 1 => ⟨S4x4x576x2x64, .f32⟩
  | 2 => ⟨S4x4x576x128, .f32⟩
  | 3 => ⟨S_, .f32⟩
  | 4 => ⟨S_, .f32⟩
  | 5 => ⟨S4x4x640x128, .f32⟩
  | 6 => ⟨S_, .f32⟩
  | 7 => ⟨S_, .f32⟩
  | 8 => ⟨S4x4x640x128, .f32⟩
  | 9 => ⟨S4x4x640x256, .f32⟩
  | 10 => ⟨S_, .f32⟩
  | 11 => ⟨S4096x512, .f32⟩
  | 12 => ⟨S4096x512, .f32⟩
  | 13 => ⟨S_, .i32⟩
  | 14 => ⟨S_, .f32⟩
  | 15 => ⟨S4608x512, .f32⟩
  | 16 => ⟨S4608x512, .bf16⟩
  | 17 => ⟨S_, .i32⟩
  | 18 => ⟨S_, .f32⟩
  | 19 => ⟨S4608x512, .f32⟩
  | 20 => ⟨S4608x512, .bf16⟩
  | 21 => ⟨S4096x512, .bf16⟩
  | 22 => ⟨S4096x512, .bf16⟩
  | 23 => ⟨S512x4096, .bf16⟩
  | 24 => ⟨S512x4608, .bf16⟩
  | 25 => ⟨S4096x512, .bf16⟩
  | 26 => ⟨S4096x512, .bf16⟩
  | 27 => ⟨S512x4096, .bf16⟩
  | 28 => ⟨S32x2x64x4x2, .f32⟩
  | 29 => ⟨S4x32x2x2x64, .f32⟩
  | 30 => ⟨S4x32x1x256, .f32⟩
  | 31 => ⟨S4x32x8x256, .f32⟩
  | 32 => ⟨S32x2x64x4x2, .f32⟩
  | 33 => ⟨S4x32x2x2x64, .f32⟩
  | 34 => ⟨S4x32x1x256, .f32⟩
  | 35 => ⟨S4x32x8x256, .f32⟩
  | 36 => ⟨S_, .f32⟩
  | 37 => ⟨S4x4x576x128, .f32⟩
  | 38 => ⟨S4096x512, .f32⟩
  | 39 => ⟨S4608x512, .f32⟩
  | 40 => ⟨S4608x512, .bf16⟩
  | 41 => ⟨S4x4x576x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S128x4096, .bf16⟩
  | .local _ .vmem, ⟨3, _⟩ => ⟨S128x4096, .bf16⟩
  | .local _ .vmem, ⟨4, _⟩ => ⟨S4608x128, .bf16⟩
  | .local _ .vmem, ⟨5, _⟩ => ⟨S4608x128, .bf16⟩
  | .local _ .vmem, ⟨6, _⟩ => ⟨S128x4608, .bf16⟩
  | .local _ .vmem, ⟨7, _⟩ => ⟨S128x4608, .bf16⟩
  | .local _ .vmem, ⟨8, _⟩ => ⟨S4608x128, .bf16⟩
  | .local _ .vmem, ⟨9, _⟩ => ⟨S4608x128, .bf16⟩
  | .local _ .vmem, ⟨10, _⟩ => ⟨S1x1x640x256, .f32⟩
  | .local _ .vmem, ⟨11, _⟩ => ⟨S1x1x640x256, .f32⟩
  | .local _ .vmem, ⟨12, _⟩ => ⟨S4096x128, .bf16⟩
  | .local _ .vmem, ⟨13, _⟩ => ⟨S4096x128, .bf16⟩
  | .local _ .vmem, ⟨14, _⟩ => ⟨S128x4096, .bf16⟩
  | .local _ .vmem, ⟨15, _⟩ => ⟨S128x4096, .bf16⟩
  | .local _ .vmem, ⟨16, _⟩ => ⟨S1x32x8x256, .f32⟩
  | .local _ .vmem, ⟨17, _⟩ => ⟨S1x32x8x256, .f32⟩
  | .local _ .vmem, ⟨18, _⟩ => ⟨S1x32x8x256, .f32⟩
  | .local _ .vmem, ⟨19, _⟩ => ⟨S1x32x8x256, .f32⟩
  | .local _ .vmem, ⟨20, _⟩ => ⟨S4096x128, .f32⟩
  | .local _ .vmem, ⟨21, _⟩ => ⟨S4096x128, .f32⟩
  | .local _ .vmem, ⟨22, _⟩ => ⟨S4608x128, .f32⟩
  | .local _ .vmem, ⟨23, _⟩ => ⟨S4608x128, .f32⟩
  | .local _ .vmem, ⟨24, _⟩ => ⟨S4608x128, .bf16⟩
  | .local _ .vmem, ⟨25, _⟩ => ⟨S4608x128, .bf16⟩
  | .local _ .vmem, ⟨26, _⟩ => ⟨S1x1x576x128, .f32⟩
  | .local _ .vmem, ⟨27, _⟩ => ⟨S1x1x576x128, .f32⟩
  | .local _ .vmem, ⟨28, _⟩ => ⟨S4608x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_c_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_17 : Ref sig .tc := ⟨.hbm, 131, rfl⟩
abbrev main_call4_v0 : Ref sig .tc := ⟨.hbm, 132, rfl⟩
abbrev main_v97 : Ref sig .tc := ⟨.hbm, 133, rfl⟩
abbrev main_cst_18 : Ref sig .tc := ⟨.hbm, 134, rfl⟩
abbrev main_call5_v0 : Ref sig .tc := ⟨.hbm, 135, rfl⟩
abbrev main_v98 : Ref sig .tc := ⟨.hbm, 136, rfl⟩
abbrev main_v99 : Ref sig .tc := ⟨.hbm, 137, rfl⟩
abbrev main_cst_19 : Ref sig .tc := ⟨.hbm, 138, rfl⟩
abbrev main_v100 : Ref sig .tc := ⟨.hbm, 139, rfl⟩
abbrev main_v101 : Ref sig .tc := ⟨.hbm, 140, rfl⟩
abbrev main_c_20 : Ref sig .tc := ⟨.hbm, 141, rfl⟩
abbrev main_call6_v0 : Ref sig .tc := ⟨.hbm, 142, rfl⟩
abbrev main_v102 : Ref sig .tc := ⟨.hbm, 143, rfl⟩
abbrev main_v103 : Ref sig .tc := ⟨.hbm, 144, rfl⟩
abbrev main_c_21 : Ref sig .tc := ⟨.hbm, 145, rfl⟩
abbrev main_call7_v0 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_22 : Ref sig .tc := ⟨.hbm, 164, rfl⟩
abbrev main_v121 : Ref sig .tc := ⟨.hbm, 165, rfl⟩
abbrev main_v122_0 : Ref sig .tc := ⟨.hbm, 166, rfl⟩
abbrev main_v122_1 : Ref sig .tc := ⟨.hbm, 167, rfl⟩
abbrev main_v122_2 : Ref sig .tc := ⟨.hbm, 168, rfl⟩
abbrev main_v122_3 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c128_i32 : BitVec 32 := 128#32
  let v10 : BitVec 32 := Scalar.muli c0_i32 c128_i32
  v10
def k0_off1 (c0_i32 : BitVec 32) : Fin 2 → Nat :=
  let c128_i32 : BitVec 32 := 128#32
  let v10 : BitVec 32 := Scalar.muli c0_i32 c128_i32
  let v11 : BitVec 32 := v10
  let v12 : Index := Scalar.indexCast v11
  let c0_9 : Index := 0#32
  ![v12.toNat, 0]
def k0_off2 (c0_i32 : BitVec 32) : Fin 2 → Nat :=
  let c0_10 : Index := 0#32
  let c128_i32 : BitVec 32 := 128#32
  let v10 : BitVec 32 := Scalar.muli c0_i32 c128_i32
  let v11 : BitVec 32 := v10
  let v15 : Index := Scalar.indexCast v11
  ![0, v15.toNat]
def k0_off3 (c0_i32 : BitVec 32) : Fin 2 → Nat :=
  let c0_45 : Index := 0#32
  let c128_i32 : BitVec 32 := 128#32
  let v10 : BitVec 32 := Scalar.muli c0_i32 c128_i32
  let v11 : BitVec 32 := v10
  let v96 : Index := Scalar.indexCast v11
  ![0, v96.toNat]
def k0_off4 (c0_i32 : BitVec 32) : Fin 2 → Nat :=
  let c128_i32 : BitVec 32 := 128#32
  let v10 : BitVec 32 := Scalar.muli c0_i32 c128_i32
  let v11 : BitVec 32 := v10
  let v114 : Index := Scalar.indexCast v11
  let c0_51 : Index := 0#32
  ![v114.toNat, 0]
def k0_mult2 : BitVec 32 :=
  let c1_i32 : BitVec 32 := 1#32
  let c128_i32_64 : BitVec 32 := 128#32
  let v160 : BitVec 32 := Scalar.muli c1_i32 c128_i32_64
  v160
def k0_mult3 : BitVec 32 :=
  let c2_i32 : BitVec 32 := 2#32
  let c128_i32_122 : BitVec 32 := 128#32
  let v310 : BitVec 32 := Scalar.muli c2_i32 c128_i32_122
  v310
def k0_mult4 : BitVec 32 :=
  let c3_i32 : BitVec 32 := 3#32
  let c128_i32_180 : BitVec 32 := 128#32
  let v460 : BitVec 32 := Scalar.muli c3_i32 c128_i32_180
  v460
@[reducible] def k0_t1_loop : Scf.Loop 32 :=
  let c4_i32_238 : BitVec 32 := 4#32
  let c28_i32 : BitVec 32 := 28#32
  let v610 : BitVec 32 := Scalar.addi c4_i32_238 c28_i32
  let c1_i32_239 : BitVec 32 := 1#32
  ⟨c4_i32_238, v610, c1_i32_239⟩
def k0_mult5 (k0_t1 : Fin k0_t1_loop.trips) : BitVec 32 :=
  let c4_i32_238 : BitVec 32 := 4#32
  let c1_i32_239 : BitVec 32 := 1#32
  let arg17 : BitVec 32 := Scf.iv c4_i32_238 c1_i32_239 k0_t1
  let c128_i32_245 : BitVec 32 := 128#32
  let v614 : BitVec 32 := Scalar.muli arg17 c128_i32_245
  v614
def k0_off5 (k0_t1 : Fin k0_t1_loop.trips) : Fin 2 → Nat :=
  let c4_i32_238 : BitVec 32 := 4#32
  let c1_i32_239 : BitVec 32 := 1#32
  let arg17 : BitVec 32 := Scf.iv c4_i32_238 c1_i32_239 k0_t1
  let c128_i32_245 : BitVec 32 := 128#32
  let v614 : BitVec 32 := Scalar.muli arg17 c128_i32_245
  let v615 : BitVec 32 := v614
  let v616 : Index := Scalar.indexCast v615
  let c0_246 : Index := 0#32
  ![v616.toNat, 0]
def k0_off6 (k0_t1 : Fin k0_t1_loop.trips) : Fin 2 → Nat :=
  let c0_247 : Index := 0#32
  let c4_i32_238 : BitVec 32 := 4#32
  let c1_i32_239 : BitVec 32 := 1#32
  let arg17 : BitVec 32 := Scf.iv c4_i32_238 c1_i32_239 k0_t1
  let c128_i32_245 : BitVec 32 := 128#32
  let v614 : BitVec 32 := Scalar.muli arg17 c128_i32_245
  let v615 : BitVec 32 := v614
  let v619 : Index := Scalar.indexCast v615
  ![0, v619.toNat]
def k0_off7 (k0_t1 : Fin k0_t1_loop.trips) : Fin 4 → Nat :=
  let c0_259 : Index := 0#32
  let c4_i32_238 : BitVec 32 := 4#32
  let c1_i32_239 : BitVec 32 := 1#32
  let arg17 : BitVec 32 := Scf.iv c4_i32_238 c1_i32_239 k0_t1
  let v644 : Index := Scalar.indexCast arg17
  let c0_260 : Index := 0#32
  let c0_261 : Index := 0#32
  ![0, v644.toNat, 0, 0]
def k0_off8 (k0_t1 : Fin k0_t1_loop.trips) : Fin 2 → Nat :=
  let c0_282 : Index := 0#32
  let c4_i32_238 : BitVec 32 := 4#32
  let c1_i32_239 : BitVec 32 := 1#32
  let arg17 : BitVec 32 := Scf.iv c4_i32_238 c1_i32_239 k0_t1
  let c128_i32_245 : BitVec 32 := 128#32
  let v614 : BitVec 32 := Scalar.muli arg17 c128_i32_245
  let v615 : BitVec 32 := v614
  let v693 : Index := Scalar.indexCast v615
  ![0, v693.toNat]
def k0_off9 (k0_t1 : Fin k0_t1_loop.trips) : Fin 2 → Nat :=
  let c4_i32_238 : BitVec 32 := 4#32
  let c1_i32_239 : BitVec 32 := 1#32
  let arg17 : BitVec 32 := Scf.iv c4_i32_238 c1_i32_239 k0_t1
  let c128_i32_245 : BitVec 32 := 128#32
  let v614 : BitVec 32 := Scalar.muli arg17 c128_i32_245
  let v615 : BitVec 32 := v614
  let v711 : Index := Scalar.indexCast v615
  let c0_288 : Index := 0#32
  ![v711.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4608x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x640x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4608x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4608x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x576x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelAttnIdeal.lean ====
variable {F : FTy → Type} [FloatOps F] [Named F]
def κ : String → Option EReal := fun
  | "mask" => some ⊥
  | _ => none
-- ==== ReferenceAttnIdeal.lean ====
abbrev S4096x512 : Shape := ⟨2, ![4096, 512]⟩
abbrev S8x257 : Shape := ⟨2, ![8, 257]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S1x4096x8x64 : Shape := ⟨4, ![1, 4096, 8, 64]⟩
abbrev S1x64x64x8x64 : Shape := ⟨5, ![1, 64, 64, 8, 64]⟩
abbrev S1x8x64x8x64 : Shape := ⟨5, ![1, 8, 64, 8, 64]⟩
abbrev S1x72x64x8x64 : Shape := ⟨5, ![1, 72, 64, 8, 64]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x64 : Shape := ⟨6, ![1, 64, 9, 64, 8, 64]⟩
abbrev S1x64x576x8x64 : Shape := ⟨5, ![1, 64, 576, 8, 64]⟩
abbrev S1x64x8x64x576 : Shape := ⟨5, ![1, 64, 8, 64, 576]⟩
abbrev S64x9x64 : Shape := ⟨3, ![64, 9, 64]⟩
abbrev S1x64x1x1x576 : Shape := ⟨5, ![1, 64, 1, 1, 576]⟩
abbrev S1x1x8x64x576 : Shape := ⟨5, ![1, 1, 8, 64, 576]⟩
abbrev S1x64x8x64 : Shape := ⟨4, ![1, 64, 8, 64]⟩
abbrev S1x64x8x64x1 : Shape := ⟨5, ![1, 64, 8, 64, 1]⟩
abbrev S1x64x8x64x64 : Shape := ⟨5, ![1, 64, 8, 64, 64]⟩
abbrev S64x8x64 : Shape := ⟨3, ![64, 8, 64]⟩
abbrev S1x8x64x576 : Shape := ⟨4, ![1, 8, 64, 576]⟩
abbrev S1x64x8x576x64 : Shape := ⟨5, ![1, 64, 8, 576, 64]⟩
abbrev S4x2x64x576 : Shape := ⟨4, ![4, 2, 64, 576]⟩
abbrev S4x576x2x64 : Shape := ⟨4, ![4, 576, 2, 64]⟩
abbrev S1x4x576x128 : Shape := ⟨4, ![1, 4, 576, 128]⟩
abbrev S3x4x576x128 : Shape := ⟨4, ![3, 4, 576, 128]⟩
abbrev S4x4x576x128 : Shape := ⟨4, ![4, 4, 576, 128]⟩
abbrev S512x512 : Shape := ⟨2, ![512, 512]⟩
abbrev S4608x512 : Shape := ⟨2, ![4608, 512]⟩

abbrev nBuf : Space → Nat
  | .hbm => 206
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S8x257, .f32⟩
  | 4 => ⟨S4096x512, .f32⟩
  | 5 => ⟨S64, .i32⟩
  | 6 => ⟨S64x1, .i32⟩
  | 7 => ⟨S576, .i32⟩
  | 8 => ⟨S1x576, .i32⟩
  | 9 => ⟨S_, .i32⟩
  | 10 => ⟨S64x1, .i32⟩
  | 11 => ⟨S64x1, .i32⟩
  | 12 => ⟨S64x576, .i32⟩
  | 13 => ⟨S64x576, .i32⟩
  | 14 => ⟨S64x576, .i32⟩
  | 15 => ⟨S_, .i32⟩
  | 16 => ⟨S_, .i32⟩
  | 17 => ⟨S_, .i32⟩
  | 18 => ⟨S64x576, .i32⟩
  | 19 => ⟨S64x576, .i32⟩
  | 20 => ⟨S_, .i32⟩
  | 21 => ⟨S64x576, .i32⟩
  | 22 => ⟨S64x576, .i32⟩
  | 23 => ⟨S_, .i32⟩
  | 24 => ⟨S64x576, .i32⟩
  | 25 => ⟨S64x576, .i32⟩
  | 26 => ⟨S_, .i32⟩
  | 27 => ⟨S64x576, .i32⟩
  | 28 => ⟨S64x576, .i1⟩
  | 29 => ⟨S_, .i32⟩
  | 30 => ⟨S64x576, .i32⟩
  | 31 => ⟨S64x576, .i32⟩
  | 32 => ⟨S64x576, .i32⟩
  | 33 => ⟨S64x576x1, .i32⟩
  | 34 => ⟨S8x64x576, .f32⟩
  | 35 => ⟨S1x4096x8x64, .f32⟩
  | 36 => ⟨S1x4096x8x64, .f32⟩
  | 37 => ⟨S1x4096x8x64, .f32⟩
  | 38 => ⟨S1x64x64x8x64, .f32⟩
  | 39 => ⟨S_, .f32⟩
  | 40 => ⟨S1x8x64x8x64, .f32⟩
  | 41 => ⟨S1x64x64x8x64, .f32⟩
  | 42 => ⟨S1x72x64x8x64, .f32⟩
  | 43 => ⟨S_, .f32⟩
  | 44 => ⟨S1x8x64x8x64, .f32⟩
  | 45 => ⟨S1x64x64x8x64, .f32⟩
  | 46 => ⟨S1x72x64x8x64, .f32⟩
  | 47 => ⟨S_, .f32⟩
  | 48 => ⟨S1x8x64x8x64, .f32⟩
  | 49 => ⟨S64, .i32⟩
  | 50 => ⟨S64x1, .i32⟩
  | 51 => ⟨S9, .i32⟩
  | 52 => ⟨S1x9, .i32⟩
  | 53 => ⟨S64x9, .i32⟩
  | 54 => ⟨S64x9, .i32⟩
  | 55 => ⟨S64x9, .i32⟩
  | 56 => ⟨S_, .i32⟩
  | 57 => ⟨S64x9, .i32⟩
  | 58 => ⟨S64x9, .i1⟩
  | 59 => ⟨S_, .i32⟩
  | 60 => ⟨S64x9, .i32⟩
  | 61 => ⟨S64x9, .i32⟩
  | 62 => ⟨S64x9, .i32⟩
  | 63 => ⟨S64x9x1, .i32⟩
  | 64 => ⟨S1x64x9x64x8x64, .f32⟩
  | 65 => ⟨S1x64x576x8x64, .f32⟩
  | 66 => ⟨S_, .i32⟩
  | 67 => ⟨S64x9, .i32⟩
  | 68 => ⟨S64x9, .i1⟩
  | 69 => ⟨S_, .i32⟩
  | 70 => ⟨S64x9, .i32⟩
  | 71 => ⟨S64x9, .i32⟩
  | 72 => ⟨S64x9, .i32⟩
  | 73 => ⟨S64x9x1, .i32⟩
  | 74 => ⟨S1x64x9x64x8x64, .f32⟩
  | 75 => ⟨S1x64x576x8x64, .f32⟩
  | 76 => ⟨S1x64x8x64x576, .f32⟩
  | 77 => ⟨S_, .f32⟩
  | 78 => ⟨S1x64x8x64x576, .f32⟩
  | 79 => ⟨S1x64x8x64x576, .f32⟩
  | 80 => ⟨S_, .i32⟩
  | 81 => ⟨S64x9, .i32⟩
  | 82 => ⟨S64x9, .i1⟩
  | 83 => ⟨S64x9x64, .i1⟩
  | 84 => ⟨S64x576, .i1⟩
  | 85 => ⟨S1x64x1x1x576, .i1⟩
  | 86 => ⟨S1x1x8x64x576, .f32⟩
  | 87 => ⟨S1x64x8x64x576, .f32⟩
  | 88 => ⟨S1x64x8x64x576, .f32⟩
  | 89 => ⟨S_, .f32⟩
  | 90 => ⟨S_, .f32⟩
  | 91 => ⟨S1x64x8x64x576, .i1⟩
  | 92 => ⟨S1x64x8x64x576, .f32⟩
  | 93 => ⟨S1x64x8x64x576, .f32⟩
  | 94 => ⟨S_, .f32⟩
  | 95 => ⟨S1x64x8x64x576, .f32⟩
  | 96 => ⟨S_, .f32⟩
  | 97 => ⟨S1x64x8x64, .f32⟩
  | 98 => ⟨S1x64x8x64x1, .f32⟩
  | 99 => ⟨S1x64x8x64x576, .f32⟩
  | 100 => ⟨S1x64x8x64x576, .i1⟩
  | 101 => ⟨S1x64x8x64x576, .f32⟩
  | 102 => ⟨S_, .f32⟩
  | 103 => ⟨S1x64x8x64, .f32⟩
  | 104 => ⟨S_, .f32⟩
  | 105 => ⟨S1x64x8x64, .f32⟩
  | 106 => ⟨S1x64x8x64, .f32⟩
  | 107 => ⟨S_, .f32⟩
  | 108 => ⟨S1x64x8x64, .f32⟩
  | 109 => ⟨S1x64x8x64, .i1⟩
  | 110 => ⟨S_, .f32⟩
  | 111 => ⟨S1x64x8x64, .f32⟩
  | 112 => ⟨S1x64x8x64, .i1⟩
  | 113 => ⟨S_, .f32⟩
  | 114 => ⟨S1x64x8x64, .f32⟩
  | 115 => ⟨S_, .f32⟩
  | 116 => ⟨S1x64x8x64, .f32⟩
  | 117 => ⟨S_, .f32⟩
  | 118 => ⟨S1x64x8x64, .f32⟩
  | 119 => ⟨S1x64x8x64, .f32⟩
  | 120 => ⟨S1x64x8x64, .f32⟩
  | 121 => ⟨S1x64x8x64x1, .f32⟩
  | 122 => ⟨S1x64x8x64x576, .f32⟩
  | 123 => ⟨S1x64x8x64x576, .f32⟩
  | 124 => ⟨S1x64x8x64x576, .f32⟩
  | 125 => ⟨S_, .f32⟩
  | 126 => ⟨S1x64x8x64, .f32⟩
  | 127 => ⟨S1x64x8x64x1, .f32⟩
  | _ => ⟨S4096x512, .f32⟩

abbrev hbmTy0_1 (i : Nat) : BufTy := match i % 128 with
  | 0 => ⟨S1x64x8x64x576, .f32⟩
  | 1 => ⟨S1x64x8x64x576, .f32⟩
  | 2 => ⟨S1x64x8x64x1, .f32⟩
  | 3 => ⟨S_, .f32⟩
  | 4 => ⟨S1x64x8x64x1, .f32⟩
  | 5 => ⟨S1x64x8x64x1, .f32⟩
  | 6 => ⟨S1x64x8x64x64, .f32⟩
  | 7 => ⟨S1x64x64x8x64, .f32⟩
  | 8 => ⟨S4096x512, .f32⟩
  | 9 => ⟨S1x64x64x8x64, .f32⟩
  | 10 => ⟨S1x64x8x64x64, .f32⟩
  | 11 => ⟨S1x64x8x64x576, .f32⟩
  | 12 => ⟨S1x64x8x64x576, .f32⟩
  | 13 => ⟨S1x64x576x8x64, .f32⟩
  | 14 => ⟨S1x64x8x64x576, .f32⟩
  | 15 => ⟨S1x64x8x64x576, .f32⟩
  | 16 => ⟨S1x64x8x64x576, .f32⟩
  | 17 => ⟨S_, .f32⟩
  | 18 => ⟨S1x64x8x64, .f32⟩
  | 19 => ⟨S1x64x8x64x1, .f32⟩
  | 20 => ⟨S1x64x8x64x1, .f32⟩
  | 21 => ⟨S1x64x8x64x576, .f32⟩
  | 22 => ⟨S1x64x8x64x576, .f32⟩
  | 23 => ⟨S_, .f32⟩
  | 24 => ⟨S64x8x64, .f32⟩
  | 25 => ⟨S1x64x8x64, .f32⟩
  | 26 => ⟨S1x64x8x64x576, .f32⟩
  | 27 => ⟨S1x64x8x64x576, .f32⟩
  | 28 => ⟨S1x64x8x64x576, .f32⟩
  | 29 => ⟨S_, .f32⟩
  | 30 => ⟨S1x64x8x64x576, .f32⟩
  | 31 => ⟨S1x64x8x64x576, .f32⟩
  | 32 => ⟨S_, .f32⟩
  | 33 => ⟨S1x8x64x576, .f32⟩
  | 34 => ⟨S1x1x8x64x576, .f32⟩
  | 35 => ⟨S_, .f32⟩
  | 36 => ⟨S8x64x576, .f32⟩
  | 37 => ⟨S_, .f32⟩
  | 38 => ⟨S1x64x8x64x576, .f32⟩
  | 39 => ⟨S1x64x8x64x576, .f32⟩
  | 40 => ⟨S1x64x8x576x64, .f32⟩
  | 41 => ⟨S1x64x576x8x64, .f32⟩
  | 42 => ⟨S1x64x8x64x64, .f32⟩
  | 43 => ⟨S1x64x64x8x64, .f32⟩
  | 44 => ⟨S1x64x9x64x8x64, .f32⟩
  | 45 => ⟨S_, .f32⟩
  | 46 => ⟨S1x72x64x8x64, .f32⟩
  | 47 => ⟨S1x72x64x8x64, .f32⟩
  | 48 => ⟨S1x64x9x64x8x64, .f32⟩
  | 49 => ⟨S_, .f32⟩
  | 50 => ⟨S1x72x64x8x64, .f32⟩
  | 51 => ⟨S1x72x64x8x64, .f32⟩
  | 52 => ⟨S1x8x64x8x64, .f32⟩
  | 53 => ⟨S1x64x64x8x64, .f32⟩
  | 54 => ⟨S1x4096x8x64, .f32⟩
  | 55 => ⟨S1x8x64x8x64, .f32⟩
  | 56 => ⟨S1x64x64x8x64, .f32⟩
  | 57 => ⟨S1x4096x8x64, .f32⟩
  | 58 => ⟨S1x4096x8x64, .f32⟩
  | 59 => ⟨S4096x512, .f32⟩
  | 60 => ⟨S4096x512, .f32⟩
  | 61 => ⟨S4096x512, .f32⟩
  | 62 => ⟨S4x2x64x576, .f32⟩
  | 63 => ⟨S4x576x2x64, .f32⟩
  | 64 => ⟨S1x4x576x128, .f32⟩
  | 65 => ⟨S_, .f32⟩
  | 66 => ⟨S3x4x576x128, .f32⟩
  | 67 => ⟨S4x4x576x128, .f32⟩
  | 68 => ⟨S_, .f32⟩
  | 69 => ⟨S4096x512, .f32⟩
  | 70 => ⟨S4096x512, .f32⟩
  | 71 => ⟨S_, .f32⟩
  | 72 => ⟨S512x512, .f32⟩
  | 73 => ⟨S4608x512, .f32⟩
  | 74 => ⟨S_, .f32⟩
  | 75 => ⟨S512x512, .f32⟩
  | 76 => ⟨S4608x512, .f32⟩
  | 77 => ⟨S4608x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_call1_v0 : Ref sig .tc := ⟨.hbm, 90, rfl⟩
abbrev main_v64_1 : Ref sig .tc := ⟨.hbm, 91, rfl⟩
abbrev main_call1_v2 : Ref sig .tc := ⟨.hbm, 92, rfl⟩
abbrev main_v64_0 : Ref sig .tc := ⟨.hbm, 93, rfl⟩
abbrev main_call1_cst : Ref sig .tc := ⟨.hbm, 94, rfl⟩
abbrev main_v64_2 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_cst_17 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩
abbrev main_v76 : Ref sig .tc := ⟨.hbm, 112, rfl⟩
abbrev main_cst_19 : Ref sig .tc := ⟨.hbm, 113, rfl⟩
abbrev main_v77 : Ref sig .tc := ⟨.hbm, 114, rfl⟩
abbrev main_cst_20 : Ref sig .tc := ⟨.hbm, 115, rfl⟩
abbrev main_v78 : Ref sig .tc := ⟨.hbm, 116, rfl⟩
abbrev main_cst_21 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_22 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_23 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_24 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_25 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call2_cst : Ref sig .tc := ⟨.hbm, 157, rfl⟩
abbrev main_call2_v0 : Ref sig .tc := ⟨.hbm, 158, rfl⟩
abbrev main_v114 : Ref sig .tc := ⟨.hbm, 159, rfl⟩
abbrev main_cst_26 : Ref sig .tc := ⟨.hbm, 160, rfl⟩
abbrev main_v115 : Ref sig .tc := ⟨.hbm, 161, rfl⟩
abbrev main_v116 : Ref sig .tc := ⟨.hbm, 162, rfl⟩
abbrev main_cst_27 : Ref sig .tc := ⟨.hbm, 163, rfl⟩
abbrev main_v117 : Ref sig .tc := ⟨.hbm, 164, rfl⟩
abbrev main_cst_28 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_29 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_30 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_31 : Ref sig .tc := ⟨.hbm, 193, rfl⟩
abbrev main_v143 : Ref sig .tc := ⟨.hbm, 194, rfl⟩
abbrev main_v144 : Ref sig .tc := ⟨.hbm, 195, rfl⟩
abbrev main_cst_32 : Ref sig .tc := ⟨.hbm, 196, rfl⟩
abbrev main_v145 : Ref sig .tc := ⟨.hbm, 197, rfl⟩
abbrev main_v146 : Ref sig .tc := ⟨.hbm, 198, rfl⟩
abbrev main_cst_33 : Ref sig .tc := ⟨.hbm, 199, rfl⟩
abbrev main_v147 : Ref sig .tc := ⟨.hbm, 200, rfl⟩
abbrev main_v148 : Ref sig .tc := ⟨.hbm, 201, rfl⟩
abbrev main_cst_34 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩

abbrev nD : Nat := 1
abbrev τ : Topo := Topo.v7x

variable {F : FTy → Type} [FloatOps F]

def κ : String → Option EReal := fun
  | "mask" => some ⊥
  | _ => none
-- ==== KernelRelu.lean ====
abbrev S4096x1024 : Shape := ⟨2, ![4096, 1024]⟩
abbrev S4x4096x1024 : Shape := ⟨3, ![4, 4096, 1024]⟩
abbrev S4096x4096 : Shape := ⟨2, ![4096, 4096]⟩
abbrev S512x1024 : Shape := ⟨2, ![512, 1024]⟩
abbrev S1x4096x1024 : Shape := ⟨3, ![1, 4096, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x1024, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceReluIdeal.lean ====
abbrev S4096x1024 : Shape := ⟨2, ![4096, 1024]⟩
abbrev S4x4096x1024 : Shape := ⟨3, ![4, 4096, 1024]⟩
abbrev S4096x4096 : Shape := ⟨2, ![4096, 4096]⟩
abbrev S_ : Shape := ⟨0, ![]⟩
abbrev S1x4096x1024 : Shape := ⟨3, ![1, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S1x4096x1024, .bf16⟩
  | .hbm, ⟨17, _⟩ => ⟨S4096x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== KernelSquare.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSquareIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelProj.lean ====
abbrev S4096x1024 : Shape := ⟨2, ![4096, 1024]⟩
abbrev S4x1024x1024 : Shape := ⟨3, ![4, 1024, 1024]⟩
abbrev S4096x512 : Shape := ⟨2, ![4096, 512]⟩
abbrev S512x4096 : Shape := ⟨2, ![512, 4096]⟩
abbrev S4096x128 : Shape := ⟨2, ![4096, 128]⟩
abbrev S1024x1024 : Shape := ⟨2, ![1024, 1024]⟩
abbrev S1x1024x1024 : Shape := ⟨3, ![1, 1024, 1024]⟩
abbrev S1024x512 : Shape := ⟨2, ![1024, 512]⟩
abbrev S512x1024 : Shape := ⟨2, ![512, 1024]⟩
abbrev S1024x128 : Shape := ⟨2, ![1024, 128]⟩
abbrev S1x512x1024 : Shape := ⟨3, ![1, 512, 1024]⟩
abbrev S512x128 : Shape := ⟨2, ![512, 128]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .hbm, ⟨3, _⟩ => ⟨S4096x512, .bf16⟩
  | .hbm, ⟨4, _⟩ => ⟨S512x4096, .bf16⟩
  | .hbm, ⟨5, _⟩ => ⟨S4096x512, .f32⟩
  | .hbm, ⟨6, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x512, .f32⟩
  | .local _ .vmem, ⟨10, _⟩ => ⟨S1024x512, .f32⟩
  | .local _ .vmem, ⟨11, _⟩ => ⟨S1024x128, .f32⟩
  | .local _ .vmem, ⟨12, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceProjIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S4096x512 : Shape := ⟨2, ![4096, 512]⟩
abbrev S4096x8x64 : Shape := ⟨3, ![4096, 8, 64]⟩
abbrev S_ : Shape := ⟨0, ![]⟩
abbrev S4096x8 : Shape := ⟨2, ![4096, 8]⟩
abbrev S512x4096 : Shape := ⟨2, ![512, 4096]⟩
abbrev S4096x128 : Shape := ⟨2, ![4096, 128]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .f32⟩
  | .hbm, ⟨14, _⟩ => ⟨S4096x8x64, .f32⟩
  | .hbm, ⟨15, _⟩ => ⟨S_, .f32⟩
  | .hbm, ⟨16, _⟩ => ⟨S4096x8, .f32⟩
  | .hbm, ⟨17, _⟩ => ⟨S4096x512, .bf16⟩
  | .hbm, ⟨18, _⟩ => ⟨S512x4096, .f32⟩
  | .hbm, ⟨19, _⟩ => ⟨S512x4096, .bf16⟩
  | .hbm, ⟨20, _⟩ => ⟨S4096x512, .f32⟩
  | .hbm, ⟨21, _⟩ => ⟨S_, .i32⟩
  | .hbm, ⟨22, _⟩ => ⟨S_, .f32⟩
  | .hbm, ⟨23, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelLoss.lean ====
abbrev S4096x1024 : Shape := ⟨2, ![4096, 1024]⟩
abbrev S4x1024x4096 : Shape := ⟨3, ![4, 1024, 4096]⟩
abbrev S4x4096x1024 : Shape := ⟨3, ![4, 4096, 1024]⟩
abbrev S4096x4096 : Shape := ⟨2, ![4096, 4096]⟩
abbrev S1x1 : Shape := ⟨2, ![1, 1]⟩
abbrev S256x1024 : Shape := ⟨2, ![256, 1024]⟩
abbrev S1x1024x4096 : Shape := ⟨3, ![1, 1024, 4096]⟩
abbrev S1x4096x1024 : Shape := ⟨3, ![1, 4096, 1024]⟩
abbrev S256x4096 : Shape := ⟨2, ![256, 4096]⟩
abbrev S1024x4096 : Shape := ⟨2, ![1024, 4096]⟩
abbrev S256 : Shape := ⟨1, ![256]⟩
abbrev S256x1 : Shape := ⟨2, ![256, 1]⟩
abbrev S1 : Shape := ⟨1, ![1]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4x1024x4096, .bf16⟩
  | .hbm, ⟨2, _⟩ => ⟨S4x4096x1024, .bf16⟩
  | .hbm, ⟨3, _⟩ => ⟨S4096x1024, .f32⟩
  | .hbm, ⟨4, _⟩ => ⟨S4096x1024, .f32⟩
  | .hbm, ⟨5, _⟩ => ⟨S4096x4096, .bf16⟩
  | .hbm, ⟨6, _⟩ => ⟨S4096x1024, .f32⟩
  | .hbm, ⟨7, _⟩ => ⟨S4096x1024, .bf16⟩
  | .hbm, ⟨8, _⟩ => ⟨S1x1, .f32⟩
  | .local _ .vmem, ⟨0, _⟩ => ⟨S256x1024, .bf16⟩
  | .local _ .vmem, ⟨1, _⟩ => ⟨S256x1024, .bf16⟩
  | .local _ .vmem, ⟨2, _⟩ => ⟨S1x1024x4096, .bf16⟩
  | .local _ .vmem, ⟨3, _⟩ => ⟨S1x4096x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .bf16⟩
  | .local _ .vmem, ⟨9, _⟩ => ⟨S256x4096, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_24 : BitVec 32 := 0#32
  let v32 : BitVec 1 := Scalar.cmpi .ne v31 c0_i32_24
  v32

def k0_cond2 (i : grid0.Coords) : BitVec 1 :=
  let arg0 : BitVec 32 := BitVec.ofNat 32 (i 0).val
  let c0_i32_25 : BitVec 32 := 0#32
  let v33 : BitVec 1 := Scalar.cmpi .sgt arg0 c0_i32_25
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLossIdeal.lean ====
abbrev S4096x1024 : Shape := ⟨2, ![4096, 1024]⟩
abbrev S4x1024x4096 : Shape := ⟨3, ![4, 1024, 4096]⟩
abbrev S4x4096x1024 : Shape := ⟨3, ![4, 4096, 1024]⟩
abbrev S1x1024x4096 : Shape := ⟨3, ![1, 1024, 4096]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩
abbrev S4096 : Shape := ⟨1, ![4096]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x4096, .bf16⟩
  | .hbm, ⟨2, _⟩ => ⟨S4x4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024x4096, .bf16⟩
  | .hbm, ⟨7, _⟩ => ⟨S1024x4096, .bf16⟩
  | .hbm, ⟨8, _⟩ => ⟨S1024x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x4096, .bf16⟩
  | .hbm, ⟨43, _⟩ => ⟨S4096x1024, .bf16⟩
  | .hbm, ⟨44, _⟩ => ⟨S1x1, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== KernelNorm.lean ====
abbrev S4096x4096 : Shape := ⟨2, ![4096, 4096]⟩
abbrev S4x1024x4096 : Shape := ⟨3, ![4, 1024, 4096]⟩
abbrev S4096x1024 : Shape := ⟨2, ![4096, 1024]⟩
abbrev S1x1024 : Shape := ⟨2, ![1, 1024]⟩
abbrev S_ : Shape := ⟨0, ![]⟩
abbrev S8x128 : Shape := ⟨2, ![8, 128]⟩
abbrev S512x4096 : Shape := ⟨2, ![512, 4096]⟩
abbrev S1x1024x4096 : Shape := ⟨3, ![1, 1024, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4x1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S8x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_20 : BitVec 32 := 0#32
  let v38 : BitVec 1 := Scalar.cmpi .ne v37 c0_i32_20
  v38

def k0_cond2 (i : grid0.Coords) : BitVec 1 :=
  let arg0 : BitVec 32 := BitVec.ofNat 32 (i 0).val
  let c0_i32_21 : BitVec 32 := 0#32
  let v39 : BitVec 1 := Scalar.cmpi .sgt arg0 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceNormIdeal.lean ====
abbrev S4096x4096 : Shape := ⟨2, ![4096, 4096]⟩
abbrev S4x1024x4096 : Shape := ⟨3, ![4, 1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024x4096, .bf16⟩
  | .hbm, ⟨25, _⟩ => ⟨S1024x4096, .bf16⟩
  | .hbm, ⟨26, _⟩ => ⟨S1024x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== KernelBias.lean ====
abbrev S4x4x576x128 : Shape := ⟨4, ![4, 4, 576, 128]⟩
abbrev S4x4x9x64x2x64 : Shape := ⟨6, ![4, 4, 9, 64, 2, 64]⟩
abbrev S4x9x4x2x64x64 : Shape := ⟨6, ![4, 9, 4, 2, 64, 64]⟩
abbrev S4x72x4096 : Shape := ⟨3, ![4, 72, 4096]⟩
abbrev S4x8x384 : Shape := ⟨3, ![4, 8, 384]⟩
abbrev S1x72x4096 : Shape := ⟨3, ![1, 72, 4096]⟩
abbrev S1x8x384 : Shape := ⟨3, ![1, 8, 384]⟩
abbrev S72x4096 : Shape := ⟨2, ![72, 4096]⟩
abbrev S4096x128 : Shape := ⟨2, ![4096, 128]⟩
abbrev S72x128 : Shape := ⟨2, ![72, 128]⟩
abbrev S8x384 : Shape := ⟨2, ![8, 384]⟩
abbrev S8x128 : Shape := ⟨2, ![8, 128]⟩
abbrev S128x384 : Shape := ⟨2, ![128, 384]⟩

abbrev nBuf : Space → Nat
  | .hbm => 5
  | .vmem => 4
  | .smem => 0
  | _ => 0

abbrev bufTy : (tb : Table) → Fin (tcTables nBuf tb) → BufTy
  | .hbm, ⟨0, _⟩ => ⟨S4x4x576x128, .f32⟩
  | .hbm, ⟨1, _⟩ => ⟨S4x4x9x64x2x64, .f32⟩
  | .hbm, ⟨2, _⟩ => ⟨S4x9x4x2x64x64, .f32⟩
  | .hbm, ⟨3, _⟩ => ⟨S4x72x4096, .f32⟩
  | .hbm, ⟨4, _⟩ => ⟨S4x8x384, .f32⟩
  | .local _ .vmem, ⟨0, _⟩ => ⟨S1x72x4096, .f32⟩
  | .local _ .vmem, ⟨1, _⟩ => ⟨S1x72x4096, .f32⟩
  | .local _ .vmem, ⟨2, _⟩ => ⟨S1x8x384, .f32⟩
  | .local _ .vmem, ⟨3, _⟩ => ⟨S1x8x384, .f32⟩
  | _, _ => ⟨S4x4x576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x72x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceBiasIdeal.lean ====
abbrev S4x4x576x128 : Shape := ⟨4, ![4, 4, 576, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S4x4x576x2x64 : Shape := ⟨5, ![4, 4, 576, 2, 64]⟩
abbrev S4x4x2x64x576 : Shape := ⟨5, ![4, 4, 2, 64, 576]⟩
abbrev S4x8x64x576 : Shape := ⟨4, ![4, 8, 64, 576]⟩
abbrev S_ : Shape := ⟨0, ![]⟩
abbrev S4x8x257 : Shape := ⟨3, ![4, 8, 257]⟩
abbrev S64x576 : Shape := ⟨2, ![64, 576]⟩
abbrev S64x576x1 : Shape := ⟨3, ![64, 576, 1]⟩
abbrev S4x8x384 : Shape := ⟨3, ![4, 8, 384]⟩

abbrev nBuf : Space → Nat
  | .hbm => 42
  | .vmem => 0
  | .smem => 0
  | _ => 0

abbrev bufTy : (tb : Table) → Fin (tcTables nBuf tb) → BufTy
  | .hbm, ⟨0, _⟩ => ⟨S4x4x576x128, .f32⟩
  | .hbm, ⟨1, _⟩ => ⟨S64, .i32⟩
  | .hbm, ⟨2, _⟩ => ⟨S64x1, .i32⟩
  | .hbm, ⟨3, _⟩ => ⟨S576, .i32⟩
  | .hbm, ⟨4, _⟩ => ⟨S1x576, .i32⟩
  | .hbm, ⟨5, _⟩ => ⟨S4x4x576x2x64, .f32⟩
  | .hbm, ⟨6, _⟩ => ⟨S4x4x2x64x576, .f32⟩
  | .hbm, ⟨7, _⟩ => ⟨S4x8x64x576, .f32⟩
  | .hbm, ⟨8, _⟩ => ⟨S_, .f32⟩
  | .hbm, ⟨9, _⟩ => ⟨S4x8x257, .f32⟩
  | .hbm, ⟨10, _⟩ => ⟨S_, .i32⟩
  | .hbm, ⟨11, _⟩ => ⟨S64x1, .i32⟩
  | .hbm, ⟨12, _⟩ => ⟨S64x1, .i32⟩
  | .hbm, ⟨13, _⟩ => ⟨S64x576, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S64x576, .i32⟩
  | .hbm, ⟨29, _⟩ => ⟨S64x576, .i1⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S64x576, .i32⟩
  | .hbm, ⟨34, _⟩ => ⟨S64x576x1, .i32⟩
  | .hbm, ⟨35, _⟩ => ⟨S4x8x64x576, .f32⟩
  | .hbm, ⟨36, _⟩ => ⟨S_, .f32⟩
  | .hbm, ⟨37, _⟩ => ⟨S4x8x257, .f32⟩
  | .hbm, ⟨38, _⟩ => ⟨S4x8x257, .f32⟩
  | .hbm, ⟨39, _⟩ => ⟨S_, .i32⟩
  | .hbm, ⟨40, _⟩ => ⟨S_, .f32⟩
  | .hbm, ⟨41, _⟩ => ⟨S4x8x384, .f32⟩
  | _, _ => ⟨S4x4x576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_call1_v0 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== KernelQkv.lean ====
abbrev S4096x2560 : Shape := ⟨2, ![4096, 2560]⟩
abbrev S4096x512 : Shape := ⟨2, ![4096, 512]⟩
abbrev S4608x512 : Shape := ⟨2, ![4608, 512]⟩
abbrev S4096x1024 : Shape := ⟨2, ![4096, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x128 : Shape := ⟨2, ![1, 128]⟩
abbrev S512x512 : Shape := ⟨2, ![512, 512]⟩
abbrev S512x1024 : Shape := ⟨2, ![512, 1024]⟩
abbrev S512x2560 : Shape := ⟨2, ![512, 2560]⟩
abbrev S512 : Shape := ⟨1, ![512]⟩

abbrev nBuf : Space → Nat
  | .hbm => 16
  | .vmem => 18
  | .smem => 0
  | _ => 0

abbrev bufTy : (tb : Table) → Fin (tcTables nBuf tb) → BufTy
  | .hbm, ⟨0, _⟩ => ⟨S4096x2560, .f32⟩
  | .hbm, ⟨1, _⟩ => ⟨S4096x512, .f32⟩
  | .hbm, ⟨2, _⟩ => ⟨S4608x512, .f32⟩
  | .hbm, ⟨3, _⟩ => ⟨S4608x512, .bf16⟩
  | .hbm, ⟨4, _⟩ => ⟨S4096x1024, .bf16⟩
  | .hbm, ⟨5, _⟩ => ⟨S1x64, .f32⟩
  | .hbm, ⟨6, _⟩ => ⟨S1x64, .f32⟩
  | .hbm, ⟨7, _⟩ => ⟨S1x1x1x64, .f32⟩
  | .hbm, ⟨8, _⟩ => ⟨S1x1x8x64, .f32⟩
  | .hbm, ⟨9, _⟩ => ⟨S1x512, .f32⟩
  | .hbm, ⟨10, _⟩ => ⟨S1x1x1x64, .f32⟩
  | .hbm, ⟨11, _⟩ => ⟨S1x1x8x64, .f32⟩
  | .hbm, ⟨12, _⟩ => ⟨S1x512, .f32⟩
  | .hbm, ⟨13, _⟩ => ⟨S4096x2560, .bf16⟩
  | .hbm, ⟨14, _⟩ => ⟨S1x128, .f32⟩
  | .hbm, ⟨15, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S1x512, .f32⟩
  | .local _ .vmem, ⟨13, _⟩ => ⟨S1x512, .f32⟩
  | .local _ .vmem, ⟨14, _⟩ => ⟨S512x2560, .bf16⟩
  | .local _ .vmem, ⟨15, _⟩ => ⟨S512x2560, .bf16⟩
  | .local _ .vmem, ⟨16, _⟩ => ⟨S1x128, .f32⟩
  | .local _ .vmem, ⟨17, _⟩ => ⟨S1x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_47 : BitVec 32 := 0#32
  let v145 : BitVec 1 := Scalar.cmpi .eq arg0 c0_i32_47
  let v146 : BitVec 32 := Scalar.extui v145
  let c0_i32_48 : BitVec 32 := 0#32
  let v147 : BitVec 1 := Scalar.cmpi .ne v146 c0_i32_48
  v147

def k0_cond2 (i : grid0.Coords) : BitVec 1 :=
  let arg0 : BitVec 32 := BitVec.ofNat 32 (i 0).val
  let c0_i32_49 : BitVec 32 := 0#32
  let v148 : BitVec 1 := Scalar.cmpi .sgt arg0 c0_i32_49
  let v149 : BitVec 32 := Scalar.extui v148
  let c0_i32_50 : BitVec 32 := 0#32
  let v150 : BitVec 1 := Scalar.cmpi .ne v149 c0_i32_50
  v150

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceQkvIdeal.lean ====
abbrev S4096x2560 : Shape := ⟨2, ![4096, 2560]⟩
abbrev S4096x512 : Shape := ⟨2, ![4096, 512]⟩
abbrev S4608x512 : Shape := ⟨2, ![4608, 512]⟩
abbrev S4096x1024 : Shape := ⟨2, ![4096, 1024]⟩
abbrev S1x64 : Shape := ⟨2, ![1, 64]⟩
abbrev S4096x8x64 : Shape := ⟨3, ![4096, 8, 64]⟩
abbrev S64 : Shape := ⟨1, ![64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S4096x2560, .f32⟩
  | 1 => ⟨S4096x512, .f32⟩
  | 2 => ⟨S4608x512, .f32⟩
  | 3 => ⟨S4608x512, .bf16⟩
  | 4 => ⟨S4096x1024, .bf16⟩
  | 5 => ⟨S1x64, .f32⟩
  | 6 => ⟨S1x64, .f32⟩
  | 7 => ⟨S4096x512, .f32⟩
  | 8 => ⟨S4096x8x64, .f32⟩
  | 9 => ⟨S64, .f32⟩
  | 10 => ⟨S4096x8x64, .f32⟩
  | 11 => ⟨S_, .f32⟩
  | 12 => ⟨S4096x8, .f32⟩
  | 13 => ⟨S4096x8x1, .f32⟩
  | 14 => ⟨S_, .f32⟩
  | 15 => ⟨S4096x8x1, .f32⟩
  | 16 => ⟨S4096x8x1, .f32⟩
  | 17 => ⟨S_, .f32⟩
  | 18 => ⟨S4096x8x1, .f32⟩
  | 19 => ⟨S4096x8x1, .f32⟩
  | 20 => ⟨S4096x8x1, .f32⟩
  | 21 => ⟨S4096x8x1, .f32⟩
  | 22 => ⟨S_, .f32⟩
  | 23 => ⟨S4096x8x1, .f32⟩
  | 24 => ⟨S4096x8x1, .f32⟩
  | 25 => ⟨S4096x8x64, .f32⟩
  | 26 => ⟨S4096x8x64, .f32⟩
  | 27 => ⟨S1x1x64, .f32⟩
  | 28 => ⟨S4096x8x64, .f32⟩
  | 29 => ⟨S4096x8x64, .f32⟩
  | 30 => ⟨S_, .f32⟩
  | 31 => ⟨S4096x8x64, .f32⟩
  | 32 => ⟨S4096x8x64, .f32⟩
  | 33 => ⟨S4096x512, .f32⟩
  | 34 => ⟨S4096x8x64, .f32⟩
  | 35 => ⟨S64, .f32⟩
  | 36 => ⟨S4096x8x64, .f32⟩
  | 37 => ⟨S_, .f32⟩
  | 38 => ⟨S4096x8, .f32⟩
  | 39 => ⟨S4096x8x1, .f32⟩
  | 40 => ⟨S_, .f32⟩
  | 41 => ⟨S4096x8x1, .f32⟩
  | 42 => ⟨S4096x8x1, .f32⟩
  | 43 => ⟨S_, .f32⟩
  | 44 => ⟨S4096x8x1, .f32⟩
  | 45 => ⟨S4096x8x1, .f32⟩
  | 46 => ⟨S4096x8x1, .f32⟩
  | 47 => ⟨S4096x8x1, .f32⟩
  | 48 => ⟨S_, .f32⟩
  | 49 => ⟨S4096x8x1, .f32⟩
  | 50 => ⟨S4096x8x1, .f32⟩
  | 51 => ⟨S4096x8x64, .f32⟩
  | 52 => ⟨S4096x8x64, .f32⟩
  | 53 => ⟨S1x1x64, .f32⟩
  | 54 => ⟨S4096x8x64, .f32⟩
  | 55 => ⟨S4096x8x64, .f32⟩
  | 56 => ⟨S4096x512, .f32⟩
  | 57 => ⟨S4096x512, .f32⟩
  | 58 => ⟨S4096x512, .f32⟩
  | 59 => ⟨S4096x1024, .f32⟩
  | 60 => ⟨S4096x512, .f32⟩
  | 61 => ⟨S4096x512, .bf16⟩
  | 62 => ⟨S4096x512, .f32⟩
  | 63 => ⟨S4096x1024, .f32⟩
  | 64 => ⟨S_, .f32⟩
  | 65 => ⟨S4096x2560, .f32⟩
  | 66 => ⟨S_, .f32⟩
  | 67 => ⟨S4096x2560, .f32⟩
  | 68 => ⟨S4096x2560, .f32⟩
  | 69 => ⟨S4096x8x64, .f32⟩
  | 70 => ⟨S4096x8x64, .f32⟩
  | 71 => ⟨S4096x8x64, .f32⟩
  | 72 => ⟨S_, .f32⟩
  | 73 => ⟨S64, .f32⟩
  | 74 => ⟨S1x1x64, .f32⟩
  | 75 => ⟨S4096x8x64, .f32⟩
  | 76 => ⟨S4096x8x64, .f32⟩
  | 77 => ⟨S_, .f32⟩
  | 78 => ⟨S64, .f32⟩
  | 79 => ⟨S4096x8x64, .f32⟩
  | 80 => ⟨S_, .f32⟩
  | 81 => ⟨S4096x8, .f32⟩
  | 82 => ⟨S4096x8x1, .f32⟩
  | 83 => ⟨S4096x8x64, .f32⟩
  | 84 => ⟨S4096x8x64, .f32⟩
  | 85 => ⟨S4096x8x1, .f32⟩
  | 86 => ⟨S_, .f32⟩
  | 87 => ⟨S4096x8x1, .f32⟩
  | 88 => ⟨S4096x8x1, .f32⟩
  | 89 => ⟨S_, .f32⟩
  | 90 => ⟨S4096x8, .f32⟩
  | 91 => ⟨S4096x8x64, .f32⟩
  | 92 => ⟨S4096x8x64, .f32⟩
  | 93 => ⟨S4096x8x64, .f32⟩
  | 94 => ⟨S4096x8x64, .f32⟩
  | 95 => ⟨S4096x8x64, .f32⟩
  | 96 => ⟨S1x64, .f32⟩
  | 97 => ⟨S4096x512, .f32⟩
  | 98 => ⟨S_, .f32⟩
  | 99 => ⟨S4096x2560, .f32⟩
  | 100 => ⟨S4096x2560, .f32⟩
  | 101 => ⟨S_, .f32⟩
  | 102 => ⟨S4096x8x64, .f32⟩
  | 103 => ⟨S4096x8x64, .f32⟩
  | 104 => ⟨S4096x8x64, .f32⟩
  | 105 => ⟨S_, .f32⟩
  | 106 => ⟨S64, .f32⟩
  | 107 => ⟨S1x1x64, .f32⟩
  | 108 => ⟨S4096x8x64, .f32⟩
  | 109 => ⟨S4096x8x64, .f32⟩
  | 110 => ⟨S_, .f32⟩
  | 111 => ⟨S64, .f32⟩
  | 112 => ⟨S4096x8x64, .f32⟩
  | 113 => ⟨S_, .f32⟩
  | 114 => ⟨S4096x8, .f32⟩
  | 115 => ⟨S4096x8x1, .f32⟩
  | 116 => ⟨S4096x8x64, .f32⟩
  | 117 => ⟨S4096x8x64, .f32⟩
  | 118 => ⟨S4096x8x1, .f32⟩
  | 119 => ⟨S_, .f32⟩
  | 120 => ⟨S4096x8x1, .f32⟩
  | 121 => ⟨S4096x8x1, .f32⟩
  | 122 => ⟨S_, .f32⟩
  | 123 => ⟨S4096x8, .f32⟩
  | 124 => ⟨S4096x8x64, .f32⟩
  | 125 => ⟨S4096x8x64, .f32⟩
  | 126 => ⟨S4096x8x64, .f32⟩
  | 127 => ⟨S4096x8x64, .f32⟩
  | _ => ⟨S4096x2560, .f32⟩

abbrev hbmTy0_1 (i : Nat) : BufTy := match i % 128 with
  | 0 => ⟨S4096x8x64, .f32⟩
  | 1 => ⟨S1x64, .f32⟩
  | 2 => ⟨S4096x512, .f32⟩
  | 3 => ⟨S_, .f32⟩
  | 4 => ⟨S4096x2560, .f32⟩
  | 5 => ⟨S4096x2560, .f32⟩
  | 6 => ⟨S4096x2560, .bf16⟩
  | 7 => ⟨S1x128, .f32⟩
  | 8 => ⟨S1x128, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_cst_19 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_20 : Ref sig .tc := ⟨.hbm, 119, rfl⟩
abbrev main_v91 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_22 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== KernelPool.lean ====
abbrev S4096x2560 : Shape := ⟨2, ![4096, 2560]⟩
abbrev S4096x512 : Shape := ⟨2, ![4096, 512]⟩
abbrev S3x256 : Shape := ⟨2, ![3, 256]⟩
abbrev S4x64x64 : Shape := ⟨3, ![4, 64, 64]⟩
abbrev S1x256 : Shape := ⟨2, ![1, 256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S4096x1024 : Shape := ⟨2, ![4096, 1024]⟩
abbrev S512x256 : Shape := ⟨2, ![512, 256]⟩
abbrev S16x256 : Shape := ⟨2, ![16, 256]⟩
abbrev S512x1024 : Shape := ⟨2, ![512, 1024]⟩
abbrev S496x256 : Shape := ⟨2, ![496, 256]⟩
abbrev S256 : Shape := ⟨1, ![256]⟩

abbrev nBuf : Space → Nat
  | .hbm => 24
  | .vmem => 34
  | .smem => 0
  | _ => 0

abbrev bufTy : (tb : Table) → Fin (tcTables nBuf tb) → BufTy
  | .hbm, ⟨0, _⟩ => ⟨S4096x2560, .f32⟩
  | .hbm, ⟨1, _⟩ => ⟨S4096x512, .f32⟩
  | .hbm, ⟨2, _⟩ => ⟨S3x256, .f32⟩
  | .hbm, ⟨3, _⟩ => ⟨S4x64x64, .f32⟩
  | .hbm, ⟨4, _⟩ => ⟨S1x256, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x1x4x1, .f32⟩
  | .hbm, ⟨13, _⟩ => ⟨S4x64x1x64, .f32⟩
  | .hbm, ⟨14, _⟩ => ⟨S4x64x4x64, .f32⟩
  | .hbm, ⟨15, _⟩ => ⟨S4x64x4x64, .f32⟩
  | .hbm, ⟨16, _⟩ => ⟨S4x64x4x64, .f32⟩
  | .hbm, ⟨17, _⟩ => ⟨S256x256, .f32⟩
  | .hbm, ⟨18, _⟩ => ⟨S4096x1024, .bf16⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S256x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S3x256, .f32⟩
  | .local _ .vmem, ⟨25, _⟩ => ⟨S256x256, .f32⟩
  | .local _ .vmem, ⟨26, _⟩ => ⟨S1x256, .f32⟩
  | .local _ .vmem, ⟨27, _⟩ => ⟨S512x1024, .bf16⟩
  | .local _ .vmem, ⟨28, _⟩ => ⟨S512x1024, .bf16⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S256x256, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_119 : BitVec 32 := 0#32
  let v304 : BitVec 1 := Scalar.cmpi .eq arg0 c0_i32_119
  let v305 : BitVec 32 := Scalar.extui v304
  let c0_i32_120 : BitVec 32 := 0#32
  let v306 : BitVec 1 := Scalar.cmpi .ne v305 c0_i32_120
  v306

def k0_cond2 (i : grid0.Coords) : BitVec 1 :=
  let arg0 : BitVec 32 := BitVec.ofNat 32 (i 0).val
  let c0_i32_121 : BitVec 32 := 0#32
  let v307 : BitVec 1 := Scalar.cmpi .sgt arg0 c0_i32_121
  let v308 : BitVec 32 := Scalar.extui v307
  let c0_i32_122 : BitVec 32 := 0#32
  let v309 : BitVec 1 := Scalar.cmpi .ne v308 c0_i32_122
  v309

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c6_i32 : BitVec 32 := 6#32
  let c0_i32 : BitVec 32 := 0#32
  ![v2.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferencePoolIdeal.lean ====
abbrev S4096x2560 : Shape := ⟨2, ![4096, 2560]⟩
abbrev S4096x512 : Shape := ⟨2, ![4096, 512]⟩
abbrev S3x256 : Shape := ⟨2, ![3, 256]⟩
abbrev S4x64x64 : Shape := ⟨3, ![4, 64, 64]⟩
abbrev S1x256 : Shape := ⟨2, ![1, 256]⟩
abbrev S256 : Shape := ⟨1, ![256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S4097x256 : Shape := ⟨2, ![4097, 256]⟩
abbrev S4096 : Shape := ⟨1, ![4096]⟩
abbrev S4097x64 : Shape := ⟨2, ![4097, 64]⟩
abbrev S1x64 : Shape := ⟨2, ![1, 64]⟩
abbrev S4095x64 : Shape := ⟨2, ![4095, 64]⟩
abbrev S4096x64 : Shape := ⟨2, ![4096, 64]⟩
abbrev S4096x1 : Shape := ⟨2, ![4096, 1]⟩
abbrev S1x64x64 : Shape := ⟨3, ![1, 64, 64]⟩
abbrev S64x64 : Shape := ⟨2, ![64, 64]⟩
abbrev S3x64 : Shape := ⟨2, ![3, 64]⟩
abbrev S4093x64 : Shape := ⟨2, ![4093, 64]⟩
abbrev S7x64 : Shape := ⟨2, ![7, 64]⟩
abbrev S4089x64 : Shape := ⟨2, ![4089, 64]⟩
abbrev S15x64 : Shape := ⟨2, ![15, 64]⟩
abbrev S4081x64 : Shape := ⟨2, ![4081, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S4096x1024 : Shape := ⟨2, ![4096, 1024]⟩

abbrev nBuf : Space → Nat
  | .hbm => 333
  | .vmem => 0
  | .smem => 0
  | _ => 0

abbrev hbmTy0_0 (i : Nat) : BufTy := match i % 128 with
  | 0 => ⟨S4096x2560, .f32⟩
  | 1 => ⟨S4096x512, .f32⟩
  | 2 => ⟨S3x256, .f32⟩
  | 3 => ⟨S4x64x64, .f32⟩
  | 4 => ⟨S1x256, .f32⟩
  | 5 => ⟨S256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S2x256, .f32⟩
  | 12 => ⟨S4098x256, .f32⟩
  | 13 => ⟨S_, .f32⟩
  | 14 => ⟨S2x256, .f32⟩
  | 15 => ⟨S1x256, .f32⟩
  | 16 => ⟨S256, .f32⟩
  | 17 => ⟨S4096x256, .f32⟩
  | 18 => ⟨S1x256, .f32⟩
  | 19 => ⟨S4096x256, .f32⟩
  | 20 => ⟨S4096x256, .f32⟩
  | 21 => ⟨S_, .f32⟩
  | 22 => ⟨S4096x256, .f32⟩
  | 23 => ⟨S4096x256, .f32⟩
  | 24 => ⟨S1x256, .f32⟩
  | 25 => ⟨S256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S1x256, .f32⟩
  | 32 => ⟨S256, .f32⟩
  | 33 => ⟨S4096x256, .f32⟩
  | 34 => ⟨S1x256, .f32⟩
  | 35 => ⟨S4096x256, .f32⟩
  | 36 => ⟨S4096x256, .f32⟩
  | 37 => ⟨S4096x256, .f32⟩
  | 38 => ⟨S4096x256, .f32⟩
  | 39 => ⟨S4096x256, .f32⟩
  | 40 => ⟨S_, .f32⟩
  | 41 => ⟨S1x256, .f32⟩
  | 42 => ⟨S_, .f32⟩
  | 43 => ⟨S_, .f32⟩
  | 44 => ⟨S4096x256, .f32⟩
  | 45 => ⟨S4097x256, .f32⟩
  | 46 => ⟨S_, .f32⟩
  | 47 => ⟨S1x256, .f32⟩
  | 48 => ⟨S4096, .i32⟩
  | 49 => ⟨S_, .i32⟩
  | 50 => ⟨S4096, .i32⟩
  | 51 => ⟨S4096, .i32⟩
  | 52 => ⟨S4097x64, .f32⟩
  | 53 => ⟨S_, .f32⟩
  | 54 => ⟨S1x64, .f32⟩
  | 55 => ⟨S4095x64, .f32⟩
  | 56 => ⟨S4096x64, .f32⟩
  | 57 => ⟨S_, .f32⟩
  | 58 => ⟨S1x64, .f32⟩
  | 59 => ⟨S_, .i32⟩
  | 60 => ⟨S4096, .i32⟩
  | 61 => ⟨S4096, .i32⟩
  | 62 => ⟨S4096, .f32⟩
  | 63 => ⟨S4096x1, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S1x64x64, .f32⟩
  | 71 => ⟨S64x64, .f32⟩
  | 72 => ⟨S4096x64, .f32⟩
  | 73 => ⟨S4097x64, .f32⟩
  | 74 => ⟨S_, .f32⟩
  | 75 => ⟨S3x64, .f32⟩
  | 76 => ⟨S4093x64, .f32⟩
  | 77 => ⟨S4096x64, .f32⟩
  | 78 => ⟨S_, .f32⟩
  | 79 => ⟨S3x64, .f32⟩
  | 80 => ⟨S_, .i32⟩
  | 81 => ⟨S4096, .i32⟩
  | 82 => ⟨S4096, .i32⟩
  | 83 => ⟨S4096, .f32⟩
  | 84 => ⟨S4096x1, .f32⟩
  | 85 => ⟨S4096x64, .f32⟩
  | 86 => ⟨S4096x64, .f32⟩
  | 87 => ⟨S4096x64, .f32⟩
  | 88 => ⟨S4096x64, .f32⟩
  | 89 => ⟨S4096x64, .f32⟩
  | 90 => ⟨S4096x64, .f32⟩
  | 91 => ⟨S1x64x64, .f32⟩
  | 92 => ⟨S64x64, .f32⟩
  | 93 => ⟨S4096x64, .f32⟩
  | 94 => ⟨S4097x64, .f32⟩
  | 95 => ⟨S_, .f32⟩
  | 96 => ⟨S7x64, .f32⟩
  | 97 => ⟨S4089x64, .f32⟩
  | 98 => ⟨S4096x64, .f32⟩
  | 99 => ⟨S_, .f32⟩
  | 100 => ⟨S7x64, .f32⟩
  | 101 => ⟨S_, .i32⟩
  | 102 => ⟨S4096, .i32⟩
  | 103 => ⟨S4096, .i32⟩
  | 104 => ⟨S4096, .f32⟩
  | 105 => ⟨S4096x1, .f32⟩
  | 106 => ⟨S4096x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S1x64x64, .f32⟩
  | 113 => ⟨S64x64, .f32⟩
  | 114 => ⟨S4096x64, .f32⟩
  | 115 => ⟨S4097x64, .f32⟩
  | 116 => ⟨S_, .f32⟩
  | 117 => ⟨S15x64, .f32⟩
  | 118 => ⟨S4081x64, .f32⟩
  | 119 => ⟨S4096x64, .f32⟩
  | 120 => ⟨S_, .f32⟩
  | 121 => ⟨S15x64, .f32⟩
  | 122 => ⟨S_, .i32⟩
  | 123 => ⟨S4096, .i32⟩
  | 124 => ⟨S4096, .i32⟩
  | 125 => ⟨S4096, .f32⟩
  | 126 => ⟨S4096x1, .f32⟩
  | 127 => ⟨S4096x64, .f32⟩
  | _ => ⟨S4096x2560, .f32⟩

abbrev hbmTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S4096x64, .f32⟩
  | 5 => ⟨S1x64x64, .f32⟩
  | 6 => ⟨S64x64, .f32⟩
  | 7 => ⟨S4096x64, .f32⟩
  | 8 => ⟨S4096x256, .f32⟩
  | 9 => ⟨S1x256, .f32⟩
  | 10 => ⟨S4096x256, .f32⟩
  | 11 => ⟨S4096x256, .f32⟩
  | 12 => ⟨S4096x512, .f32⟩
  | 13 => ⟨S4096x256, .f32⟩
  | 14 => ⟨S4096x256, .f32⟩
  | 15 => ⟨S4096x256, .f32⟩
  | 16 => ⟨S_, .f32⟩
  | 17 => ⟨S256, .f32⟩
  | 18 => ⟨S1x256, .f32⟩
  | 19 => ⟨S4096x256, .f32⟩
  | 20 => ⟨S4096x256, .f32⟩
  | 21 => ⟨S_, .f32⟩
  | 22 => ⟨S256, .f32⟩
  | 23 => ⟨S4096x64, .f32⟩
  | 24 => ⟨S4096x64, .f32⟩
  | 25 => ⟨S4096x64, .f32⟩
  | 26 => ⟨S4096x64, .f32⟩
  | 27 => ⟨S64x64, .f32⟩
  | 28 => ⟨S64x64, .f32⟩
  | 29 => ⟨S4096x64, .f32⟩
  | 30 => ⟨S1x64x64, .f32⟩
  | 31 => ⟨S_, .f32⟩
  | 32 => ⟨S4x64x64, .f32⟩
  | 33 => ⟨S4096x64, .f32⟩
  | 34 => ⟨S_, .f32⟩
  | 35 => ⟨S4096x256, .f32⟩
  | 36 => ⟨S4096x64, .f32⟩
  | 37 => ⟨S4096x64, .f32⟩
  | 38 => ⟨S4096x64, .f32⟩
  | 39 => ⟨S_, .f32⟩
  | 40 => ⟨S4097x64, .f32⟩
  | 41 => ⟨S15x64, .f32⟩
  | 42 => ⟨S4081x64, .f32⟩
  | 43 => ⟨S_, .f32⟩
  | 44 => ⟨S4097x64, .f32⟩
  | 45 => ⟨S4097x64, .f32⟩
  | 46 => ⟨S_, .f32⟩
  | 47 => ⟨S4097x256, .f32⟩
  | 48 => ⟨S64x64, .f32⟩
  | 49 => ⟨S64x64, .f32⟩
  | 50 => ⟨S4096x64, .f32⟩
  | 51 => ⟨S1x64x64, .f32⟩
  | 52 => ⟨S_, .f32⟩
  | 53 => ⟨S4x64x64, .f32⟩
  | 54 => ⟨S4x64x64, .f32⟩
  | 55 => ⟨S4096x64, .f32⟩
  | 56 => ⟨S_, .f32⟩
  | 57 => ⟨S4096x256, .f32⟩
  | 58 => ⟨S4096x256, .f32⟩
  | 59 => ⟨S4096x64, .f32⟩
  | 60 => ⟨S4096x64, .f32⟩
  | 61 => ⟨S4096x64, .f32⟩
  | 62 => ⟨S_, .f32⟩
  | 63 => ⟨S4097x64, .f32⟩
  | 64 => ⟨S7x64, .f32⟩
  | 65 => ⟨S4089x64, .f32⟩
  | 66 => ⟨S_, .f32⟩
  | 67 => ⟨S4097x64, .f32⟩
  | 68 => ⟨S4097x64, .f32⟩
  | 69 => ⟨S_, .f32⟩
  | 70 => ⟨S4097x256, .f32⟩
  | 71 => ⟨S4097x256, .f32⟩
  | 72 => ⟨S64x64, .f32⟩
  | 73 => ⟨S64x64, .f32⟩
  | 74 => ⟨S4096x64, .f32⟩
  | 75 => ⟨S1x64x64, .f32⟩
  | 76 => ⟨S_, .f32⟩
  | 77 => ⟨S4x64x64, .f32⟩
  | 78 => ⟨S4x64x64, .f32⟩
  | 79 => ⟨S4096x64, .f32⟩
  | 80 => ⟨S_, .f32⟩
  | 81 => ⟨S4096x256, .f32⟩
  | 82 => ⟨S4096x256, .f32⟩
  | 83 => ⟨S4096x64, .f32⟩
  | 84 => ⟨S4096x64, .f32⟩
  | 85 => ⟨S4096x64, .f32⟩
  | 86 => ⟨S_, .f32⟩
  | 87 => ⟨S4097x64, .f32⟩
  | 88 => ⟨S3x64, .f32⟩
  | 89 => ⟨S4093x64, .f32⟩
  | 90 => ⟨S_, .f32⟩
  | 91 => ⟨S4097x64, .f32⟩
  | 92 => ⟨S4097x64, .f32⟩
  | 93 => ⟨S_, .f32⟩
  | 94 => ⟨S4097x256, .f32⟩
  | 95 => ⟨S4097x256, .f32⟩
  | 96 => ⟨S64x64, .f32⟩
  | 97 => ⟨S64x64, .f32⟩
  | 98 => ⟨S4096x64, .f32⟩
  | 99 => ⟨S1x64x64, .f32⟩
  | 100 => ⟨S_, .f32⟩
  | 101 => ⟨S4x64x64, .f32⟩
  | 102 => ⟨S4x64x64, .f32⟩
  | 103 => ⟨S4096x64, .f32⟩
  | 104 => ⟨S_, .f32⟩
  | 105 => ⟨S4096x256, .f32⟩
  | 106 => ⟨S4096x256, .f32⟩
  | 107 => ⟨S4096x64, .f32⟩
  | 108 => ⟨S4096x64, .f32⟩
  | 109 => ⟨S4096x64, .f32⟩
  | 110 => ⟨S_, .f32⟩
  | 111 => ⟨S4097x64, .f32⟩
  | 112 => ⟨S1x64, .f32⟩
  | 113 => ⟨S4095x64, .f32⟩
  | 114 => ⟨S_, .f32⟩
  | 115 => ⟨S4097x64, .f32⟩
  | 116 => ⟨S4097x64, .f32⟩
  | 117 => ⟨S_, .f32⟩
  | 118 => ⟨S4097x256, .f32⟩
  | 119 => ⟨S4097x256, .f32⟩
  | 120 => ⟨S1x256, .f32⟩
  | 121 => ⟨S4096x256, .f32⟩
  | 122 => ⟨S_, .f32⟩
  | 123 => ⟨S_, .f32⟩
  | 124 => ⟨S4096x256, .f32⟩
  | 125 => ⟨S4096x256, .f32⟩
  | 126 => ⟨S_, .f32⟩
  | 127 => ⟨S4096x2560, .f32⟩
  | _ => ⟨S4096x2560, .f32⟩

abbrev hbmTy0_2 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S4096x256, .f32⟩
  | 5 => ⟨S_, .f32⟩
  | 6 => ⟨S256, .f32⟩
  | 7 => ⟨S1x256, .f32⟩
  | 8 => ⟨S_, .f32⟩
  | 9 => ⟨S256, .f32⟩
  | 10 => ⟨S_, .f32⟩
  | 11 => ⟨S4098x256, .f32⟩
  | 12 => ⟨S1x256, .f32⟩
  | 13 => ⟨S_, .f32⟩
  | 14 => ⟨S3x256, .f32⟩
  | 15 => ⟨S4096x256, .f32⟩
  | 16 => ⟨S4096x256, .f32⟩
  | 17 => ⟨S4096x256, .f32⟩
  | 18 => ⟨S_, .f32⟩
  | 19 => ⟨S256, .f32⟩
  | 20 => ⟨S1x256, .f32⟩
  | 21 => ⟨S_, .f32⟩
  | 22 => ⟨S256, .f32⟩
  | 23 => ⟨S_, .f32⟩
  | 24 => ⟨S4098x256, .f32⟩
  | 25 => ⟨S4098x256, .f32⟩
  | 26 => ⟨S1x256, .f32⟩
  | 27 => ⟨S_, .f32⟩
  | 28 => ⟨S3x256, .f32⟩
  | 29 => ⟨S3x256, .f32⟩
  | 30 => ⟨S4096x256, .f32⟩
  | 31 => ⟨S4096x256, .f32⟩
  | 32 => ⟨S4096x256, .f32⟩
  | 33 => ⟨S_, .f32⟩
  | 34 => ⟨S256, .f32⟩
  | 35 => ⟨S1x256, .f32⟩
  | 36 => ⟨S_, .f32⟩
  | 37 => ⟨S256, .f32⟩
  | 38 => ⟨S_, .f32⟩
  | 39 => ⟨S4098x256, .f32⟩
  | 40 => ⟨S4098x256, .f32⟩
  | 41 => ⟨S1x256, .f32⟩
  | 42 => ⟨S_, .f32⟩
  | 43 => ⟨S3x256, .f32⟩
  | 44 => ⟨S3x256, .f32⟩
  | 45 => ⟨S2x256, .f32⟩
  | 46 => ⟨S4096x256, .f32⟩
  | 47 => ⟨S4096x256, .f32⟩
  | 48 => ⟨S4096x256, .f32⟩
  | 49 => ⟨S_, .f32⟩
  | 50 => ⟨S4096x2560, .f32⟩
  | 51 => ⟨S4096x2560, .f32⟩
  | 52 => ⟨S_, .f32⟩
  | 53 => ⟨S4096x2560, .f32⟩
  | 54 => ⟨S4096x2560, .f32⟩
  | 55 => ⟨S_, .f32⟩
  | 56 => ⟨S4096x2560, .f32⟩
  | 57 => ⟨S4096x2560, .f32⟩
  | 58 => ⟨S4x4, .i32⟩
  | 59 => ⟨S4x4, .i32⟩
  | 60 => ⟨S_, .i32⟩
  | 61 => ⟨S4x4, .i32⟩
  | 62 => ⟨S4x4, .i32⟩
  | 63 => ⟨S4x4, .i1⟩
  | 64 => ⟨S4x4, .f32⟩
  | 65 => ⟨S4x1x4x1, .f32⟩
  | 66 => ⟨S4x64x1x64, .f32⟩
  | 67 => ⟨S4x64x4x64, .f32⟩
  | 68 => ⟨S4x64x4x64, .f32⟩
  | 69 => ⟨S4x64x4x64, .f32⟩
  | 70 => ⟨S256x256, .f32⟩
  | 71 => ⟨S4096x1024, .f32⟩
  | 72 => ⟨S4096x1024, .bf16⟩
  | 73 => ⟨S1x256, .f32⟩
  | 74 => ⟨S1x256, .f32⟩
  | 75 => ⟨S1x256, .f32⟩
  | 76 => ⟨S1x256, .f32⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_call0_call0_cst : Ref sig .tc := ⟨.hbm, 42, rfl⟩
abbrev main_call0_call0_v0 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_c_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_c_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_14 : Ref sig .tc := ⟨.hbm, 120, rfl⟩
abbrev main_v97 : Ref sig .tc := ⟨.hbm, 121, rfl⟩
abbrev main_c_15 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_16 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_17 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_18 : Ref sig .tc := ⟨.hbm, 159, rfl⟩
abbrev main_v132 : Ref sig .tc := ⟨.hbm, 160, rfl⟩
abbrev main_v133 : Ref sig .tc := ⟨.hbm, 161, rfl⟩
abbrev main_cst_19 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_20 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_21 : Ref sig .tc := ⟨.hbm, 171, rfl⟩
abbrev main_v141 : Ref sig .tc := ⟨.hbm, 172, rfl⟩
abbrev main_v142 : Ref sig .tc := ⟨.hbm, 173, rfl⟩
abbrev main_cst_22 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_23 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_24 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_25 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_26 : Ref sig .tc := ⟨.hbm, 194, rfl⟩
abbrev main_v159 : Ref sig .tc := ⟨.hbm, 195, rfl⟩
abbrev main_v160 : Ref sig .tc := ⟨.hbm, 196, rfl⟩
abbrev main_cst_27 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_28 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_29 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_30 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_cst_31 : Ref sig .tc := ⟨.hbm, 218, rfl⟩
abbrev main_v178 : Ref sig .tc := ⟨.hbm, 219, rfl⟩
abbrev main_v179 : Ref sig .tc := ⟨.hbm, 220, rfl⟩
abbrev main_cst_32 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_cst_33 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_34 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_35 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_36 : Ref sig .tc := ⟨.hbm, 242, rfl⟩
abbrev main_v197 : Ref sig .tc := ⟨.hbm, 243, rfl⟩
abbrev main_v198 : Ref sig .tc := ⟨.hbm, 244, rfl⟩
abbrev main_cst_37 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_call1_call0_cst : Ref sig .tc := ⟨.hbm, 250, rfl⟩
abbrev main_call1_call0_v0 : Ref sig .tc := ⟨.hbm, 251, rfl⟩
abbrev main_v203 : Ref sig .tc := ⟨.hbm, 252, rfl⟩
abbrev main_v204 : Ref sig .tc := ⟨.hbm, 253, rfl⟩
abbrev main_cst_38 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_cst_39 : Ref sig .tc := ⟨.hbm, 261, rfl⟩
abbrev main_v211 : Ref sig .tc := ⟨.hbm, 262, rfl⟩
abbrev main_v212 : Ref sig .tc := ⟨.hbm, 263, rfl⟩
abbrev main_cst_40 : Ref sig .tc := ⟨.hbm, 264, rfl⟩
abbrev main_v213 : Ref sig .tc := ⟨.hbm, 265, rfl⟩
abbrev main_cst_41 : Ref sig .tc := ⟨.hbm, 266, rfl⟩
abbrev main_v214 : Ref sig .tc := ⟨.hbm, 267, rfl⟩
abbrev main_v215 : Ref sig .tc := ⟨.hbm, 268, rfl⟩
abbrev main_cst_42 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_43 : Ref sig .tc := ⟨.hbm, 274, rfl⟩
abbrev main_v220 : Ref sig .tc := ⟨.hbm, 275, rfl⟩
abbrev main_v221 : Ref sig .tc := ⟨.hbm, 276, rfl⟩
abbrev main_cst_44 : Ref sig .tc := ⟨.hbm, 277, rfl⟩
abbrev main_v222 : Ref sig .tc := ⟨.hbm, 278, rfl⟩
abbrev main_cst_45 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_cst_46 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_cst_47 : Ref sig .tc := ⟨.hbm, 289, rfl⟩
abbrev main_v231 : Ref sig .tc := ⟨.hbm, 290, rfl⟩
abbrev main_v232 : Ref sig .tc := ⟨.hbm, 291, rfl⟩
abbrev main_cst_48 : Ref sig .tc := ⟨.hbm, 292, rfl⟩
abbrev main_v233 : Ref sig .tc := ⟨.hbm, 293, rfl⟩
abbrev main_cst_49 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_50 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_cst_51 : Ref sig .tc := ⟨.hbm, 305, rfl⟩
abbrev main_v243 : Ref sig .tc := ⟨.hbm, 306, rfl⟩
abbrev main_v244 : Ref sig .tc := ⟨.hbm, 307, rfl⟩
abbrev main_cst_52 : Ref sig .tc := ⟨.hbm, 308, rfl⟩
abbrev main_v245 : Ref sig .tc := ⟨.hbm, 309, rfl⟩
abbrev main_v246 : Ref sig .tc := ⟨.hbm, 310, rfl⟩
abbrev main_cst_53 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_c_54 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩

abbrev nD : Nat := 1
abbrev τ : Topo := Topo.v7x

variable {F : FTy → Type} [FloatOps F]
-- ==== KernelFwd.lean ====
abbrev S4096x512 : Shape := ⟨2, ![4096, 512]⟩
abbrev S8x257 : Shape := ⟨2, ![8, 257]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S8x64x9x64 : Shape := ⟨4, ![8, 64, 9, 64]⟩
abbrev S9x8x64x64 : Shape := ⟨4, ![9, 8, 64, 64]⟩
abbrev S1x72x4096 : Shape := ⟨3, ![1, 72, 4096]⟩
abbrev S4x72x4096 : Shape := ⟨3, ![4, 72, 4096]⟩
abbrev S4x9x8x64x64 : Shape := ⟨5, ![4, 9, 8, 64, 64]⟩
abbrev S4x8x9x64x64 : Shape := ⟨5, ![4, 8, 9, 64, 64]⟩
abbrev S4x4x2x576x64 : Shape := ⟨5, ![4, 4, 2, 576, 64]⟩
abbrev S4x4x576x2x64 : Shape := ⟨5, ![4, 4, 576, 2, 64]⟩
abbrev S4x4x576x128 : Shape := ⟨4, ![4, 4, 576, 128]⟩
abbrev S4x4x640x128 : Shape := ⟨4, ![4, 4, 640, 128]⟩
abbrev S4x4x640x256 : Shape := ⟨4, ![4, 4, 640, 256]⟩
abbrev S4608x512 : Shape := ⟨2, ![4608, 512]⟩
abbrev S512x4096 : Shape := ⟨2, ![512, 4096]⟩
abbrev S512x4608 : Shape := ⟨2, ![512, 4608]⟩
abbrev S4x32x8x256 : Shape := ⟨4, ![4, 32, 8, 256]⟩
abbrev S4608x128 : Shape := ⟨2, ![4608, 128]⟩
abbrev S128x4096 : Shape := ⟨2, ![128, 4096]⟩
abbrev S128x4608 : Shape := ⟨2, ![128, 4608]⟩
abbrev S1x1x640x256 : Shape := ⟨4, ![1, 1, 640, 256]⟩
abbrev S4096x128 : Shape := ⟨2, ![4096, 128]⟩
abbrev S1x32x8x256 : Shape := ⟨4, ![1, 32, 8, 256]⟩
abbrev S640x128 : Shape := ⟨2, ![640, 128]⟩
abbrev S128x640 : Shape := ⟨2, ![128, 640]⟩
abbrev S128x128 : Shape := ⟨2, ![128, 128]⟩
abbrev S128x256 : Shape := ⟨2, ![128, 256]⟩
abbrev S1x1x640x128 : Shape := ⟨4, ![1, 1, 640, 128]⟩
abbrev S128 : Shape := ⟨1, ![128]⟩
abbrev S1x128 : Shape := ⟨2, ![1, 128]⟩
abbrev S1x256 : Shape := ⟨2, ![1, 256]⟩
abbrev S8x256 : Shape := ⟨2, ![8, 256]⟩
abbrev S1x1x8x256 : Shape := ⟨4, ![1, 1, 8, 256]⟩

abbrev nBuf : Space → Nat
  | .hbm => 66
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x257, .f32⟩
  | .hbm, ⟨4, _⟩ => ⟨S64, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S8x64x576, .f32⟩
  | .hbm, ⟨34, _⟩ => ⟨S8x64x9x64, .f32⟩
  | .hbm, ⟨35, _⟩ => ⟨S9x8x64x64, .f32⟩
  | .hbm, ⟨36, _⟩ => ⟨S1x72x4096, .f32⟩
  | .hbm, ⟨37, _⟩ => ⟨S4x72x4096, .f32⟩
  | .hbm, ⟨38, _⟩ => ⟨S4x9x8x64x64, .f32⟩
  | .hbm, ⟨39, _⟩ => ⟨S4x8x9x64x64, .f32⟩
  | .hbm, ⟨40, _⟩ => ⟨S4x4x2x576x64, .f32⟩
  | .hbm, ⟨41, _⟩ => ⟨S4x4x576x2x64, .f32⟩
  | .hbm, ⟨42, _⟩ => ⟨S4x4x576x128, .f32⟩
  | .hbm, ⟨43, _⟩ => ⟨S_, .f32⟩
  | .hbm, ⟨44, _⟩ => ⟨S_, .f32⟩
  | .hbm, ⟨45, _⟩ => ⟨S4x4x640x128, .f32⟩
  | .hbm, ⟨46, _⟩ => ⟨S_, .f32⟩
  | .hbm, ⟨47, _⟩ => ⟨S_, .f32⟩
  | .hbm, ⟨48, _⟩ => ⟨S4x4x640x128, .f32⟩
  | .hbm, ⟨49, _⟩ => ⟨S4x4x640x256, .f32⟩
  | .hbm, ⟨50, _⟩ => ⟨S_, .i32⟩
  | .hbm, ⟨51, _⟩ => ⟨S_, .f32⟩
  | .hbm, ⟨52, _⟩ => ⟨S4608x512, .f32⟩
  | .hbm, ⟨53, _⟩ => ⟨S4608x512, .bf16⟩
  | .hbm, ⟨54, _⟩ => ⟨S_, .i32⟩
  | .hbm, ⟨55, _⟩ => ⟨S_, .f32⟩
  | .hbm, ⟨56, _⟩ => ⟨S4608x512, .f32⟩
  | .hbm, ⟨57, _⟩ => ⟨S4608x512, .bf16⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x512, .bf16⟩
  | .hbm, ⟨62, _⟩ => ⟨S512x4096, .bf16⟩
  | .hbm, ⟨63, _⟩ => ⟨S512x4608, .bf16⟩
  | .hbm, ⟨64, _⟩ => ⟨S4096x512, .bf16⟩
  | .hbm, ⟨65, _⟩ => ⟨S4x32x8x256, .f32⟩
  | .local _ .vmem, ⟨0, _⟩ => ⟨S4608x128, .bf16⟩
  | .local _ .vmem, ⟨1, _⟩ => ⟨S4608x128, .bf16⟩
  | .local _ .vmem, ⟨2, _⟩ => ⟨S128x4096, .bf16⟩
  | .local _ .vmem, ⟨3, _⟩ => ⟨S128x4096, .bf16⟩
  | .local _ .vmem, ⟨4, _⟩ => ⟨S128x4608, .bf16⟩
  | .local _ .vmem, ⟨5, _⟩ => ⟨S128x4608, .bf16⟩
  | .local _ .vmem, ⟨6, _⟩ => ⟨S1x1x640x256, .f32⟩
  | .local _ .vmem, ⟨7, _⟩ => ⟨S1x1x640x256, .f32⟩
  | .local _ .vmem, ⟨8, _⟩ => ⟨S4096x128, .bf16⟩
  | .local _ .vmem, ⟨9, _⟩ => ⟨S4096x128, .bf16⟩
  | .local _ .vmem, ⟨10, _⟩ => ⟨S1x32x8x256, .f32⟩
  | .local _ .vmem, ⟨11, _⟩ => ⟨S1x32x8x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_call1_v0 : Ref sig .tc := ⟨.hbm, 44, rfl⟩
abbrev main_v28 : Ref sig .tc := ⟨.hbm, 45, rfl⟩
abbrev main_cst_5 : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_call3_v0 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_call4_v0 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40_0 : Ref sig .tc := ⟨.hbm, 64, rfl⟩
abbrev main_v40_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c128_i32 : BitVec 32 := 128#32
  let v0 : BitVec 32 := Scalar.muli c0_i32 c128_i32
  v0
def k0_off1 (c0_i32 : BitVec 32) : Fin 2 → Nat :=
  let c128_i32 : BitVec 32 := 128#32
  let v0 : BitVec 32 := Scalar.muli c0_i32 c128_i32
  let v1 : BitVec 32 := v0
  let v2 : Index := Scalar.indexCast v1
  let c0 : Index := 0#32
  ![v2.toNat, 0]
def k0_off2 (c0_i32 : BitVec 32) : Fin 2 → Nat :=
  let c0_0 : Index := 0#32
  let c128_i32 : BitVec 32 := 128#32
  let v0 : BitVec 32 := Scalar.muli c0_i32 c128_i32
  let v1 : BitVec 32 := v0
  let v5 : Index := Scalar.indexCast v1
  ![0, v5.toNat]
def k0_off3 (c0_i32 : BitVec 32) : Fin 2 → Nat :=
  let c0_1 : Index := 0#32
  let c128_i32 : BitVec 32 := 128#32
  let v0 : BitVec 32 := Scalar.muli c0_i32 c128_i32
  let v1 : BitVec 32 := v0
  let v8 : Index := Scalar.indexCast v1
  ![0, v8.toNat]
def k0_off4 (c0_i32 : BitVec 32) : Fin 2 → Nat :=
  let c128_i32 : BitVec 32 := 128#32
  let v0 : BitVec 32 := Scalar.muli c0_i32 c128_i32
  let v1 : BitVec 32 := v0
  let v99 : Index := Scalar.indexCast v1
  let c0_30 : Index := 0#32
  ![v99.toNat, 0]
def k0_mult2 : BitVec 32 :=
  let c1_i32 : BitVec 32 := 1#32
  let c128_i32_34 : BitVec 32 := 128#32
  let v108 : BitVec 32 := Scalar.muli c1_i32 c128_i32_34
  v108
def k0_mult3 : BitVec 32 :=
  let c2_i32 : BitVec 32 := 2#32
  let c128_i32_74 : BitVec 32 := 128#32
  let v216 : BitVec 32 := Scalar.muli c2_i32 c128_i32_74
  v216
def k0_mult4 : BitVec 32 :=
  let c3_i32 : BitVec 32 := 3#32
  let c128_i32_114 : BitVec 32 := 128#32
  let v324 : BitVec 32 := Scalar.muli c3_i32 c128_i32_114
  v324
@[reducible] def k0_t1_loop : Scf.Loop 32 :=
  let c4_i32_154 : BitVec 32 := 4#32
  let c28_i32 : BitVec 32 := 28#32
  let v432 : BitVec 32 := Scalar.addi c4_i32_154 c28_i32
  let c1_i32_155 : BitVec 32 := 1#32
  ⟨c4_i32_154, v432, c1_i32_155⟩
def k0_mult5 (k0_t1 : Fin k0_t1_loop.trips) : BitVec 32 :=
  let c4_i32_154 : BitVec 32 := 4#32
  let c1_i32_155 : BitVec 32 := 1#32
  let arg7 : BitVec 32 := Scf.iv c4_i32_154 c1_i32_155 k0_t1
  let c128_i32_157 : BitVec 32 := 128#32
  let v433 : BitVec 32 := Scalar.muli arg7 c128_i32_157
  v433
def k0_off5 (k0_t1 : Fin k0_t1_loop.trips) : Fin 2 → Nat :=
  let c4_i32_154 : BitVec 32 := 4#32
  let c1_i32_155 : BitVec 32 := 1#32
  let arg7 : BitVec 32 := Scf.iv c4_i32_154 c1_i32_155 k0_t1
  let c128_i32_157 : BitVec 32 := 128#32
  let v433 : BitVec 32 := Scalar.muli arg7 c128_i32_157
  let v434 : BitVec 32 := v433
  let v435 : Index := Scalar.indexCast v434
  let c0_158 : Index := 0#32
  ![v435.toNat, 0]
def k0_off6 (k0_t1 : Fin k0_t1_loop.trips) : Fin 2 → Nat :=
  let c0_159 : Index := 0#32
  let c4_i32_154 : BitVec 32 := 4#32
  let c1_i32_155 : BitVec 32 := 1#32
  let arg7 : BitVec 32 := Scf.iv c4_i32_154 c1_i32_155 k0_t1
  let c128_i32_157 : BitVec 32 := 128#32
  let v433 : BitVec 32 := Scalar.muli arg7 c128_i32_157
  let v434 : BitVec 32 := v433
  let v438 : Index := Scalar.indexCast v434
  ![0, v438.toNat]
def k0_off7 (k0_t1 : Fin k0_t1_loop.trips) : Fin 2 → Nat :=
  let c0_160 : Index := 0#32
  let c4_i32_154 : BitVec 32 := 4#32
  let c1_i32_155 : BitVec 32 := 1#32
  let arg7 : BitVec 32 := Scf.iv c4_i32_154 c1_i32_155 k0_t1
  let c128_i32_157 : BitVec 32 := 128#32
  let v433 : BitVec 32 := Scalar.muli arg7 c128_i32_157
  let v434 : BitVec 32 := v433
  let v441 : Index := Scalar.indexCast v434
  ![0, v441.toNat]
def k0_off8 (k0_t1 : Fin k0_t1_loop.trips) : Fin 2 → Nat :=
  let c4_i32_154 : BitVec 32 := 4#32
  let c1_i32_155 : BitVec 32 := 1#32
  let arg7 : BitVec 32 := Scf.iv c4_i32_154 c1_i32_155 k0_t1
  let c128_i32_157 : BitVec 32 := 128#32
  let v433 : BitVec 32 := Scalar.muli arg7 c128_i32_157
  let v434 : BitVec 32 := v433
  let v518 : Index := Scalar.indexCast v434
  let c0_189 : Index := 0#32
  ![v518.toNat, 0]
def k0_off9 (k0_t1 : Fin k0_t1_loop.trips) : Fin 4 → Nat :=
  let c0_190 : Index := 0#32
  let c4_i32_154 : BitVec 32 := 4#32
  let c1_i32_155 : BitVec 32 := 1#32
  let arg7 : BitVec 32 := Scf.iv c4_i32_154 c1_i32_155 k0_t1
  let v523 : Index := Scalar.indexCast arg7
  let c0_191 : Index := 0#32
  let c0_192 : Index := 0#32
  ![0, v523.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4608x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x640x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelFwdIdeal.lean ====
variable {F : FTy → Type} [FloatOps F] [Named F]
def κ : String → Option EReal := fun
  | "mask" => some ⊥
  | _ => none
-- ==== ReferenceFwdIdeal.lean ====
abbrev S4096x512 : Shape := ⟨2, ![4096, 512]⟩
abbrev S8x257 : Shape := ⟨2, ![8, 257]⟩
abbrev S1x4096x8x64 : Shape := ⟨4, ![1, 4096, 8, 64]⟩
abbrev S1x64x64x8x64 : Shape := ⟨5, ![1, 64, 64, 8, 64]⟩
abbrev S_ : Shape := ⟨0, ![]⟩
abbrev S1x8x64x8x64 : Shape := ⟨5, ![1, 8, 64, 8, 64]⟩
abbrev S1x72x64x8x64 : Shape := ⟨5, ![1, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x64 : Shape := ⟨6, ![1, 64, 9, 64, 8, 64]⟩
abbrev S1x64x576x8x64 : Shape := ⟨5, ![1, 64, 576, 8, 64]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x8x64x576 : Shape := ⟨5, ![1, 64, 8, 64, 576]⟩
abbrev S64x9x64 : Shape := ⟨3, ![64, 9, 64]⟩
abbrev S1x64x1x1x576 : Shape := ⟨5, ![1, 64, 1, 1, 576]⟩
abbrev S1x1x8x64x576 : Shape := ⟨5, ![1, 1, 8, 64, 576]⟩
abbrev S1x64x8x64 : Shape := ⟨4, ![1, 64, 8, 64]⟩
abbrev S1x64x8x64x1 : Shape := ⟨5, ![1, 64, 8, 64, 1]⟩
abbrev S1x64x8x64x64 : Shape := ⟨5, ![1, 64, 8, 64, 64]⟩
abbrev S64x8x64 : Shape := ⟨3, ![64, 8, 64]⟩
abbrev S32x2x4x2x64 : Shape := ⟨5, ![32, 2, 4, 2, 64]⟩
abbrev S4x32x2x2x64 : Shape := ⟨5, ![4, 32, 2, 2, 64]⟩
abbrev S4x32x1x256 : Shape := ⟨4, ![4, 32, 1, 256]⟩
abbrev S4x32x8x256 : Shape := ⟨4, ![4, 32, 8, 256]⟩

abbrev nBuf : Space → Nat
  | .hbm => 123
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x257, .f32⟩
  | .hbm, ⟨4, _⟩ => ⟨S1x4096x8x64, .f32⟩
  | .hbm, ⟨5, _⟩ => ⟨S1x4096x8x64, .f32⟩
  | .hbm, ⟨6, _⟩ => ⟨S1x4096x8x64, .f32⟩
  | .hbm, ⟨7, _⟩ => ⟨S1x64x64x8x64, .f32⟩
  | .hbm, ⟨8, _⟩ => ⟨S_, .f32⟩
  | .hbm, ⟨9, _⟩ => ⟨S1x8x64x8x64, .f32⟩
  | .hbm, ⟨10, _⟩ => ⟨S1x64x64x8x64, .f32⟩
  | .hbm, ⟨11, _⟩ => ⟨S1x72x64x8x64, .f32⟩
  | .hbm, ⟨12, _⟩ => ⟨S1x64x64x8x64, .f32⟩
  | .hbm, ⟨13, _⟩ => ⟨S1x72x64x8x64, .f32⟩
  | .hbm, ⟨14, _⟩ => ⟨S64, .i32⟩
  | .hbm, ⟨15, _⟩ => ⟨S64x1, .i32⟩
  | .hbm, ⟨16, _⟩ => ⟨S9, .i32⟩
  | .hbm, ⟨17, _⟩ => ⟨S1x9, .i32⟩
  | .hbm, ⟨18, _⟩ => ⟨S64x9, .i32⟩
  | .hbm, ⟨19, _⟩ => ⟨S64x9, .i32⟩
  | .hbm, ⟨20, _⟩ => ⟨S64x9, .i32⟩
  | .hbm, ⟨21, _⟩ => ⟨S_, .i32⟩
  | .hbm, ⟨22, _⟩ => ⟨S64x9, .i32⟩
  | .hbm, ⟨23, _⟩ => ⟨S64x9, .i1⟩
  | .hbm, ⟨24, _⟩ => ⟨S_, .i32⟩
  | .hbm, ⟨25, _⟩ => ⟨S64x9, .i32⟩
  | .hbm, ⟨26, _⟩ => ⟨S64x9, .i32⟩
  | .hbm, ⟨27, _⟩ => ⟨S64x9, .i32⟩
  | .hbm, ⟨28, _⟩ => ⟨S64x9x1, .i32⟩
  | .hbm, ⟨29, _⟩ => ⟨S1x64x9x64x8x64, .f32⟩
  | .hbm, ⟨30, _⟩ => ⟨S1x64x576x8x64, .f32⟩
  | .hbm, ⟨31, _⟩ => ⟨S_, .i32⟩
  | .hbm, ⟨32, _⟩ => ⟨S64x9, .i32⟩
  | .hbm, ⟨33, _⟩ => ⟨S64x9, .i1⟩
  | .hbm, ⟨34, _⟩ => ⟨S_, .i32⟩
  | .hbm, ⟨35, _⟩ => ⟨S64x9, .i32⟩
  | .hbm, ⟨36, _⟩ => ⟨S64x9, .i32⟩
  | .hbm, ⟨37, _⟩ => ⟨S64x9, .i32⟩
  | .hbm, ⟨38, _⟩ => ⟨S64x9x1, .i32⟩
  | .hbm, ⟨39, _⟩ => ⟨S1x64x9x64x8x64, .f32⟩
  | .hbm, ⟨40, _⟩ => ⟨S1x64x576x8x64, .f32⟩
  | .hbm, ⟨41, _⟩ => ⟨S64, .i32⟩
  | .hbm, ⟨42, _⟩ => ⟨S64x1, .i32⟩
  | .hbm, ⟨43, _⟩ => ⟨S576, .i32⟩
  | .hbm, ⟨44, _⟩ => ⟨S1x576, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S64x576, .i32⟩
  | .hbm, ⟨49, _⟩ => ⟨S64x576, .i32⟩
  | .hbm, ⟨50, _⟩ => ⟨S64x576, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i1⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S64x576, .i32⟩
  | .hbm, ⟨69, _⟩ => ⟨S64x576x1, .i32⟩
  | .hbm, ⟨70, _⟩ => ⟨S8x64x576, .f32⟩
  | .hbm, ⟨71, _⟩ => ⟨S1x64x8x64x576, .f32⟩
  | .hbm, ⟨72, _⟩ => ⟨S_, .f32⟩
  | .hbm, ⟨73, _⟩ => ⟨S1x64x8x64x576, .f32⟩
  | .hbm, ⟨74, _⟩ => ⟨S1x64x8x64x576, .f32⟩
  | .hbm, ⟨75, _⟩ => ⟨S_, .i32⟩
  | .hbm, ⟨76, _⟩ => ⟨S64x9, .i32⟩
  | .hbm, ⟨77, _⟩ => ⟨S64x9, .i1⟩
  | .hbm, ⟨78, _⟩ => ⟨S64x9x64, .i1⟩
  | .hbm, ⟨79, _⟩ => ⟨S64x576, .i1⟩
  | .hbm, ⟨80, _⟩ => ⟨S1x64x1x1x576, .i1⟩
  | .hbm, ⟨81, _⟩ => ⟨S1x1x8x64x576, .f32⟩
  | .hbm, ⟨82, _⟩ => ⟨S1x64x8x64x576, .f32⟩
  | .hbm, ⟨83, _⟩ => ⟨S1x64x8x64x576, .f32⟩
  | .hbm, ⟨84, _⟩ => ⟨S_, .f32⟩
  | .hbm, ⟨85, _⟩ => ⟨S_, .f32⟩
  | .hbm, ⟨86, _⟩ => ⟨S1x64x8x64x576, .i1⟩
  | .hbm, ⟨87, _⟩ => ⟨S1x64x8x64x576, .f32⟩
  | .hbm, ⟨88, _⟩ => ⟨S1x64x8x64x576, .f32⟩
  | .hbm, ⟨89, _⟩ => ⟨S_, .f32⟩
  | .hbm, ⟨90, _⟩ => ⟨S1x64x8x64, .f32⟩
  | .hbm, ⟨91, _⟩ => ⟨S_, .f32⟩
  | .hbm, ⟨92, _⟩ => ⟨S1x64x8x64, .f32⟩
  | .hbm, ⟨93, _⟩ => ⟨S1x64x8x64, .f32⟩
  | .hbm, ⟨94, _⟩ => ⟨S1x64x8x64x1, .f32⟩
  | .hbm, ⟨95, _⟩ => ⟨S1x64x8x64x576, .f32⟩
  | .hbm, ⟨96, _⟩ => ⟨S1x64x8x64x576, .f32⟩
  | .hbm, ⟨97, _⟩ => ⟨S1x64x8x64x576, .f32⟩
  | .hbm, ⟨98, _⟩ => ⟨S_, .f32⟩
  | .hbm, ⟨99, _⟩ => ⟨S1x64x8x64, .f32⟩
  | .hbm, ⟨100, _⟩ => ⟨S1x64x8x64x1, .f32⟩
  | .hbm, ⟨101, _⟩ => ⟨S1x64x8x64x576, .f32⟩
  | .hbm, ⟨102, _⟩ => ⟨S1x64x8x64x576, .f32⟩
  | .hbm, ⟨103, _⟩ => ⟨S1x64x8x64x64, .f32⟩
  | .hbm, ⟨104, _⟩ => ⟨S1x64x64x8x64, .f32⟩
  | .hbm, ⟨105, _⟩ => ⟨S_, .f32⟩
  | .hbm, ⟨106, _⟩ => ⟨S1x64x8x64, .f32⟩
  | .hbm, ⟨107, _⟩ => ⟨S1x64x8x64x1, .f32⟩
  | .hbm, ⟨108, _⟩ => ⟨S1x64x8x64x576, .f32⟩
  | .hbm, ⟨109, _⟩ => ⟨S1x64x8x64x576, .f32⟩
  | .hbm, ⟨110, _⟩ => ⟨S1x64x8x64x576, .f32⟩
  | .hbm, ⟨111, _⟩ => ⟨S_, .f32⟩
  | .hbm, ⟨112, _⟩ => ⟨S1x64x8x64, .f32⟩
  | .hbm, ⟨113, _⟩ => ⟨S1x64x8x64x1, .f32⟩
  | .hbm, ⟨114, _⟩ => ⟨S1x64x8x64x1, .f32⟩
  | .hbm, ⟨115, _⟩ => ⟨S1x64x8x64x1, .f32⟩
  | .hbm, ⟨116, _⟩ => ⟨S64x8x64, .f32⟩
  | .hbm, ⟨117, _⟩ => ⟨S32x2x4x2x64, .f32⟩
  | .hbm, ⟨118, _⟩ => ⟨S4x32x2x2x64, .f32⟩
  | .hbm, ⟨119, _⟩ => ⟨S4x32x1x256, .f32⟩
  | .hbm, ⟨120, _⟩ => ⟨S4096x512, .f32⟩
  | .hbm, ⟨121, _⟩ => ⟨S4096x512, .bf16⟩
  | .hbm, ⟨122, _⟩ => ⟨S4x32x8x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_c_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

def κ : String → Option EReal := fun
  | "mask" => some ⊥
  | _ => none
-- ==== KernelMid.lean ====
abbrev S4096x1024 : Shape := ⟨2, ![4096, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S4096x4096 : Shape := ⟨2, ![4096, 4096]⟩
abbrev S256x1024 : Shape := ⟨2, ![256, 1024]⟩
abbrev S1x1024x4096 : Shape := ⟨3, ![1, 1024, 4096]⟩
abbrev S1x4096x1024 : Shape := ⟨3, ![1, 4096, 1024]⟩
abbrev S256x4096 : Shape := ⟨2, ![256, 4096]⟩
abbrev S1024x4096 : Shape := ⟨2, ![1024, 4096]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x1024x4096, .bf16⟩
  | .hbm, ⟨2, _⟩ => ⟨S4x4096x1024, .bf16⟩
  | .hbm, ⟨3, _⟩ => ⟨S4096x1024, .f32⟩
  | .hbm, ⟨4, _⟩ => ⟨S1x1024, .f32⟩
  | .hbm, ⟨5, _⟩ => ⟨S4096x4096, .bf16⟩
  | .hbm, ⟨6, _⟩ => ⟨S4096x1024, .f32⟩
  | .hbm, ⟨7, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x4096, .bf16⟩
  | .local _ .vmem, ⟨3, _⟩ => ⟨S1x4096x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x4096, .bf16⟩
  | .local _ .vmem, ⟨8, _⟩ => ⟨S256x4096, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMidIdeal.lean ====
abbrev S4096x1024 : Shape := ⟨2, ![4096, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1x1024x4096 : Shape := ⟨3, ![1, 1024, 4096]⟩
abbrev S1024x4096 : Shape := ⟨2, ![1024, 4096]⟩
abbrev S4096x4096 : Shape := ⟨2, ![4096, 4096]⟩
abbrev S_ : Shape := ⟨0, ![]⟩
abbrev S1x4096x1024 : Shape := ⟨3, ![1, 4096, 1024]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x4096, .bf16⟩
  | .hbm, ⟨2, _⟩ => ⟨S4x4096x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024x4096, .bf16⟩
  | .hbm, ⟨7, _⟩ => ⟨S1024x4096, .bf16⟩
  | .hbm, ⟨8, _⟩ => ⟨S1024x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x4096, .bf16⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KernelRes.lean ====
abbrev S4096x1024 : Shape := ⟨2, ![4096, 1024]⟩
abbrev S4x1024x1024 : Shape := ⟨3, ![4, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceResIdeal.lean ====
abbrev S4096x1024 : Shape := ⟨2, ![4096, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelRms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.AttnState.lean ====
/- What the attention's gradient kernel holds after each of its units, in closed form. A unit is 128 query rows (two
   chunks of 64) against their band of 640 key rows, for one pair of heads. The block of a grid point has 32 units. The
   gradient of the queries is written once per unit; the gradients of the keys, of the values and of the bias are added
   to unit by unit, so each of them is a recursion over the units. -/
module

public import proofs.«01_k».proof.Proof.Gen.KernelAttnIdeal.Frame.Runs
public import Idealize.ShloMosaic.Lib.VecWindow

@[expose] public section

set_option maxRecDepth 16384

noncomputable section

namespace Cert.KernelAttnIdeal.Att

open Idealize.ShloMosaic Idealize.ShloMosaic.TcCoe Idealize.ShloMosaic.Tactic
open Idealize.ShloMosaic.VecWindow
open Cert.KernelAttnIdeal Cert.KernelAttnIdeal.Gen

variable {F : FTy → Type} [FloatOps F] [Named F]

/-- The ten blocks one grid point reads: the queries (by rows and transposed), the keys (both ways), the values, the
    bias of the unit's scores, the cotangent (both ways), the scores' log-sums and the products of output and cotangent. -/
structure In (F : FTy → Type) where
  q : Vec F S4096x128 .bf16
  qt : Vec F S128x4096 .bf16
  k : Vec F S4608x128 .bf16
  kt : Vec F S128x4608 .bf16
  v : Vec F S4608x128 .bf16
  bias : Vec F S1x1x640x256 .f32
  ct : Vec F S4096x128 .bf16
  ctt : Vec F S128x4096 .bf16
  lse : Vec F S1x32x8x256 .f32
  dl : Vec F S1x32x8x256 .f32

theorem inb_band (u : Fin 32) : ∀ a, (![128 * u.val, 0] : Fin 2 → ℕ) a + S640x128.size a ≤ S4608x128.size a :=
  Fin.forall_fin_two.mpr ⟨show 128 * u.val + 640 ≤ 4608 by omega, show 0 + 128 ≤ 128 by omega⟩
theorem inb_rows (u : Fin 32) : ∀ a, (![128 * u.val, 0] : Fin 2 → ℕ) a + S128x128.size a ≤ S4096x128.size a :=
  Fin.forall_fin_two.mpr ⟨show 128 * u.val + 128 ≤ 4096 by omega, show 0 + 128 ≤ 128 by omega⟩
theorem inb_cols (u : Fin 32) : ∀ a, (![0, 128 * u.val] : Fin 2 → ℕ) a + S128x128.size a ≤ S128x4096.size a :=
  Fin.forall_fin_two.mpr ⟨show 0 + 128 ≤ 128 by omega, show 128 * u.val + 128 ≤ 4096 by omega⟩
theorem inb_bandT (u : Fin 32) : ∀ a, (![0, 128 * u.val] : Fin 2 → ℕ) a + S128x640.size a ≤ S128x4608.size a :=
  Fin.forall_fin_two.mpr ⟨show 0 + 128 ≤ 128 by omega, show 128 * u.val + 640 ≤ 4608 by omega⟩
theorem inb_row (u : Fin 32) : ∀ a, (![0, u.val, 0, 0] : Fin 4 → ℕ) a + S1x1x8x256.size a ≤ S1x32x8x256.size a := by
  intro a; fin_cases a
  · show 0 + 1 ≤ 1; omega
  · show u.val + 1 ≤ 32; omega
  · show 0 + 8 ≤ 8; omega
  · show 0 + 256 ≤ 256; omega

namespace In
variable (A : In F) (u : Fin 32)

/-- The unit's windows of the blocks. -/
def qB : Vec F S128x128 .bf16 := window A.q ![128 * u.val, 0] S128x128.size (inb_rows u)
def qtB : Vec F S128x128 .bf16 := window A.qt ![0, 128 * u.val] S128x128.size (inb_cols u)
def kB : Vec F S640x128 .bf16 := window A.k ![128 * u.val, 0] S640x128.size (inb_band u)
def ktB : Vec F S128x640 .bf16 := window A.kt ![0, 128 * u.val] S128x640.size (inb_bandT u)
def vB : Vec F S640x128 .bf16 := window A.v ![128 * u.val, 0] S640x128.size (inb_band u)
def ctB : Vec F S128x128 .bf16 := window A.ct ![128 * u.val, 0] S128x128.size (inb_rows u)
def cttB : Vec F S128x128 .bf16 := window A.ctt ![0, 128 * u.val] S128x128.size (inb_cols u)
def lseB : Vec F S1x1x8x256 .f32 := window A.lse ![0, u.val, 0, 0] S1x1x8x256.size (inb_row u)
def dlB : Vec F S1x1x8x256 .f32 := window A.dl ![0, u.val, 0, 0] S1x1x8x256.size (inb_row u)

/-- The unit's probabilities. In the first four units the rows of the padding in front of the sequence are masked. -/
def pt : FVec F S640x256 .f32 :=
  if u.val < 4 then k0_pay15 (BitVec.ofNat 32 (128 * u.val)) (k0_pay13 (A.kB u)) (k0_pay14 (A.qtB u)) A.bias (A.lseB u)
  else k0_pay2 (A.kB u) (A.qtB u) A.bias (A.lseB u)

/-- The gradient of the unit's scores, as a product operand. -/
def dsb : FVec F S640x256 .bf16 := k0_pay6 (A.pt u) (k0_pay3 (A.vB u)) (A.cttB u) (A.dlB u)

/-- The unit's rows of the queries' gradient. -/
def dqU : FVec F S128x128 .f32 := k0_pay7 (A.dsb u) (A.ktB u)

/-- The band of the keys' gradient after the unit, from what it held before; the values'; the bias's. -/
def dkN (w : Vec F S640x128 .f32) : FVec F S640x128 .f32 := k0_pay8 (A.dsb u) w (A.qB u)
def dvN (w : Vec F S640x128 .f32) : FVec F S640x128 .f32 := k0_pay76 w (k0_pay9 (A.pt u)) (A.ctB u)
def dbN (w : Vec F S1x1x576x128 .f32) : FVec F S1x1x576x128 .f32 := k0_pay5 (A.pt u) (k0_pay3 (A.vB u)) (A.cttB u) (A.dlB u) w

/-- The keys' gradient after the first `n` units. -/
def DK : ℕ → Vec F S4608x128 .f32
  | 0 => k0_pay10
  | n + 1 => if h : n < 32 then
      put (DK n) ![128 * n, 0] S640x128.size (A.dkN ⟨n, h⟩ (window (DK n) ![128 * n, 0] S640x128.size (inb_band ⟨n, h⟩)))
    else DK n

/-- The values' gradient after the first `n` units. -/
def DV : ℕ → Vec F S4608x128 .f32
  | 0 => k0_pay11
  | n + 1 => if h : n < 32 then
      put (DV n) ![128 * n, 0] S640x128.size (A.dvN ⟨n, h⟩ (window (DV n) ![128 * n, 0] S640x128.size (inb_band ⟨n, h⟩)))
    else DV n

/-- The bias's gradient after the first `n` units. -/
def DB : ℕ → Vec F S1x1x576x128 .f32
  | 0 => k0_pay12
  | n + 1 => if h : n < 32 then A.dbN ⟨n, h⟩ (DB n) else DB n

theorem DK_succ : A.DK (u.val + 1)
    = put (A.DK u.val) ![128 * u.val, 0] S640x128.size (A.dkN u (window (A.DK u.val) ![128 * u.val, 0] S640x128.size (inb_band u))) :=
  dif_pos u.isLt
theorem DV_succ : A.DV (u.val + 1)
    = put (A.DV u.val) ![128 * u.val, 0] S640x128.size (A.dvN u (window (A.DV u.val) ![128 * u.val, 0] S640x128.size (inb_band u))) :=
  dif_pos u.isLt
theorem DB_succ : A.DB (u.val + 1) = A.dbN u (A.DB u.val) := dif_pos u.isLt

/-- The unit of a query row, and the row within it. -/
def unitOf (y : S4096x128.Idx) : Fin 32 := ⟨(y 0).val / 128, by have := (y 0).isLt; have e : S4096x128.size 0 = 4096 := rfl; omega⟩
def rowOf (y : S4096x128.Idx) : S128x128.Idx :=
  fun a => ⟨(y a).val - (![128 * (unitOf y).val, 0] : Fin 2 → ℕ) a, by
    fin_cases a
    · show (y 0).val - 128 * ((y 0).val / 128) < 128; omega
    · show (y 1).val - 0 < 128; have := (y 1).isLt; have e : S4096x128.size 1 = 128 := rfl; omega⟩

/-- The queries' gradient. -/
def DQ : Vec F S4096x128 .f32 := fun y => A.dqU (unitOf y) (rowOf y)

/-- A buffer whose rows before the unit hold the queries' gradient does so up to the end of the unit once the unit's rows are put. -/
theorem DQ_step (x : Vec F S4096x128 .f32) (h : ∀ y : S4096x128.Idx, (y 0).val < 128 * u.val → x y = A.DQ y) :
    ∀ y : S4096x128.Idx, (y 0).val < 128 * (u.val + 1) → put x ![128 * u.val, 0] S128x128.size (A.dqU u) y = A.DQ y := by
  intro y hy
  unfold put
  by_cases hm : ∀ a, (![128 * u.val, 0] : Fin 2 → ℕ) a ≤ (y a).val ∧ (y a).val < (![128 * u.val, 0] : Fin 2 → ℕ) a + S128x128.size a
  · rw [dif_pos hm]
    have h0 : 128 * u.val ≤ (y 0).val ∧ (y 0).val < 128 * u.val + 128 := hm 0
    have hu : unitOf y = u := Fin.ext (show (y 0).val / 128 = u.val by omega)
    unfold DQ
    have hr : rowOf y = Rect.unitLocal (s := S4096x128) (off := ![128 * u.val, 0]) (size := S128x128.size) y hm := by
      funext a; apply Fin.ext
      show (y a).val - (![128 * (unitOf y).val, 0] : Fin 2 → ℕ) a = (y a).val - (![128 * u.val, 0] : Fin 2 → ℕ) a
      rw [hu]
    rw [hu, hr]
  · rw [dif_neg hm]
    refine h y ?_
    by_contra hc
    refine hm (Fin.forall_fin_two.mpr ⟨⟨show 128 * u.val ≤ (y 0).val by omega, show (y 0).val < 128 * u.val + 128 by omega⟩, ⟨Nat.zero_le _, ?_⟩⟩)
    have := (y 1).isLt; have e : S4096x128.size 1 = 128 := rfl
    show (y 1).val < 0 + 128; omega

end In

end Cert.KernelAttnIdeal.Att

end
-- ==== Proof.AttnLoop.lean ====
/- The 28 trips of the attention's gradient kernel, one unit each: from contents that hold the gradients of the first
   four units, the pieces the trips write leave the gradients of all 32. -/
module

public import proofs.«01_k».proof.Proof.AttnState

@[expose] public section

set_option maxRecDepth 16384

noncomputable section

namespace Cert.KernelAttnIdeal.Att

open Idealize.ShloMosaic Idealize.ShloMosaic.TcCoe Idealize.ShloMosaic.Tactic
open Idealize.ShloMosaic.VecWindow
open Cert.KernelAttnIdeal Cert.KernelAttnIdeal.Gen

variable {F : FTy → Type} [FloatOps F] [Named F]

theorem trips_eq : k0_t1_loop.trips = 28 := by decide +kernel
/-- The unit of a trip. -/
def tu (k : Fin k0_t1_loop.trips) : Fin 32 := ⟨4 + k.val, by have := k.isLt; have := trips_eq; omega⟩

theorem off5_eq : ∀ k : Fin k0_t1_loop.trips, k0_off5 k = ![128 * (tu k).val, 0] := by decide +kernel
theorem off6_eq : ∀ k : Fin k0_t1_loop.trips, k0_off6 k = ![0, 128 * (tu k).val] := by decide +kernel
theorem off7_eq : ∀ k : Fin k0_t1_loop.trips, k0_off7 k = ![0, (tu k).val, 0, 0] := by decide +kernel
theorem off8_eq : ∀ k : Fin k0_t1_loop.trips, k0_off8 k = ![0, 128 * (tu k).val] := by decide +kernel
theorem off9_eq : ∀ k : Fin k0_t1_loop.trips, k0_off9 k = ![128 * (tu k).val, 0] := by decide +kernel

variable (c : Dev nD) (i : grid0.Coords)
  (arg1 : Memref sig .tc .vmem S4096x128 .bf16) (harg1 : arg1.IsWhole)
  (arg2 : Memref sig .tc .vmem S128x4096 .bf16) (harg2 : arg2.IsWhole)
  (arg3 : Memref sig .tc .vmem S4608x128 .bf16) (harg3 : arg3.IsWhole)
  (arg4 : Memref sig .tc .vmem S128x4608 .bf16) (harg4 : arg4.IsWhole)
  (arg5 : Memref sig .tc .vmem S4608x128 .bf16) (harg5 : arg5.IsWhole)
  (arg6 : Memref sig .tc .vmem S1x1x640x256 .f32) (harg6 : arg6.IsWhole)
  (arg7 : Memref sig .tc .vmem S4096x128 .bf16) (harg7 : arg7.IsWhole)
  (arg8 : Memref sig .tc .vmem S128x4096 .bf16) (harg8 : arg8.IsWhole)
  (arg9 : Memref sig .tc .vmem S1x32x8x256 .f32) (harg9 : arg9.IsWhole)
  (arg10 : Memref sig .tc .vmem S1x32x8x256 .f32) (harg10 : arg10.IsWhole)
  (arg12 : Memref sig .tc .vmem S4096x128 .f32) (harg12 : arg12.IsWhole)
  (arg13 : Memref sig .tc .vmem S4608x128 .f32) (harg13 : arg13.IsWhole)
  (arg14 : Memref sig .tc .vmem S4608x128 .bf16) (harg14 : arg14.IsWhole)
  (arg15 : Memref sig .tc .vmem S1x1x576x128 .f32) (harg15 : arg15.IsWhole)
  (arg16 : Memref sig .tc .vmem S4608x128 .f32) (harg16 : arg16.IsWhole)
  (A : In F)

/-- One trip's pieces, at the contents it finds. -/
def tripP (k : Fin k0_t1_loop.trips) (f12 : arg12.view.ty.Contents (Elt F)) (f13 : arg13.view.ty.Contents (Elt F)) (f15 : arg15.view.ty.Contents (Elt F)) (f16 : arg16.view.ty.Contents (Elt F)) :
    List (View.Piece (Elt F) S4096x128 .f32) × List (View.Piece (Elt F) S4608x128 .f32) × List (View.Piece (Elt F) S1x1x576x128 .f32) × List (View.Piece (Elt F) S4608x128 .f32) :=
  tripL_k0_t1 (F := F) Variants.none c none i arg1 harg1 arg2 harg2 arg3 harg3 arg4 harg4 arg5 harg5 arg6 harg6 arg7 harg7 arg8 harg8 arg9 harg9 arg10 harg10 (Memref.whole main_v121) (Memref.isWhole_whole _) arg12 harg12 arg13 harg13 arg14 harg14 arg15 harg15 arg16 harg16 (harg1.unread A.q) (harg2.unread A.qt) (harg3.unread A.k) (harg4.unread A.kt) (harg5.unread A.v) (harg6.unread A.bias) (harg7.unread A.ct) (harg8.unread A.ctt) (harg9.unread A.lse) (harg10.unread A.dl) k f12 f13 f15 f16

set_option maxHeartbeats 2000000 in
/-- One trip writes its unit: the queries' rows, and each accumulator's window plus the unit's part. -/
theorem tripP_eq (k : Fin k0_t1_loop.trips) (f12 : arg12.view.ty.Contents (Elt F)) (f13 : arg13.view.ty.Contents (Elt F)) (f15 : arg15.view.ty.Contents (Elt F)) (f16 : arg16.view.ty.Contents (Elt F)) :
    ∃ i9 i5 i5' i0, tripP c i arg1 harg1 arg2 harg2 arg3 harg3 arg4 harg4 arg5 harg5 arg6 harg6 arg7 harg7 arg8 harg8 arg9 harg9 arg10 harg10 arg12 harg12 arg13 harg13 arg14 harg14 arg15 harg15 arg16 harg16 A k f12 f13 f15 f16
      = ([⟨Rect.unit (k0_off9 k) S128x128.size i9, A.dqU (tu k)⟩],
         [⟨Rect.unit (k0_off5 k) S640x128.size i5, A.dkN (tu k) (window (arg13.view.read (Elt F) f13) ![128 * (tu k).val, 0] S640x128.size (inb_band (tu k)))⟩],
         [⟨Rect.unit ![0, 0, 0, 0] S1x1x576x128.size i0, A.dbN (tu k) (arg15.view.read (Elt F) f15)⟩],
         [⟨Rect.unit (k0_off5 k) S640x128.size i5', A.dvN (tu k) (window (arg16.view.read (Elt F) f16) ![128 * (tu k).val, 0] S640x128.size (inb_band (tu k)))⟩]) := by
  have hpt : A.pt (tu k) = k0_pay2 (A.kB (tu k)) (A.qtB (tu k)) A.bias (A.lseB (tu k)) :=
    if_neg (by show ¬ (4 + k.val < 4); omega)
  have e1 := arg1.view.readAt_unit (harg1.unread A.q) (k0_off9_inb k) (off9_eq k) (inb_rows (tu k))
  rw [harg1.read_unread] at e1
  have e2 := arg2.view.readAt_unit (harg2.unread A.qt) (k0_off6_inb k) (off6_eq k) (inb_cols (tu k))
  rw [harg2.read_unread] at e2
  have e3 := arg3.view.readAt_unit (harg3.unread A.k) (k0_off5_inb k) (off5_eq k) (inb_band (tu k))
  rw [harg3.read_unread] at e3
  have e4 := arg4.view.readAt_unit (harg4.unread A.kt) (k0_off8_inb k) (off8_eq k) (inb_bandT (tu k))
  rw [harg4.read_unread] at e4
  have e5 := arg5.view.readAt_unit (harg5.unread A.v) (k0_off5_inb k) (off5_eq k) (inb_band (tu k))
  rw [harg5.read_unread] at e5
  have e7 := arg7.view.readAt_unit (harg7.unread A.ct) (k0_off9_inb k) (off9_eq k) (inb_rows (tu k))
  rw [harg7.read_unread] at e7
  have e8 := arg8.view.readAt_unit (harg8.unread A.ctt) (k0_off6_inb k) (off6_eq k) (inb_cols (tu k))
  rw [harg8.read_unread] at e8
  have e9 := arg9.view.readAt_unit (harg9.unread A.lse) (k0_off7_inb k) (off7_eq k) (inb_row (tu k))
  rw [harg9.read_unread] at e9
  have e10 := arg10.view.readAt_unit (harg10.unread A.dl) (k0_off7_inb k) (off7_eq k) (inb_row (tu k))
  rw [harg10.read_unread] at e10
  have e13 := arg13.view.readAt_unit (f13) (k0_off5_inb k) (off5_eq k) (inb_band (tu k))
  have e16 := arg16.view.readAt_unit (f16) (k0_off5_inb k) (off5_eq k) (inb_band (tu k))
  have e6 := arg6.view.readAt_full (harg6.unread A.bias) inb_S1x1x640x256_S1x1x640x256_0_0_0_0
  rw [harg6.read_unread] at e6
  have e15 := arg15.view.readAt_full f15 inb_S1x1x576x128_S1x1x576x128_0_0_0_0
  have h5 : A.dsb (tu k) = k0_pay6 (k0_pay2 (A.kB (tu k)) (A.qtB (tu k)) A.bias (A.lseB (tu k))) (k0_pay3 (A.vB (tu k))) (A.cttB (tu k)) (A.dlB (tu k)) := by
    rw [← hpt]; rfl
  refine ⟨k0_off9_inb k, k0_off5_inb k, k0_off5_inb k, inb_S1x1x576x128_S1x1x576x128_0_0_0_0, ?_⟩
  unfold In.dqU In.dkN In.dbN In.dvN
  rw [h5, hpt]
  unfold In.kB In.qtB In.lseB In.vB In.cttB In.dlB In.ktB In.qB In.ctB
  rw [← e1, ← e2, ← e3, ← e4, ← e5, ← e6, ← e7, ← e8, ← e9, ← e10, ← e13, ← e15, ← e16]
  unfold tripP
  with_unfolding_all rfl

variable (G12 : arg12.view.ty.Contents (Elt F)) (G13 : arg13.view.ty.Contents (Elt F)) (G15 : arg15.view.ty.Contents (Elt F)) (G16 : arg16.view.ty.Contents (Elt F))

/-- The pieces of the trips before `n`. -/
def pieces (n : ℕ) : List (View.Piece (Elt F) S4096x128 .f32) × List (View.Piece (Elt F) S4608x128 .f32) × List (View.Piece (Elt F) S1x1x576x128 .f32) × List (View.Piece (Elt F) S4608x128 .f32) :=
  pb_k0_t1 (F := F) Variants.none c none i arg1 harg1 arg2 harg2 arg3 harg3 arg4 harg4 arg5 harg5 arg6 harg6 arg7 harg7 arg8 harg8 arg9 harg9 arg10 harg10 (Memref.whole main_v121) (Memref.isWhole_whole _) arg12 harg12 arg13 harg13 arg14 harg14 arg15 harg15 arg16 harg16 (harg1.unread A.q) (harg2.unread A.qt) (harg3.unread A.k) (harg4.unread A.kt) (harg5.unread A.v) (harg6.unread A.bias) (harg7.unread A.ct) (harg8.unread A.ctt) (harg9.unread A.lse) (harg10.unread A.dl) G12 G13 G15 G16 n

/-- The pieces of one more trip are that trip's, at what the earlier ones left, in front of theirs. -/
theorem pieces_succ (k : Fin k0_t1_loop.trips) (P : List (View.Piece (Elt F) S4096x128 .f32) × List (View.Piece (Elt F) S4608x128 .f32) × List (View.Piece (Elt F) S1x1x576x128 .f32) × List (View.Piece (Elt F) S4608x128 .f32))
    (hP : pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 k.val = P)
    (T : List (View.Piece (Elt F) S4096x128 .f32) × List (View.Piece (Elt F) S4608x128 .f32) × List (View.Piece (Elt F) S1x1x576x128 .f32) × List (View.Piece (Elt F) S4608x128 .f32))
    (hT : tripP c i arg1 harg1 arg2 harg2 arg3 harg3 arg4 harg4 arg5 harg5 arg6 harg6 arg7 harg7 arg8 harg8 arg9 harg9 arg10 harg10 arg12 harg12 arg13 harg13 arg14 harg14 arg15 harg15 arg16 harg16 A k (arg12.view.writes (Elt F) G12 P.1) (arg13.view.writes (Elt F) G13 P.2.1) (arg15.view.writes (Elt F) G15 P.2.2.1) (arg16.view.writes (Elt F) G16 P.2.2.2) = T) :
    pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 (k.val + 1) = (T.1 ++ P.1, T.2.1 ++ P.2.1, T.2.2.1 ++ P.2.2.1, T.2.2.2 ++ P.2.2.2) := by
  subst hP; subst hT
  exact pb_k0_t1_succ (F := F) Variants.none c none i arg1 harg1 arg2 harg2 arg3 harg3 arg4 harg4 arg5 harg5 arg6 harg6 arg7 harg7 arg8 harg8 arg9 harg9 arg10 harg10 (Memref.whole main_v121) (Memref.isWhole_whole _) arg12 harg12 arg13 harg13 arg14 harg14 arg15 harg15 arg16 harg16 (harg1.unread A.q) (harg2.unread A.qt) (harg3.unread A.k) (harg4.unread A.kt) (harg5.unread A.v) (harg6.unread A.bias) (harg7.unread A.ct) (harg8.unread A.ctt) (harg9.unread A.lse) (harg10.unread A.dl) G12 G13 G15 G16 k

/-- After `n` trips the buffers hold the gradients of the first `4 + n` units, if they held those of the first four before. -/
theorem pieces_read
    (h12 : ∀ y : S4096x128.Idx, (y 0).val < 128 * 4 → arg12.view.read (Elt F) G12 y = A.DQ y)
    (h13 : arg13.view.read (Elt F) G13 = A.DK 4) (h15 : arg15.view.read (Elt F) G15 = A.DB 4) (h16 : arg16.view.read (Elt F) G16 = A.DV 4)
    (n : ℕ) (hn : n ≤ 28) :
    (∀ y : S4096x128.Idx, (y 0).val < 128 * (4 + n) → arg12.view.read (Elt F) (arg12.view.writes (Elt F) G12 (pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 n).1) y = A.DQ y)
    ∧ arg13.view.read (Elt F) (arg13.view.writes (Elt F) G13 (pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 n).2.1) = A.DK (4 + n)
    ∧ arg15.view.read (Elt F) (arg15.view.writes (Elt F) G15 (pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 n).2.2.1) = A.DB (4 + n)
    ∧ arg16.view.read (Elt F) (arg16.view.writes (Elt F) G16 (pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 n).2.2.2) = A.DV (4 + n) := by
  induction n with
  | zero => exact ⟨h12, h13, h15, h16⟩
  | succ n ih =>
    have ih := ih (by omega)
    have hk : n < k0_t1_loop.trips := by rw [trips_eq]; omega
    generalize hP : pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 n = P at ih
    obtain ⟨j12, j13, j15, j16⟩ := ih
    obtain ⟨i9, i5, i5', i0, hT⟩ := tripP_eq c i arg1 harg1 arg2 harg2 arg3 harg3 arg4 harg4 arg5 harg5 arg6 harg6 arg7 harg7 arg8 harg8 arg9 harg9 arg10 harg10 arg12 harg12 arg13 harg13 arg14 harg14 arg15 harg15 arg16 harg16 A ⟨n, hk⟩ (arg12.view.writes (Elt F) G12 P.1) (arg13.view.writes (Elt F) G13 P.2.1) (arg15.view.writes (Elt F) G15 P.2.2.1) (arg16.view.writes (Elt F) G16 P.2.2.2)
    rw [j13, j15, j16] at hT
    have hs := pieces_succ c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 ⟨n, hk⟩ P hP _ hT
    have hs : pieces c i arg1 harg1 arg2 harg2 arg3 harg3 arg4 harg4 arg5 harg5 arg6 harg6 arg7 harg7 arg8 harg8 arg9 harg9 arg10 harg10 arg12 harg12 arg13 harg13 arg14 harg14 arg15 harg15 arg16 harg16 A G12 G13 G15 G16 (n + 1) = _ := hs
    rw [hs]
    refine ⟨fun y hy => ?_, ?_, ?_, ?_⟩
    · refine (congrFun (arg12.view.read_writes_cons_put G12 i9 (A.dqU (tu ⟨n, hk⟩)) P.1 (off9_eq ⟨n, hk⟩)) y).trans ?_
      exact A.DQ_step (tu ⟨n, hk⟩) _ j12 y hy
    · refine (arg13.view.read_writes_cons_put G13 i5 _ P.2.1 (off5_eq ⟨n, hk⟩)).trans ?_
      rw [j13]; exact (A.DK_succ (tu ⟨n, hk⟩)).symm
    · refine (arg15.view.read_writes_full G15 i0 _ P.2.2.1).trans ?_
      exact (A.DB_succ (tu ⟨n, hk⟩)).symm
    · refine (arg16.view.read_writes_cons_put G16 i5' _ P.2.2.2 (off5_eq ⟨n, hk⟩)).trans ?_
      rw [j16]; exact (A.DV_succ (tu ⟨n, hk⟩)).symm

end Cert.KernelAttnIdeal.Att

end
-- ==== Proof.AttnRun.lean ====
/- One run of the attention's gradient kernel: from its ten input blocks it leaves the gradients of `AttnState` in its
   four output blocks. The first four units are written out one by one, the other 28 are the trips of a loop. -/
module

public import proofs.«01_k».proof.Proof.AttnLoop

@[expose] public section

set_option maxRecDepth 16384

noncomputable section

namespace Cert.KernelAttnIdeal.Att

open Idealize.ShloMosaic Idealize.ShloMosaic.TcCoe Idealize.ShloMosaic.Tactic
open Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttnIdeal Cert.KernelAttnIdeal.Gen

variable {F : FTy → Type} [FloatOps F] [Named F]

local notation "𝕄" => MT nD τ sig Unit (Elt F) ℕ (UR sig nD τ) ℕ

section Static

variable
  (arg1 : Memref sig .tc .vmem S4096x128 .bf16) (harg1 : arg1.IsWhole)
  (arg2 : Memref sig .tc .vmem S128x4096 .bf16) (harg2 : arg2.IsWhole)
  (arg3 : Memref sig .tc .vmem S4608x128 .bf16) (harg3 : arg3.IsWhole)
  (arg4 : Memref sig .tc .vmem S128x4608 .bf16) (harg4 : arg4.IsWhole)
  (arg5 : Memref sig .tc .vmem S4608x128 .bf16) (harg5 : arg5.IsWhole)
  (arg6 : Memref sig .tc .vmem S1x1x640x256 .f32) (harg6 : arg6.IsWhole)
  (arg7 : Memref sig .tc .vmem S4096x128 .bf16) (harg7 : arg7.IsWhole)
  (arg8 : Memref sig .tc .vmem S128x4096 .bf16) (harg8 : arg8.IsWhole)
  (arg9 : Memref sig .tc .vmem S1x32x8x256 .f32) (harg9 : arg9.IsWhole)
  (arg10 : Memref sig .tc .vmem S1x32x8x256 .f32) (harg10 : arg10.IsWhole)
  (A : In F) (u : Fin 32)

theorem ld_q : (arg1.view.readAt (Elt F) (Rect.unit (s := S4096x128) ![128 * u.val, 0] S128x128.size (inb_rows u)).toLoadRect (harg1.unread A.q)) = A.qB u := (by have e := arg1.view.readAt_unit (harg1.unread A.q) (inb_rows u) rfl (inb_rows u); rw [harg1.read_unread] at e; exact e)
theorem ld_qt : (arg2.view.readAt (Elt F) (Rect.unit (s := S128x4096) ![0, 128 * u.val] S128x128.size (inb_cols u)).toLoadRect (harg2.unread A.qt)) = A.qtB u := (by have e := arg2.view.readAt_unit (harg2.unread A.qt) (inb_cols u) rfl (inb_cols u); rw [harg2.read_unread] at e; exact e)
theorem ld_k : (arg3.view.readAt (Elt F) (Rect.unit (s := S4608x128) ![128 * u.val, 0] S640x128.size (inb_band u)).toLoadRect (harg3.unread A.k)) = A.kB u := (by have e := arg3.view.readAt_unit (harg3.unread A.k) (inb_band u) rfl (inb_band u); rw [harg3.read_unread] at e; exact e)
theorem ld_kt : (arg4.view.readAt (Elt F) (Rect.unit (s := S128x4608) ![0, 128 * u.val] S128x640.size (inb_bandT u)).toLoadRect (harg4.unread A.kt)) = A.ktB u := (by have e := arg4.view.readAt_unit (harg4.unread A.kt) (inb_bandT u) rfl (inb_bandT u); rw [harg4.read_unread] at e; exact e)
theorem ld_v : (arg5.view.readAt (Elt F) (Rect.unit (s := S4608x128) ![128 * u.val, 0] S640x128.size (inb_band u)).toLoadRect (harg5.unread A.v)) = A.vB u := (by have e := arg5.view.readAt_unit (harg5.unread A.v) (inb_band u) rfl (inb_band u); rw [harg5.read_unread] at e; exact e)
theorem ld_ct : (arg7.view.readAt (Elt F) (Rect.unit (s := S4096x128) ![128 * u.val, 0] S128x128.size (inb_rows u)).toLoadRect (harg7.unread A.ct)) = A.ctB u := (by have e := arg7.view.readAt_unit (harg7.unread A.ct) (inb_rows u) rfl (inb_rows u); rw [harg7.read_unread] at e; exact e)
theorem ld_ctt : (arg8.view.readAt (Elt F) (Rect.unit (s := S128x4096) ![0, 128 * u.val] S128x128.size (inb_cols u)).toLoadRect (harg8.unread A.ctt)) = A.cttB u := (by have e := arg8.view.readAt_unit (harg8.unread A.ctt) (inb_cols u) rfl (inb_cols u); rw [harg8.read_unread] at e; exact e)
theorem ld_lse : (arg9.view.readAt (Elt F) (Rect.unit (s := S1x32x8x256) ![0, u.val, 0, 0] S1x1x8x256.size (inb_row u)).toLoadRect (harg9.unread A.lse)) = A.lseB u := (by have e := arg9.view.readAt_unit (harg9.unread A.lse) (inb_row u) rfl (inb_row u); rw [harg9.read_unread] at e; exact e)
theorem ld_dl : (arg10.view.readAt (Elt F) (Rect.unit (s := S1x32x8x256) ![0, u.val, 0, 0] S1x1x8x256.size (inb_row u)).toLoadRect (harg10.unread A.dl)) = A.dlB u := (by have e := arg10.view.readAt_unit (harg10.unread A.dl) (inb_row u) rfl (inb_row u); rw [harg10.read_unread] at e; exact e)
theorem ld_bias : (arg6.view.readAt (Elt F) (Rect.unit (s := S1x1x640x256) ![0, 0, 0, 0] S1x1x640x256.size inb_S1x1x640x256_S1x1x640x256_0_0_0_0).toLoadRect (harg6.unread A.bias)) = A.bias := (arg6.view.readAt_full _ _).trans (harg6.read_unread _)

/-- In the first four units the probabilities, from the loads themselves. -/
theorem pt_ld (hu : u.val < 4) : A.pt u = (k0_pay15 (BitVec.ofNat 32 (128 * u.val)) (k0_pay13 (arg3.view.readAt (Elt F) (Rect.unit (s := S4608x128) ![128 * u.val, 0] S640x128.size (inb_band u)).toLoadRect (harg3.unread A.k))) (k0_pay14 (arg2.view.readAt (Elt F) (Rect.unit (s := S128x4096) ![0, 128 * u.val] S128x128.size (inb_cols u)).toLoadRect (harg2.unread A.qt))) (arg6.view.readAt (Elt F) (Rect.unit (s := S1x1x640x256) ![0, 0, 0, 0] S1x1x640x256.size inb_S1x1x640x256_S1x1x640x256_0_0_0_0).toLoadRect (harg6.unread A.bias)) (arg9.view.readAt (Elt F) (Rect.unit (s := S1x32x8x256) ![0, u.val, 0, 0] S1x1x8x256.size (inb_row u)).toLoadRect (harg9.unread A.lse))) := by
  rw [ld_k arg3 harg3 A u, ld_qt arg2 harg2 A u, ld_lse arg9 harg9 A u, ld_bias arg6 harg6 A]
  exact if_pos hu

/-- In the first four units the scores' gradient, from the loads themselves. -/
theorem dsb_ld (hu : u.val < 4) : A.dsb u = (k0_pay6 (k0_pay15 (BitVec.ofNat 32 (128 * u.val)) (k0_pay13 (arg3.view.readAt (Elt F) (Rect.unit (s := S4608x128) ![128 * u.val, 0] S640x128.size (inb_band u)).toLoadRect (harg3.unread A.k))) (k0_pay14 (arg2.view.readAt (Elt F) (Rect.unit (s := S128x4096) ![0, 128 * u.val] S128x128.size (inb_cols u)).toLoadRect (harg2.unread A.qt))) (arg6.view.readAt (Elt F) (Rect.unit (s := S1x1x640x256) ![0, 0, 0, 0] S1x1x640x256.size inb_S1x1x640x256_S1x1x640x256_0_0_0_0).toLoadRect (harg6.unread A.bias)) (arg9.view.readAt (Elt F) (Rect.unit (s := S1x32x8x256) ![0, u.val, 0, 0] S1x1x8x256.size (inb_row u)).toLoadRect (harg9.unread A.lse))) (k0_pay3 (arg5.view.readAt (Elt F) (Rect.unit (s := S4608x128) ![128 * u.val, 0] S640x128.size (inb_band u)).toLoadRect (harg5.unread A.v))) (arg8.view.readAt (Elt F) (Rect.unit (s := S128x4096) ![0, 128 * u.val] S128x128.size (inb_cols u)).toLoadRect (harg8.unread A.ctt)) (arg10.view.readAt (Elt F) (Rect.unit (s := S1x32x8x256) ![0, u.val, 0, 0] S1x1x8x256.size (inb_row u)).toLoadRect (harg10.unread A.dl))) := by
  unfold In.dsb
  rw [pt_ld arg2 harg2 arg3 harg3 arg6 harg6 arg9 harg9 A u hu, ld_v arg5 harg5 A u, ld_ctt arg8 harg8 A u, ld_dl arg10 harg10 A u]

/-- What each of the first four units writes, from the loads themselves. -/
theorem dqU_ld (hu : u.val < 4) : A.dqU u = k0_pay7 (k0_pay6 (k0_pay15 (BitVec.ofNat 32 (128 * u.val)) (k0_pay13 (arg3.view.readAt (Elt F) (Rect.unit (s := S4608x128) ![128 * u.val, 0] S640x128.size (inb_band u)).toLoadRect (harg3.unread A.k))) (k0_pay14 (arg2.view.readAt (Elt F) (Rect.unit (s := S128x4096) ![0, 128 * u.val] S128x128.size (inb_cols u)).toLoadRect (harg2.unread A.qt))) (arg6.view.readAt (Elt F) (Rect.unit (s := S1x1x640x256) ![0, 0, 0, 0] S1x1x640x256.size inb_S1x1x640x256_S1x1x640x256_0_0_0_0).toLoadRect (harg6.unread A.bias)) (arg9.view.readAt (Elt F) (Rect.unit (s := S1x32x8x256) ![0, u.val, 0, 0] S1x1x8x256.size (inb_row u)).toLoadRect (harg9.unread A.lse))) (k0_pay3 (arg5.view.readAt (Elt F) (Rect.unit (s := S4608x128) ![128 * u.val, 0] S640x128.size (inb_band u)).toLoadRect (harg5.unread A.v))) (arg8.view.readAt (Elt F) (Rect.unit (s := S128x4096) ![0, 128 * u.val] S128x128.size (inb_cols u)).toLoadRect (harg8.unread A.ctt)) (arg10.view.readAt (Elt F) (Rect.unit (s := S1x32x8x256) ![0, u.val, 0, 0] S1x1x8x256.size (inb_row u)).toLoadRect (harg10.unread A.dl))) (arg4.view.readAt (Elt F) (Rect.unit (s := S128x4608) ![0, 128 * u.val] S128x640.size (inb_bandT u)).toLoadRect (harg4.unread A.kt)) := by
  rw [← dsb_ld arg2 harg2 arg3 harg3 arg5 harg5 arg6 harg6 arg8 harg8 arg9 harg9 arg10 harg10 A u hu, ld_kt arg4 harg4 A u]; rfl
theorem dkN_ld (hu : u.val < 4) (w : Vec F S640x128 .f32) : A.dkN u w = k0_pay8 (k0_pay6 (k0_pay15 (BitVec.ofNat 32 (128 * u.val)) (k0_pay13 (arg3.view.readAt (Elt F) (Rect.unit (s := S4608x128) ![128 * u.val, 0] S640x128.size (inb_band u)).toLoadRect (harg3.unread A.k))) (k0_pay14 (arg2.view.readAt (Elt F) (Rect.unit (s := S128x4096) ![0, 128 * u.val] S128x128.size (inb_cols u)).toLoadRect (harg2.unread A.qt))) (arg6.view.readAt (Elt F) (Rect.unit (s := S1x1x640x256) ![0, 0, 0, 0] S1x1x640x256.size inb_S1x1x640x256_S1x1x640x256_0_0_0_0).toLoadRect (harg6.unread A.bias)) (arg9.view.readAt (Elt F) (Rect.unit (s := S1x32x8x256) ![0, u.val, 0, 0] S1x1x8x256.size (inb_row u)).toLoadRect (harg9.unread A.lse))) (k0_pay3 (arg5.view.readAt (Elt F) (Rect.unit (s := S4608x128) ![128 * u.val, 0] S640x128.size (inb_band u)).toLoadRect (harg5.unread A.v))) (arg8.view.readAt (Elt F) (Rect.unit (s := S128x4096) ![0, 128 * u.val] S128x128.size (inb_cols u)).toLoadRect (harg8.unread A.ctt)) (arg10.view.readAt (Elt F) (Rect.unit (s := S1x32x8x256) ![0, u.val, 0, 0] S1x1x8x256.size (inb_row u)).toLoadRect (harg10.unread A.dl))) w (arg1.view.readAt (Elt F) (Rect.unit (s := S4096x128) ![128 * u.val, 0] S128x128.size (inb_rows u)).toLoadRect (harg1.unread A.q)) := by
  rw [← dsb_ld arg2 harg2 arg3 harg3 arg5 harg5 arg6 harg6 arg8 harg8 arg9 harg9 arg10 harg10 A u hu, ld_q arg1 harg1 A u]; rfl
theorem dvN_ld (hu : u.val < 4) (w : Vec F S640x128 .f32) : A.dvN u w = k0_pay76 w (k0_pay9 (k0_pay15 (BitVec.ofNat 32 (128 * u.val)) (k0_pay13 (arg3.view.readAt (Elt F) (Rect.unit (s := S4608x128) ![128 * u.val, 0] S640x128.size (inb_band u)).toLoadRect (harg3.unread A.k))) (k0_pay14 (arg2.view.readAt (Elt F) (Rect.unit (s := S128x4096) ![0, 128 * u.val] S128x128.size (inb_cols u)).toLoadRect (harg2.unread A.qt))) (arg6.view.readAt (Elt F) (Rect.unit (s := S1x1x640x256) ![0, 0, 0, 0] S1x1x640x256.size inb_S1x1x640x256_S1x1x640x256_0_0_0_0).toLoadRect (harg6.unread A.bias)) (arg9.view.readAt (Elt F) (Rect.unit (s := S1x32x8x256) ![0, u.val, 0, 0] S1x1x8x256.size (inb_row u)).toLoadRect (harg9.unread A.lse)))) (arg7.view.readAt (Elt F) (Rect.unit (s := S4096x128) ![128 * u.val, 0] S128x128.size (inb_rows u)).toLoadRect (harg7.unread A.ct)) := by
  rw [← pt_ld arg2 harg2 arg3 harg3 arg6 harg6 arg9 harg9 A u hu, ld_ct arg7 harg7 A u]; rfl
theorem dbN_ld (hu : u.val < 4) (w : Vec F S1x1x576x128 .f32) : A.dbN u w = k0_pay5 (k0_pay15 (BitVec.ofNat 32 (128 * u.val)) (k0_pay13 (arg3.view.readAt (Elt F) (Rect.unit (s := S4608x128) ![128 * u.val, 0] S640x128.size (inb_band u)).toLoadRect (harg3.unread A.k))) (k0_pay14 (arg2.view.readAt (Elt F) (Rect.unit (s := S128x4096) ![0, 128 * u.val] S128x128.size (inb_cols u)).toLoadRect (harg2.unread A.qt))) (arg6.view.readAt (Elt F) (Rect.unit (s := S1x1x640x256) ![0, 0, 0, 0] S1x1x640x256.size inb_S1x1x640x256_S1x1x640x256_0_0_0_0).toLoadRect (harg6.unread A.bias)) (arg9.view.readAt (Elt F) (Rect.unit (s := S1x32x8x256) ![0, u.val, 0, 0] S1x1x8x256.size (inb_row u)).toLoadRect (harg9.unread A.lse))) (k0_pay3 (arg5.view.readAt (Elt F) (Rect.unit (s := S4608x128) ![128 * u.val, 0] S640x128.size (inb_band u)).toLoadRect (harg5.unread A.v))) (arg8.view.readAt (Elt F) (Rect.unit (s := S128x4096) ![0, 128 * u.val] S128x128.size (inb_cols u)).toLoadRect (harg8.unread A.ctt)) (arg10.view.readAt (Elt F) (Rect.unit (s := S1x32x8x256) ![0, u.val, 0, 0] S1x1x8x256.size (inb_row u)).toLoadRect (harg10.unread A.dl)) w := by
  rw [← pt_ld arg2 harg2 arg3 harg3 arg6 harg6 arg9 harg9 A u hu, ld_v arg5 harg5 A u, ld_ctt arg8 harg8 A u, ld_dl arg10 harg10 A u]; rfl

end Static

/-- One more unit put onto an accumulator's buffer: the keys' gradient; the values'; the bias's. -/
theorem DK_put (v : View sig .tc .vmem S4608x128 .f32) (A : In F) (u : Fin 32) (L : List (View.Piece (Elt F) S4608x128 .f32))
    (h : v.read (Elt F) (v.writes (Elt F) v.junk L) = A.DK u.val) {off : Fin 2 → ℕ} (inb : ∀ a, off a + S640x128.size a ≤ S4608x128.size a)
    (ho : off = ![128 * u.val, 0]) (w : Vec F S640x128 .f32)
    (hw : w = A.dkN u (v.readCov L (Rect.unit (s := S4608x128) off S640x128.size inb).toLoadRect)) :
    v.read (Elt F) (v.writes (Elt F) v.junk (⟨Rect.unit off S640x128.size inb, w⟩ :: L)) = A.DK (u.val + 1) := by
  subst hw
  refine (v.read_writes_cons_put v.junk inb _ L ho).trans ?_
  rw [A.DK_succ u, h]
  have e : v.readCov L (Rect.unit (s := S4608x128) off S640x128.size inb).toLoadRect = window (A.DK u.val) ![128 * u.val, 0] S640x128.size (inb_band u) := by
    refine (v.readAt_unit (v.writes (Elt F) v.junk L) inb ho (inb_band u)).trans ?_
    rw [h]
  rw [e]
theorem DV_put (v : View sig .tc .vmem S4608x128 .f32) (A : In F) (u : Fin 32) (L : List (View.Piece (Elt F) S4608x128 .f32))
    (h : v.read (Elt F) (v.writes (Elt F) v.junk L) = A.DV u.val) {off : Fin 2 → ℕ} (inb : ∀ a, off a + S640x128.size a ≤ S4608x128.size a)
    (ho : off = ![128 * u.val, 0]) (w : Vec F S640x128 .f32)
    (hw : w = A.dvN u (v.readCov L (Rect.unit (s := S4608x128) off S640x128.size inb).toLoadRect)) :
    v.read (Elt F) (v.writes (Elt F) v.junk (⟨Rect.unit off S640x128.size inb, w⟩ :: L)) = A.DV (u.val + 1) := by
  subst hw
  refine (v.read_writes_cons_put v.junk inb _ L ho).trans ?_
  rw [A.DV_succ u, h]
  have e : v.readCov L (Rect.unit (s := S4608x128) off S640x128.size inb).toLoadRect = window (A.DV u.val) ![128 * u.val, 0] S640x128.size (inb_band u) := by
    refine (v.readAt_unit (v.writes (Elt F) v.junk L) inb ho (inb_band u)).trans ?_
    rw [h]
  rw [e]
theorem DB_put (v : View sig .tc .vmem S1x1x576x128 .f32) (A : In F) (u : Fin 32) (L : List (View.Piece (Elt F) S1x1x576x128 .f32))
    (h : v.read (Elt F) (v.writes (Elt F) v.junk L) = A.DB u.val) {off : Fin 4 → ℕ} (inb : ∀ a, off a + S1x1x576x128.size a ≤ S1x1x576x128.size a)
    (w : Vec F S1x1x576x128 .f32)
    (hw : w = A.dbN u (v.readCov L (Rect.unit (s := S1x1x576x128) off S1x1x576x128.size inb).toLoadRect)) :
    v.read (Elt F) (v.writes (Elt F) v.junk (⟨Rect.unit off S1x1x576x128.size inb, w⟩ :: L)) = A.DB (u.val + 1) := by
  subst hw
  refine (v.read_writes_full v.junk inb _ L).trans ?_
  rw [A.DB_succ u]
  have e : v.readCov L (Rect.unit (s := S1x1x576x128) off S1x1x576x128.size inb).toLoadRect = A.DB u.val := (v.readAt_full (v.writes (Elt F) v.junk L) inb).trans h
  rw [e]

/-- One more unit's rows put onto the queries' gradient's buffer. -/
theorem DQ_put (v : View sig .tc .vmem S4096x128 .f32) (f : v.ty.Contents (Elt F)) (A : In F) (u : Fin 32) (L : List (View.Piece (Elt F) S4096x128 .f32))
    (h : ∀ y : S4096x128.Idx, (y 0).val < 128 * u.val → v.read (Elt F) (v.writes (Elt F) f L) y = A.DQ y) {off : Fin 2 → ℕ}
    (inb : ∀ a, off a + S128x128.size a ≤ S4096x128.size a) (ho : off = ![128 * u.val, 0]) (w : Vec F S128x128 .f32) (hw : w = A.dqU u) :
    ∀ y : S4096x128.Idx, (y 0).val < 128 * (u.val + 1) → v.read (Elt F) (v.writes (Elt F) f (⟨Rect.unit off S128x128.size inb, w⟩ :: L)) y = A.DQ y := by
  subst hw
  intro y hy
  refine (congrFun (v.read_writes_cons_put f inb _ L ho) y).trans ?_
  exact A.DQ_step u _ h y hy

set_option maxHeartbeats 2000000 in
/-- The run. -/
theorem body_run (c : Dev nD) (i : grid0.Coords)
  (arg1 : Memref sig .tc .vmem S4096x128 .bf16) (harg1 : arg1.IsWhole)
  (arg2 : Memref sig .tc .vmem S128x4096 .bf16) (harg2 : arg2.IsWhole)
  (arg3 : Memref sig .tc .vmem S4608x128 .bf16) (harg3 : arg3.IsWhole)
  (arg4 : Memref sig .tc .vmem S128x4608 .bf16) (harg4 : arg4.IsWhole)
  (arg5 : Memref sig .tc .vmem S4608x128 .bf16) (harg5 : arg5.IsWhole)
  (arg6 : Memref sig .tc .vmem S1x1x640x256 .f32) (harg6 : arg6.IsWhole)
  (arg7 : Memref sig .tc .vmem S4096x128 .bf16) (harg7 : arg7.IsWhole)
  (arg8 : Memref sig .tc .vmem S128x4096 .bf16) (harg8 : arg8.IsWhole)
  (arg9 : Memref sig .tc .vmem S1x32x8x256 .f32) (harg9 : arg9.IsWhole)
  (arg10 : Memref sig .tc .vmem S1x32x8x256 .f32) (harg10 : arg10.IsWhole)
  (arg12 : Memref sig .tc .vmem S4096x128 .f32) (harg12 : arg12.IsWhole)
  (arg13 : Memref sig .tc .vmem S4608x128 .f32) (harg13 : arg13.IsWhole)
  (arg14 : Memref sig .tc .vmem S4608x128 .bf16) (harg14 : arg14.IsWhole)
  (arg15 : Memref sig .tc .vmem S1x1x576x128 .f32) (harg15 : arg15.IsWhole)
  (arg16 : Memref sig .tc .vmem S4608x128 .f32) (harg16 : arg16.IsWhole)
    (A : In F) (E : Set ℕ) (K : PUnit → sProp 𝕄) :
    iprop(owns (c : Thread nD τ) arg1 fullShare A.q ∗ owns (c : Thread nD τ) arg2 fullShare A.qt ∗ owns (c : Thread nD τ) arg3 fullShare A.k ∗ owns (c : Thread nD τ) arg4 fullShare A.kt ∗ owns (c : Thread nD τ) arg5 fullShare A.v ∗ owns (c : Thread nD τ) arg6 fullShare A.bias ∗ owns (c : Thread nD τ) arg7 fullShare A.ct ∗ owns (c : Thread nD τ) arg8 fullShare A.ctt ∗ owns (c : Thread nD τ) arg9 fullShare A.lse ∗ owns (c : Thread nD τ) arg10 fullShare A.dl ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ ((owns (c : Thread nD τ) arg1 fullShare A.q ∗ owns (c : Thread nD τ) arg2 fullShare A.qt ∗ owns (c : Thread nD τ) arg3 fullShare A.k ∗ owns (c : Thread nD τ) arg4 fullShare A.kt ∗ owns (c : Thread nD τ) arg5 fullShare A.v ∗ owns (c : Thread nD τ) arg6 fullShare A.bias ∗ owns (c : Thread nD τ) arg7 fullShare A.ct ∗ owns (c : Thread nD τ) arg8 fullShare A.ctt ∗ owns (c : Thread nD τ) arg9 fullShare A.lse ∗ owns (c : Thread nD τ) arg10 fullShare A.dl ∗ owns (c : Thread nD τ) arg12 fullShare A.DQ ∗ owns (c : Thread nD τ) arg13 fullShare (A.DK 32) ∗ owns (c : Thread nD τ) arg14 fullShare (k0_pay1 (A.DV 32)) ∗ owns (c : Thread nD τ) arg15 fullShare (A.DB 32) ∗ (∃ d, owns (c : Thread nD τ) arg16 fullShare d)) -∗ K ⟨⟩))
  ⊢ wp frame (wpE (defs₀ (F := F)) Variants.none c none) E (cc0_attn_bwd_0 i arg1 harg1 arg2 harg2 arg3 harg3 arg4 harg4 arg5 harg5 arg6 harg6 arg7 harg7 arg8 harg8 arg9 harg9 arg10 harg10 (Memref.whole main_v121) (Memref.isWhole_whole _) arg12 harg12 arg13 harg13 arg14 harg14 arg15 harg15 arg16 harg16) K := by
    simp only [cc0_attn_bwd_0_eq_skeleton]; unfold cc0_attn_bwd_0_skel
    simp only [k0_part18_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    have s12 : ∀ y : S4096x128.Idx, (y 0).val < 128 * 0 → arg12.view.read (Elt F) (arg12.view.writes (Elt F) f10 []) y = A.DQ y := fun y hy => absurd hy (by omega)
    have s12 := DQ_put arg12.view f10 A 0 _ s12 (inb_rows 0) rfl (body_run.sl.v113 c arg2 harg2 arg3 harg3 arg4 harg4 arg5 harg5 arg6 harg6 arg8 harg8 arg9 harg9 arg10 harg10 A) ((dqU_ld arg2 harg2 arg3 harg3 arg4 harg4 arg5 harg5 arg6 harg6 arg8 harg8 arg9 harg9 arg10 harg10 A 0 (by decide)).trans (by with_unfolding_all rfl)).symm
    have s12 := DQ_put arg12.view f10 A 1 _ s12 (inb_rows 1) rfl (body_run.sl.v263 c arg2 harg2 arg3 harg3 arg4 harg4 arg5 harg5 arg6 harg6 arg8 harg8 arg9 harg9 arg10 harg10 A) ((dqU_ld arg2 harg2 arg3 harg3 arg4 harg4 arg5 harg5 arg6 harg6 arg8 harg8 arg9 harg9 arg10 harg10 A 1 (by decide)).trans (by with_unfolding_all rfl)).symm
    have s12 := DQ_put arg12.view f10 A 2 _ s12 (inb_rows 2) rfl (body_run.sl.v413 c arg2 harg2 arg3 harg3 arg4 harg4 arg5 harg5 arg6 harg6 arg8 harg8 arg9 harg9 arg10 harg10 A) ((dqU_ld arg2 harg2 arg3 harg3 arg4 harg4 arg5 harg5 arg6 harg6 arg8 harg8 arg9 harg9 arg10 harg10 A 2 (by decide)).trans (by with_unfolding_all rfl)).symm
    have s12 := DQ_put arg12.view f10 A 3 _ s12 (inb_rows 3) rfl (body_run.sl.v563 c arg2 harg2 arg3 harg3 arg4 harg4 arg5 harg5 arg6 harg6 arg8 harg8 arg9 harg9 arg10 harg10 A) ((dqU_ld arg2 harg2 arg3 harg3 arg4 harg4 arg5 harg5 arg6 harg6 arg8 harg8 arg9 harg9 arg10 harg10 A 3 (by decide)).trans (by with_unfolding_all rfl)).symm
    have s13 : arg13.view.read (Elt F) (arg13.view.writes (Elt F) arg13.view.junk body_run.sl.H11_1) = A.DK 0 := arg13.view.read_writes_full arg13.view.junk _ _ []
    have s13 : arg13.view.read (Elt F) (arg13.view.writes (Elt F) arg13.view.junk (body_run.sl.H11_2 c arg1 harg1 arg2 harg2 arg3 harg3 arg5 harg5 arg6 harg6 arg8 harg8 arg9 harg9 arg10 harg10 arg13 A)) = A.DK 1 := by
      refine DK_put arg13.view A 0 _ s13 (inb_band 0) rfl _ ?_
      exact ((dkN_ld arg1 harg1 arg2 harg2 arg3 harg3 arg5 harg5 arg6 harg6 arg8 harg8 arg9 harg9 arg10 harg10 A 0 (by decide) _).trans (by with_unfolding_all rfl)).symm
    have s13 : arg13.view.read (Elt F) (arg13.view.writes (Elt F) arg13.view.junk (body_run.sl.H11_3 c arg1 harg1 arg2 harg2 arg3 harg3 arg5 harg5 arg6 harg6 arg8 harg8 arg9 harg9 arg10 harg10 arg13 A)) = A.DK 2 := by
      refine DK_put arg13.view A 1 _ s13 (inb_band 1) rfl _ ?_
      exact ((dkN_ld arg1 harg1 arg2 harg2 arg3 harg3 arg5 harg5 arg6 harg6 arg8 harg8 arg9 harg9 arg10 harg10 A 1 (by decide) _).trans (by with_unfolding_all rfl)).symm
    have s13 : arg13.view.read (Elt F) (arg13.view.writes (Elt F) arg13.view.junk (body_run.sl.H11_4 c arg1 harg1 arg2 harg2 arg3 harg3 arg5 harg5 arg6 harg6 arg8 harg8 arg9 harg9 arg10 harg10 arg13 A)) = A.DK 3 := by
      refine DK_put arg13.view A 2 _ s13 (inb_band 2) rfl _ ?_
      exact ((dkN_ld arg1 harg1 arg2 harg2 arg3 harg3 arg5 harg5 arg6 harg6 arg8 harg8 arg9 harg9 arg10 harg10 A 2 (by decide) _).trans (by with_unfolding_all rfl)).symm
    have s13 : arg13.view.read (Elt F) (arg13.view.writes (Elt F) arg13.view.junk (body_run.sl.H11_5 c arg1 harg1 arg2 harg2 arg3 harg3 arg5 harg5 arg6 harg6 arg8 harg8 arg9 harg9 arg10 harg10 arg13 A)) = A.DK 4 := by
      refine DK_put arg13.view A 3 _ s13 (inb_band 3) rfl _ ?_
      exact ((dkN_ld arg1 harg1 arg2 harg2 arg3 harg3 arg5 harg5 arg6 harg6 arg8 harg8 arg9 harg9 arg10 harg10 A 3 (by decide) _).trans (by with_unfolding_all rfl)).symm
    have s16 : arg16.view.read (Elt F) (arg16.view.writes (Elt F) arg16.view.junk body_run.sl.HS0_1) = A.DV 0 := arg16.view.read_writes_full arg16.view.junk _ _ []
    have s16 : arg16.view.read (Elt F) (arg16.view.writes (Elt F) arg16.view.junk (body_run.sl.HS0_2 c arg2 harg2 arg3 harg3 arg6 harg6 arg7 harg7 arg9 harg9 arg16 A)) = A.DV 1 := by
      refine DV_put arg16.view A 0 _ s16 (inb_band 0) rfl _ ?_
      exact ((dvN_ld arg2 harg2 arg3 harg3 arg6 harg6 arg7 harg7 arg9 harg9 A 0 (by decide) _).trans (by with_unfolding_all rfl)).symm
    have s16 : arg16.view.read (Elt F) (arg16.view.writes (Elt F) arg16.view.junk (body_run.sl.HS0_3 c arg2 harg2 arg3 harg3 arg6 harg6 arg7 harg7 arg9 harg9 arg16 A)) = A.DV 2 := by
      refine DV_put arg16.view A 1 _ s16 (inb_band 1) rfl _ ?_
      exact ((dvN_ld arg2 harg2 arg3 harg3 arg6 harg6 arg7 harg7 arg9 harg9 A 1 (by decide) _).trans (by with_unfolding_all rfl)).symm
    have s16 : arg16.view.read (Elt F) (arg16.view.writes (Elt F) arg16.view.junk (body_run.sl.HS0_4 c arg2 harg2 arg3 harg3 arg6 harg6 arg7 harg7 arg9 harg9 arg16 A)) = A.DV 3 := by
      refine DV_put arg16.view A 2 _ s16 (inb_band 2) rfl _ ?_
      exact ((dvN_ld arg2 harg2 arg3 harg3 arg6 harg6 arg7 harg7 arg9 harg9 A 2 (by decide) _).trans (by with_unfolding_all rfl)).symm
    have s16 : arg16.view.read (Elt F) (arg16.view.writes (Elt F) arg16.view.junk (body_run.sl.HS0_5 c arg2 harg2 arg3 harg3 arg6 harg6 arg7 harg7 arg9 harg9 arg16 A)) = A.DV 4 := by
      refine DV_put arg16.view A 3 _ s16 (inb_band 3) rfl _ ?_
      exact ((dvN_ld arg2 harg2 arg3 harg3 arg6 harg6 arg7 harg7 arg9 harg9 A 3 (by decide) _).trans (by with_unfolding_all rfl)).symm
    have s15 : arg15.view.read (Elt F) (arg15.view.writes (Elt F) arg15.view.junk body_run.sl.H13_1) = A.DB 0 := arg15.view.read_writes_full arg15.view.junk _ _ []
    have s15 : arg15.view.read (Elt F) (arg15.view.writes (Elt F) arg15.view.junk (body_run.sl.H13_2 c arg2 harg2 arg3 harg3 arg5 harg5 arg6 harg6 arg8 harg8 arg9 harg9 arg10 harg10 arg15 A)) = A.DB 1 := by
      refine DB_put arg15.view A 0 _ s15 inb_S1x1x576x128_S1x1x576x128_0_0_0_0 _ ?_
      exact ((dbN_ld arg2 harg2 arg3 harg3 arg5 harg5 arg6 harg6 arg8 harg8 arg9 harg9 arg10 harg10 A 0 (by decide) _).trans (by with_unfolding_all rfl)).symm
    have s15 : arg15.view.read (Elt F) (arg15.view.writes (Elt F) arg15.view.junk (body_run.sl.H13_3 c arg2 harg2 arg3 harg3 arg5 harg5 arg6 harg6 arg8 harg8 arg9 harg9 arg10 harg10 arg15 A)) = A.DB 2 := by
      refine DB_put arg15.view A 1 _ s15 inb_S1x1x576x128_S1x1x576x128_0_0_0_0 _ ?_
      exact ((dbN_ld arg2 harg2 arg3 harg3 arg5 harg5 arg6 harg6 arg8 harg8 arg9 harg9 arg10 harg10 A 1 (by decide) _).trans (by with_unfolding_all rfl)).symm
    have s15 : arg15.view.read (Elt F) (arg15.view.writes (Elt F) arg15.view.junk (body_run.sl.H13_4 c arg2 harg2 arg3 harg3 arg5 harg5 arg6 harg6 arg8 harg8 arg9 harg9 arg10 harg10 arg15 A)) = A.DB 3 := by
      refine DB_put arg15.view A 2 _ s15 inb_S1x1x576x128_S1x1x576x128_0_0_0_0 _ ?_
      exact ((dbN_ld arg2 harg2 arg3 harg3 arg5 harg5 arg6 harg6 arg8 harg8 arg9 harg9 arg10 harg10 A 2 (by decide) _).trans (by with_unfolding_all rfl)).symm
    have s15 : arg15.view.read (Elt F) (arg15.view.writes (Elt F) arg15.view.junk (body_run.sl.H13_5 c arg2 harg2 arg3 harg3 arg5 harg5 arg6 harg6 arg8 harg8 arg9 harg9 arg10 harg10 arg15 A)) = A.DB 4 := by
      refine DB_put arg15.view A 3 _ s15 inb_S1x1x576x128_S1x1x576x128_0_0_0_0 _ ?_
      exact ((dbN_ld arg2 harg2 arg3 harg3 arg5 harg5 arg6 harg6 arg8 harg8 arg9 harg9 arg10 harg10 A 3 (by decide) _).trans (by with_unfolding_all rfl)).symm
    have hp := pieces_read c i arg1 harg1 arg2 harg2 arg3 harg3 arg4 harg4 arg5 harg5 arg6 harg6 arg7 harg7 arg8 harg8 arg9 harg9 arg10 harg10 arg12 harg12 arg13 harg13 arg14 harg14 arg15 harg15 arg16 harg16 A (arg12.view.writes (Elt F) f10 [⟨Rect.unit (s := S4096x128) ![128 * (3 : Fin 32).val, 0] S128x128.size (inb_rows 3), body_run.sl.v563 c arg2 harg2 arg3 harg3 arg4 harg4 arg5 harg5 arg6 harg6 arg8 harg8 arg9 harg9 arg10 harg10 A⟩, ⟨Rect.unit (s := S4096x128) ![128 * (2 : Fin 32).val, 0] S128x128.size (inb_rows 2), body_run.sl.v413 c arg2 harg2 arg3 harg3 arg4 harg4 arg5 harg5 arg6 harg6 arg8 harg8 arg9 harg9 arg10 harg10 A⟩, ⟨Rect.unit (s := S4096x128) ![128 * (1 : Fin 32).val, 0] S128x128.size (inb_rows 1), body_run.sl.v263 c arg2 harg2 arg3 harg3 arg4 harg4 arg5 harg5 arg6 harg6 arg8 harg8 arg9 harg9 arg10 harg10 A⟩, ⟨Rect.unit (s := S4096x128) ![128 * (0 : Fin 32).val, 0] S128x128.size (inb_rows 0), body_run.sl.v113 c arg2 harg2 arg3 harg3 arg4 harg4 arg5 harg5 arg6 harg6 arg8 harg8 arg9 harg9 arg10 harg10 A⟩]) (arg13.view.writes (Elt F) arg13.view.junk (body_run.sl.H11_5 c arg1 harg1 arg2 harg2 arg3 harg3 arg5 harg5 arg6 harg6 arg8 harg8 arg9 harg9 arg10 harg10 arg13 A)) (arg15.view.writes (Elt F) arg15.view.junk (body_run.sl.H13_5 c arg2 harg2 arg3 harg3 arg5 harg5 arg6 harg6 arg8 harg8 arg9 harg9 arg10 harg10 arg15 A)) (arg16.view.writes (Elt F) arg16.view.junk (body_run.sl.HS0_5 c arg2 harg2 arg3 harg3 arg6 harg6 arg7 harg7 arg9 harg9 arg16 A)) s12 s13 s15 s16 28 le_rfl
    rw [← View.writes_append, ← View.writes_append, ← View.writes_append, ← View.writes_append] at hp
    obtain ⟨r12, r13, r15, r16⟩ := hp
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro; funext y; exact r12 y (by have := (y 0).isLt; have e : S4096x128.size 0 = 4096 := rfl; omega)
    isplitl [H11]
    · iexists _; isplitr; swap; · iexact H11
      ipureintro; exact r13
    isplitl [H12]
    · iexists _; isplitr; swap; · iexact H12
      ipureintro
      refine (arg14.view.read_writes_full _ inb_S4608x128_S4608x128_0_0 _ []).trans (congrArg k0_pay1 ?_)
      exact (arg16.view.readAt_full _ inb_S4608x128_S4608x128_0_0).trans r16
    isplitl [H13]
    · iexists _; isplitr; swap; · iexact H13
      ipureintro; exact r15
    iexists _, _; isplitr; swap; · iexact HS0
    ipureintro; rfl

end Cert.KernelAttnIdeal.Att

end
-- ==== Proof.AttnFrame.lean ====
/- The attention's gradient kernel as a program: every run of `main` ends with the four results' arrays at what the grid
   points leave (`AttnState`), every other array as the host lines before the call left it, the arguments unchanged and
   all semaphores zero. -/
module

public import proofs.«01_k».proof.Proof.AttnRun
public import Idealize.ShloMosaic.Lib.Claim

@[expose] public section

set_option maxRecDepth 16384

noncomputable section

namespace Cert.KernelAttnIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttnIdeal Cert.KernelAttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks a grid point reads. -/
def inp (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t⟩

/-- What the buffers hold after a grid point: the inputs their blocks, the outputs the point's gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (inp m c t).DQ
    | ⟨11, _⟩ => (inp m c t).DK 32
    | ⟨12, _⟩ => k0_pay1 ((inp m c t).DV 32)
    | ⟨13, _⟩ => (inp m c t).DB 32
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (inp m c t).DQ := by dsimp only [dats]
theorem after_11 (c : Dev nD) (t : Fin cfg0.N) : (dats m 0 c).after 11 t = (inp m c t).DK 32 := by dsimp only [dats]
theorem after_12 (c : Dev nD) (t : Fin cfg0.N) : (dats m 0 c).after 12 t = k0_pay1 ((inp m c t).DV 32) := by dsimp only [dats]
theorem after_13 (c : Dev nD) (t : Fin cfg0.N) : (dats m 0 c).after 13 t = (inp m c t).DB 32 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What a grid point's body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) _ _ _ _ _ _ _ _ _ _ _ _ _ _ _ _ _ _ _ _ _ _ _ _ _ _ _ _ _ _ (inp m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, H9, H10, H11, H12, H13, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The table's row of the kernel's body, on the TensorCore. -/
theorem defs₀_row (t : Fin cfg0.N) :
    defs₀ (F := F) .tc cfg0.body (cfg0.bodyArgs t (cfg0.slots t)) = bodyAt0 t := by
  unfold defs₀
  rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 2000000 in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the pipeline's arrays at what the grid points leave, the others as the call found them. -/
theorem run_arrays : θ_run defs (onTc (τ := τ) (main (F := F))) (s₀ m ρ) (Pipeline.FramePost cfgs (dats m) 0 (V m)) :=
  (θ_run defs _ _).mono (fun _ h => h.1) (run_quiescent m ρ)

/-- The frame: the arguments end unchanged and every semaphore is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ))
    ((θ_run defs _ _).mono (fun _ h => h.2) (run_quiescent m ρ))

end Cert.KernelAttnIdeal.Att

end
-- ==== Proof.AttnClaims.lean ====
/- The frames of the attention's gradient kernel, at the words and at the extended reals, from its one run. -/
module

public import proofs.«01_k».proof.Proof.AttnFrame
public import proofs.«01_k».proof.Proof.Gen.KernelAttn.Launch
public import proofs.«01_k».proof.Proof.Gen.ReferenceAttnIdeal.Run
public import proofs.«01_k».proof.Defs

@[expose] public section

set_option maxRecDepth 16384

noncomputable section

namespace Cert.KernelAttnIdeal.Att

open Idealize.ShloMosaic Idealize.ShloMosaic.TcCoe Idealize.SL.Sem Idealize.ShloMosaic.Tactic

/-- A named constant read at the words is its word. -/
@[reducible] local instance : Named Bits where
  named _ _ {_} bits := bits

/-- The frame of the program at the words. -/
theorem frame_bits : Cert.quiescent_KernelAttn := by
  intro m ρ _
  have h := run_frame (F := Bits) m ρ
  refine Eq.mpr ?_ h
  sl_kernel_rfl

/-- The frame of the program at the extended reals. -/
theorem frame_ideal : Cert.quiescent_KernelAttnIdeal := fun m ρ _ => run_frame (F := Ideal) m ρ
end Cert.KernelAttnIdeal.Att

end
-- ==== Proof.AttnMath.lean ====
/- The gradient of the banded attention over the reals, indices natural numbers: what both programs compute. -/
module

public import Mathlib.Analysis.SpecialFunctions.Log.Basic
public import Mathlib.Data.EReal.Operations

@[expose] public section

noncomputable section

namespace Cert.Attn

/-- The arguments of one layer's attention: queries, keys, values and cotangent by row and column, the bias table by head,
    row of the chunk and place in the band, and the word that masks a score. -/
structure Data where
  q : ℕ → ℕ → ℝ
  k : ℕ → ℕ → ℝ
  v : ℕ → ℕ → ℝ
  g : ℕ → ℕ → ℝ
  tab : ℕ → ℕ → ℕ → ℝ
  big : ℝ

namespace Data
variable (D : Data)

/-- Keys and values behind 512 rows of zeros. -/
def kp (R j : ℕ) : ℝ := if R < 512 then 0 else D.k (R - 512) j
def vp (R j : ℕ) : ℝ := if R < 512 then 0 else D.v (R - 512) j

/-- The score of row `i` of chunk `n` with place `a` of its band, head `h`; a place in front of the sequence is masked. -/
def sc (n h i a : ℕ) : ℝ :=
  if 512 ≤ 64 * n + a then
    (∑ d : Fin 64, D.q (64 * n + i) (64 * h + d.val) * D.kp (64 * n + a) (64 * h + d.val)) * (1 / 8) + D.tab h i a
  else D.big

/-- The sum of a row's exponentials. -/
def Z (n h i : ℕ) : ℝ := ∑ a : Fin 576, Real.exp (D.sc n h i a.val)

/-- The probability, zero at a masked place. -/
def P (n h i a : ℕ) : ℝ := if 512 ≤ 64 * n + a then Real.exp (D.sc n h i a) / D.Z n h i else 0

/-- The probability's cotangent. -/
def dp (n h i a : ℕ) : ℝ := ∑ d : Fin 64, D.g (64 * n + i) (64 * h + d.val) * D.vp (64 * n + a) (64 * h + d.val)

/-- A row's sum of probabilities times cotangents. -/
def δ (n h i : ℕ) : ℝ := ∑ a : Fin 576, D.P n h i a.val * D.dp n h i a.val

/-- The score's cotangent. -/
def dS (n h i a : ℕ) : ℝ := D.P n h i a * (D.dp n h i a - D.δ n h i)

/-- A function of the band's places read at a row of the padded sequence, zero outside the band. -/
def atRow (f : ℕ → ℕ → ℕ → ℕ → ℝ) (n h i R : ℕ) : ℝ :=
  if 64 * n ≤ R ∧ R < 64 * n + 576 then f n h i (R - 64 * n) else 0

/-- The gradients: of the scaled queries, of the padded keys and values, of the bias table. -/
def dq (s j : ℕ) : ℝ := ∑ a : Fin 576, D.dS (s / 64) (j / 64) (s % 64) a.val * D.kp (64 * (s / 64) + a.val) j
def dk (R j : ℕ) : ℝ := ∑ n : Fin 64, ∑ i : Fin 64, atRow D.dS n.val (j / 64) i.val R * (D.q (64 * n.val + i.val) j * (1 / 8))
def dv (R j : ℕ) : ℝ := ∑ n : Fin 64, ∑ i : Fin 64, atRow D.P n.val (j / 64) i.val R * D.g (64 * n.val + i.val) j
def db (h i a : ℕ) : ℝ := ∑ n : Fin 64, D.dS n.val h i a

theorem Z_pos (n h i : ℕ) : 0 < D.Z n h i :=
  Finset.sum_pos (fun _ _ => Real.exp_pos _) ⟨0, Finset.mem_univ _⟩

theorem dp_masked (n h i a : ℕ) (ha : 64 * n + a < 512) : D.dp n h i a = 0 :=
  Finset.sum_eq_zero fun d _ => by unfold vp; rw [if_pos ha, mul_zero]

end Data

/-! ## Sums -/

/-- A finite sum of reals, among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over `n` groups of `m` is the double sum. -/
theorem sum_groups (n m : ℕ) (f : ℕ → ℝ) : ∑ x : Fin (n * m), f x.val = ∑ a : Fin n, ∑ b : Fin m, f (m * a.val + b.val) := by
  rw [← Finset.sum_product']
  refine Fintype.sum_equiv finProdFinEquiv.symm _ _ fun x => ?_
  have h : m * (finProdFinEquiv.symm x).1.val + (finProdFinEquiv.symm x).2.val = x.val := by
    have := congrArg Fin.val (finProdFinEquiv.apply_symm_apply x)
    simp only [finProdFinEquiv_apply_val] at this
    omega
  rw [h]

/-- A sum over a pair of heads' 128 features of which one head's only count. -/
theorem sum_head (hh : ℕ) (h : hh < 2) (f : ℕ → ℝ) :
    ∑ x : Fin 128, (if x.val / 64 = hh then f x.val else 0) = ∑ d : Fin 64, f (64 * hh + d.val) := by
  refine (sum_groups 2 64 (fun y => if y / 64 = hh then f y else 0)).trans ?_
  rw [Fin.sum_univ_two]
  have e : ∀ (c : ℕ) (b : Fin 64), (64 * c + b.val) / 64 = c := fun c b => by omega
  simp only [e]
  rcases (by omega : hh = 0 ∨ hh = 1) with rfl | rfl <;> simp

/-- A sum over a band of 640 rows of which only one chunk's 576 count. -/
theorem sum_band (c : ℕ) (h : c < 2) (f : ℕ → ℝ) :
    ∑ r : Fin 640, (if 64 * c ≤ r.val ∧ r.val < 64 * c + 576 then f r.val else 0) = ∑ a : Fin 576, f (64 * c + a.val) := by
  rw [Fin.sum_univ_eq_sum_range (fun r => if 64 * c ≤ r ∧ r < 64 * c + 576 then f r else 0) 640,
    Fin.sum_univ_eq_sum_range (fun a => f (64 * c + a)) 576]
  rcases (by omega : c = 0 ∨ c = 1) with rfl | rfl
  · rw [show (640 : ℕ) = 576 + 64 from rfl, Finset.sum_range_add, Finset.sum_eq_zero (s := Finset.range 64), add_zero]
    · refine Finset.sum_congr rfl fun r hr => ?_
      have := Finset.mem_range.mp hr
      rw [if_pos (by omega)]; congr 1; omega
    · intro r _
      rw [if_neg (by omega)]
  · rw [show (640 : ℕ) = 64 + 576 from rfl, Finset.sum_range_add, Finset.sum_eq_zero (s := Finset.range 64), zero_add]
    · refine Finset.sum_congr rfl fun r hr => ?_
      have := Finset.mem_range.mp hr
      rw [if_pos (by omega)]
    · intro r hr
      have := Finset.mem_range.mp hr
      rw [if_neg (by omega)]

/-- A sum over the 256 rows of a pair of heads' two chunks of which one head's count. -/
theorem sum_rows (hh : ℕ) (h : hh < 2) (f : ℕ → ℕ → ℝ) :
    ∑ j : Fin 256, (if hh = j.val / 64 % 2 then f (j.val / 128) (j.val % 64) else 0) = (∑ i : Fin 64, f 0 i.val) + ∑ i : Fin 64, f 1 i.val := by
  refine (sum_groups 4 64 (fun j => if hh = j / 64 % 2 then f (j / 128) (j % 64) else 0)).trans ?_
  have e : ∀ (c : Fin 4) (b : Fin 64), (64 * c.val + b.val) / 64 = c.val ∧ (64 * c.val + b.val) / 128 = c.val / 2 ∧ (64 * c.val + b.val) % 64 = b.val :=
    fun c b => by omega
  simp only [e, Fin.sum_univ_four]
  rcases (by omega : hh = 0 ∨ hh = 1) with rfl | rfl <;> simp

end Cert.Attn

end
-- ==== Proof.AttnIndex.lean ====
module
public import Idealize.ShloMosaic.Lib.Pipeline.ValueKit
public import Idealize.ShloMosaic.Lib.Routing.OpsPair

/-! Reading one entry of the attention's gathers, scatters and six-axis sums. -/

@[expose] public section
set_option maxRecDepth 16384
noncomputable section
namespace Cert.Attn
open Idealize.ShloMosaic

/-- The shapes of the chunks behind their padding, of the chunk each band place takes, and of the bands. -/
abbrev Chunks : Shape := ⟨5, ![1, 72, 64, 8, 64]⟩
abbrev Places : Shape := ⟨3, ![64, 9, 1]⟩
abbrev Bands : Shape := ⟨6, ![1, 64, 9, 64, 8, 64]⟩

/-- The gather that takes each chunk's band. -/
abbrev bandDims (wf : GatherDims.WF Chunks Places Bands [0, 3, 4, 5] [1] [] [1] [] 2 ![1, 1, 64, 8, 64]) : GatherDims Chunks Places Bands where
  offsetDims := [0, 3, 4, 5]
  collapsedSliceDims := [1]
  operandBatchingDims := []
  startIndicesBatchingDims := []
  startIndexMap := [1]
  indexVectorDim := 2
  sliceSizes := ![1, 1, 64, 8, 64]
  wf := wf

theorem gather_band {α : Type} (wf) (x : Chunks.Idx → α) (idx : IVec Places 32) (n : Fin 64) (a : Fin 9) (j : Fin 64) (h : Fin 8) (e : Fin 64) (r : Fin 72)
    (hi : (idx (ix3 n a 0)).toInt = r.val) : Host.gather (bandDims wf) x idx (ix6 0 n a j h e) = x (ix5 0 r j h e) := by
  unfold Host.gather
  congr 1
  funext b
  refine Fin.ext ?_
  show (bandDims wf).start (ix6 0 n a j h e) idx b + (bandDims wf).batchCoord (ix6 0 n a j h e) b + (bandDims wf).offCoord (ix6 0 n a j h e) b = _
  rw [GatherDims.batchCoord_eq_zero _ _ _ List.not_mem_nil, Nat.add_zero]
  have hsi : ∀ q, (bandDims wf).siIdx (ix6 0 n a j h e) q = ix3 n a 0 := fun q => by
    funext c; refine Fin.ext ?_
    match c with
    | ⟨0, _⟩ => rfl
    | ⟨1, _⟩ => rfl
    | ⟨2, _⟩ => have := q.isLt; have e : (bandDims wf).startIndexMap.length = 1 := rfl; show q.val = 0; omega
  match b with
  | ⟨0, _⟩ => rfl
  | ⟨1, _⟩ =>
    have h1 : (bandDims wf).start (ix6 0 n a j h e) idx 1 = min (idx (ix3 n a 0)).toInt.toNat 71 := by
      unfold GatherDims.start
      rw [dif_pos (show (1 : Fin 5) ∈ (bandDims wf).startIndexMap from List.mem_singleton.mpr rfl), hsi]
      rfl
    rw [hi, Int.toNat_natCast] at h1
    have := r.isLt
    exact (congrArg (· + 0) h1).trans (by show min r.val 71 + 0 = r.val; omega)
  | ⟨2, _⟩ => show 0 + j.val = j.val; omega
  | ⟨3, _⟩ => show 0 + h.val = h.val; omega
  | ⟨4, _⟩ => show 0 + e.val = e.val; omega

/-- The gather that takes the bias table's entries. -/
abbrev tabDims (wf : GatherDims.WF ⟨2, ![8, 257]⟩ ⟨3, ![64, 576, 1]⟩ ⟨3, ![8, 64, 576]⟩ [0] [1] [] [1] [] 2 ![8, 1]) :
    GatherDims ⟨2, ![8, 257]⟩ ⟨3, ![64, 576, 1]⟩ ⟨3, ![8, 64, 576]⟩ where
  offsetDims := [0]
  collapsedSliceDims := [1]
  operandBatchingDims := []
  startIndicesBatchingDims := []
  startIndexMap := [1]
  indexVectorDim := 2
  sliceSizes := ![8, 1]
  wf := wf

theorem gather_tab {α : Type} (wf) (x : (⟨2, ![8, 257]⟩ : Shape).Idx → α) (idx : IVec ⟨3, ![64, 576, 1]⟩ 32) (h : Fin 8) (i : Fin 64) (a : Fin 576) :
    Host.gather (tabDims wf) x idx (ix3 h i a) = x (ix2 h ⟨min (idx (ix3 i a 0)).toInt.toNat 256, by omega⟩) := by
  unfold Host.gather
  congr 1
  funext b
  refine Fin.ext ?_
  show (tabDims wf).start (ix3 h i a) idx b + (tabDims wf).batchCoord (ix3 h i a) b + (tabDims wf).offCoord (ix3 h i a) b = _
  rw [GatherDims.batchCoord_eq_zero _ _ _ List.not_mem_nil, Nat.add_zero]
  have hsi : ∀ q, (tabDims wf).siIdx (ix3 h i a) q = ix3 i a 0 := fun q => by
    funext c; refine Fin.ext ?_
    match c with
    | ⟨0, _⟩ => rfl
    | ⟨1, _⟩ => rfl
    | ⟨2, _⟩ => have := q.isLt; have e : (tabDims wf).startIndexMap.length = 1 := rfl; show q.val = 0; omega
  match b with
  | ⟨0, _⟩ => show 0 + h.val = h.val; omega
  | ⟨1, _⟩ =>
    have h1 : (tabDims wf).start (ix3 h i a) idx 1 = min (idx (ix3 i a 0)).toInt.toNat 256 := by
      unfold GatherDims.start
      rw [dif_pos (show (1 : Fin 2) ∈ (tabDims wf).startIndexMap from List.mem_singleton.mpr rfl), hsi]
      rfl
    exact congrArg (· + 0) h1

/-- The scatter that adds each band back to its chunks. -/
abbrev bandScat (wf : ScatterDims.WF Chunks Places Bands [0, 3, 4, 5] [1] [1] 2) : ScatterDims Chunks Places Bands where
  updateWindowDims := [0, 3, 4, 5]
  insertedWindowDims := [1]
  scatterDimsToOperandDims := [1]
  indexVectorDim := 2
  wf := wf

theorem lands_band (wf) (idx : IVec Places 32) (z : Fin 1) (n : Fin 64) (a : Fin 9) (j : Fin 64) (h : Fin 8) (e : Fin 64) (R : Fin 72) (j' : Fin 64) (h' : Fin 8) (e' : Fin 64) :
    (bandScat wf).resultIdx? (ix6 z n a j h e) idx = some (ix5 0 R j' h' e') ↔ (idx (ix3 n a 0)).toInt = R.val ∧ j = j' ∧ h = h' ∧ e = e' := by
  have hsi : ∀ q, (bandScat wf).siIdx (ix6 z n a j h e) q = ix3 n a 0 := fun q => by
    funext c; refine Fin.ext ?_
    match c with
    | ⟨0, _⟩ => rfl
    | ⟨1, _⟩ => rfl
    | ⟨2, _⟩ => have := q.isLt; have e : (bandScat wf).scatterDimsToOperandDims.length = 1 := rfl; show q.val = 0; omega
  have h1 : (bandScat wf).start (ix6 z n a j h e) idx 1 = (idx (ix3 n a 0)).toInt := by
    unfold ScatterDims.start
    rw [dif_pos (show (1 : Fin 5) ∈ (bandScat wf).scatterDimsToOperandDims from List.mem_singleton.mpr rfl), hsi]
  rw [Routing.resultIdx?_eq_some]
  constructor
  · intro q
    have q1 : (bandScat wf).start (ix6 z n a j h e) idx 1 + ((0 : ℕ) : Int) = (R.val : Int) := q 1
    have q2 : (0 : Int) + (j.val : Int) = (j'.val : Int) := q 2
    have q3 : (0 : Int) + (h.val : Int) = (h'.val : Int) := q 3
    have q4 : (0 : Int) + (e.val : Int) = (e'.val : Int) := q 4
    rw [h1] at q1
    refine ⟨by simpa using q1, Fin.ext (by omega), Fin.ext (by omega), Fin.ext (by omega)⟩
  · rintro ⟨q, rfl, rfl, rfl⟩ b
    match b with
    | ⟨0, _⟩ => show (0 : Int) + (z.val : Int) = 0; omega
    | ⟨1, _⟩ => exact (congrArg (· + ((0 : ℕ) : Int)) (h1.trans q)).trans (by simp)
    | ⟨2, _⟩ => show (0 : Int) + (j.val : Int) = j.val; omega
    | ⟨3, _⟩ => show (0 : Int) + (h.val : Int) = h.val; omega
    | ⟨4, _⟩ => show (0 : Int) + (e.val : Int) = e.val; omega

/-- An entry of the chunks after the scatter: what it held and the bands' entries that land on it. -/
theorem scatter_band (wf) (x : Chunks.Idx → EReal) (idx : IVec Places 32) (upd : Bands.Idx → EReal) (hi : ∀ n a, (idx (ix3 n a 0)).toInt = ((n.val + a.val : ℕ) : Int))
    (R : Fin 72) (j : Fin 64) (h : Fin 8) (e : Fin 64) :
    Ideal.hostScatterAdd (bandScat wf) x idx upd (ix5 0 R j h e)
      = x (ix5 0 R j h e) + ∑ n : Fin 64, ∑ a : Fin 9, if n.val + a.val = R.val then upd (ix6 0 n a j h e) else 0 := by
  unfold Ideal.hostScatterAdd
  congr 1
  rw [← Finset.sum_product', ← Finset.sum_filter]
  refine (Finset.sum_bij (fun (p : Fin 64 × Fin 9) _ => (ix6 0 p.1 p.2 j h e : Bands.Idx)) ?_ ?_ ?_ ?_).symm
  · rintro ⟨n, a⟩ hp
    have hp := (Finset.mem_filter.mp hp).2
    refine Finset.mem_filter.mpr ⟨Finset.mem_univ _, (lands_band wf idx 0 n a j h e R j h e).mpr ⟨?_, rfl, rfl, rfl⟩⟩
    rw [hi, hp]
  · rintro ⟨n, a⟩ _ ⟨n', a'⟩ _ hq
    exact Prod.ext (congrFun hq 1) (congrFun hq 2)
  · intro i hm
    have hm := (Finset.mem_filter.mp hm).2
    obtain ⟨z, n, a, j₁, h₁, e₁, rfl⟩ : ∃ (z : Fin 1) (n : Fin 64) (a : Fin 9) (j₁ : Fin 64) (h₁ : Fin 8) (e₁ : Fin 64), i = ix6 z n a j₁ h₁ e₁ :=
      ⟨_, _, _, _, _, _, eq_ix6 i⟩
    obtain ⟨h1, rfl, rfl, rfl⟩ := (lands_band wf idx z n a j₁ h₁ e₁ R j h e).mp hm
    rw [hi] at h1
    refine ⟨(n, a), Finset.mem_filter.mpr ⟨Finset.mem_product.mpr ⟨Finset.mem_univ _, Finset.mem_univ _⟩, by exact_mod_cast h1⟩, ?_⟩
    rw [Subsingleton.elim z 0]
  · intro p _; rfl

/-- A sum over the last two of six axes. -/
theorem sum_last_two {n0 n1 n2 n3 n4 n5 : ℕ} (h : (⟨6, ![n0, n1, n2, n3, n4, n5]⟩ : Shape).ReducesTo [4, 5] ⟨4, ![n0, n1, n2, n3]⟩)
    (x : (⟨6, ![n0, n1, n2, n3, n4, n5]⟩ : Shape).Idx → EReal) (init : EReal) (a : Fin n0) (b : Fin n1) (c : Fin n2) (d : Fin n3) :
    Ideal.hostReduceAdd h x init (ix4 a b c d) = init + ∑ e : Fin n4, ∑ f : Fin n5, x (ix6 a b c d e f) := by
  unfold Ideal.hostReduceAdd
  congr 1
  rw [← Finset.sum_product']
  refine (Finset.sum_bij (fun (p : Fin n4 × Fin n5) _ => (ix6 a b c d p.1 p.2 : (⟨6, ![n0, n1, n2, n3, n4, n5]⟩ : Shape).Idx)) ?_ ?_ ?_ ?_).symm
  · intro p _
    refine Finset.mem_filter.mpr ⟨Finset.mem_univ _, funext fun q => Fin.ext ?_⟩
    match q with
    | ⟨0, _⟩ => rfl
    | ⟨1, _⟩ => rfl
    | ⟨2, _⟩ => rfl
    | ⟨3, _⟩ => rfl
  · rintro ⟨n, a⟩ _ ⟨n', a'⟩ _ hq
    exact Prod.ext (congrFun hq 4) (congrFun hq 5)
  · intro i hm
    have hm := (Finset.mem_filter.mp hm).2
    obtain ⟨a', b', c', d', e', f', rfl⟩ : ∃ (a' : Fin n0) (b' : Fin n1) (c' : Fin n2) (d' : Fin n3) (e' : Fin n4) (f' : Fin n5), i = ix6 a' b' c' d' e' f' :=
      ⟨_, _, _, _, _, _, eq_ix6 i⟩
    obtain rfl : a' = a := congrFun hm 0
    obtain rfl : b' = b := congrFun hm 1
    obtain rfl : c' = c := congrFun hm 2
    obtain rfl : d' = d := congrFun hm 3
    exact ⟨(e', f'), Finset.mem_product.mpr ⟨Finset.mem_univ _, Finset.mem_univ _⟩, rfl⟩
  · intro p _; rfl

/-- The largest of finitely many reals, at least one: a real. -/
theorem reduce_max_real {s t u : Shape} {axes : List (Fin s.rank)} (x : s.Idx → EReal) (init : u.Idx → EReal) (h : s.ReducesTo axes t) (hu : 0 < u.numel)
    (hi : init (Shape.Idx.first hu) = ⊥) (hx : ∀ i, ∃ r : ℝ, x i = (r : EReal)) (j : t.Idx) (i : s.Idx) (hj : h.drop i = j) :
    ∃ r : ℝ, Host.reduce (FloatOps.maximumf (F := Ideal) (φ := .f32)) x init h hu j = (r : EReal) := by
  rw [Host.reduce_eq_foldl, hi]
  have key : ∀ (l : List s.Idx) (b : EReal), (b = ⊥ ∨ ∃ r : ℝ, b = (r : EReal)) → (l ≠ [] ∨ ∃ r : ℝ, b = (r : EReal)) →
      ∃ r : ℝ, l.foldl (fun r i => FloatOps.maximumf (F := Ideal) (φ := .f32) r (x i)) b = (r : EReal) := by
    intro l
    induction l with
    | nil => intro b _ h; simpa using h
    | cons q l ih =>
      intro b hb _
      obtain ⟨r, hr⟩ := hx q
      have : ∃ r' : ℝ, FloatOps.maximumf (F := Ideal) (φ := .f32) b (x q) = (r' : EReal) := by
        show ∃ r' : ℝ, max b (x q) = (r' : EReal)
        rcases hb with rfl | ⟨r', rfl⟩
        · exact ⟨r, by rw [hr]; simp⟩
        · exact ⟨max r' r, by rw [hr, EReal.coe_strictMono.monotone.map_max]⟩
      exact ih _ (.inr this) (.inr this)
  refine key _ _ (.inl rfl) (.inl fun hn => ?_)
  have : i ∈ ((List.finRange s.numel).map s.rowMajor.symm).filter fun i => h.drop i = j :=
    List.mem_filter.mpr ⟨List.mem_map.mpr ⟨s.rowMajor i, List.mem_finRange _, s.rowMajor.symm_apply_apply i⟩, by simpa using hj⟩
  rw [hn] at this
  cases this

end Cert.Attn
end
-- ==== Proof.AttnData.lean ====
/- The attention's arguments, arrays of reals, read with natural numbers as indices. -/
module

public import proofs.«01_k».proof.Proof.AttnMath
public import proofs.«01_k».proof.Proof.AttnIndex
public import Idealize.ShloMosaic.Lib.IdealHost

@[expose] public section

noncomputable section

namespace Cert.Attn

open Idealize.ShloMosaic

/-- An entry of a matrix, as a real. -/
def cell {r c : ℕ} (x : (⟨2, ![r, c]⟩ : Shape).Idx → EReal) (i j : ℕ) : ℝ :=
  if h : i < r ∧ j < c then (x (ix2 ⟨i, h.1⟩ ⟨j, h.2⟩)).toReal else 0

/-- Every entry is a real. -/
def Reals {r c : ℕ} (x : (⟨2, ![r, c]⟩ : Shape).Idx → EReal) : Prop := ∀ i j, ∃ t : ℝ, x (ix2 i j) = (t : EReal)

theorem Reals.cell {r c : ℕ} {x : (⟨2, ![r, c]⟩ : Shape).Idx → EReal} (h : Reals x) (i : Fin r) (j : Fin c) :
    x (ix2 i j) = ((cell x i.val j.val : ℝ) : EReal) := by
  obtain ⟨t, ht⟩ := h i j
  unfold Cert.Attn.cell
  rw [dif_pos ⟨i.isLt, j.isLt⟩, ht, EReal.toReal_coe]

theorem Reals.at {r c : ℕ} {x : (⟨2, ![r, c]⟩ : Shape).Idx → EReal} (h : Reals x) (i : Fin r) (j : Fin c) (I J : ℕ) (hi : i.val = I) (hj : j.val = J) :
    x (ix2 i j) = ((Cert.Attn.cell x I J : ℝ) : EReal) := by
  subst hi hj; exact h.cell i j

/-- The distance of row `i` of a chunk from place `a` of its band, clipped to ±128 and moved to start from 0. -/
def dist (i a : ℕ) : BitVec 32 :=
  IntOp.addi (IntOp.minsi 128#32 (IntOp.maxsi 4294967168#32 (IntOp.subi (IntOp.addi (BitVec.ofNat 32 i) 512#32) (BitVec.ofNat 32 a)))) 128#32

/-- The column of the bias table it reads. -/
def column (i a : ℕ) : ℕ :=
  min (Scalar.select (IntOp.cmpi CmpIPredicate.slt (dist i a) 0#32) (IntOp.addi (dist i a) 257#32) (dist i a)).toInt.toNat 256

/-- The word −1e30, a real. -/
def mask : ℝ := (Ideal.ofBits FTy.f32 4048155338#32).toReal

theorem mask_eq : Ideal.ofBits FTy.f32 4048155338#32 = ((mask : ℝ) : EReal) := by
  have : ∃ t : ℝ, Ideal.ofBits FTy.f32 4048155338#32 = (t : EReal) := by
    unfold Ideal.ofBits Ideal.ieee
    dsimp only
    rw [if_neg (by decide), if_neg (by decide)]
    exact ⟨_, rfl⟩
  obtain ⟨t, ht⟩ := this
  unfold mask
  rw [ht, EReal.toReal_coe]

theorem eighth : Ideal.ofBits FTy.f32 1040187392#32 = ((1 / 8 : ℝ) : EReal) := by
  simp [Ideal.ofBits, Ideal.ieee, -EReal.coe_mul]; norm_num

theorem neg_infinity : Ideal.ofBits FTy.f32 4286578688#32 = ⊥ := by simp [Ideal.ofBits, Ideal.ieee]

theorem no_word : FloatOps.sitofp (F := Ideal) FTy.f32 (0#32) = ((0 : ℝ) : EReal) := by
  show (((0#32 : BitVec 32).toInt : ℝ) : EReal) = _
  simp

/-- The arguments' arrays as data. -/
def data (q k v : (⟨2, ![4096, 512]⟩ : Shape).Idx → EReal) (t : (⟨2, ![8, 257]⟩ : Shape).Idx → EReal)
    (g : (⟨2, ![4096, 512]⟩ : Shape).Idx → EReal) : Data :=
  ⟨cell q, cell k, cell v, cell g, fun h i a => cell t h (column i a), mask⟩

/-- A row's exponentials over its largest score, summed, and that score: the logarithm of the plain sum. -/
theorem log_total (t : ℝ) (f : Fin 576 → ℝ) : t + Real.log (∑ a, Real.exp (f a - t)) = Real.log (∑ a, Real.exp (f a)) := by
  have h : ∑ a, Real.exp (f a) = Real.exp t * ∑ a, Real.exp (f a - t) := by
    rw [Finset.mul_sum]; exact Finset.sum_congr rfl fun a _ => by rw [← Real.exp_add]; congr 1; ring
  have hp : 0 < ∑ a, Real.exp (f a - t) := Finset.sum_pos (fun _ _ => Real.exp_pos _) ⟨0, Finset.mem_univ _⟩
  rw [h, Real.log_mul (Real.exp_pos t).ne' hp.ne', Real.log_exp]

/-- The band's places, nine chunks of sixty-four. -/
theorem sum_places (f : ℕ → ℝ) : ∑ a : Fin 9, ∑ b : Fin 64, f (64 * a.val + b.val) = ∑ a : Fin 576, f a.val :=
  (sum_groups 9 64 f).symm

/-- A row's output times its cotangent, summed over the head's columns, is the row's sum of probabilities times their cotangents. -/
theorem delta_eq (D : Data) (n h i : ℕ) :
    ∑ x : Fin 64, (∑ a : Fin 576, D.vp (64 * n + a.val) (64 * h + x.val) * (Real.exp (D.sc n h i a.val) / D.Z n h i))
      * D.g (64 * n + i) (64 * h + x.val) = D.δ n h i := by
  unfold Data.δ Data.dp
  simp only [Finset.sum_mul, Finset.mul_sum]
  rw [Finset.sum_comm]
  refine Finset.sum_congr rfl fun a _ => Finset.sum_congr rfl fun x _ => ?_
  unfold Data.P
  split_ifs with hm
  · ring
  · rw [show D.vp (64 * n + a.val) (64 * h + x.val) = 0 by unfold Data.vp; rw [if_pos (by omega)]]
    ring

/-- A quotient of exponentials does not see what is taken off the exponents. -/
theorem ratio (D : Data) (n h i a : ℕ) (t : ℝ) :
    Real.exp (D.sc n h i a - t) / (∑ b : Fin 576, Real.exp (D.sc n h i b.val - t)) = Real.exp (D.sc n h i a) / D.Z n h i := by
  have e : ∀ b : ℕ, Real.exp (D.sc n h i b - t) = Real.exp (D.sc n h i b) * Real.exp (-t) := fun b => by rw [← Real.exp_add, sub_eq_add_neg]
  simp only [e, ← Finset.sum_mul]
  exact mul_div_mul_right _ _ (Real.exp_pos _).ne'

/-- A quotient of reals, the divisor positive. -/
theorem div_real (a b : ℝ) (hb : 0 < b) : Ideal.div (a : EReal) (b : EReal) = ((a / b : ℝ) : EReal) := by
  rw [Ideal.div_coe hb.ne', ← EReal.coe_mul, one_div, div_eq_mul_inv]

theorem log_real (a : ℝ) (ha : 0 < a) : Ideal.log (a : EReal) = ((Real.log a : ℝ) : EReal) := by
  rw [Ideal.log_coe, if_neg (by linarith)]

end Cert.Attn

end
-- ==== Proof.AttnPre.lean ====
/- Finite arguments: what the precondition says of each array. -/
module

public import proofs.«01_k».proof.Defs
public import proofs.«01_k».proof.Proof.AttnData
public import Idealize.ShloMosaic.Lib.ReduceAll

@[expose] public section

set_option maxRecDepth 16384

noncomputable section

namespace Cert.Attn

open Idealize.ShloMosaic Idealize.ShloMosaic.TcCoe Idealize.SL.Sem
open Cert.Pre_finite Cert.Pre_finite.Facts

/-- An extended real of absolute value below infinity is a real. -/
theorem real_of_lt (x : EReal) (h : max x (-x) < ⊤) : ∃ t : ℝ, x = (t : EReal) := by
  induction x with
  | bot => simp at h
  | coe t => exact ⟨t, rfl⟩
  | top => simp at h

theorem infinity_word : Ideal.ofBits FTy.f32 2139095040#32 = ⊤ := by simp [Ideal.ofBits, Ideal.ieee]

/-- All elements below infinity in absolute value: all are reals. -/
theorem reals_of_all {r c : ℕ} (x : FVec Ideal ⟨2, ![r, c]⟩ .f32) (b : (⟨0, ![]⟩ : Shape).BroadcastsInDim ⟨2, ![r, c]⟩ ![])
    (d : (⟨2, ![r, c]⟩ : Shape).ReducesTo [0, 1] ⟨0, ![]⟩) (u : 0 < (⟨0, ![]⟩ : Shape).numel)
    (h : Host.reduce IntOp.andi (cmpf .olt (Host.absf x) (broadcastInDim ⟨2, ![r, c]⟩ ![] b (constant (F := Ideal) ⟨0, ![]⟩ .f32 0x7F800000#32))) (constantI ⟨0, ![]⟩ 1 1#1) d u ix0 = 1#1) :
    Reals x := fun i j => by
  have e := Host.reduce_andi_all _ _ d u _ h (ix2 i j)
  refine real_of_lt _ ?_
  revert e
  pointwise []
  rw [infinity_word]
  intro e
  have e' : decide (FloatOps.absf (x (ix2 i j)) < (⊤ : EReal)) = true := by
    cases hd : decide (FloatOps.absf (x (ix2 i j)) < (⊤ : EReal)) with
    | true => rfl
    | false => rw [hd] at e; exact absurd e (by decide)
  exact of_decide_eq_true e'

/-- The side conditions of the precondition's operations. -/
instance finite_facts : Cert.Pre_finite.Facts where
  bcast_S_S4096x512 := by decide
  reducesTo_S4096x512_S_d0_1 := by decide
  h_S_ := by decide
  bcast_S_S8x257 := by decide
  reducesTo_S8x257_S_d0_1 := by decide
  bcast_S_S1 := by decide
  concatenates_S1_S1_S1_S1_S1_S5_d0 := by decide
  reducesTo_S5_S_d0 := by decide

variable [Cert.Pre_finite.Facts]

/-- The conjunction of five truth values, as the program writes it. -/
theorem all_five (a b c d e : IVec S_ 1)
    (h : Host.reduce IntOp.andi (concatenate S5 0 [⟨S1, broadcastInDim S1 ![] bcast_S_S1 a⟩, ⟨S1, broadcastInDim S1 ![] bcast_S_S1 b⟩, ⟨S1, broadcastInDim S1 ![] bcast_S_S1 c⟩, ⟨S1, broadcastInDim S1 ![] bcast_S_S1 d⟩, ⟨S1, broadcastInDim S1 ![] bcast_S_S1 e⟩] concatenates_S1_S1_S1_S1_S1_S5_d0) (constantI S_ 1 1#1) reducesTo_S5_S_d0 h_S_ = fun _ => 1#1) :
    a ix0 = 1#1 ∧ b ix0 = 1#1 ∧ c ix0 = 1#1 ∧ d ix0 = 1#1 ∧ e ix0 = 1#1 := by
  have g := fun k : Fin 5 => Host.reduce_andi_all _ _ _ _ _ (congrFun h ix0) (ix1 k)
  refine ⟨(Eq.trans ?_ (g 0)), (Eq.trans ?_ (g 1)), (Eq.trans ?_ (g 2)), (Eq.trans ?_ (g 3)), (Eq.trans ?_ (g 4))⟩ <;> pointwise []

/-- The precondition makes every argument array one of reals. -/
theorem finite_reals (q k v g : FVec Ideal S4096x512 .f32) (t : FVec Ideal S8x257 .f32)
    (h : Cert.Pre_finite.fn (F := Ideal) q k v t g = fun _ => 1#1) : Reals q ∧ Reals k ∧ Reals v ∧ Reals t ∧ Reals g := by
  unfold Cert.Pre_finite.fn Cert.Pre_finite.fn_part1 at h
  dsimp only at h
  obtain ⟨h0, h1, h2, h3, h4⟩ := all_five _ _ _ _ _ h
  exact ⟨reals_of_all q _ _ _ h0, reals_of_all k _ _ _ h1, reals_of_all v _ _ _ h2, reals_of_all t _ _ _ h3, reals_of_all g _ _ _ h4⟩

end Cert.Attn
-- ==== Proof.AttnUnit.lean ====
/- The attention's gradient kernel at the extended reals: what each step of a unit leaves at one element. -/
module

public import proofs.«01_k».proof.Proof.AttnState
public import Idealize.ShloMosaic.Lib.Pipeline.ValueKit
public import Idealize.ShloMosaic.Lib.Claim

@[expose] public section

set_option maxRecDepth 16384

noncomputable section

namespace Cert.KernelAttnIdeal.Att

open Idealize.ShloMosaic Idealize.ShloMosaic.TcCoe Idealize.SL.Sem
open Cert.KernelAttnIdeal Cert.KernelAttnIdeal.Gen

theorem lt64 (n : ℕ) (h : n < 1024) : IntOp.cmpi .slt (BitVec.ofNat 32 n) 64#32 = if n < 64 then 1#1 else 0#1 := by
  rw [show (64#32) = BitVec.ofNat 32 64 from rfl, WordCmp.cmpi_slt_ofNat (by omega) (by omega)]
  by_cases hn : n < 64 <;> simp [hn]

theorem sel_one {α : Type} (a b : α) : Scalar.select 1#1 a b = a := rfl
theorem sel_zero {α : Type} (a b : α) : Scalar.select 0#1 a b = b := rfl
theorem x11 : IntOp.xori 1#1 1#1 = 0#1 := rfl
theorem x10 : IntOp.xori 1#1 0#1 = 1#1 := rfl
theorem x01 : IntOp.xori 0#1 1#1 = 1#1 := rfl
theorem x00 : IntOp.xori 0#1 0#1 = 0#1 := rfl

/-- The query operand of a pair of heads: column `j` holds row `j % 64` of chunk `j / 128` with the features of head `j / 64 % 2`, the other head's features zero. -/
theorem pw_at (x : Vec Ideal S128x128 .bf16) (f : Fin 128) (j : Fin 256) :
    k0_pay14 x (ix2 f j) = if f.val / 64 = j.val / 64 % 2 then x (ix2 f ⟨64 * (j.val / 128) + j.val % 64, by omega⟩) else 0 := by
  pointwise [k0_pay14]
  rw [lt64 f.val (by omega), lt64 j.val (by omega), lt64 (j.val - 128) (by omega)]
  by_cases h1 : f.val < 64 <;> by_cases h2 : j.val < 64 <;> by_cases h3 : j.val < 128 <;> by_cases h4 : j.val - 128 < 64 <;>
    simp only [h1, h2, h3, h4, if_true, if_false, dite_true, dite_false, x11, x10, x01, x00, sel_one, sel_zero] <;>
    first
    | omega
    | exact Eq.trans (congrArg (fun z => x (ix2 f z)) (Fin.ext (by simp only []; omega))) (if_pos (by omega)).symm
    | exact (if_neg (by omega)).symm

theorem pay2_at (kB : Vec Ideal S640x128 .bf16) (x : Vec Ideal S128x128 .bf16) (b : Vec Ideal S1x1x640x256 .f32)
   (l : Vec Ideal S1x1x8x256 .f32) (r : Fin 640) (j : Fin 256) :
    k0_pay2 kB x b l (ix2 r j) = Ideal.exp ((∑ f : Fin 128, kB (ix2 r f) * k0_pay14 x (ix2 f j)) + b (ix4 0 0 r j) - l (ix4 0 0 0 j)) := by
  pointwise [k0_pay2, k0_pay14]

theorem pay15_at (n : BitVec 32) (kB : Vec Ideal S640x128 .bf16) (x : Vec Ideal S128x128 .bf16) (b : Vec Ideal S1x1x640x256 .f32)
   (l : Vec Ideal S1x1x8x256 .f32) (r : Fin 640) (j : Fin 256) :
    k0_pay15 n (k0_pay13 kB) (k0_pay14 x) b l (ix2 r j) = Ideal.exp (Scalar.select (IntOp.cmpi .sge (IntOp.addi n (BitVec.ofNat 32 r.val)) 512#32)
      ((∑ f : Fin 128, kB (ix2 r f) * k0_pay14 x (ix2 f j)) + b (ix4 0 0 r j)) ⊥ - l (ix4 0 0 0 j)) := by
  pointwise [k0_pay15, k0_pay13, k0_pay14]
  rfl

theorem pay6_at (pt : Vec Ideal S640x256 .f32) (vB : Vec Ideal S640x128 .bf16) (x : Vec Ideal S128x128 .bf16)
   (l : Vec Ideal S1x1x8x256 .f32) (r : Fin 640) (j : Fin 256) :
    k0_pay6 pt (k0_pay3 vB) x l (ix2 r j) = pt (ix2 r j) * ((∑ f : Fin 128, vB (ix2 r f) * k0_pay14 x (ix2 f j)) - l (ix4 0 0 0 j)) := by
  pointwise [k0_pay6, k0_pay4, k0_pay3, k0_pay14]

theorem pay4_at (pt : Vec Ideal S640x256 .f32) (vB : Vec Ideal S640x128 .bf16) (x : Vec Ideal S128x128 .bf16)
   (l : Vec Ideal S1x1x8x256 .f32) (r : Fin 640) (j : Fin 256) :
    k0_pay4 pt (k0_pay3 vB) x l (ix2 r j) = pt (ix2 r j) * ((∑ f : Fin 128, vB (ix2 r f) * k0_pay14 x (ix2 f j)) - l (ix4 0 0 0 j)) := by
  pointwise [k0_pay4, k0_pay3, k0_pay14]

theorem pay5_at (pt : Vec Ideal S640x256 .f32) (vB : Vec Ideal S640x128 .bf16) (x : Vec Ideal S128x128 .bf16)
   (l : Vec Ideal S1x1x8x256 .f32) (w : Vec Ideal S1x1x576x128 .f32) (r : Fin 576) (j : Fin 128) :
    k0_pay5 pt (k0_pay3 vB) x l w (ix4 0 0 r j) = w (ix4 0 0 r j) +
      (k0_pay4 pt (k0_pay3 vB) x l (ix2 ⟨r.val, by omega⟩ ⟨j.val, by omega⟩) + k0_pay4 pt (k0_pay3 vB) x l (ix2 ⟨64 + r.val, by omega⟩ ⟨128 + j.val, by omega⟩)) := by
  unfold k0_pay5
  generalize k0_pay4 pt (k0_pay3 vB) x l = y
  pointwise []

theorem pay7_at (ds : FVec Ideal S640x256 .bf16) (kt : Vec Ideal S128x640 .bf16) (s f : Fin 128) :
   k0_pay7 ds kt (ix2 s f) = ∑ r : Fin 640, kt (ix2 f r) * ds (ix2 r ⟨128 * (s.val / 64) + 64 * (f.val / 64) + s.val % 64, by omega⟩) := by
  pointwise [k0_pay7]
  rw [lt64 f.val (by omega), lt64 s.val (by omega)]
  by_cases h1 : f.val < 64 <;> by_cases h2 : s.val < 64 <;> simp only [h1, h2, if_true, if_false, sel_one, sel_zero] <;>
    (refine Finset.sum_congr rfl fun r _ => ?_; congr 3; apply Fin.ext; simp only []; omega)

theorem pay8_at (ds : FVec Ideal S640x256 .bf16) (w : Vec Ideal S640x128 .f32) (q : Vec Ideal S128x128 .bf16) (r : Fin 640) (f : Fin 128) :
   k0_pay8 ds w q (ix2 r f) = w (ix2 r f) + ∑ j : Fin 256, ds (ix2 r j) *
     (if f.val / 64 = j.val / 64 % 2 then q (ix2 ⟨64 * (j.val / 128) + j.val % 64, by omega⟩ f) else 0) := by
  pointwise [k0_pay8]
  rw [lt64 f.val (by omega)]
  congr 1
  refine Finset.sum_congr rfl fun j _ => ?_
  congr 1
  by_cases h1 : f.val < 64 <;> by_cases h2 : j.val < 64 <;> by_cases h3 : j.val - 64 < 64 <;>
    by_cases h4 : j.val - 64 - 64 < 64 <;>
    simp only [h1, h2, h3, h4, if_true, if_false, dite_true, dite_false, sel_one, sel_zero] <;>
    first
    | omega
    | exact Eq.trans (congrArg (fun z => q (ix2 z f)) (Fin.ext (by simp only []; omega))) (if_pos (by omega)).symm
    | exact (if_neg (by omega)).symm

theorem pay76_at (ds : FVec Ideal S640x256 .bf16) (w : Vec Ideal S640x128 .f32) (q : Vec Ideal S128x128 .bf16) (r : Fin 640) (f : Fin 128) :
   k0_pay76 w ds q (ix2 r f) = k0_pay8 ds w q (ix2 r f) := by
  pointwise [k0_pay8, k0_pay76]

theorem pay76_eq (ds : FVec Ideal S640x256 .bf16) (w : Vec Ideal S640x128 .f32) (q : Vec Ideal S128x128 .bf16) : k0_pay76 w ds q = k0_pay8 ds w q := by
  funext i
  have e : i = ix2 (i 0) (i 1) := by funext a; fin_cases a <;> rfl
  rw [e]
  exact pay76_at _ _ _ _ _

theorem pay9_at (ds : FVec Ideal S640x256 .f32) (i) : k0_pay9 ds i = ds i := by
  pointwise [k0_pay9]
theorem pay1_at (ds : FVec Ideal S4608x128 .f32) (i : S4608x128.Idx) : k0_pay1 (F := Ideal) ds i = ds i := by
  pointwise [k0_pay1]
theorem pay10_at (i) : k0_pay10 (F := Ideal) i = 0 := by
  pointwise [k0_pay10]
theorem pay11_at (i) : k0_pay11 (F := Ideal) i = 0 := by
  pointwise [k0_pay11]
theorem pay12_at (i) : k0_pay12 (F := Ideal) i = 0 := by
  pointwise [k0_pay12]
end Cert.KernelAttnIdeal.Att

end
-- ==== Proof.AttnPair.lean ====
/- What the attention's gradient kernel leaves for one pair of heads, over the reals: the gradients of `AttnMath`. -/
module

public import proofs.«01_k».proof.Proof.AttnUnit
public import proofs.«01_k».proof.Proof.AttnMath

@[expose] public section

set_option maxRecDepth 16384

noncomputable section

namespace Cert.KernelAttnIdeal.Att

open Idealize.ShloMosaic Idealize.ShloMosaic.TcCoe Idealize.ShloMosaic.VecWindow
open Cert.KernelAttnIdeal Cert.KernelAttnIdeal.Gen Cert.Attn

theorem unit_val {s : Shape} (off size : Fin s.rank → ℕ) (inb : ∀ a, off a + size a ≤ s.size a) (y : (Rect.unit off size inb).shape.Idx)
    (a : Fin s.rank) : ((Rect.unit off size inb).emb y a).val = off a + (y a).val := by
  show off a + 1 * (y a).val = _
  rw [Nat.one_mul]

/-- The blocks of pair `p`, read as the problem's arrays. -/
structure Reads (A : In Ideal) (D : Data) (p : ℕ) : Prop where
  q : ∀ (s : Fin 4096) (f : Fin 128), A.q (ix2 s f) = ((D.q s.val (128 * p + f.val) * (1 / 8) : ℝ) : EReal)
  qt : ∀ (f : Fin 128) (s : Fin 4096), A.qt (ix2 f s) = ((D.q s.val (128 * p + f.val) * (1 / 8) : ℝ) : EReal)
  k : ∀ (s : Fin 4608) (f : Fin 128), A.k (ix2 s f) = ((D.kp s.val (128 * p + f.val) : ℝ) : EReal)
  kt : ∀ (f : Fin 128) (s : Fin 4608), A.kt (ix2 f s) = ((D.kp s.val (128 * p + f.val) : ℝ) : EReal)
  v : ∀ (s : Fin 4608) (f : Fin 128), A.v (ix2 s f) = ((D.vp s.val (128 * p + f.val) : ℝ) : EReal)
  bias : ∀ (r : Fin 640) (j : Fin 256), A.bias (ix4 0 0 r j) =
    if 64 * (j.val / 128) ≤ r.val ∧ r.val < 64 * (j.val / 128) + 576 then
      ((D.tab (2 * p + j.val / 64 % 2) (j.val % 64) (r.val - 64 * (j.val / 128)) : ℝ) : EReal) else ⊥
  ct : ∀ (s : Fin 4096) (f : Fin 128), A.ct (ix2 s f) = ((D.g s.val (128 * p + f.val) : ℝ) : EReal)
  ctt : ∀ (f : Fin 128) (s : Fin 4096), A.ctt (ix2 f s) = ((D.g s.val (128 * p + f.val) : ℝ) : EReal)
  lse : ∀ (u : Fin 32) (e : Fin 8) (j : Fin 256), A.lse (ix4 0 u e j) =
    ((Real.log (D.Z (2 * u.val + j.val / 128) (2 * p + j.val / 64 % 2) (j.val % 64)) : ℝ) : EReal)
  dl : ∀ (u : Fin 32) (e : Fin 8) (j : Fin 256), A.dl (ix4 0 u e j) =
    ((D.δ (2 * u.val + j.val / 128) (2 * p + j.val / 64 % 2) (j.val % 64) : ℝ) : EReal)

namespace Reads

variable {A : In Ideal} {D : Data} {p : ℕ} (H : Reads A D p) (u : Fin 32)
include H

/-! ## The unit's windows -/

theorem qB (s f : Fin 128) : A.qB u (ix2 s f) = ((D.q (128 * u.val + s.val) (128 * p + f.val) * (1 / 8) : ℝ) : EReal) := by
  rw [← H.q ⟨128 * u.val + s.val, by omega⟩ f]
  refine congrArg A.q (funext fun a => Fin.ext ((unit_val _ _ _ _ a).trans ?_))
  fin_cases a
  · rfl
  · show 0 + f.val = f.val; omega

theorem qtB (f s : Fin 128) : A.qtB u (ix2 f s) = ((D.q (128 * u.val + s.val) (128 * p + f.val) * (1 / 8) : ℝ) : EReal) := by
  rw [← H.qt f ⟨128 * u.val + s.val, by omega⟩]
  refine congrArg A.qt (funext fun a => Fin.ext ((unit_val _ _ _ _ a).trans ?_))
  fin_cases a
  · show 0 + f.val = f.val; omega
  · rfl

theorem kB (r : Fin 640) (f : Fin 128) : A.kB u (ix2 r f) = ((D.kp (128 * u.val + r.val) (128 * p + f.val) : ℝ) : EReal) := by
  rw [← H.k ⟨128 * u.val + r.val, by omega⟩ f]
  refine congrArg A.k (funext fun a => Fin.ext ((unit_val _ _ _ _ a).trans ?_))
  fin_cases a
  · rfl
  · show 0 + f.val = f.val; omega

theorem ktB (f : Fin 128) (r : Fin 640) : A.ktB u (ix2 f r) = ((D.kp (128 * u.val + r.val) (128 * p + f.val) : ℝ) : EReal) := by
  rw [← H.kt f ⟨128 * u.val + r.val, by omega⟩]
  refine congrArg A.kt (funext fun a => Fin.ext ((unit_val _ _ _ _ a).trans ?_))
  fin_cases a
  · show 0 + f.val = f.val; omega
  · rfl

theorem vB (r : Fin 640) (f : Fin 128) : A.vB u (ix2 r f) = ((D.vp (128 * u.val + r.val) (128 * p + f.val) : ℝ) : EReal) := by
  rw [← H.v ⟨128 * u.val + r.val, by omega⟩ f]
  refine congrArg A.v (funext fun a => Fin.ext ((unit_val _ _ _ _ a).trans ?_))
  fin_cases a
  · rfl
  · show 0 + f.val = f.val; omega

theorem ctB (s f : Fin 128) : A.ctB u (ix2 s f) = ((D.g (128 * u.val + s.val) (128 * p + f.val) : ℝ) : EReal) := by
  rw [← H.ct ⟨128 * u.val + s.val, by omega⟩ f]
  refine congrArg A.ct (funext fun a => Fin.ext ((unit_val _ _ _ _ a).trans ?_))
  fin_cases a
  · rfl
  · show 0 + f.val = f.val; omega

theorem cttB (f s : Fin 128) : A.cttB u (ix2 f s) = ((D.g (128 * u.val + s.val) (128 * p + f.val) : ℝ) : EReal) := by
  rw [← H.ctt f ⟨128 * u.val + s.val, by omega⟩]
  refine congrArg A.ctt (funext fun a => Fin.ext ((unit_val _ _ _ _ a).trans ?_))
  fin_cases a
  · show 0 + f.val = f.val; omega
  · rfl

theorem lseB (j : Fin 256) : A.lseB u (ix4 0 0 0 j) =
    ((Real.log (D.Z (2 * u.val + j.val / 128) (2 * p + j.val / 64 % 2) (j.val % 64)) : ℝ) : EReal) := by
  rw [← H.lse u 0 j]
  refine congrArg A.lse (funext fun a => Fin.ext ((unit_val _ _ _ _ a).trans ?_))
  fin_cases a
  · rfl
  · rfl
  · rfl
  · show 0 + j.val = j.val; omega

theorem dlB (j : Fin 256) : A.dlB u (ix4 0 0 0 j) =
    ((D.δ (2 * u.val + j.val / 128) (2 * p + j.val / 64 % 2) (j.val % 64) : ℝ) : EReal) := by
  rw [← H.dl u 0 j]
  refine congrArg A.dl (funext fun a => Fin.ext ((unit_val _ _ _ _ a).trans ?_))
  fin_cases a
  · rfl
  · rfl
  · rfl
  · show 0 + j.val = j.val; omega

omit H in
/-- A product of a band's row with a column of the pair's query operand: one head's features. -/
theorem dot_pair (a : Fin 128 → EReal) (x : Vec Ideal S128x128 .bf16) (j : Fin 256) (f g : ℕ → ℝ)
    (ha : ∀ e : Fin 128, a e = ((f e.val : ℝ) : EReal))
    (hx : ∀ e : Fin 128, x (ix2 e ⟨64 * (j.val / 128) + j.val % 64, by omega⟩) = ((g e.val : ℝ) : EReal)) :
    ∑ e : Fin 128, a e * k0_pay14 x (ix2 e j)
      = ((∑ d : Fin 64, f (64 * (j.val / 64 % 2) + d.val) * g (64 * (j.val / 64 % 2) + d.val) : ℝ) : EReal) := by
  rw [← sum_head (j.val / 64 % 2) (by omega) (fun y => f y * g y), ← coe_sum]
  refine Finset.sum_congr rfl fun e _ => ?_
  rw [pw_at, ha, hx]
  by_cases h : e.val / 64 = j.val / 64 % 2
  · rw [if_pos h, if_pos h, EReal.coe_mul]
  · rw [if_neg h, if_neg h, mul_zero]; rfl

/-! ## The probabilities and the scores' cotangent -/

/-- The scores' products. -/
theorem score (r : Fin 640) (j : Fin 256) : ∑ f : Fin 128, A.kB u (ix2 r f) * k0_pay14 (A.qtB u) (ix2 f j)
    = (((∑ d : Fin 64, D.q (64 * (2 * u.val + j.val / 128) + j.val % 64) (64 * (2 * p + j.val / 64 % 2) + d.val)
        * D.kp (128 * u.val + r.val) (64 * (2 * p + j.val / 64 % 2) + d.val)) * (1 / 8) : ℝ) : EReal) := by
  rw [dot_pair (fun f => A.kB u (ix2 r f)) (A.qtB u) j (fun e => D.kp (128 * u.val + r.val) (128 * p + e))
    (fun e => D.q (128 * u.val + (64 * (j.val / 128) + j.val % 64)) (128 * p + e) * (1 / 8)) (fun e => H.kB u r e) (fun e => H.qtB u e _)]
  congr 1
  rw [Finset.sum_mul]
  refine Finset.sum_congr rfl fun d _ => ?_
  rw [show 64 * (2 * u.val + j.val / 128) + j.val % 64 = 128 * u.val + (64 * (j.val / 128) + j.val % 64) by omega,
    show 64 * (2 * p + j.val / 64 % 2) + d.val = 128 * p + (64 * (j.val / 64 % 2) + d.val) by omega]
  ring

theorem exp_sub_log (n h i : ℕ) (x : ℝ) :
    Ideal.exp (((x : ℝ) : EReal) - ((Real.log (D.Z n h i) : ℝ) : EReal)) = ((Real.exp x / D.Z n h i : ℝ) : EReal) := by
  rw [← EReal.coe_sub, Ideal.exp_coe, Real.exp_sub, Real.exp_log (D.Z_pos n h i)]

theorem pt (r : Fin 640) (j : Fin 256) : A.pt u (ix2 r j)
    = ((Data.atRow D.P (2 * u.val + j.val / 128) (2 * p + j.val / 64 % 2) (j.val % 64) (128 * u.val + r.val) : ℝ) : EReal) := by
  have hb := H.bias r j
  have hs := H.score u r j
  have hl := H.lseB u j
  have hw : A.pt u (ix2 r j) = Ideal.exp ((if 512 ≤ 128 * u.val + r.val then
      (∑ f : Fin 128, A.kB u (ix2 r f) * k0_pay14 (A.qtB u) (ix2 f j)) + A.bias (ix4 0 0 r j) else ⊥) - A.lseB u (ix4 0 0 0 j)) := by
    unfold In.pt
    by_cases hu : u.val < 4
    · rw [if_pos hu, pay15_at]
      congr 2
      rw [show IntOp.addi (BitVec.ofNat 32 (128 * u.val)) (BitVec.ofNat 32 r.val) = BitVec.ofNat 32 (128 * u.val + r.val) from
          (BitVec.ofNat_add ..).symm, show (512#32) = BitVec.ofNat 32 512 from rfl,
        WordCmp.cmpi_sge_ofNat (by omega) (by omega)]
      by_cases hr : 512 ≤ 128 * u.val + r.val
      · rw [if_pos hr, decide_eq_true hr]; rfl
      · rw [if_neg hr, decide_eq_false hr]; rfl
    · rw [if_neg hu, if_pos (by omega), pay2_at]
  rw [hw]
  unfold Data.atRow Data.P Data.sc
  by_cases hin : 64 * (j.val / 128) ≤ r.val ∧ r.val < 64 * (j.val / 128) + 576
  · rw [if_pos hin] at hb
    rw [if_pos (show 64 * (2 * u.val + j.val / 128) ≤ 128 * u.val + r.val ∧
      128 * u.val + r.val < 64 * (2 * u.val + j.val / 128) + 576 by omega), show 64 * (2 * u.val + j.val / 128) + (128 * u.val + r.val - 64 * (2 * u.val + j.val / 128)) = 128 * u.val + r.val by omega]
    by_cases hr : 512 ≤ 128 * u.val + r.val
    · rw [if_pos hr, if_pos hr, if_pos hr, hs, hb, hl, ← EReal.coe_add, H.exp_sub_log]
      rw [show 128 * u.val + r.val - 64 * (2 * u.val + j.val / 128) = r.val - 64 * (j.val / 128) by omega]
    · rw [if_neg hr, if_neg hr, hl]
      simp
  · rw [if_neg hin] at hb
    rw [hb, hl, EReal.add_bot, ite_self, if_neg (show ¬(64 * (2 * u.val + j.val / 128) ≤ 128 * u.val + r.val ∧
      128 * u.val + r.val < 64 * (2 * u.val + j.val / 128) + 576) by omega)]
    simp

theorem cot (r : Fin 640) (j : Fin 256) : (∑ f : Fin 128, A.vB u (ix2 r f) * k0_pay14 (A.cttB u) (ix2 f j))
    = (((∑ d : Fin 64, D.g (64 * (2 * u.val + j.val / 128) + j.val % 64) (64 * (2 * p + j.val / 64 % 2) + d.val)
        * D.vp (128 * u.val + r.val) (64 * (2 * p + j.val / 64 % 2) + d.val)) : ℝ) : EReal) := by
  rw [dot_pair (fun f => A.vB u (ix2 r f)) (A.cttB u) j (fun e => D.vp (128 * u.val + r.val) (128 * p + e))
    (fun e => D.g (128 * u.val + (64 * (j.val / 128) + j.val % 64)) (128 * p + e)) (fun e => H.vB u r e) (fun e => H.cttB u e _)]
  congr 1
  refine Finset.sum_congr rfl fun d _ => ?_
  rw [show 64 * (2 * u.val + j.val / 128) + j.val % 64 = 128 * u.val + (64 * (j.val / 128) + j.val % 64) by omega,
    show 64 * (2 * p + j.val / 64 % 2) + d.val = 128 * p + (64 * (j.val / 64 % 2) + d.val) by omega]
  ring

theorem ds (r : Fin 640) (j : Fin 256) : k0_pay4 (A.pt u) (k0_pay3 (A.vB u)) (A.cttB u) (A.dlB u) (ix2 r j)
    = ((Data.atRow D.dS (2 * u.val + j.val / 128) (2 * p + j.val / 64 % 2) (j.val % 64) (128 * u.val + r.val) : ℝ) : EReal) := by
  rw [pay4_at, H.pt, H.cot, H.dlB, ← EReal.coe_sub, ← EReal.coe_mul]
  congr 1
  unfold Data.atRow Data.dS Data.dp
  by_cases hin : 64 * (2 * u.val + j.val / 128) ≤ 128 * u.val + r.val ∧ 128 * u.val + r.val < 64 * (2 * u.val + j.val / 128) + 576
  · rw [if_pos hin, if_pos hin, show 64 * (2 * u.val + j.val / 128) + (128 * u.val + r.val - 64 * (2 * u.val + j.val / 128)) = 128 * u.val + r.val by omega]
  · rw [if_neg hin, if_neg hin, zero_mul]

theorem dsb (r : Fin 640) (j : Fin 256) : A.dsb u (ix2 r j)
    = ((Data.atRow D.dS (2 * u.val + j.val / 128) (2 * p + j.val / 64 % 2) (j.val % 64) (128 * u.val + r.val) : ℝ) : EReal) := by
  rw [← H.ds u r j]
  unfold In.dsb
  rw [pay6_at, pay4_at]

/-! ## The gradients -/

theorem DQ (s : Fin 4096) (f : Fin 128) : A.DQ (ix2 s f) = ((D.dq s.val (128 * p + f.val) : ℝ) : EReal) := by
  have hr : In.rowOf (ix2 s f) = ix2 ⟨s.val % 128, by omega⟩ f := by
    funext a
    refine Fin.ext ?_
    fin_cases a
    · show s.val - 128 * (s.val / 128) = s.val % 128; omega
    · show f.val - 0 = f.val; omega
  have hu : (In.unitOf (ix2 s f)).val = s.val / 128 := rfl
  unfold In.DQ In.dqU
  rw [hr, pay7_at]
  generalize In.unitOf (ix2 s f) = u at hu
  unfold Data.dq
  have h64 : 64 * (s.val / 64) = 128 * u.val + 64 * (s.val % 128 / 64) := by omega
  have hsum := sum_band (s.val % 128 / 64) (by omega) fun r => D.kp (128 * u.val + r) (128 * p + f.val)
    * D.dS (s.val / 64) ((128 * p + f.val) / 64) (s.val % 64) (128 * u.val + r - 64 * (s.val / 64))
  rw [show (∑ a : Fin 576, D.dS (s.val / 64) ((128 * p + f.val) / 64) (s.val % 64) a.val * D.kp (64 * (s.val / 64) + a.val) (128 * p + f.val))
      = ∑ a : Fin 576, D.kp (128 * u.val + (64 * (s.val % 128 / 64) + a.val)) (128 * p + f.val)
        * D.dS (s.val / 64) ((128 * p + f.val) / 64) (s.val % 64) (128 * u.val + (64 * (s.val % 128 / 64) + a.val) - 64 * (s.val / 64)) from
    Finset.sum_congr rfl fun a _ => by
      rw [h64, ← Nat.add_assoc, Nat.add_sub_cancel_left, mul_comm], ← hsum, ← coe_sum]
  refine Finset.sum_congr rfl fun r _ => ?_
  rw [H.ktB, H.dsb, ← EReal.coe_mul]
  congr 1
  unfold Data.atRow
  simp only []
  rw [show (128 * (s.val % 128 / 64) + 64 * (f.val / 64) + s.val % 128 % 64) / 128 = s.val % 128 / 64 by omega,
    show (128 * (s.val % 128 / 64) + 64 * (f.val / 64) + s.val % 128 % 64) / 64 % 2 = f.val / 64 by omega,
    show (128 * (s.val % 128 / 64) + 64 * (f.val / 64) + s.val % 128 % 64) % 64 = s.val % 64 by omega,
    show 2 * u.val + s.val % 128 / 64 = s.val / 64 by omega, show (128 * p + f.val) / 64 = 2 * p + f.val / 64 by omega]
  by_cases hin : 64 * (s.val % 128 / 64) ≤ r.val ∧ r.val < 64 * (s.val % 128 / 64) + 576
  · rw [if_pos hin, if_pos (by omega)]
  · rw [if_neg hin, if_neg (by omega), mul_zero]

omit H in
/-- A buffer the units add to, band by band: after `n` units it holds the first `2 n` chunks' sums. -/
theorem bands (acc : ℕ → Vec Ideal S4608x128 .f32) (W : Fin 32 → FVec Ideal S640x256 .bf16) (Q : Fin 32 → Vec Ideal S128x128 .bf16)
    (f : ℕ → ℕ → ℕ → ℕ → ℝ) (x : ℕ → ℕ → ℝ) (h0 : ∀ i, acc 0 i = 0)
    (hs : ∀ u : Fin 32, acc (u.val + 1) = put (acc u.val) ![128 * u.val, 0] S640x128.size
      (k0_pay8 (W u) (window (acc u.val) ![128 * u.val, 0] S640x128.size (inb_band u)) (Q u)))
    (hW : ∀ u r j, W u (ix2 r j) = ((Data.atRow f (2 * u.val + j.val / 128) (2 * p + j.val / 64 % 2) (j.val % 64) (128 * u.val + r.val) : ℝ) : EReal))
    (hQ : ∀ u s e, Q u (ix2 s e) = ((x (128 * u.val + s.val) (128 * p + e.val) : ℝ) : EReal)) (n : ℕ) (hn : n ≤ 32) (R : Fin 4608) (e : Fin 128) :
    acc n (ix2 R e) = ((∑ m ∈ Finset.range (2 * n), ∑ i : Fin 64, Data.atRow f m ((128 * p + e.val) / 64) i.val R.val
      * x (64 * m + i.val) (128 * p + e.val) : ℝ) : EReal) := by
  induction n with
  | zero => rw [h0]; rfl
  | succ n ih =>
    have ih := ih (by omega)
    rw [show 2 * (n + 1) = 2 * n + 1 + 1 by omega, Finset.sum_range_succ, Finset.sum_range_succ]
    rw [hs ⟨n, by omega⟩]
    unfold put
    by_cases hm : ∀ a, (![128 * n, 0] : Fin 2 → ℕ) a ≤ ((ix2 R e : S4608x128.Idx) a).val ∧
        ((ix2 R e : S4608x128.Idx) a).val < (![128 * n, 0] : Fin 2 → ℕ) a + S640x128.size a
    · have hR : 128 * n ≤ R.val ∧ R.val < 128 * n + 640 := hm 0
      rw [dif_pos hm]
      have hl : Rect.unitLocal (s := S4608x128) (off := ![128 * n, 0]) (size := S640x128.size) (ix2 R e) hm
          = (ix2 ⟨R.val - 128 * n, by omega⟩ e : S640x128.Idx) := by
        funext a
        refine Fin.ext ?_
        fin_cases a
        · rfl
        · show e.val - 0 = e.val; omega
      rw [hl, pay8_at]
      have hw : window (acc n) ![128 * n, 0] S640x128.size (inb_band ⟨n, by omega⟩) (ix2 ⟨R.val - 128 * n, by omega⟩ e) = acc n (ix2 R e) := by
        refine congrArg (acc n) (funext fun a => Fin.ext ((unit_val _ _ _ _ a).trans ?_))
        fin_cases a
        · show 128 * n + (R.val - 128 * n) = R.val; omega
        · show 0 + e.val = e.val; omega
      rw [hw, ih, add_assoc, EReal.coe_add]
      congr 1
      have hsum := sum_rows (e.val / 64) (by omega) fun c i =>
        Data.atRow f (2 * n + c) ((128 * p + e.val) / 64) i R.val * x (64 * (2 * n + c) + i) (128 * p + e.val)
      simp only [Nat.add_zero] at hsum
      rw [← hsum, ← coe_sum]
      refine Finset.sum_congr rfl fun j _ => ?_
      rw [hW, hQ]
      by_cases hj : e.val / 64 = j.val / 64 % 2
      · rw [if_pos hj, if_pos hj, ← EReal.coe_mul]
        simp only []
        rw [← hj, show 128 * n + (R.val - 128 * n) = R.val by omega, show (128 * p + e.val) / 64 = 2 * p + e.val / 64 by omega,
          show 128 * n + (64 * (j.val / 128) + j.val % 64) = 64 * (2 * n + j.val / 128) + j.val % 64 by omega]
      · rw [if_neg hj, if_neg hj, mul_zero]; rfl
    · rw [dif_neg hm, ih]
      have hR : R.val < 128 * n ∨ 128 * n + 640 ≤ R.val := by
        by_contra hc
        refine hm (Fin.forall_fin_two.mpr ⟨⟨show 128 * n ≤ R.val by omega, show R.val < 128 * n + 640 by omega⟩, ⟨Nat.zero_le _, ?_⟩⟩)
        show e.val < 0 + 128; omega
      have hz : ∀ m, 2 * n ≤ m → m < 2 * n + 2 → (∑ i : Fin 64, Data.atRow f m ((128 * p + e.val) / 64) i.val R.val
          * x (64 * m + i.val) (128 * p + e.val)) = 0 := fun m h1 h2 => Finset.sum_eq_zero fun i _ => by
        unfold Data.atRow
        rw [if_neg (by omega), zero_mul]
      rw [hz _ (le_refl _) (by omega), hz _ (by omega) (by omega), add_zero, add_zero]

theorem DK (R : Fin 4608) (e : Fin 128) : A.DK 32 (ix2 R e) = ((D.dk R.val (128 * p + e.val) : ℝ) : EReal) := by
  rw [bands A.DK A.dsb A.qB D.dS (fun s j => D.q s j * (1 / 8)) (fun i => pay10_at i) (fun u => A.DK_succ u) (fun u => H.dsb u)
    (fun u => H.qB u) 32 (le_refl _) R e]
  unfold Data.dk
  rw [Finset.sum_range]

theorem DV (R : Fin 4608) (e : Fin 128) : A.DV 32 (ix2 R e) = ((D.dv R.val (128 * p + e.val) : ℝ) : EReal) := by
  rw [bands A.DV (fun u => k0_pay9 (A.pt u)) A.ctB D.P D.g (fun i => pay11_at i) (fun u => (A.DV_succ u).trans (congrArg (put (A.DV u.val) _ _) (pay76_eq _ _ _)))
    (fun u r j => (pay9_at _ _).trans (H.pt u r j)) (fun u => H.ctB u) 32 (le_refl _) R e]
  unfold Data.dv
  rw [Finset.sum_range]

theorem DB_upto (n : ℕ) (hn : n ≤ 32) (a : Fin 576) (j : Fin 128) : A.DB n (ix4 0 0 a j)
    = ((∑ m ∈ Finset.range (2 * n), D.dS m (2 * p + j.val / 64) (j.val % 64) a.val : ℝ) : EReal) := by
  induction n with
  | zero => exact pay12_at _
  | succ n ih =>
    rw [show 2 * (n + 1) = 2 * n + 1 + 1 by omega, Finset.sum_range_succ, Finset.sum_range_succ]
    rw [A.DB_succ ⟨n, by omega⟩]
    unfold In.dbN
    rw [pay5_at, ih (by omega), H.ds, H.ds, ← EReal.coe_add, ← EReal.coe_add, ← add_assoc]
    congr 2
    · congr 1
      unfold Data.atRow
      simp only []
      rw [if_pos (by omega), show j.val / 128 = 0 by omega, show j.val / 64 % 2 = j.val / 64 by omega]
      congr 1; omega
    · unfold Data.atRow
      simp only []
      rw [if_pos (by omega), show (128 + j.val) / 128 = 1 by omega, show (128 + j.val) / 64 % 2 = j.val / 64 by omega,
        show (128 + j.val) % 64 = j.val % 64 by omega]
      congr 1; omega

theorem DB (a : Fin 576) (j : Fin 128) : A.DB 32 (ix4 0 0 a j) = ((D.db (2 * p + j.val / 64) (j.val % 64) a.val : ℝ) : EReal) := by
  rw [H.DB_upto 32 (le_refl _)]
  unfold Data.db
  rw [Finset.sum_range]

end Reads

end Cert.KernelAttnIdeal.Att

end
-- ==== Proof.AttnHost.lean ====
/- What the program's host lines hand the attention's gradient kernel, entry by entry. -/
module

public import proofs.«01_k».proof.Proof.AttnFrame
public import proofs.«01_k».proof.Proof.AttnPair
public import proofs.«01_k».proof.Proof.AttnData
public import Idealize.ShloMosaic.Lib.Claim
public import Idealize.ShloMosaic.Lib.Pipeline.ValueKit

@[expose] public section

set_option maxRecDepth 16384

noncomputable section

namespace Cert.KernelAttnIdeal.Att

open Idealize.ShloMosaic Idealize.ShloMosaic.TcCoe Idealize.SL.Sem
open Cert.KernelAttnIdeal Cert.KernelAttnIdeal.Gen Cert.Attn

variable (W : Valuation τ sig (Elt Ideal))

/-- The host lines in three parts: the bands and distances; the scores; the saved sums and the arguments' layouts. -/
abbrev early : List (HloOp τ sig (Elt Ideal)) := [hostOps0, hostOps0_1, hostOps0_2, hostOps0_3, hostOps0_4].flatten
abbrev middle : List (HloOp τ sig (Elt Ideal)) := [hostOps0_5, hostOps0_6, hostOps0_7].flatten
abbrev late : List (HloOp τ sig (Elt Ideal)) :=
  [hostOps0_8, hostOps0_9, hostOps0_10, hostOps0_11, hostOps0_12, hostOps0_13, hostOps0_14, hostOps0_15, hostOps0_16].flatten

/-- The program's arguments. -/
abbrev qA : FVec Ideal S4096x512 .f32 := W (Proc.tc.devRef main_arg0)
abbrev kA : FVec Ideal S4096x512 .f32 := W (Proc.tc.devRef main_arg1)
abbrev vA : FVec Ideal S4096x512 .f32 := W (Proc.tc.devRef main_arg2)
abbrev tA : FVec Ideal S8x257 .f32 := W (Proc.tc.devRef main_arg3)
abbrev gA : FVec Ideal S4096x512 .f32 := W (Proc.tc.devRef main_arg4)

/-- The queries by head, and the keys' bands. -/
abbrev hq : FVec Ideal S1x4096x8x64 .f32 := W (Proc.tc.devRef main_v0)
abbrev hk : FVec Ideal S1x64x9x64x8x64 .f32 := W (Proc.tc.devRef main_v18)
abbrev hv : FVec Ideal S1x64x9x64x8x64 .f32 := W (Proc.tc.devRef main_v36)
abbrev hs : FVec Ideal S1x64x8x64x9x64 .f32 := W (Proc.tc.devRef main_v67)

abbrev dat : Data := data (qA W) (kA W) (vA W) (tA W) (gA W)

/-- They are reals. -/
structure Fine : Prop where
  q : Reals (qA W)
  k : Reals (kA W)
  v : Reals (vA W)
  t : Reals (tA W)
  g : Reals (gA W)

theorem band_word : ∀ (n : Fin 64) (a : Fin 9), BitVec.toInt
    (Scalar.select (IntOp.cmpi CmpIPredicate.slt (IntOp.addi (BitVec.ofNat 32 n.val) (BitVec.ofNat 32 a.val)) 0#32)
      (IntOp.addi (IntOp.addi (BitVec.ofNat 32 n.val) (BitVec.ofNat 32 a.val)) 72#32)
      (IntOp.addi (BitVec.ofNat 32 n.val) (BitVec.ofNat 32 a.val))) = ((n.val + a.val : ℕ) : Int) := by decide +kernel

theorem valid_word : ∀ (n : Fin 64) (a : Fin 9),
    IntOp.cmpi CmpIPredicate.sge (IntOp.addi (BitVec.ofNat 32 n.val) (BitVec.ofNat 32 a.val)) 8#32 = if 8 ≤ n.val + a.val then 1#1 else 0#1 := by
  decide +kernel

/-- An entry of a padded array, as the problem's padded rows hold it. -/
theorem padded {x : FVec Ideal S4096x512 .f32} (hx : Reals x) (P : Prop) [Decidable P] (i : P → Fin 4096) (j : Fin 512) (R J : ℕ) (hP : P ↔ 512 ≤ R)
    (hi : ∀ p, (i p).val = R - 512) (hj : j.val = J) :
    (if h : P then x (ix2 (i h) j) else FloatOps.sitofp (F := Ideal) FTy.f32 0#32) = (((if R < 512 then 0 else cell x (R - 512) J) : ℝ) : EReal) := by
  by_cases h : P
  · rw [dif_pos h, if_neg (by have := hP.mp h; omega)]
    exact hx.at _ _ _ _ (hi h) hj
  · rw [dif_neg h, if_pos (by have := mt hP.mpr h; omega)]
    exact no_word

section Early
variable {W} (H : Fine W)
include H

set_option maxHeartbeats 2000000 in
theorem kb (n : Fin 64) (a : Fin 9) (j : Fin 64) (h : Fin 8) (e : Fin 64) :
    (StableHlo.after early W (Proc.tc.devRef main_v18) : FVec Ideal S1x64x9x64x8x64 .f32) (ix6 0 n a j h e)
      = (((dat W).kp (64 * n.val + (64 * a.val + j.val)) (64 * h.val + e.val) : ℝ) : EReal) := by
  simp only [hostOps0, hostOps0_1, hostOps0_2, hostOps0_3, hostOps0_4, List.flatten_cons, List.flatten_nil, List.cons_append, List.nil_append, List.append_nil]
  after_results_simp
  refine (gather_band _ _ _ n a j h e ⟨n.val + a.val, by omega⟩ ?_).trans ?_
  · pointwise []
    exact band_word n a
  · simp only [StableHlo.TRef.toBuf, StableHlo.TRef.ofBuf, cast_eq]
    pointwise []
    exact padded H.k _ _ _ _ _ (by omega) (fun _ => by show (n.val + a.val - 8) * 64 + j.val = _; omega) (by show h.val * 64 + e.val = _; omega)

set_option maxHeartbeats 2000000 in
theorem vb (n : Fin 64) (a : Fin 9) (j : Fin 64) (h : Fin 8) (e : Fin 64) :
    (StableHlo.after early W (Proc.tc.devRef main_v36) : FVec Ideal S1x64x9x64x8x64 .f32) (ix6 0 n a j h e)
      = (((dat W).vp (64 * n.val + (64 * a.val + j.val)) (64 * h.val + e.val) : ℝ) : EReal) := by
  simp only [hostOps0, hostOps0_1, hostOps0_2, hostOps0_3, hostOps0_4, List.flatten_cons, List.flatten_nil, List.cons_append, List.nil_append, List.append_nil]
  after_results_simp
  refine (gather_band _ _ _ n a j h e ⟨n.val + a.val, by omega⟩ ?_).trans ?_
  · pointwise []
    exact band_word n a
  · simp only [StableHlo.TRef.toBuf, StableHlo.TRef.ofBuf, cast_eq]
    pointwise []
    exact padded H.v _ _ _ _ _ (by omega) (fun _ => by show (n.val + a.val - 8) * 64 + j.val = _; omega) (by show h.val * 64 + e.val = _; omega)

set_option maxHeartbeats 2000000 in
theorem qb (s : Fin 4096) (h : Fin 8) (e : Fin 64) :
    (StableHlo.after early W (Proc.tc.devRef main_v0) : FVec Ideal S1x4096x8x64 .f32) (ix4 0 s h e)
      = ((cell (qA W) s.val (64 * h.val + e.val) : ℝ) : EReal) := by
  simp only [hostOps0, hostOps0_1, hostOps0_2, hostOps0_3, hostOps0_4, List.flatten_cons, List.flatten_nil, List.cons_append, List.nil_append, List.append_nil]
  after_results_simp
  pointwise []
  exact H.q.at _ _ _ _ rfl (by show h.val * 64 + e.val = _; omega)

omit H in
theorem valid (n : Fin 64) (a : Fin 9) :
    (StableHlo.after early W (Proc.tc.devRef main_v20) : IVec S64x9 1) (ix2 n a) = if 8 ≤ n.val + a.val then 1#1 else 0#1 := by
  rw [← valid_word]
  simp only [hostOps0, hostOps0_1, hostOps0_2, hostOps0_3, hostOps0_4, List.flatten_cons, List.flatten_nil, List.cons_append, List.nil_append, List.append_nil]
  after_results_simp
  pointwise []

omit H in
theorem early_dist (i : Fin 64) (a : Fin 576) :
    (StableHlo.after early W (Proc.tc.devRef main_v47) : IVec S64x576 32) (ix2 i a)
      = IntOp.subi (IntOp.addi (BitVec.ofNat 32 i.val) 512#32) (BitVec.ofNat 32 a.val) := by
  simp only [hostOps0, hostOps0_1, hostOps0_2, hostOps0_3, hostOps0_4, List.flatten_cons, List.flatten_nil, List.cons_append, List.nil_append, List.append_nil]
  after_results_simp
  pointwise []

omit H in
theorem early_low : (StableHlo.after early W (Proc.tc.devRef main_c_8) : IVec S_ 32) ix0 = 4294967168#32 := by
  simp only [hostOps0, hostOps0_1, hostOps0_2, hostOps0_3, hostOps0_4, List.flatten_cons, List.flatten_nil, List.cons_append, List.nil_append, List.append_nil]
  after_results_simp
  rfl

omit H in
theorem early_high : (StableHlo.after early W (Proc.tc.devRef main_c_9) : IVec S_ 32) ix0 = 128#32 := by
  simp only [hostOps0, hostOps0_1, hostOps0_2, hostOps0_3, hostOps0_4, List.flatten_cons, List.flatten_nil, List.cons_append, List.nil_append, List.append_nil]
  after_results_simp
  rfl

omit H in
theorem early_tab : StableHlo.after early W (Proc.tc.devRef main_arg3) = W (Proc.tc.devRef main_arg3) := by
  simp only [hostOps0, hostOps0_1, hostOps0_2, hostOps0_3, hostOps0_4, List.flatten_cons, List.flatten_nil, List.cons_append, List.nil_append, List.append_nil]
  after_results_simp

/-- The bias table's entries, by head, row of the chunk and place in the band. -/
theorem tab (h : Fin 8) (i : Fin 64) (a : Fin 576) :
    (StableHlo.after middle (StableHlo.after early W) (Proc.tc.devRef main_v57) : FVec Ideal S8x64x576 .f32) (ix3 h i a)
      = (((dat W).tab h.val i.val a.val : ℝ) : EReal) := by
  refine Eq.trans ?_ (H.t.at h ⟨column i.val a.val, by unfold column; omega⟩ h.val (column i.val a.val) rfl rfl)
  have e1 := early_dist (W := W) i a
  have e2 := early_low (W := W)
  have e3 := early_high (W := W)
  have e4 := early_tab (W := W)
  generalize StableHlo.after early W = E at e1 e2 e3 e4 ⊢
  simp only [hostOps0_5,hostOps0_6,hostOps0_7, List.flatten_cons, List.flatten_nil, List.cons_append, List.nil_append, List.append_nil]
  after_results_simp
  refine (gather_tab _ _ _ h i a).trans ?_
  simp only [StableHlo.TRef.toBuf, StableHlo.TRef.ofBuf, cast_eq]
  pointwise []
  simp only [id, e1, e2, e3]
  exact congrFun e4 _

omit H in
theorem middle_scores (E : Valuation τ sig (Elt Ideal)) (n : Fin 64) (h : Fin 8) (i : Fin 64) (a : Fin 9) (b : Fin 64) :
    (StableHlo.after middle E (Proc.tc.devRef main_v67) : FVec Ideal S1x64x8x64x9x64 .f32) (ix6 0 n h i a b)
      = Scalar.select ((E (Proc.tc.devRef main_v20) : IVec S64x9 1) (ix2 n a))
          ((∑ x : Fin 64, hq E (ix4 0 ⟨n.val * 64 + i.val, by omega⟩ h x)
              * hk E (ix6 0 n a b h x)) * Ideal.ofBits FTy.f32 1040187392#32
            + (StableHlo.after middle E (Proc.tc.devRef main_v57) : FVec Ideal S8x64x576 .f32) (ix3 h i ⟨a.val * 64 + b.val, by omega⟩))
          (Ideal.ofBits FTy.f32 4048155338#32) := by
  simp only [hostOps0_5, hostOps0_6, hostOps0_7, List.flatten_cons, List.flatten_nil, List.cons_append, List.nil_append, List.append_nil]
  after_results_simp
  simp only [StableHlo.TRef.toBuf, StableHlo.TRef.ofBuf, cast_eq]
  pointwise []
  rfl

/-- The scores. -/
theorem scores (n : Fin 64) (h : Fin 8) (i : Fin 64) (a : Fin 9) (b : Fin 64) :
    (StableHlo.after middle (StableHlo.after early W) (Proc.tc.devRef main_v67) : FVec Ideal S1x64x8x64x9x64 .f32) (ix6 0 n h i a b)
      = (((dat W).sc n.val h.val i.val (64 * a.val + b.val) : ℝ) : EReal) := by
  rw [middle_scores, valid, tab H, mask_eq, eighth]
  have e : ∀ x : Fin 64, hq (StableHlo.after early W) (ix4 0 ⟨n.val * 64 + i.val, by omega⟩ h x)
      * hk (StableHlo.after early W) (ix6 0 n a b h x)
      = (((dat W).q (64 * n.val + i.val) (64 * h.val + x.val) * (dat W).kp (64 * n.val + (64 * a.val + b.val)) (64 * h.val + x.val) : ℝ) : EReal) := fun x => by
    rw [show hq (StableHlo.after early W) _ = _ from qb H _ _ _, show hk (StableHlo.after early W) _ = _ from kb H _ _ _ _ _, ← EReal.coe_mul]
    refine congrArg (fun z => ((cell (qA W) z _ * _ : ℝ) : EReal)) ?_
    show n.val * 64 + i.val = _
    omega
  rw [Finset.sum_congr rfl fun x _ => e x, coe_sum, ← EReal.coe_mul, ← EReal.coe_add]
  unfold Data.sc
  by_cases hb : 8 ≤ n.val + a.val
  · rw [if_pos hb, if_pos (by omega)]
    refine congrArg (fun z => ((_ + (dat W).tab h.val i.val z : ℝ) : EReal)) ?_
    show a.val * 64 + b.val = _
    omega
  · rw [if_neg hb, if_neg (by omega)]
    rfl

omit H in
theorem middle_v (E : Valuation τ sig (Elt Ideal)) : StableHlo.after middle E (Proc.tc.devRef main_v36) = E (Proc.tc.devRef main_v36) := by
  simp only [hostOps0_5, hostOps0_6, hostOps0_7, List.flatten_cons, List.flatten_nil, List.cons_append, List.nil_append, List.append_nil]
  after_results_simp

end Early

/-! ## The saved sums -/

/-- A row's largest score. -/
def top (x : FVec Ideal S1x64x8x64x9x64 .f32) : FVec Ideal S1x64x8x64 .f32 :=
  Host.reduce FloatOps.maximumf x (constant S_ FTy.f32 4286578688#32) reducesTo_S1x64x8x64x9x64_S1x64x8x64_d4_5 h_S_

/-- The scores' exponentials over it. -/
def expo (x : FVec Ideal S1x64x8x64x9x64 .f32) : FVec Ideal S1x64x8x64x9x64 .f32 :=
  Host.exp (subf x (broadcastInDim S1x64x8x64x9x64 ![0, 1, 2, 3, 4, 5] bcast_S1x64x8x64x1x1_S1x64x8x64x9x64_0_1_2_3_4_5
    (broadcastInDim S1x64x8x64x1x1 ![0, 1, 2, 3] bcast_S1x64x8x64_S1x64x8x64x1x1_0_1_2_3 (top x))))

/-- Their sum. -/
def total (x : FVec Ideal S1x64x8x64x9x64 .f32) : FVec Ideal S1x64x8x64 .f32 :=
  Host.reduceAdd (expo x) (constant S_ FTy.f32 0#32) reducesTo_S1x64x8x64x9x64_S1x64x8x64_d4_5 h_S_

theorem top_def (x : FVec Ideal S1x64x8x64x9x64 .f32) :
    Host.reduce FloatOps.maximumf x (constant S_ FTy.f32 4286578688#32) reducesTo_S1x64x8x64x9x64_S1x64x8x64_d4_5 h_S_ = top x := rfl

theorem expo_def (x : FVec Ideal S1x64x8x64x9x64 .f32) :
    Host.exp (subf x (broadcastInDim S1x64x8x64x9x64 ![0, 1, 2, 3, 4, 5] bcast_S1x64x8x64x1x1_S1x64x8x64x9x64_0_1_2_3_4_5
      (broadcastInDim S1x64x8x64x1x1 ![0, 1, 2, 3] bcast_S1x64x8x64_S1x64x8x64x1x1_0_1_2_3 (top x)))) = expo x := rfl

theorem total_def (x : FVec Ideal S1x64x8x64x9x64 .f32) :
    Host.reduceAdd (expo x) (constant S_ FTy.f32 0#32) reducesTo_S1x64x8x64x9x64_S1x64x8x64_d4_5 h_S_ = total x := rfl

/-- A row sum by chunk, row and head, as a matrix. -/
def rows (X : FVec Ideal S1x64x8x64 .f32) : FVec Ideal S4096x8 .f32 := fun i => shapeCast main_v84.ty.shape (transpose S64x64x8 [0, 2, 1]
  (fun i => shapeCast main_v82.ty.shape X shapeCasts_S1x64x8x64_S64x8x64 i)
    transposes_S64x8x64_S64x64x8_0_2_1) shapeCasts_S64x64x8_S4096x8 i

/-- The kernel's layout of such a matrix, eight times over. -/
def layout (X : FVec Ideal S4096x8 .f32) : FVec Ideal S4x32x8x256 .f32 :=
  broadcastInDim S4x32x8x256 ![0, 1, 2, 3] bcast_S4x32x1x256_S4x32x8x256_0_1_2_3
    (fun i => shapeCast main_v115.ty.shape (transpose S4x32x2x2x64 [3, 0, 1, 4, 2]
      (fun i => shapeCast main_v113.ty.shape X shapeCasts_S4096x8_S32x2x64x4x2 i)
        transposes_S32x2x64x4x2_S4x32x2x2x64_3_0_1_4_2) shapeCasts_S4x32x2x2x64_S4x32x1x256 i)

theorem rows_apply (X : FVec Ideal S1x64x8x64 .f32) (s : Fin 4096) (h : Fin 8) :
    rows X (ix2 s h) = X (ix4 0 ⟨s.val / 64, by omega⟩ h ⟨s.val % 64, by omega⟩) := by
  unfold rows
  pointwise []

theorem layout_apply (X : FVec Ideal S4096x8 .f32) (p : Fin 4) (u : Fin 32) (e : Fin 8) (j : Fin 256) :
    layout X (ix4 p u e j) = X (ix2 ⟨u.val * 128 + j.val / 128 * 64 + j.val % 64, by omega⟩ ⟨p.val * 2 + j.val / 64 % 2, by omega⟩) := by
  unfold layout
  pointwise []

set_option maxHeartbeats 2000000 in
theorem late_lse (E : Valuation τ sig (Elt Ideal)) :
    StableHlo.after late E (Proc.tc.devRef main_v116) = layout (rows (addf (top (hs E)) (Host.log (total (hs E))))) := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  rfl

/-- The saved row sums of outputs times cotangents. -/
def deltas (E : Valuation τ sig (Elt Ideal)) : FVec Ideal S4096x8 .f32 := StableHlo.after late E (Proc.tc.devRef main_v87)

set_option maxHeartbeats 2000000 in
theorem late_deltas (E : Valuation τ sig (Elt Ideal)) :
    StableHlo.after late E (Proc.tc.devRef main_v120) = layout (deltas E) := by
  unfold deltas
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  rfl

set_option maxHeartbeats 2000000 in
theorem deltas_apply (E : Valuation τ sig (Elt Ideal)) (s : Fin 4096) (h : Fin 8) :
    (deltas E (ix2 s h) : EReal)
      = ∑ x : Fin 64, (∑ a : Fin 9, ∑ b : Fin 64, hv E (ix6 0 ⟨s.val / 64, by omega⟩ a b h x)
          * Ideal.div (expo (hs E) (ix6 0 ⟨s.val / 64, by omega⟩ h ⟨s.val % 64, by omega⟩ a b))
              (total (hs E) (ix4 0 ⟨s.val / 64, by omega⟩ h ⟨s.val % 64, by omega⟩)))
          * gA E (ix2 s ⟨h.val * 64 + x.val, by omega⟩) := by
  unfold deltas
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  rw [top_def, expo_def, total_def]
  generalize expo (hs E) = X
  generalize total (hs E) = Z
  pointwise []
  refine Finset.sum_congr rfl fun x _ => ?_
  simp only [show (h.val * 64 + x.val) / 64 = h.val by omega, show (h.val * 64 + x.val) % 64 = x.val by omega]

/-! ## The saved sums over the reals -/

section Real
variable {D : Data} {x : FVec Ideal S1x64x8x64x9x64 .f32}
  (hx : ∀ (n : Fin 64) (h : Fin 8) (i : Fin 64) (a : Fin 9) (b : Fin 64), x (ix6 0 n h i a b) = ((D.sc n.val h.val i.val (64 * a.val + b.val) : ℝ) : EReal))
include hx

theorem saved (n : Fin 64) (h : Fin 8) (i : Fin 64) : ∃ t : ℝ, top x (ix4 0 n h i) = (t : EReal)
    ∧ (∀ (a : Fin 9) (b : Fin 64), expo x (ix6 0 n h i a b) = ((Real.exp (D.sc n.val h.val i.val (64 * a.val + b.val) - t) : ℝ) : EReal))
    ∧ total x (ix4 0 n h i) = ((∑ a : Fin 576, Real.exp (D.sc n.val h.val i.val a.val - t) : ℝ) : EReal) := by
  obtain ⟨t, ht⟩ : ∃ t : ℝ, top x (ix4 0 n h i) = (t : EReal) := by
    refine reduce_max_real x _ _ _ neg_infinity (fun j => ?_) _ (ix6 0 n h i 0 0) ?_
    · obtain ⟨z, n', h', i', a', b', rfl⟩ : ∃ (z : Fin 1) (n' : Fin 64) (h' : Fin 8) (i' : Fin 64) (a' : Fin 9) (b' : Fin 64), j = ix6 z n' h' i' a' b' :=
        ⟨_, _, _, _, _, _, eq_ix6 j⟩
      rw [Subsingleton.elim z 0]
      exact ⟨_, hx _ _ _ _ _⟩
    · funext q
      match q with
      | ⟨0, _⟩ => rfl
      | ⟨1, _⟩ => rfl
      | ⟨2, _⟩ => rfl
      | ⟨3, _⟩ => rfl
  have he : ∀ (a : Fin 9) (b : Fin 64), expo x (ix6 0 n h i a b) = ((Real.exp (D.sc n.val h.val i.val (64 * a.val + b.val) - t) : ℝ) : EReal) := fun a b => by
    have e : expo x (ix6 0 n h i a b) = Ideal.exp (x (ix6 0 n h i a b) - top x (ix4 0 n h i)) := by
      unfold expo
      generalize top x = T
      pointwise []
    rw [e, hx, ht, ← EReal.coe_sub, Ideal.exp_coe]
  refine ⟨t, ht, he, ?_⟩
  have e : total x (ix4 0 n h i) = Ideal.hostReduceAdd reducesTo_S1x64x8x64x9x64_S1x64x8x64_d4_5 (expo x) (Ideal.ofBits FTy.f32 0#32) (ix4 0 n h i) := rfl
  rw [e, sum_last_two, Ideal.ofBits_zero_f32, zero_add, Finset.sum_congr rfl fun a _ => Finset.sum_congr rfl fun b _ => he a b]
  simp only [coe_sum]
  rw [sum_places fun a => Real.exp (D.sc n.val h.val i.val a - t)]

theorem saved_log (n : Fin 64) (h : Fin 8) (i : Fin 64) :
    top x (ix4 0 n h i) + Ideal.log (total x (ix4 0 n h i)) = ((Real.log (D.Z n.val h.val i.val) : ℝ) : EReal) := by
  obtain ⟨t, h1, _, h3⟩ := saved hx n h i
  rw [h1, h3, log_real _ (Finset.sum_pos (fun _ _ => Real.exp_pos _) ⟨0, Finset.mem_univ _⟩), ← EReal.coe_add, log_total]
  rfl

theorem saved_ratio (n : Fin 64) (h : Fin 8) (i : Fin 64) (a : Fin 9) (b : Fin 64) :
    Ideal.div (expo x (ix6 0 n h i a b)) (total x (ix4 0 n h i))
      = ((Real.exp (D.sc n.val h.val i.val (64 * a.val + b.val)) / D.Z n.val h.val i.val : ℝ) : EReal) := by
  obtain ⟨t, _, h2, h3⟩ := saved hx n h i
  rw [h2, h3, div_real _ _ (Finset.sum_pos (fun _ _ => Real.exp_pos _) ⟨0, Finset.mem_univ _⟩), ratio]

end Real

/-! ## The kernel's arguments -/

/-- What the host lines leave. -/
abbrev handed (W : Valuation τ sig (Elt Ideal)) : Valuation τ sig (Elt Ideal) := StableHlo.after late (StableHlo.after middle (StableHlo.after early W))

abbrev hl (E : Valuation τ sig (Elt Ideal)) : FVec Ideal S4x32x8x256 .f32 := E (Proc.tc.devRef main_v116)
abbrev hd (E : Valuation τ sig (Elt Ideal)) : FVec Ideal S4x32x8x256 .f32 := E (Proc.tc.devRef main_v120)

theorem args_kept (W : Valuation τ sig (Elt Ideal)) :
    gA (StableHlo.after middle (StableHlo.after early W)) = gA W ∧ qA (StableHlo.after middle (StableHlo.after early W)) = qA W
      ∧ kA (StableHlo.after middle (StableHlo.after early W)) = kA W ∧ vA (StableHlo.after middle (StableHlo.after early W)) = vA W := by
  have e1 : ∀ E, gA (StableHlo.after middle E) = gA E ∧ qA (StableHlo.after middle E) = qA E
      ∧ kA (StableHlo.after middle E) = kA E ∧ vA (StableHlo.after middle E) = vA E := fun E => by
    unfold gA qA kA vA
    simp only [hostOps0_5, hostOps0_6, hostOps0_7, List.flatten_cons, List.flatten_nil, List.cons_append, List.nil_append, List.append_nil]
    after_results_simp
    exact ⟨trivial, trivial, trivial, trivial⟩
  have e2 : gA (StableHlo.after early W) = gA W ∧ qA (StableHlo.after early W) = qA W
      ∧ kA (StableHlo.after early W) = kA W ∧ vA (StableHlo.after early W) = vA W := by
    unfold gA qA kA vA
    simp only [hostOps0, hostOps0_1, hostOps0_2, hostOps0_3, hostOps0_4, List.flatten_cons, List.flatten_nil, List.cons_append, List.nil_append, List.append_nil]
    after_results_simp
    exact ⟨trivial, trivial, trivial, trivial⟩
  obtain ⟨a, b, c, d⟩ := e1 (StableHlo.after early W)
  exact ⟨a.trans e2.1, b.trans e2.2.1, c.trans e2.2.2.1, d.trans e2.2.2.2⟩

section Handed
variable {W} (H : Fine W)
include H

theorem values_handed (n : Fin 64) (a : Fin 9) (b : Fin 64) (h : Fin 8) (e : Fin 64) :
    hv (StableHlo.after middle (StableHlo.after early W)) (ix6 0 n a b h e) = (((dat W).vp (64 * n.val + (64 * a.val + b.val)) (64 * h.val + e.val) : ℝ) : EReal) :=
  (congrFun (middle_v (StableHlo.after early W)) _).trans (vb H n a b h e)

theorem ct_handed (s : Fin 4096) (j : Fin 512) : gA (StableHlo.after middle (StableHlo.after early W)) (ix2 s j) = (((dat W).g s.val j.val : ℝ) : EReal) :=
  (congrFun (args_kept W).1 _).trans (H.g.cell s j)

omit H in
theorem lse_at (T Z : FVec Ideal S1x64x8x64 .f32) (p : Fin 4) (u : Fin 32) (e : Fin 8) (j : Fin 256) :
    layout (rows (addf T (Host.log Z))) (ix4 p u e j)
      = T (ix4 0 ⟨u.val * 2 + j.val / 128, by omega⟩ ⟨p.val * 2 + j.val / 64 % 2, by omega⟩ ⟨j.val % 64, by omega⟩)
        + Ideal.log (Z (ix4 0 ⟨u.val * 2 + j.val / 128, by omega⟩ ⟨p.val * 2 + j.val / 64 % 2, by omega⟩ ⟨j.val % 64, by omega⟩)) := by
  rw [layout_apply, rows_apply]
  pointwise []
  simp only [show (u.val * 128 + j.val / 128 * 64 + j.val % 64) / 64 = u.val * 2 + j.val / 128 by omega, show (u.val * 128 + j.val / 128 * 64 + j.val % 64) % 64 = j.val % 64 by omega]

theorem lse_values (p : Fin 4) (u : Fin 32) (e : Fin 8) (j : Fin 256) :
    layout (rows (addf (top (hs (StableHlo.after middle (StableHlo.after early W)))) (Host.log (total (hs (StableHlo.after middle (StableHlo.after early W))))))) (ix4 p u e j)
      = ((Real.log ((dat W).Z (2 * u.val + j.val / 128) (2 * p.val + j.val / 64 % 2) (j.val % 64)) : ℝ) : EReal) := by
  refine (lse_at _ _ p u e j).trans ((saved_log (fun n h i a b => scores H n h i a b) _ _ _).trans ?_)
  rw [mul_comm 2 u.val, mul_comm 2 p.val]

theorem lse_handed (p : Fin 4) (u : Fin 32) (e : Fin 8) (j : Fin 256) :
    hl (handed W) (ix4 p u e j)
      = ((Real.log ((dat W).Z (2 * u.val + j.val / 128) (2 * p.val + j.val / 64 % 2) (j.val % 64)) : ℝ) : EReal) :=
  (congrFun (late_lse _) _).trans (lse_values H p u e j)

theorem dl_handed (p : Fin 4) (u : Fin 32) (e : Fin 8) (j : Fin 256) :
    hd (handed W) (ix4 p u e j)
      = (((dat W).δ (2 * u.val + j.val / 128) (2 * p.val + j.val / 64 % 2) (j.val % 64) : ℝ) : EReal) := by
  have S := saved_ratio (fun n h i a b => scores H n h i a b)
  have V := values_handed H
  have G := ct_handed H
  refine (congrFun (late_deltas _) _).trans ?_
  generalize dat W = D at S V G ⊢
  generalize StableHlo.after middle (StableHlo.after early W) = E at S V G ⊢
  rw [layout_apply]
  generalize hs' : (⟨u.val * 128 + j.val / 128 * 64 + j.val % 64, by omega⟩ : Fin 4096) = s
  generalize hh' : (⟨p.val * 2 + j.val / 64 % 2, by omega⟩ : Fin 8) = h
  have s1 : 2 * u.val + j.val / 128 = s.val / 64 := by rw [← hs']; dsimp only; omega
  have s2 : j.val % 64 = s.val % 64 := by rw [← hs']; dsimp only; omega
  have s3 : 2 * p.val + j.val / 64 % 2 = h.val := by rw [← hh']; dsimp only; omega
  rw [s1, s2, s3, ← delta_eq, ← coe_sum]
  refine (deltas_apply E s h).trans (Finset.sum_congr rfl fun x _ => ?_)
  rw [EReal.coe_mul, ← sum_places fun a => D.vp (64 * (s.val / 64) + a) (64 * h.val + x.val) * (Real.exp (D.sc (s.val / 64) h.val (s.val % 64) a) / D.Z (s.val / 64) h.val (s.val % 64))]
  refine congrArg₂ (fun y z : EReal => y * z) ?_ ?_
  · simp only [← coe_sum]
    refine Finset.sum_congr rfl fun a _ => Finset.sum_congr rfl fun b _ => ?_
    rw [S, V, EReal.coe_mul]
  · rw [G]
    refine congrArg (fun z : ℝ => (z : EReal)) (congrArg₂ D.g (by omega) ?_)
    show h.val * 64 + x.val = _
    omega

end Handed

end Cert.KernelAttnIdeal.Att

end
-- ==== Proof.AttnReads.lean ====
/- The blocks each pair of heads reads, as the problem's arrays. -/
module

public import proofs.«01_k».proof.Proof.AttnHost

@[expose] public section

set_option maxRecDepth 16384

noncomputable section

namespace Cert.KernelAttnIdeal.Att

open Idealize.ShloMosaic Idealize.ShloMosaic.TcCoe Idealize.SL.Sem
open Cert.KernelAttnIdeal Cert.KernelAttnIdeal.Gen Cert.Attn

/-- The bias by head, row of the chunk and place in the band. -/
abbrev bT (E : Valuation τ sig (Elt Ideal)) : FVec Ideal S8x64x576 .f32 := E (Proc.tc.devRef main_v57)

/-- A place of the band read through the layout's digits. -/
theorem digits (p j r : ℕ) (hp : p < 4) (hj : j < 128) :
    (r / 64 * 8 + (p * 2 + j / 64)) % 8 = 2 * p + j / 64 % 2 ∧ (j % 64 * 64 + r % 64) / 64 = j % 64
      ∧ (r / 64 * 8 + (p * 2 + j / 64)) / 8 * 64 + (j % 64 * 64 + r % 64) % 64 = r := by
  have h1 : (r / 64 * 8 + (p * 2 + j / 64)) / 8 = r / 64 := by omega
  have h2 : (j % 64 * 64 + r % 64) % 64 = r % 64 := by omega
  refine ⟨by omega, by omega, ?_⟩
  rw [h1, h2]
  omega

theorem at_place (X : FVec Ideal S8x64x576 .f32) (a a' : Fin 8) (b b' : Fin 64) (c c' : Fin 576) (h1 : a.val = a'.val) (h2 : b.val = b'.val) (h3 : c.val = c'.val) :
    X (ix3 a b c) = X (ix3 a' b' c') := by
  rw [Fin.ext h1, Fin.ext h2, Fin.ext h3]

/-- The table laid out for one pair: a chunk's half starts its band 64 rows later for the odd chunk. -/
theorem bias_layout (X : FVec Ideal S8x64x576 .f32) (z : EReal) (hz : z = ⊥) (p : Fin 4) (r : Fin 640) (j : Fin 256) :
    (if h : j.val < 128 then
      if h_1 : r.val < 576 ∧ j.val < 128 then
        X (ix3 ⟨(r.val / 64 * 8 + (p.val * 2 + j.val / 64)) % 8, by omega⟩ ⟨(j.val % 64 * 64 + r.val % 64) / 64, by omega⟩
          ⟨(r.val / 64 * 8 + (p.val * 2 + j.val / 64)) / 8 * 64 + (j.val % 64 * 64 + r.val % 64) % 64, by
            have := (digits p.val j.val r.val p.isLt h).2.2; omega⟩)
      else z
    else
      if h_1 : (64 ≤ r.val ∧ r.val - 64 < 576) ∧ j.val - 128 < 128 then
        X (ix3 ⟨((r.val - 64) / 64 * 8 + (p.val * 2 + (j.val - 128) / 64)) % 8, by omega⟩
            ⟨((j.val - 128) % 64 * 64 + (r.val - 64) % 64) / 64, by omega⟩
            ⟨((r.val - 64) / 64 * 8 + (p.val * 2 + (j.val - 128) / 64)) / 8 * 64 + ((j.val - 128) % 64 * 64 + (r.val - 64) % 64) % 64, by
              have := (digits p.val (j.val - 128) (r.val - 64) p.isLt h_1.2).2.2; omega⟩)
      else z)
    = if h : 64 * (j.val / 128) ≤ r.val ∧ r.val < 64 * (j.val / 128) + 576 then
      X (ix3 ⟨2 * p.val + j.val / 64 % 2, by omega⟩ ⟨j.val % 64, by omega⟩ ⟨r.val - 64 * (j.val / 128), by omega⟩) else (⊥ : EReal) := by
  subst hz
  by_cases h1 : j.val < 128
  · have e : j.val / 128 = 0 := by omega
    rw [dif_pos h1]
    by_cases hr : r.val < 576
    · rw [dif_pos (show r.val < 576 ∧ j.val < 128 from ⟨hr, h1⟩), dif_pos (show 64 * (j.val / 128) ≤ r.val ∧ r.val < 64 * (j.val / 128) + 576 by rw [e]; omega)]
      obtain ⟨d1, d2, d3⟩ := digits p.val j.val r.val p.isLt h1
      exact at_place X _ _ _ _ _ _ d1 d2 (d3.trans (by show r.val = r.val - 64 * (j.val / 128); rw [e]; omega))
    · rw [dif_neg (show ¬(r.val < 576 ∧ j.val < 128) from fun h => hr h.1), dif_neg (show ¬(64 * (j.val / 128) ≤ r.val ∧ r.val < 64 * (j.val / 128) + 576) by rw [e]; omega)]
  · have e : j.val / 128 = 1 := by omega
    rw [dif_neg h1]
    by_cases hr : 64 ≤ r.val
    · rw [dif_pos (show (64 ≤ r.val ∧ r.val - 64 < 576) ∧ j.val - 128 < 128 by omega), dif_pos (show 64 * (j.val / 128) ≤ r.val ∧ r.val < 64 * (j.val / 128) + 576 by rw [e]; omega)]
      obtain ⟨d1, d2, d3⟩ := digits p.val (j.val - 128) (r.val - 64) p.isLt (by omega)
      refine at_place X _ _ _ _ _ _ (d1.trans ?_) (d2.trans ?_) (d3.trans ?_)
      · show _ = 2 * p.val + j.val / 64 % 2; omega
      · show _ = j.val % 64; omega
      · show _ = r.val - 64 * (j.val / 128); rw [e]
    · rw [dif_neg (show ¬((64 ≤ r.val ∧ r.val - 64 < 576) ∧ j.val - 128 < 128) from fun h => hr h.1.1), dif_neg (show ¬(64 * (j.val / 128) ≤ r.val ∧ r.val < 64 * (j.val / 128) + 576) by rw [e]; omega)]

/-! ## What the last host lines lay out -/

set_option maxHeartbeats 2000000 in
theorem late_q (E : Valuation τ sig (Elt Ideal)) (s : Fin 4096) (j : Fin 512) :
    ((StableHlo.after late E (Proc.tc.devRef main_v106) : FVec Ideal S4096x512 .bf16) (ix2 s j) : EReal) = qA E (ix2 s j) * Ideal.ofBits FTy.f32 1040187392#32 := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  pointwise []

set_option maxHeartbeats 2000000 in
theorem late_qt (E : Valuation τ sig (Elt Ideal)) (s : Fin 4096) (j : Fin 512) :
    ((StableHlo.after late E (Proc.tc.devRef main_v108) : FVec Ideal S512x4096 .bf16) (ix2 j s) : EReal) = qA E (ix2 s j) * Ideal.ofBits FTy.f32 1040187392#32 := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  pointwise []

set_option maxHeartbeats 2000000 in
theorem late_k (E : Valuation τ sig (Elt Ideal)) (s : Fin 4608) (j : Fin 512) :
    ((StableHlo.after late E (Proc.tc.devRef main_v103) : FVec Ideal S4608x512 .bf16) (ix2 s j) : EReal) = if h : 512 ≤ s.val ∧ s.val - 512 < 4096 then kA E (ix2 ⟨s.val - 512, h.2⟩ j) else FloatOps.sitofp (F := Ideal) FTy.f32 0#32 := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  simp only [StableHlo.TRef.toBuf, StableHlo.TRef.ofBuf, cast_eq]
  pointwise []

set_option maxHeartbeats 2000000 in
theorem late_kt (E : Valuation τ sig (Elt Ideal)) (s : Fin 4608) (j : Fin 512) :
    ((StableHlo.after late E (Proc.tc.devRef main_v109) : FVec Ideal S512x4608 .bf16) (ix2 j s) : EReal) = if h : 512 ≤ s.val ∧ s.val - 512 < 4096 then kA E (ix2 ⟨s.val - 512, h.2⟩ j) else FloatOps.sitofp (F := Ideal) FTy.f32 0#32 := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  simp only [StableHlo.TRef.toBuf, StableHlo.TRef.ofBuf, cast_eq]
  pointwise []

set_option maxHeartbeats 2000000 in
theorem late_v (E : Valuation τ sig (Elt Ideal)) (s : Fin 4608) (j : Fin 512) :
    ((StableHlo.after late E (Proc.tc.devRef main_v105) : FVec Ideal S4608x512 .bf16) (ix2 s j) : EReal) = if h : 512 ≤ s.val ∧ s.val - 512 < 4096 then vA E (ix2 ⟨s.val - 512, h.2⟩ j) else FloatOps.sitofp (F := Ideal) FTy.f32 0#32 := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  simp only [StableHlo.TRef.toBuf, StableHlo.TRef.ofBuf, cast_eq]
  pointwise []

set_option maxHeartbeats 2000000 in
theorem late_ct (E : Valuation τ sig (Elt Ideal)) (s : Fin 4096) (j : Fin 512) :
    ((StableHlo.after late E (Proc.tc.devRef main_v110) : FVec Ideal S4096x512 .bf16) (ix2 s j) : EReal) = gA E (ix2 s j) := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  pointwise []

set_option maxHeartbeats 2000000 in
theorem late_ctt (E : Valuation τ sig (Elt Ideal)) (s : Fin 4096) (j : Fin 512) :
    ((StableHlo.after late E (Proc.tc.devRef main_v112) : FVec Ideal S512x4096 .bf16) (ix2 j s) : EReal) = gA E (ix2 s j) := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  pointwise []

set_option maxHeartbeats 2000000 in
theorem late_bias (E : Valuation τ sig (Elt Ideal)) (l p : Fin 4) (r : Fin 640) (j : Fin 256) :
    ((StableHlo.after late E (Proc.tc.devRef main_v99) : FVec Ideal S4x4x640x256 .f32) (ix4 l p r j) : EReal) = if h : 64 * (j.val / 128) ≤ r.val ∧ r.val < 64 * (j.val / 128) + 576 then
      bT E (ix3 ⟨2 * p.val + j.val / 64 % 2, by omega⟩ ⟨j.val % 64, by omega⟩ ⟨r.val - 64 * (j.val / 128), by omega⟩) else ⊥ := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  after_results_loop
  simp only [StableHlo.TRef.toBuf, StableHlo.TRef.ofBuf, cast_eq]
  pointwise []
  exact bias_layout (bT E) _ neg_infinity p r j

theorem V_eq (m : (ℓ : Loc nD τ sig) → Buf (Elt Ideal) ℓ) (c : Dev nD) (b : Ref sig Kind.tc) :
    V m c b = handed (fun b => m (c, b)) (Proc.tc.devRef b) := by
  show StableHlo.after (early ++ (middle ++ late)) _ _ = _
  rw [StableHlo.after_append, StableHlo.after_append]

theorem idx : ∀ t : Fin cfg0.N, win0_0.index t = ![0, t.val] ∧ win0_1.index t = ![t.val, 0] ∧ win0_2.index t = ![0, t.val] ∧ win0_3.index t = ![t.val, 0]
    ∧ win0_4.index t = ![0, t.val] ∧ win0_5.index t = ![0, t.val, 0, 0] ∧ win0_6.index t = ![0, t.val] ∧ win0_7.index t = ![t.val, 0]
    ∧ win0_8.index t = ![t.val, 0, 0, 0] ∧ win0_9.index t = ![t.val, 0, 0, 0] ∧ win0_10.index t = ![0, t.val] ∧ win0_11.index t = ![0, t.val]
    ∧ win0_12.index t = ![0, t.val] ∧ win0_13.index t = ![0, t.val, 0, 0] :=
  (by decide +kernel : ∀ t : Fin grid0.N, _)

section
variable (m : (ℓ : Loc nD τ sig) → Buf (Elt Ideal) ℓ) (c : Dev nD) (t : Fin cfg0.N)

theorem t_lt : t.val < 4 := t.isLt

theorem blk_0 (X : FVec Ideal S4096x512 .bf16) (s : Fin 4096) (f : Fin 128) :
    ((cfg0.win 0).blk t).view.read (Elt Ideal) X (ix2 s f) = X (ix2 s ⟨128 * t.val + f.val, by have := t_lt t; omega⟩) := by
  blk_ext [idx t]

theorem blk_1 (X : FVec Ideal S512x4096 .bf16) (f : Fin 128) (s : Fin 4096) :
    ((cfg0.win 1).blk t).view.read (Elt Ideal) X (ix2 f s) = X (ix2 ⟨128 * t.val + f.val, by have := t_lt t; omega⟩ s) := by
  blk_ext [idx t]

theorem blk_2 (X : FVec Ideal S4608x512 .bf16) (s : Fin 4608) (f : Fin 128) :
    ((cfg0.win 2).blk t).view.read (Elt Ideal) X (ix2 s f) = X (ix2 s ⟨128 * t.val + f.val, by have := t_lt t; omega⟩) := by
  blk_ext [idx t]

theorem blk_3 (X : FVec Ideal S512x4608 .bf16) (f : Fin 128) (s : Fin 4608) :
    ((cfg0.win 3).blk t).view.read (Elt Ideal) X (ix2 f s) = X (ix2 ⟨128 * t.val + f.val, by have := t_lt t; omega⟩ s) := by
  blk_ext [idx t]

theorem blk_4 (X : FVec Ideal S4608x512 .bf16) (s : Fin 4608) (f : Fin 128) :
    ((cfg0.win 4).blk t).view.read (Elt Ideal) X (ix2 s f) = X (ix2 s ⟨128 * t.val + f.val, by have := t_lt t; omega⟩) := by
  blk_ext [idx t]

theorem blk_6 (X : FVec Ideal S4096x512 .bf16) (s : Fin 4096) (f : Fin 128) :
    ((cfg0.win 6).blk t).view.read (Elt Ideal) X (ix2 s f) = X (ix2 s ⟨128 * t.val + f.val, by have := t_lt t; omega⟩) := by
  blk_ext [idx t]

theorem blk_7 (X : FVec Ideal S512x4096 .bf16) (f : Fin 128) (s : Fin 4096) :
    ((cfg0.win 7).blk t).view.read (Elt Ideal) X (ix2 f s) = X (ix2 ⟨128 * t.val + f.val, by have := t_lt t; omega⟩ s) := by
  blk_ext [idx t]

theorem blk_8 (X : FVec Ideal S4x32x8x256 .f32) (u : Fin 32) (e : Fin 8) (j : Fin 256) :
    ((cfg0.win 8).blk t).view.read (Elt Ideal) X (ix4 0 u e j) = X (ix4 ⟨t.val, t_lt t⟩ u e j) := by
  blk_ext [idx t]

theorem blk_9 (X : FVec Ideal S4x32x8x256 .f32) (u : Fin 32) (e : Fin 8) (j : Fin 256) :
    ((cfg0.win 9).blk t).view.read (Elt Ideal) X (ix4 0 u e j) = X (ix4 ⟨t.val, t_lt t⟩ u e j) := by
  blk_ext [idx t]

theorem blk_5 (X : FVec Ideal S4x4x640x256 .f32) (r : Fin 640) (j : Fin 256) :
    ((cfg0.win 5).blk t).view.read (Elt Ideal) X (ix4 0 0 r j) = X (ix4 0 ⟨t.val, t_lt t⟩ r j) := by
  blk_ext [idx t]

end

section Handed
variable {W : Valuation τ sig (Elt Ideal)} (H : Fine W)
include H

theorem q_handed (s : Fin 4096) (j : Fin 512) : ((handed W (Proc.tc.devRef main_v106) : FVec Ideal S4096x512 .bf16) (ix2 s j) : EReal) = (((dat W).q s.val j.val * (1 / 8) : ℝ) : EReal) := by
  refine (late_q _ s j).trans ?_
  rw [(args_kept W).2.1]
  rw [eighth, H.q.cell, ← EReal.coe_mul]
  rfl

theorem qt_handed (s : Fin 4096) (j : Fin 512) : ((handed W (Proc.tc.devRef main_v108) : FVec Ideal S512x4096 .bf16) (ix2 j s) : EReal) = (((dat W).q s.val j.val * (1 / 8) : ℝ) : EReal) := by
  refine (late_qt _ s j).trans ?_
  rw [(args_kept W).2.1]
  rw [eighth, H.q.cell, ← EReal.coe_mul]
  rfl

theorem k_handed (s : Fin 4608) (j : Fin 512) : ((handed W (Proc.tc.devRef main_v103) : FVec Ideal S4608x512 .bf16) (ix2 s j) : EReal) = (((dat W).kp s.val j.val : ℝ) : EReal) := by
  refine (late_k _ s j).trans ?_
  rw [(args_kept W).2.2.1]
  exact padded H.k _ _ _ _ _ (by omega) (fun _ => rfl) rfl

theorem kt_handed (s : Fin 4608) (j : Fin 512) : ((handed W (Proc.tc.devRef main_v109) : FVec Ideal S512x4608 .bf16) (ix2 j s) : EReal) = (((dat W).kp s.val j.val : ℝ) : EReal) := by
  refine (late_kt _ s j).trans ?_
  rw [(args_kept W).2.2.1]
  exact padded H.k _ _ _ _ _ (by omega) (fun _ => rfl) rfl

theorem v_handed (s : Fin 4608) (j : Fin 512) : ((handed W (Proc.tc.devRef main_v105) : FVec Ideal S4608x512 .bf16) (ix2 s j) : EReal) = (((dat W).vp s.val j.val : ℝ) : EReal) := by
  refine (late_v _ s j).trans ?_
  rw [(args_kept W).2.2.2]
  exact padded H.v _ _ _ _ _ (by omega) (fun _ => rfl) rfl

theorem g_handed (s : Fin 4096) (j : Fin 512) : ((handed W (Proc.tc.devRef main_v110) : FVec Ideal S4096x512 .bf16) (ix2 s j) : EReal) = (((dat W).g s.val j.val : ℝ) : EReal) := by
  refine (late_ct _ s j).trans ?_
  rw [(args_kept W).1]
  exact H.g.cell _ _

theorem gt_handed (s : Fin 4096) (j : Fin 512) : ((handed W (Proc.tc.devRef main_v112) : FVec Ideal S512x4096 .bf16) (ix2 j s) : EReal) = (((dat W).g s.val j.val : ℝ) : EReal) := by
  refine (late_ctt _ s j).trans ?_
  rw [(args_kept W).1]
  exact H.g.cell _ _

theorem bias_handed (p : Fin 4) (r : Fin 640) (j : Fin 256) : ((handed W (Proc.tc.devRef main_v99) : FVec Ideal S4x4x640x256 .f32) (ix4 0 p r j) : EReal)
    = if 64 * (j.val / 128) ≤ r.val ∧ r.val < 64 * (j.val / 128) + 576 then
      (((dat W).tab (2 * p.val + j.val / 64 % 2) (j.val % 64) (r.val - 64 * (j.val / 128)) : ℝ) : EReal) else ⊥ := by
  have T := tab H
  refine (late_bias _ 0 p r j).trans ?_
  generalize StableHlo.after middle (StableHlo.after early W) = E at T ⊢
  generalize dat W = D at T ⊢
  by_cases h : 64 * (j.val / 128) ≤ r.val ∧ r.val < 64 * (j.val / 128) + 576
  · rw [dif_pos h, if_pos h]
    exact T _ _ _
  · rw [dif_neg h, if_neg h]

end Handed

set_option maxHeartbeats 2000000 in
/-- The blocks of pair `t` hold the problem's arrays. -/
theorem reads (m : (ℓ : Loc nD τ sig) → Buf (Elt Ideal) ℓ) (c : Dev nD) (t : Fin cfg0.N) (H : Fine (fun b => m (c, b))) :
    Reads (inp m c t) (dat (fun b => m (c, b))) t.val := by
  constructor
  · intro s f
    exact (blk_0 t _ s f).trans ((congrFun (V_eq m c main_v106) _).trans (q_handed H s _))
  · intro f s
    exact (blk_1 t _ f s).trans ((congrFun (V_eq m c main_v108) _).trans (qt_handed H s _))
  · intro s f
    exact (blk_2 t _ s f).trans ((congrFun (V_eq m c main_v103) _).trans (k_handed H s _))
  · intro f s
    exact (blk_3 t _ f s).trans ((congrFun (V_eq m c main_v109) _).trans (kt_handed H s _))
  · intro s f
    exact (blk_4 t _ s f).trans ((congrFun (V_eq m c main_v105) _).trans (v_handed H s _))
  · intro r j
    exact (blk_5 t _ r j).trans ((congrFun (V_eq m c main_v99) _).trans (bias_handed H ⟨t.val, t_lt t⟩ r j))
  · intro s f
    exact (blk_6 t _ s f).trans ((congrFun (V_eq m c main_v110) _).trans (g_handed H s _))
  · intro f s
    exact (blk_7 t _ f s).trans ((congrFun (V_eq m c main_v112) _).trans (gt_handed H s _))
  · intro u e j
    refine Eq.trans (show _ = (V m c main_v116 : FVec Ideal S4x32x8x256 .f32) (ix4 ⟨t.val, t_lt t⟩ u e j) from blk_8 t (V m c main_v116) u e j) ?_
    refine (congrFun (V_eq m c main_v116) _).trans ?_
    exact lse_handed H ⟨t.val, t_lt t⟩ u e j
  · intro u e j
    refine Eq.trans (show _ = (V m c main_v120 : FVec Ideal S4x32x8x256 .f32) (ix4 ⟨t.val, t_lt t⟩ u e j) from blk_9 t (V m c main_v120) u e j) ?_
    refine (congrFun (V_eq m c main_v120) _).trans ?_
    exact dl_handed H ⟨t.val, t_lt t⟩ u e j

end Cert.KernelAttnIdeal.Att

end
-- ==== Proof.AttnOut.lean ====
/- The arrays the attention's gradient leaves: the gradients of the problem's arrays. -/
module

public import proofs.«01_k».proof.Proof.AttnReads
public import Idealize.ShloMosaic.Lib.Pipeline.ValueKit

@[expose] public section

set_option maxRecDepth 16384

noncomputable section

namespace Cert.KernelAttnIdeal.Att

open Idealize.ShloMosaic Idealize.ShloMosaic.TcCoe Idealize.SL.Sem
open Idealize.ShloMosaic.Pipeline (Dat)
open Cert.KernelAttnIdeal Cert.KernelAttnIdeal.Gen Cert.Attn

/-- The results as arrays: the gradients of the scaled queries, of the padded keys and values, -/
def outQ (D : Data) : FVec Ideal S4096x512 .f32 := fun j => ((D.dq (j 0).val (j 1).val : ℝ) : EReal)
def outK (D : Data) : FVec Ideal S4608x512 .f32 := fun j => ((D.dk (j 0).val (j 1).val : ℝ) : EReal)
def outV (D : Data) : FVec Ideal S4608x512 .bf16 := fun j => ((D.dv (j 0).val (j 1).val : ℝ) : EReal)

/-- and of the bias, one layer's of four, by pair, place in the band, head of the pair and row of the chunk. -/
def outB (D : Data) : FVec Ideal S4x4x576x128 .f32 := fun j =>
  if (j 0).val = 0 then ((D.db (2 * (j 1).val + (j 3).val / 64) ((j 3).val % 64) (j 2).val : ℝ) : EReal) else ((0 : ℝ) : EReal)

/-- The blocks the results are cut in. -/
theorem blk_10 (t : Fin cfg0.N) (X : FVec Ideal S4096x512 .f32) (s : Fin 4096) (f : Fin 128) :
    ((cfg0.win 10).blk t).view.read (Elt Ideal) X (ix2 s f) = X (ix2 s ⟨128 * t.val + f.val, by have := t_lt t; omega⟩) := by
  blk_ext [idx t]

theorem blk_11 (t : Fin cfg0.N) (X : FVec Ideal S4608x512 .f32) (s : Fin 4608) (f : Fin 128) :
    ((cfg0.win 11).blk t).view.read (Elt Ideal) X (ix2 s f) = X (ix2 s ⟨128 * t.val + f.val, by have := t_lt t; omega⟩) := by
  blk_ext [idx t]

theorem blk_12 (t : Fin cfg0.N) (X : FVec Ideal S4608x512 .bf16) (s : Fin 4608) (f : Fin 128) :
    ((cfg0.win 12).blk t).view.read (Elt Ideal) X (ix2 s f) = X (ix2 s ⟨128 * t.val + f.val, by have := t_lt t; omega⟩) := by
  blk_ext [idx t]

theorem blk_13 (t : Fin cfg0.N) (X : FVec Ideal S4x4x576x128 .f32) (a : Fin 576) (f : Fin 128) :
    ((cfg0.win 13).blk t).view.read (Elt Ideal) X (ix4 0 0 a f) = X (ix4 0 ⟨t.val, t_lt t⟩ a f) := by
  blk_ext [idx t]

variable (m : (ℓ : Loc nD τ sig) → Buf (Elt Ideal) ℓ) (c : Dev nD)

theorem final_q (H : Fine (fun b => m (c, b))) : (dats m 0 c).arrAt 10 (cfgs 0).N = outQ (dat (fun b => m (c, b))) := by
  refine (dats m 0 c).arrAt_eq_of_covers 10 _ (by decide +kernel) fun t _ y => ?_
  blk_simp
  rw [after_10]
  obtain ⟨s, f, rfl⟩ : ∃ (s : Fin 4096) (f : Fin 128), y = ix2 s f := ⟨_, _, eq_ix2 y⟩
  have h := (reads m c t H).DQ s f
  generalize dat (fun b => m (c, b)) = D at h ⊢
  exact h.trans (blk_10 t (outQ D) s f).symm

theorem final_k (H : Fine (fun b => m (c, b))) : (dats m 0 c).arrAt 11 (cfgs 0).N = outK (dat (fun b => m (c, b))) := by
  refine (dats m 0 c).arrAt_eq_of_covers 11 _ (by decide +kernel) fun t _ y => ?_
  blk_simp
  rw [after_11]
  obtain ⟨s, f, rfl⟩ : ∃ (s : Fin 4608) (f : Fin 128), y = ix2 s f := ⟨_, _, eq_ix2 y⟩
  have h := (reads m c t H).DK s f
  generalize dat (fun b => m (c, b)) = D at h ⊢
  exact h.trans (blk_11 t (outK D) s f).symm

theorem final_v (H : Fine (fun b => m (c, b))) : (dats m 0 c).arrAt 12 (cfgs 0).N = outV (dat (fun b => m (c, b))) := by
  refine (dats m 0 c).arrAt_eq_of_covers 12 _ (by decide +kernel) fun t _ y => ?_
  blk_simp
  rw [after_12]
  obtain ⟨s, f, rfl⟩ : ∃ (s : Fin 4608) (f : Fin 128), y = ix2 s f := ⟨_, _, eq_ix2 y⟩
  have h := (reads m c t H).DV s f
  generalize dat (fun b => m (c, b)) = D at h ⊢
  exact h.trans (blk_12 t (outV D) s f).symm

theorem late_zero (E : Valuation τ sig (Elt Ideal)) (l p : Fin 4) (a : Fin 576) (f : Fin 128) :
    ((StableHlo.after late E (Proc.tc.devRef main_v122_3) : FVec Ideal S4x4x576x128 .f32) (ix4 l p a f) : EReal) = ((0 : ℝ) : EReal) := by
  simp only [hostOps0_8, hostOps0_9, hostOps0_10, hostOps0_11, hostOps0_12, hostOps0_13, hostOps0_14, hostOps0_15, hostOps0_16, List.flatten_cons, List.flatten_nil, List.cons_append, List.nil_append, List.append_nil]
  after_results_simp
  pointwise []
  show (Ideal.ofBits .f32 0#32 : EReal) = _
  simp [Ideal.ofBits, Ideal.ieee]

/-- The blocks not written keep the zeros they were given. -/
theorem rest_b (l p : Fin 4) (a : Fin 576) (f : Fin 128) : (V m c main_v122_3 : FVec Ideal S4x4x576x128 .f32) (ix4 l p a f) = ((0 : ℝ) : EReal) :=
  (congrFun (V_eq m c main_v122_3) _).trans (late_zero _ l p a f)

theorem cover_b (X : FVec Ideal S4x4x576x128 .f32) (h : ∀ (t : Fin cfg0.N) (a : Fin 576) (f : Fin 128), (inp m c t).DB 32 (ix4 0 0 a f) = X (ix4 0 ⟨t.val, t_lt t⟩ a f))
    (h' : ∀ j : S4x4x576x128.Idx, (j 0).val ≠ 0 → (V m c main_v122_3 : FVec Ideal S4x4x576x128 .f32) j = X j) : (dats m 0 c).arrAt 13 (cfgs 0).N = X := by
  refine (dats m 0 c).arrAt_eq_of_coversWhere_of_agree 13 _ (fun β => β (0 : Fin _) = 0) (by decide +kernel) (fun t hf y => ?_) (fun j hj => ?_)
  · have e : (dats m 0 c).after 13 t = (inp m c t).DB 32 := after_13 m c t
    have g := h t
    generalize (inp m c t).DB 32 = Y at g e
    generalize (dats m 0 c).after 13 t = Z at e ⊢
    subst e
    clear h h'
    rw [cast_eq]
    obtain ⟨z, z', a, f, rfl⟩ : ∃ (z z' : Fin 1) (a : Fin 576) (f : Fin 128), y = ix4 z z' a f := ⟨_, _, _, _, eq_ix4 y⟩
    obtain rfl : z = 0 := Subsingleton.elim _ _
    obtain rfl : z' = 0 := Subsingleton.elim _ _
    exact (g a f).trans (blk_13 t X a f).symm
  · rw [A_eq]
    blk_simp [Pipeline.Window.cell_apply] at hj
    blk_simp
    generalize V m c = f at h' ⊢
    refine h' j fun e => hj ?_
    rw [Nat.div_one]
    exact e

theorem final_b (H : Fine (fun b => m (c, b))) : (dats m 0 c).arrAt 13 (cfgs 0).N = outB (dat (fun b => m (c, b))) := by
  refine cover_b m c _ (fun t a f => ?_) (fun j hj => ?_)
  · have h := (reads m c t H).DB a f
    generalize dat (fun b => m (c, b)) = D at h ⊢
    exact h
  · obtain ⟨l, p, a, f, rfl⟩ : ∃ (l p : Fin 4) (a : Fin 576) (f : Fin 128), j = ix4 l p a f := ⟨_, _, _, _, eq_ix4 j⟩
    refine (rest_b m c l p a f).trans ?_
    generalize dat (fun b => m (c, b)) = D
    exact (if_neg hj).symm

end Cert.KernelAttnIdeal.Att
-- ==== Proof.AttnRefScores.lean ====
/- The reference's arrays up to the scores, entry by entry. -/
module

public import proofs.«01_k».proof.Proof.AttnHost
public import proofs.«01_k».proof.Proof.AttnIndex
public import proofs.«01_k».proof.Proof.AttnData
public import proofs.«01_k».proof.Proof.Gen.ReferenceAttnIdeal.Run
public import Idealize.ShloMosaic.Lib.Pointwise

@[expose] public section

set_option maxRecDepth 16384

noncomputable section

namespace Cert.ReferenceAttnIdeal.Att

open Idealize.ShloMosaic Idealize.ShloMosaic.TcCoe Idealize.SL.Sem
open Cert.ReferenceAttnIdeal Cert.ReferenceAttnIdeal.Gen Cert.ReferenceAttnIdeal.Value Cert.Attn
open Cert.KernelAttnIdeal.Att (band_word valid_word)

variable (W : Valuation τ sig (Elt Ideal))

/-- The program's arguments. -/
abbrev qA : FVec Ideal S4096x512 .f32 := W (Proc.tc.devRef main_arg0)
abbrev kA : FVec Ideal S4096x512 .f32 := W (Proc.tc.devRef main_arg1)
abbrev vA : FVec Ideal S4096x512 .f32 := W (Proc.tc.devRef main_arg2)
abbrev tA : FVec Ideal S8x257 .f32 := W (Proc.tc.devRef main_arg3)
abbrev gA : FVec Ideal S4096x512 .f32 := W (Proc.tc.devRef main_arg4)

abbrev dat : Data := data (qA W) (kA W) (vA W) (tA W) (gA W)

/-- They are reals. -/
structure Fine : Prop where
  q : Reals (qA W)
  k : Reals (kA W)
  v : Reals (vA W)
  t : Reals (tA W)
  g : Reals (gA W)

theorem zero_word : Ideal.ofBits FTy.f32 0#32 = ((0 : ℝ) : EReal) := by simp [Ideal.ofBits, Ideal.ieee]

/-- The chunk a place of the band lies in. -/
theorem chunk (n : Fin 64) (a : Fin 9) : (res_main_v36 W : IVec S64x9 32) (ix2 n a) = IntOp.addi (BitVec.ofNat 32 n.val) (BitVec.ofNat 32 a.val) := by
  unfold res_main_v36
  pointwise []

theorem place (n : Fin 64) (a : Fin 9) : ((res_main_v42 W : IVec S64x9x1 32) (ix3 n a 0)).toInt = ((n.val + a.val : ℕ) : Int) := by
  rw [← band_word n a, ← chunk W n a]
  unfold res_main_v42
  pointwise []

theorem place' (n : Fin 64) (a : Fin 9) : ((res_main_v50 W : IVec S64x9x1 32) (ix3 n a 0)).toInt = ((n.val + a.val : ℕ) : Int) := by
  rw [← band_word n a, ← chunk W n a]
  unfold res_main_v50
  pointwise []

theorem valid (n : Fin 64) (h : Fin 8) (i : Fin 64) (A : Fin 576) :
    (res_main_v64_1 W : IVec S1x64x8x64x576 1) (ix5 0 n h i A) = if 512 ≤ 64 * n.val + A.val then 1#1 else 0#1 := by
  have e : (if 512 ≤ 64 * n.val + A.val then 1#1 else 0#1 : BitVec 1) = if 8 ≤ n.val + (A.val / 64) then 1#1 else 0#1 := if_congr (by omega) rfl rfl
  refine Eq.trans ?_ ((valid_word n ⟨A.val / 64, by omega⟩).trans e.symm)
  rw [← chunk W]
  unfold res_main_v64_1
  pointwise []

/-- An entry of an array behind eight chunks of zeros. -/
theorem padded {x : FVec Ideal S4096x512 .f32} (hx : Reals x) (P : Prop) [Decidable P] (i : ¬P → Fin 4096) (j : Fin 512) (R J : ℕ) (hP : P ↔ R < 512)
    (hi : ∀ p, (i p).val = R - 512) (hj : j.val = J) :
    (if h : P then (0 : EReal) else x (ix2 (i h) j)) = (((if R < 512 then 0 else cell x (R - 512) J) : ℝ) : EReal) := by
  by_cases h : P
  · rw [dif_pos h, if_pos (hP.mp h), EReal.coe_zero]
  · rw [dif_neg h, if_neg (mt hP.mpr h)]
    exact hx.at _ _ _ _ (hi h) hj

section
variable {W} (H : Fine W)
include H

theorem kb (n : Fin 64) (A : Fin 576) (h : Fin 8) (e : Fin 64) : (res_main_v44 W : FVec Ideal S1x64x576x8x64 .f32) (ix5 0 n A h e)
    = (((dat W).kp (64 * n.val + A.val) (64 * h.val + e.val) : ℝ) : EReal) := by
  have p := place W n ⟨A.val / 64, by omega⟩
  unfold res_main_v44 res_main_v23
  generalize res_main_v42 W = idx at p ⊢
  pointwise []
  refine (gather_band _ _ _ _ _ _ _ _ ⟨n.val + A.val / 64, by omega⟩ ?_).trans ?_
  · exact p
  · pointwise []
    exact padded H.k _ _ _ _ _ (by omega) (fun _ => by show (n.val + A.val / 64 - 8) * 64 + A.val % 64 = _; omega) (by show h.val * 64 + e.val = _; omega)

theorem vb (n : Fin 64) (A : Fin 576) (h : Fin 8) (e : Fin 64) : (res_main_v52 W : FVec Ideal S1x64x576x8x64 .f32) (ix5 0 n A h e)
    = (((dat W).vp (64 * n.val + A.val) (64 * h.val + e.val) : ℝ) : EReal) := by
  have p := place' W n ⟨A.val / 64, by omega⟩
  unfold res_main_v52 res_main_v23
  generalize res_main_v50 W = idx at p ⊢
  pointwise []
  refine (gather_band _ _ _ _ _ _ _ _ ⟨n.val + A.val / 64, by omega⟩ ?_).trans ?_
  · exact p
  · pointwise []
    exact padded H.v _ _ _ _ _ (by omega) (fun _ => by show (n.val + A.val / 64 - 8) * 64 + A.val % 64 = _; omega) (by show h.val * 64 + e.val = _; omega)

theorem qb (n i : Fin 64) (h : Fin 8) (e : Fin 64) : (res_main_v22 W : FVec Ideal S1x64x64x8x64 .f32) (ix5 0 n i h e)
    = (((dat W).q (64 * n.val + i.val) (64 * h.val + e.val) : ℝ) : EReal) := by
  unfold res_main_v22
  pointwise []
  exact H.q.at _ _ _ _ (by show n.val * 64 + i.val = _; omega) (by show h.val * 64 + e.val = _; omega)

theorem gb (n i : Fin 64) (h : Fin 8) (e : Fin 64) : (res_main_v97 W : FVec Ideal S1x64x8x64x64 .f32) (ix5 0 n h e i)
    = (((dat W).g (64 * n.val + i.val) (64 * h.val + e.val) : ℝ) : EReal) := by
  unfold res_main_v97
  pointwise []
  exact H.g.at _ _ _ _ (by show n.val * 64 + i.val = _; omega) (by show h.val * 64 + e.val = _; omega)

theorem tab (h : Fin 8) (i : Fin 64) (a : Fin 576) (hd : (res_main_v11 W : IVec S64x576 32) (ix2 i a) = Cert.Attn.dist i.val a.val) :
    Host.gather gather_S8x257_S64x576x1_S8x64x576_0_1_n_n_1_2_81 (tA W) (broadcastInDim S64x576x1 ![0, 1] bcast_S64x576_S64x576x1_0_1 (select (cmpi .slt (res_main_v11 W) (broadcastInDim S64x576 ![] bcast_S_S64x576 (constantI S_ 32 0#32))) (addi (res_main_v11 W) (broadcastInDim S64x576 ![] bcast_S_S64x576 (constantI S_ 32 257#32))) (res_main_v11 W))) (ix3 h i a)
      = (((dat W).tab h.val i.val a.val : ℝ) : EReal) := by
  refine Eq.trans ?_ (H.t.at h ⟨column i.val a.val, by unfold column; omega⟩ h.val (column i.val a.val) rfl rfl)
  refine (gather_tab _ _ _ h i a).trans ?_
  generalize tA W = T
  generalize (res_main_v11 W : IVec S64x576 32) = X at hd ⊢
  pointwise []
  refine congrArg (fun c => T (ix2 h c)) (Fin.ext ?_)
  unfold column
  dsimp only
  rw [hd]

omit H in
theorem distance (i : Fin 64) (a : Fin 576) : (res_main_v11 W : IVec S64x576 32) (ix2 i a) = Cert.Attn.dist i.val a.val := by
  unfold res_main_v11 Cert.Attn.dist
  pointwise []
  rfl

/-- The scores. -/
theorem scores (n : Fin 64) (h : Fin 8) (i : Fin 64) (A : Fin 576) :
    (res_main_v64_0 W : FVec Ideal S1x64x8x64x576 .f32) (ix5 0 n h i A) = (((dat W).sc n.val h.val i.val A.val : ℝ) : EReal) := by
  have t := tab H h i A (distance i A)
  have v := valid W n h i A
  have k := fun e => kb H n A h e
  have q := fun e => qb H n i h e
  unfold res_main_v64_0
  generalize Host.gather gather_S8x257_S64x576x1_S8x64x576_0_1_n_n_1_2_81 _ _ = T at t ⊢
  obtain ⟨M, hM⟩ : ∃ M : IVec S1x64x8x64x576 1, M = res_main_v64_1 W := ⟨_, rfl⟩
  rw [← hM] at v ⊢
  obtain ⟨K, hK⟩ : ∃ K : FVec Ideal S1x64x576x8x64 .f32, K = res_main_v44 W := ⟨_, rfl⟩
  rw [← hK] at k ⊢
  obtain ⟨Q, hQ⟩ : ∃ Q : FVec Ideal S1x64x64x8x64 .f32, Q = res_main_v22 W := ⟨_, rfl⟩
  rw [← hQ] at q ⊢
  pointwise []
  have b : (dat W).big = mask := rfl
  generalize dat W = D at q k t b ⊢
  rw [v, t, eighth, Finset.sum_congr rfl fun x _ => show (Q (ix5 0 n i h x) * K (ix5 0 n A h x) : EReal)
    = ((D.q (64 * n.val + i.val) (64 * h.val + x.val) * D.kp (64 * n.val + A.val) (64 * h.val + x.val) : ℝ) : EReal) by rw [q, k, ← EReal.coe_mul],
    coe_sum, ← EReal.coe_mul, ← EReal.coe_add]
  unfold Data.sc
  by_cases hb : 512 ≤ 64 * n.val + A.val
  · rw [if_pos hb, if_pos hb]
    rfl
  · rw [if_neg hb, if_neg hb]
    rw [b, ← mask_eq]
    rfl

end
end Cert.ReferenceAttnIdeal.Att
-- ==== Proof.AttnRefScoresGrad.lean ====
/- The reference's gradient of the scores, entry by entry. -/
module

public import proofs.«01_k».proof.Proof.AttnRefScores

@[expose] public section

set_option maxRecDepth 16384

noncomputable section

namespace Cert.ReferenceAttnIdeal.Att

open Idealize.ShloMosaic Idealize.ShloMosaic.TcCoe Idealize.SL.Sem
open Cert.ReferenceAttnIdeal Cert.ReferenceAttnIdeal.Gen Cert.ReferenceAttnIdeal.Value Cert.Attn

/-- A sum over axes of length one is the one entry. -/
theorem sum_one {s t : Shape} {axes : List (Fin s.rank)} (h : s.ReducesTo axes t) (x : s.Idx → EReal) (init : EReal) (j : t.Idx) (i : s.Idx)
    (h1 : h.drop i = j) (h2 : ∀ i', h.drop i' = j → i' = i) : Ideal.hostReduceAdd h x init j = init + x i := by
  unfold Ideal.hostReduceAdd
  congr 1
  rw [Finset.sum_eq_single i]
  · intro b hb hne
    exact absurd (h2 b (by simpa using hb)) hne
  · intro hn
    exact absurd (by simpa using h1) hn

theorem sum_ends (x : S1x64x8x64x1.Idx → EReal) (n : Fin 64) (h : Fin 8) (i : Fin 64) :
    Ideal.hostReduceAdd reducesTo_S1x64x8x64x1_S64x8x64_d0_4 x 0 (ix3 n h i) = x (ix5 0 n h i 0) := by
  refine (sum_one _ x 0 _ (ix5 0 n h i 0) ?_ fun i' e => ?_).trans (zero_add _)
  · funext q
    match q with
    | ⟨0, _⟩ => rfl
    | ⟨1, _⟩ => rfl
    | ⟨2, _⟩ => rfl
  · have e0 : i' 1 = n := congrFun e 0
    have e1 : i' 2 = h := congrFun e 1
    have e2 : i' 3 = i := congrFun e 2
    funext q
    match q with
    | ⟨0, _⟩ => exact Subsingleton.elim (α := Fin 1) _ _
    | ⟨1, _⟩ => exact e0
    | ⟨2, _⟩ => exact e1
    | ⟨3, _⟩ => exact e2
    | ⟨4, _⟩ => exact Subsingleton.elim (α := Fin 1) _ _

/-- The derivative of a row's quotients of exponentials, as probabilities: the masked places' share falls away with their values. -/
theorem softmax_grad (D : Data) (n h i A : ℕ) (hA : 512 ≤ 64 * n + A) (t : ℝ) :
    (D.dp n h i A / (∑ a : Fin 576, Real.exp (D.sc n h i a.val - t))
      + -(∑ x : Fin 576, D.dp n h i x.val * (1 / ((∑ a : Fin 576, Real.exp (D.sc n h i a.val - t)) * (∑ a : Fin 576, Real.exp (D.sc n h i a.val - t))))
        * Real.exp (D.sc n h i x.val - t))) * Real.exp (D.sc n h i A - t) = D.dS n h i A := by
  have hS : 0 < ∑ a : Fin 576, Real.exp (D.sc n h i a.val - t) := Finset.sum_pos (fun _ _ => Real.exp_pos _) ⟨0, Finset.mem_univ _⟩
  have r := fun a => ratio D n h i a t
  generalize (∑ a : Fin 576, Real.exp (D.sc n h i a.val - t)) = S at hS r ⊢
  have d : ∑ x : Fin 576, D.dp n h i x.val * (1 / (S * S)) * Real.exp (D.sc n h i x.val - t) = D.δ n h i / S := by
    unfold Data.δ
    rw [Finset.sum_div]
    refine Finset.sum_congr rfl fun x _ => ?_
    by_cases hx : 512 ≤ 64 * n + x.val
    · unfold Data.P
      rw [if_pos hx, ← r]
      field_simp
    · rw [D.dp_masked n h i x.val (by omega)]
      ring
  rw [d]
  unfold Data.dS Data.P
  rw [if_pos hA, ← r]
  field_simp
  ring

section
variable {W : Valuation τ sig (Elt Ideal)} (H : Fine W)
include H

/-- The exponentials over a row's largest score, and their sum. -/
theorem saved (n : Fin 64) (h : Fin 8) (i : Fin 64) : ∃ t : ℝ,
    (∀ A : Fin 576, (res_main_v85 W : FVec Ideal S1x64x8x64x576 .f32) (ix5 0 n h i A) = ((Real.exp ((dat W).sc n.val h.val i.val A.val - t) : ℝ) : EReal))
    ∧ (res_main_v87 W : FVec Ideal S1x64x8x64x1 .f32) (ix5 0 n h i 0) = ((∑ a : Fin 576, Real.exp ((dat W).sc n.val h.val i.val a.val - t) : ℝ) : EReal) := by
  have hx := fun n h i A => scores H n h i A
  obtain ⟨t, ht⟩ : ∃ t : ℝ, (res_main_v65 W : FVec Ideal S1x64x8x64 .f32) (ix4 0 n h i) = (t : EReal) := by
    unfold res_main_v65
    obtain ⟨X, hX⟩ : ∃ X : FVec Ideal S1x64x8x64x576 .f32, X = res_main_v64_0 W := ⟨_, rfl⟩
    rw [← hX] at hx ⊢
    refine reduce_max_real X _ _ _ neg_infinity (fun j => ?_) _ (ix5 0 n h i 0) ?_
    · obtain ⟨z, n', h', i', a', rfl⟩ : ∃ (z : Fin 1) (n' : Fin 64) (h' : Fin 8) (i' : Fin 64) (a' : Fin 576), j = ix5 z n' h' i' a' :=
        ⟨_, _, _, _, _, eq_ix5 j⟩
      rw [Subsingleton.elim z 0]
      exact ⟨_, hx _ _ _ _⟩
    · funext q
      match q with
      | ⟨0, _⟩ => rfl
      | ⟨1, _⟩ => rfl
      | ⟨2, _⟩ => rfl
      | ⟨3, _⟩ => rfl
  have he : ∀ A : Fin 576, (res_main_v85 W : FVec Ideal S1x64x8x64x576 .f32) (ix5 0 n h i A) = ((Real.exp ((dat W).sc n.val h.val i.val A.val - t) : ℝ) : EReal) := fun A => by
    have e := hx n h i A
    unfold res_main_v85
    obtain ⟨X, hX⟩ : ∃ X : FVec Ideal S1x64x8x64x576 .f32, X = res_main_v64_0 W := ⟨_, rfl⟩
    obtain ⟨T, hT⟩ : ∃ T : FVec Ideal S1x64x8x64 .f32, T = res_main_v65 W := ⟨_, rfl⟩
    rw [← hX] at e ⊢
    rw [← hT] at ht ⊢
    pointwise []
    rw [neg_infinity, bot_sup_eq, e, ht, ← EReal.coe_sub, Ideal.exp_coe]
  refine ⟨t, he, ?_⟩
  unfold res_main_v87
  obtain ⟨X, hX⟩ : ∃ X : FVec Ideal S1x64x8x64x576 .f32, X = res_main_v85 W := ⟨_, rfl⟩
  rw [← hX] at he ⊢
  pointwise []
  refine Eq.trans (b := ∑ a : Fin 576, ((Real.exp ((dat W).sc n.val h.val i.val a.val - t) : ℝ) : EReal)) ?_ (coe_sum _ _)
  exact Finset.sum_congr rfl fun x _ => he x

/-- The probabilities' cotangents. -/
theorem cotangents (n : Fin 64) (h : Fin 8) (i : Fin 64) (A : Fin 576) :
    (res_main_v98 W : FVec Ideal S1x64x8x64x576 .f32) (ix5 0 n h i A) = (((dat W).dp n.val h.val i.val A.val : ℝ) : EReal) := by
  have v := fun e => vb H n A h e
  have g := fun e => gb H n i h e
  unfold res_main_v98 Data.dp
  obtain ⟨X, hX⟩ : ∃ X : FVec Ideal S1x64x8x64x64 .f32, X = res_main_v97 W := ⟨_, rfl⟩
  obtain ⟨Y, hY⟩ : ∃ Y : FVec Ideal S1x64x576x8x64 .f32, Y = res_main_v52 W := ⟨_, rfl⟩
  rw [← hX] at g ⊢
  rw [← hY] at v ⊢
  pointwise []
  refine Eq.trans (b := ∑ x : Fin 64, (((dat W).g (64 * n.val + i.val) (64 * h.val + x.val) * (dat W).vp (64 * n.val + A.val) (64 * h.val + x.val) : ℝ) : EReal)) ?_ (coe_sum _ _)
  exact Finset.sum_congr rfl fun x _ => by rw [g, v, EReal.coe_mul]

/-- The probabilities, the masked places' among them. -/
theorem probs (n : Fin 64) (h : Fin 8) (i : Fin 64) (A : Fin 576) : (res_main_v89 W : FVec Ideal S1x64x8x64x576 .f32) (ix5 0 n h i A)
    = ((Real.exp ((dat W).sc n.val h.val i.val A.val) / (dat W).Z n.val h.val i.val : ℝ) : EReal) := by
  obtain ⟨t, e, z⟩ := saved H n h i
  unfold res_main_v89
  obtain ⟨X, hX⟩ : ∃ X : FVec Ideal S1x64x8x64x576 .f32, X = res_main_v85 W := ⟨_, rfl⟩
  obtain ⟨Y, hY⟩ : ∃ Y : FVec Ideal S1x64x8x64x1 .f32, Y = res_main_v87 W := ⟨_, rfl⟩
  rw [← hX] at e ⊢
  rw [← hY] at z ⊢
  pointwise []
  rw [e, z, div_real _ _ (Finset.sum_pos (fun _ _ => Real.exp_pos _) ⟨0, Finset.mem_univ _⟩), ratio]

/-- The scores' gradient. -/
theorem grads (n : Fin 64) (h : Fin 8) (i : Fin 64) (A : Fin 576) :
    (res_main_v114 W : FVec Ideal S1x64x8x64x576 .f32) (ix5 0 n h i A) = (((dat W).dS n.val h.val i.val A.val : ℝ) : EReal) := by
  obtain ⟨t, e, z⟩ := saved H n h i
  have c := fun a => cotangents H n h i a
  have v := valid W n h i A
  unfold res_main_v114
  obtain ⟨X, hX⟩ : ∃ X : FVec Ideal S1x64x8x64x576 .f32, X = res_main_v85 W := ⟨_, rfl⟩
  obtain ⟨Y, hY⟩ : ∃ Y : FVec Ideal S1x64x8x64x1 .f32, Y = res_main_v87 W := ⟨_, rfl⟩
  obtain ⟨C, hC⟩ : ∃ C : FVec Ideal S1x64x8x64x576 .f32, C = res_main_v98 W := ⟨_, rfl⟩
  obtain ⟨M, hM⟩ : ∃ M : IVec S1x64x8x64x576 1, M = res_main_v64_1 W := ⟨_, rfl⟩
  rw [← hX] at e ⊢
  rw [← hY] at z ⊢
  rw [← hC] at c ⊢
  rw [← hM] at v ⊢
  clear hX hY hC hM
  pointwise []
  rw [sum_ends]
  pointwise []
  generalize dat W = D at e z c ⊢
  have hS : 0 < ∑ a : Fin 576, Real.exp (D.sc n.val h.val i.val a.val - t) := Finset.sum_pos (fun _ _ => Real.exp_pos _) ⟨0, Finset.mem_univ _⟩
  rw [v]
  by_cases hv : 512 ≤ 64 * n.val + A.val
  · rw [if_pos hv]
    refine Eq.trans (?_ : _ = (((D.dp n.val h.val i.val A.val / (∑ a : Fin 576, Real.exp (D.sc n.val h.val i.val a.val - t))
      + -(∑ x : Fin 576, D.dp n.val h.val i.val x.val * (1 / ((∑ a : Fin 576, Real.exp (D.sc n.val h.val i.val a.val - t)) * (∑ a : Fin 576, Real.exp (D.sc n.val h.val i.val a.val - t))))
        * Real.exp (D.sc n.val h.val i.val x.val - t))) * Real.exp (D.sc n.val h.val i.val A.val - t) : ℝ) : EReal)) (congrArg _ (softmax_grad D _ _ _ _ hv t))
    rw [EReal.coe_mul, EReal.coe_add, EReal.coe_neg, ← coe_sum, ← div_real _ _ hS]
    have o : ∀ x : Fin 576, C (ix5 0 n h i x) * Ideal.div 1 (Y (ix5 0 n h i 0) * Y (ix5 0 n h i 0)) * X (ix5 0 n h i x)
        = ((D.dp n.val h.val i.val x.val * (1 / ((∑ a : Fin 576, Real.exp (D.sc n.val h.val i.val a.val - t)) * (∑ a : Fin 576, Real.exp (D.sc n.val h.val i.val a.val - t))))
          * Real.exp (D.sc n.val h.val i.val x.val - t) : ℝ) : EReal) := fun x => by
      rw [c, z, e, ← EReal.coe_mul, ← EReal.coe_one, div_real _ _ (mul_pos hS hS), ← EReal.coe_mul, ← EReal.coe_mul]
    rw [Finset.sum_congr rfl fun x _ => o x, c, z, e]
    rfl
  · rw [if_neg hv]
    unfold Data.dS Data.P
    rw [if_neg hv, zero_mul]
    rfl

end

end Cert.ReferenceAttnIdeal.Att
-- ==== Proof.AttnRefOut.lean ====
/- The reference's results: the gradients of the problem's arrays. -/
module

public import proofs.«01_k».proof.Proof.AttnRefScoresGrad

@[expose] public section

set_option maxRecDepth 16384

noncomputable section

namespace Cert.ReferenceAttnIdeal.Att

open Idealize.ShloMosaic Idealize.ShloMosaic.TcCoe Idealize.SL.Sem
open Cert.ReferenceAttnIdeal Cert.ReferenceAttnIdeal.Gen Cert.ReferenceAttnIdeal.Value Cert.Attn

/-- A row of the padded sequence collects, from every chunk whose band reaches it, the chunk's rows weighed by its place in the band. -/
theorem scatter_rows (w : ℕ → ℕ → ℕ → ℝ) (y : ℕ → ℝ) (R : ℕ) (j : ℕ) (hj : j < 64) :
    (∑ n : Fin 64, ∑ a : Fin 9, if n.val + a.val = R then ∑ i : Fin 64, w n.val i.val (64 * a.val + j) * y (64 * n.val + i.val) else 0)
      = ∑ n : Fin 64, ∑ i : Fin 64, (if 64 * n.val ≤ 64 * R + j ∧ 64 * R + j < 64 * n.val + 576 then w n.val i.val (64 * R + j - 64 * n.val) else 0) * y (64 * n.val + i.val) := by
  refine Finset.sum_congr rfl fun n _ => ?_
  by_cases h : n.val ≤ R ∧ R < n.val + 9
  · have hc : 64 * n.val ≤ 64 * R + j ∧ 64 * R + j < 64 * n.val + 576 := by omega
    simp only [if_pos hc]
    rw [Finset.sum_eq_single (⟨R - n.val, by omega⟩ : Fin 9)]
    · rw [if_pos (show n.val + (R - n.val) = R by omega)]
      refine Finset.sum_congr rfl fun i _ => ?_
      rw [show 64 * (R - n.val) + j = 64 * R + j - 64 * n.val by omega]
    · intro b _ hb
      exact if_neg fun e => hb (Fin.ext (by show b.val = R - n.val; omega))
    · intro hn; exact absurd (Finset.mem_univ _) hn
  · have hc : ¬(64 * n.val ≤ 64 * R + j ∧ 64 * R + j < 64 * n.val + 576) := by omega
    simp only [if_neg hc, zero_mul, Finset.sum_const_zero]
    exact Finset.sum_eq_zero fun a _ => if_neg (by omega)

theorem eight_word : Ideal.ofBits FTy.f32 1090519040#32 = ((8 : ℝ) : EReal) := by
  simp [Ideal.ofBits, Ideal.ieee, -EReal.coe_mul]; norm_num

section
variable {W : Valuation τ sig (Elt Ideal)} (H : Fine W)
include H

theorem scaled (n : Fin 64) (h : Fin 8) (i : Fin 64) (A : Fin 576) :
    (res_main_v119 W : FVec Ideal S1x64x8x64x576 .f32) (ix5 0 n h i A) = (((dat W).dS n.val h.val i.val A.val * (1 / 8) : ℝ) : EReal) := by
  have g := grads H n h i A
  unfold res_main_v119
  obtain ⟨X, hX⟩ : ∃ X : FVec Ideal S1x64x8x64x576 .f32, X = res_main_v114 W := ⟨_, rfl⟩
  rw [← hX] at g ⊢
  pointwise []
  rw [g, eighth, ← EReal.coe_mul]

theorem key_rows (R : Fin 72) (j : Fin 64) (h : Fin 8) (e : Fin 64) :
    (res_main_v129 W : FVec Ideal S1x72x64x8x64 .f32) (ix5 0 R j h e) = (((dat W).dk (64 * R.val + j.val) (64 * h.val + e.val) : ℝ) : EReal) := by
  have p := fun n a => place W n a
  have s := fun n i A => scaled H n h i A
  have q := fun n i => qb H n i h e
  unfold res_main_v129
  obtain ⟨X, hX⟩ : ∃ X : FVec Ideal S1x64x8x64x576 .f32, X = res_main_v119 W := ⟨_, rfl⟩
  obtain ⟨Q, hQ⟩ : ∃ Q : FVec Ideal S1x64x64x8x64 .f32, Q = res_main_v22 W := ⟨_, rfl⟩
  obtain ⟨I, hI⟩ : ∃ I : IVec S64x9x1 32, I = res_main_v42 W := ⟨_, rfl⟩
  rw [← hX] at s ⊢
  rw [← hQ] at q ⊢
  rw [← hI] at p ⊢
  refine (scatter_band _ _ I _ p R j h e).trans ?_
  pointwise []
  simp only [s, q, ← EReal.coe_mul]
  refine Eq.trans (b := ∑ n : Fin 64, ((∑ a : Fin 9, if n.val + a.val = R.val then ∑ i : Fin 64,
    ((dat W).dS n.val h.val i.val (64 * a.val + j.val) * (1 / 8)) * (dat W).q (64 * n.val + i.val) (64 * h.val + e.val) else 0 : ℝ) : EReal)) ?_ ?_
  · refine Finset.sum_congr rfl fun n _ => ?_
    rw [← coe_sum]
    refine Finset.sum_congr rfl fun a _ => ?_
    by_cases c : n.val + a.val = R.val
    · rw [if_pos c, if_pos c, coe_sum, Nat.mul_comm]
    · rw [if_neg c, if_neg c, EReal.coe_zero]
  · rw [coe_sum, scatter_rows (fun n i A => (dat W).dS n h.val i A * (1 / 8)) (fun s => (dat W).q s (64 * h.val + e.val)) R.val j.val j.isLt]
    congr 1
    unfold Data.dk Data.atRow
    rw [show (64 * h.val + e.val) / 64 = h.val by omega]
    refine Finset.sum_congr rfl fun n _ => Finset.sum_congr rfl fun i _ => ?_
    split_ifs <;> ring

theorem value_rows (R : Fin 72) (hR : 8 ≤ R.val) (j : Fin 64) (h : Fin 8) (e : Fin 64) :
    (res_main_v126 W : FVec Ideal S1x72x64x8x64 .f32) (ix5 0 R j h e) = (((dat W).dv (64 * R.val + j.val) (64 * h.val + e.val) : ℝ) : EReal) := by
  have p := fun n a => place' W n a
  have s := fun n i A => probs H n h i A
  have q := fun n i => gb H n i h e
  unfold res_main_v126
  obtain ⟨X, hX⟩ : ∃ X : FVec Ideal S1x64x8x64x576 .f32, X = res_main_v89 W := ⟨_, rfl⟩
  obtain ⟨Q, hQ⟩ : ∃ Q : FVec Ideal S1x64x8x64x64 .f32, Q = res_main_v97 W := ⟨_, rfl⟩
  obtain ⟨I, hI⟩ : ∃ I : IVec S64x9x1 32, I = res_main_v50 W := ⟨_, rfl⟩
  rw [← hX] at s ⊢
  rw [← hQ] at q ⊢
  rw [← hI] at p ⊢
  refine (scatter_band _ _ I _ p R j h e).trans ?_
  pointwise []
  simp only [s, q, ← EReal.coe_mul]
  refine Eq.trans (b := ∑ n : Fin 64, ((∑ a : Fin 9, if n.val + a.val = R.val then ∑ i : Fin 64,
    (Real.exp ((dat W).sc n.val h.val i.val (64 * a.val + j.val)) / (dat W).Z n.val h.val i.val) * (dat W).g (64 * n.val + i.val) (64 * h.val + e.val) else 0 : ℝ) : EReal)) ?_ ?_
  · refine Finset.sum_congr rfl fun n _ => ?_
    rw [← coe_sum]
    refine Finset.sum_congr rfl fun a _ => ?_
    by_cases c : n.val + a.val = R.val
    · rw [if_pos c, if_pos c, coe_sum]
      refine congrArg _ (Finset.sum_congr rfl fun i _ => ?_)
      rw [mul_comm, Nat.mul_comm a.val]
    · rw [if_neg c, if_neg c, EReal.coe_zero]
  · rw [coe_sum, scatter_rows (fun n i A => Real.exp ((dat W).sc n h.val i A) / (dat W).Z n h.val i) (fun s => (dat W).g s (64 * h.val + e.val)) R.val j.val j.isLt]
    congr 1
    unfold Data.dv Data.atRow Data.P
    rw [show (64 * h.val + e.val) / 64 = h.val by omega]
    refine Finset.sum_congr rfl fun n _ => Finset.sum_congr rfl fun i _ => ?_
    by_cases c : 64 * n.val ≤ 64 * R.val + j.val ∧ 64 * R.val + j.val < 64 * n.val + 576
    · rw [if_pos c, if_pos c, if_pos (show 512 ≤ 64 * n.val + (64 * R.val + j.val - 64 * n.val) by omega)]
    · rw [if_neg c, if_neg c]

end

/-- No gradient reaches the zeros in front of the sequence. -/
theorem dk_front (D : Data) (R j : ℕ) (h : R < 512) : D.dk R j = 0 := by
  refine Finset.sum_eq_zero fun n _ => Finset.sum_eq_zero fun i _ => ?_
  unfold Data.atRow
  split_ifs with c
  · unfold Data.dS Data.P
    rw [if_neg (show ¬512 ≤ 64 * n.val + (R - 64 * n.val) by omega), zero_mul, zero_mul]
  · rw [zero_mul]

theorem dv_front (D : Data) (R j : ℕ) (h : R < 512) : D.dv R j = 0 := by
  refine Finset.sum_eq_zero fun n _ => Finset.sum_eq_zero fun i _ => ?_
  unfold Data.atRow
  split_ifs with c
  · unfold Data.P
    rw [if_neg (show ¬512 ≤ 64 * n.val + (R - 64 * n.val) by omega), zero_mul]
  · rw [zero_mul]

/-- A sum over two axes of which both have length one, as the program writes it. -/
theorem sum_front (x : S1x1x8x64x576.Idx → EReal) (h : Fin 8) (i : Fin 64) (A : Fin 576) :
    Ideal.hostReduceAdd reducesTo_S1x1x8x64x576_S8x64x576_d0_1 x 0 (ix3 h i A) = x (ix5 0 0 h i A) := by
  refine (sum_one _ x 0 _ (ix5 0 0 h i A) ?_ fun i' e => ?_).trans (zero_add _)
  · funext q
    match q with
    | ⟨0, _⟩ => rfl
    | ⟨1, _⟩ => rfl
    | ⟨2, _⟩ => rfl
  · have e0 : i' 2 = h := congrFun e 0
    have e1 : i' 3 = i := congrFun e 1
    have e2 : i' 4 = A := congrFun e 2
    funext q
    match q with
    | ⟨0, _⟩ => exact Fin.ext (by have := (i' 0).isLt; simpa using this)
    | ⟨1, _⟩ => exact Fin.ext (by have := (i' 1).isLt; simpa using this)
    | ⟨2, _⟩ => exact e0
    | ⟨3, _⟩ => exact e1
    | ⟨4, _⟩ => exact e2

section
variable {W : Valuation τ sig (Elt Ideal)} (H : Fine W)
include H

theorem out_q (s : Fin 4096) (f : Fin 512) : (mulf (shapeCast _ (shapeCast _ (transpose S1x64x64x8x64 [0, 1, 3, 2, 4] (Host.dotGeneral (φ₁ := .f32) (φ₂ := .f32) dot_S1x64x8x64x576_S1x64x576x8x64_S1x64x8x64x64_4_2_3_4_012_013 none (res_main_v119 W) (res_main_v44 W)) transposes_S1x64x8x64x64_S1x64x64x8x64_0_1_3_2_4) shapeCasts_S1x64x64x8x64_S1x4096x8x64) shapeCasts_S1x4096x8x64_S4096x512) (broadcastInDim S4096x512 ![] bcast_S_S4096x512 (constant S_ .f32 0x41000000#32)) : FVec Ideal S4096x512 .f32) (ix2 s f) = (((dat W).dq s.val f.val : ℝ) : EReal) := by
  have t := fun n h i A => scaled H n h i A
  have k := fun n A h e => kb H n A h e
  obtain ⟨X, hX⟩ : ∃ X : FVec Ideal S1x64x8x64x576 .f32, X = res_main_v119 W := ⟨_, rfl⟩
  obtain ⟨K, hK⟩ : ∃ K : FVec Ideal S1x64x576x8x64 .f32, K = res_main_v44 W := ⟨_, rfl⟩
  rw [← hX] at t ⊢
  rw [← hK] at k ⊢
  pointwise []
  simp only [t, k, ← EReal.coe_mul]
  rw [coe_sum, eight_word, ← EReal.coe_mul, show 64 * (f.val / 64) + f.val % 64 = f.val by omega]
  congr 1
  unfold Data.dq
  rw [Finset.sum_mul]
  exact Finset.sum_congr rfl fun a _ => by ring

theorem out_k (s : Fin 4608) (f : Fin 512) : (concatenate S4608x512 0 [⟨S512x512, (broadcastInDim S512x512 ![] bcast_S_S512x512 (constant S_ .f32 0x00000000#32))⟩, ⟨S4096x512, (shapeCast _ (shapeCast _ (extractStridedSlice S1x64x64x8x64 ![0, 8, 0, 0, 0] (res_main_v129 W : FVec Ideal S1x72x64x8x64 .f32) slices_S1x72x64x8x64_S1x64x64x8x64_0_8_0_0_0) shapeCasts_S1x64x64x8x64_S1x4096x8x64) shapeCasts_S1x4096x8x64_S4096x512)⟩] concatenates_S512x512_S4096x512_S4608x512_d0 : FVec Ideal S4608x512 .f32) (ix2 s f) = (((dat W).dk s.val f.val : ℝ) : EReal) := by
  have t := fun R j h e => key_rows H R j h e
  obtain ⟨X, hX⟩ : ∃ X : FVec Ideal S1x72x64x8x64 .f32, X = res_main_v129 W := ⟨_, rfl⟩
  rw [← hX] at t ⊢
  pointwise []
  by_cases c : s.val < 512
  · rw [dif_pos c, dk_front _ _ _ c, EReal.coe_zero]
  · rw [dif_neg c]
    refine (t _ _ _ _).trans ?_
    simp only
    rw [show 64 * (8 + (s.val - 512) / 64) + (s.val - 512) % 64 = s.val by omega, show 64 * (f.val / 64) + f.val % 64 = f.val by omega]

theorem out_v (s : Fin 4608) (f : Fin 512) : (truncf .bf16 (concatenate S4608x512 0 [⟨S512x512, (broadcastInDim S512x512 ![] bcast_S_S512x512 (constant S_ .f32 0x00000000#32))⟩, ⟨S4096x512, (shapeCast _ (shapeCast _ (extractStridedSlice S1x64x64x8x64 ![0, 8, 0, 0, 0] (res_main_v126 W : FVec Ideal S1x72x64x8x64 .f32) slices_S1x72x64x8x64_S1x64x64x8x64_0_8_0_0_0) shapeCasts_S1x64x64x8x64_S1x4096x8x64) shapeCasts_S1x4096x8x64_S4096x512)⟩] concatenates_S512x512_S4096x512_S4608x512_d0) bitsLt_bf16_f32 : FVec Ideal S4608x512 .bf16) (ix2 s f) = (((dat W).dv s.val f.val : ℝ) : EReal) := by
  have t := fun R hR j h e => value_rows H R hR j h e
  obtain ⟨X, hX⟩ : ∃ X : FVec Ideal S1x72x64x8x64 .f32, X = res_main_v126 W := ⟨_, rfl⟩
  rw [← hX] at t ⊢
  pointwise []
  by_cases c : s.val < 512
  · rw [dif_pos c, dv_front _ _ _ c, EReal.coe_zero]
  · rw [dif_neg c]
    refine (t _ (Nat.le_add_right 8 _) _ _ _).trans ?_
    simp only
    rw [show 64 * (8 + (s.val - 512) / 64) + (s.val - 512) % 64 = s.val by omega, show 64 * (f.val / 64) + f.val % 64 = f.val by omega]

theorem out_b (l p : Fin 4) (a : Fin 576) (f : Fin 128) : (concatenate S4x4x576x128 0 [⟨S1x4x576x128, (shapeCast _ (transpose S4x576x2x64 [0, 3, 1, 2] (shapeCast _ (Host.reduceAdd (φ := .f32) (shapeCast _ (Host.reduceAdd (res_main_v114 W : FVec Ideal S1x64x8x64x576 .f32) (constant S_ .f32 0x00000000#32) reducesTo_S1x64x8x64x576_S1x8x64x576_d1 h_S_) shapeCasts_S1x8x64x576_S1x1x8x64x576) (constant S_ .f32 0x00000000#32) reducesTo_S1x1x8x64x576_S8x64x576_d0_1 h_S_) shapeCasts_S8x64x576_S4x2x64x576) transposes_S4x2x64x576_S4x576x2x64_0_3_1_2) shapeCasts_S4x576x2x64_S1x4x576x128)⟩, ⟨S3x4x576x128, (broadcastInDim S3x4x576x128 ![] bcast_S_S3x4x576x128 (constant S_ .f32 0x00000000#32))⟩] concatenates_S1x4x576x128_S3x4x576x128_S4x4x576x128_d0 : FVec Ideal S4x4x576x128 .f32) (ix4 l p a f)
    = if l.val = 0 then (((dat W).db (2 * p.val + f.val / 64) (f.val % 64) a.val : ℝ) : EReal) else ((0 : ℝ) : EReal) := by
  have t := fun n h i A => grads H n h i A
  obtain ⟨X, hX⟩ : ∃ X : FVec Ideal S1x64x8x64x576 .f32, X = res_main_v114 W := ⟨_, rfl⟩
  rw [← hX] at t ⊢
  pointwise []
  by_cases c : l.val < 1
  · rw [dif_pos c, if_pos (show l.val = 0 by omega), sum_front]
    pointwise []
    simp only [t]
    rw [coe_sum, Nat.mul_comm p.val]
    rfl
  · rw [dif_neg c, if_neg (show ¬l.val = 0 by omega), EReal.coe_zero]

end

end Cert.ReferenceAttnIdeal.Att
-- ==== Proof.AttnValue.lean ====
/- The attention's backward call computes the gradients of the attention. -/
module

public import proofs.«01_k».proof.Proof.AttnPre
public import proofs.«01_k».proof.Proof.AttnOut
public import proofs.«01_k».proof.Proof.AttnRefOut
public import Idealize.ShloMosaic.Lib.Claim

@[expose] public section

set_option maxRecDepth 16384

noncomputable section

namespace Cert.KernelAttnIdeal.Att

open Idealize.ShloMosaic Idealize.ShloMosaic.TcCoe Idealize.SL.Sem
open Cert.KernelAttnIdeal Cert.KernelAttnIdeal.Gen Cert.Attn

variable (m : (ℓ : Loc nD τ sig) → Buf (Elt Ideal) ℓ) (ρ : Dev nD → PrngReg)

/-- The kernel's run: its four arrays are the gradients, its arguments as they were. -/
theorem value_run (H : ∀ c : Dev nD, Fine (fun b => m (c, b))) : θ_run defs (onTc (τ := τ) (main (F := Ideal))) ⟨m, fun _ => 0, ρ⟩ (fun r => ∀ c : Dev nD,
      r.2.mem ((c.tc : Thread nD τ).loc main_v122_0) = outQ (dat (fun b => m (c, b)))
      ∧ r.2.mem ((c.tc : Thread nD τ).loc main_v122_1) = outK (dat (fun b => m (c, b)))
      ∧ r.2.mem ((c.tc : Thread nD τ).loc main_v122_2) = outV (dat (fun b => m (c, b)))
      ∧ r.2.mem ((c.tc : Thread nD τ).loc main_v122_3) = outB (dat (fun b => m (c, b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 10).trans (final_q m c (H c)), ((h.1 c).1 11).trans (final_k m c (H c)),
      ((h.1 c).1 12).trans (final_v m c (H c)), ((h.1 c).1 13).trans (final_b m c (H c)), h.2.1 c⟩)
    (θ_run_and (run_arrays m ρ) (run_frame m ρ))

end Cert.KernelAttnIdeal.Att

namespace Cert.ReferenceAttnIdeal.Att

open Idealize.ShloMosaic Idealize.ShloMosaic.TcCoe Idealize.SL.Sem
open Cert.ReferenceAttnIdeal Cert.ReferenceAttnIdeal.Gen Cert.Attn
open Cert.KernelAttnIdeal.Att (outQ outK outV outB)

variable (m : (ℓ : Loc nD τ sig) → Buf (Elt Ideal) ℓ) (ρ : Dev nD → PrngReg)

/-- The reference's run: the same four arrays of its own arguments. -/
theorem value_run (H : ∀ c : Dev nD, Fine (StableHlo.launchContents m c)) : θ_run defs (onTc (τ := τ) (main (F := Ideal))) ⟨m, fun _ => 0, ρ⟩ (fun r => ∀ c : Dev nD,
      r.2.mem ((c.tc : Thread nD τ).loc main_v146) = outQ (dat (StableHlo.launchContents m c))
      ∧ r.2.mem ((c.tc : Thread nD τ).loc main_v148) = outK (dat (StableHlo.launchContents m c))
      ∧ r.2.mem ((c.tc : Thread nD τ).loc main_v151) = outV (dat (StableHlo.launchContents m c))
      ∧ r.2.mem ((c.tc : Thread nD τ).loc main_v144) = outB (dat (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (Value.run (F := Ideal) m ρ)
  obtain ⟨h0, h1, h2, h3, ha⟩ := h c
  refine ⟨h0.trans ?_, h1.trans ?_, h2.trans ?_, h3.trans ?_, ha⟩
  · funext j
    obtain ⟨s, f, rfl⟩ : ∃ (s : Fin 4096) (f : Fin 512), j = ix2 s f := ⟨j 0, j 1, eq_ix2 j⟩
    exact out_q (H c) s f
  · funext j
    obtain ⟨s, f, rfl⟩ : ∃ (s : Fin 4608) (f : Fin 512), j = ix2 s f := ⟨j 0, j 1, eq_ix2 j⟩
    exact out_k (H c) s f
  · funext j
    obtain ⟨s, f, rfl⟩ : ∃ (s : Fin 4608) (f : Fin 512), j = ix2 s f := ⟨j 0, j 1, eq_ix2 j⟩
    exact out_v (H c) s f
  · funext j
    obtain ⟨l, p, a, f, rfl⟩ : ∃ (l p : Fin 4) (a : Fin 576) (f : Fin 128), j = ix4 l p a f := ⟨j 0, j 1, j 2, j 3, eq_ix4 j⟩
    exact out_b (H c) l p a f

end Cert.ReferenceAttnIdeal.Att

namespace Cert.AttnValue

open Idealize.ShloMosaic Idealize.ShloMosaic.TcCoe Idealize.SL.Sem Cert.Attn

/-- At finite arguments the four arrays the kernel leaves are the gradients the reference computes. -/
theorem algebraic : Cert.algebraic_KernelAttnIdeal_ReferenceAttnIdeal_pre_finite := by
  intro m g m' g' hp he
  have K : ∀ c, Cert.KernelAttnIdeal.Att.Fine (fun b => m (c, b)) := fun c => by
    obtain ⟨h0, h1, h2, h3, h4⟩ := finite_reals _ _ _ _ _ (hp c)
    exact ⟨h0, h1, h2, h3, h4⟩
  have D : ∀ c, Cert.ReferenceAttnIdeal.Att.Fine (StableHlo.launchContents m' c)
      ∧ Cert.ReferenceAttnIdeal.Att.dat (StableHlo.launchContents m' c) = Cert.KernelAttnIdeal.Att.dat (fun b => m (c, b)) := fun c => by
    obtain ⟨e0, e1, e2, e3, e4⟩ := he c
    obtain ⟨h0, h1, h2, h3, h4⟩ := K c
    refine ⟨⟨?_, ?_, ?_, ?_, ?_⟩, ?_⟩
    · exact Eq.mpr (congrArg (Reals (r := 4096) (c := 512)) e0) h0
    · exact Eq.mpr (congrArg (Reals (r := 4096) (c := 512)) e1) h1
    · exact Eq.mpr (congrArg (Reals (r := 4096) (c := 512)) e2) h2
    · exact Eq.mpr (congrArg (Reals (r := 8) (c := 257)) e3) h3
    · exact Eq.mpr (congrArg (Reals (r := 4096) (c := 512)) e4) h4
    · exact congr (congr (congr (congr (congrArg data e0) e1) e2) e3) e4
  refine ⟨_, _, _, _, Cert.KernelAttnIdeal.Att.value_run m g K, ?_⟩
  refine (θ_run Cert.ReferenceAttnIdeal.defs _ _).mono (fun _ h c => ?_) (Cert.ReferenceAttnIdeal.Att.value_run m' g' fun c => (D c).1)
  have := h c
  rw [(D c).2] at this
  exact this

end Cert.AttnValue
-- ==== Proof.Relu.lean ====
/- The gradient through the squared ReLU of the MLP, fused with the product by the second weight: each of the kernel's
   row blocks is that block of the reference's array. -/
module

public import proofs.«01_k».proof.Proof.Gen.KernelReluIdeal.Frame
public import proofs.«01_k».proof.Proof.Gen.ReferenceReluIdeal.Run
public import Idealize.ShloMosaic.Lib.Pipeline.ValueKit
public import Idealize.ShloMosaic.Lib.Claim
public import proofs.«01_k».proof.Defs

@[expose] public section

set_option maxRecDepth 16384

noncomputable section

namespace Cert.Relu

open Idealize.ShloMosaic Idealize.ShloMosaic.TcCoe Idealize.SL.Sem
open Idealize.ShloMosaic.Pipeline (Dat)
open Cert.KernelReluIdeal Cert.KernelReluIdeal.Gen

variable (m : (ℓ : Loc nD τ sig) → Buf (Elt Ideal) ℓ)

/-- The gradient at one element: the product's entry times twice the rectified activation. -/
def G (d : FVec Ideal S4096x1024 .bf16) (w : FVec Ideal S4x4096x1024 .bf16) (a : FVec Ideal S4096x4096 .bf16) :
    FVec Ideal S4096x4096 .bf16 :=
  fun j => (∑ k : Fin 1024, d (ix2 (j 0) k) * w (ix3 0 (j 1) k)) * (Ideal.ofBits .f32 0x40000000#32 * max (a j) 0)

theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

/-- The array the kernel leaves is `G` of its arguments. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, G]
  blk_point [iblk, V, idx t]

/-- At every argument the kernel's array is the reference's: where the activation is not positive both are 0. -/
theorem algebraic : Cert.algebraic_KernelReluIdeal_ReferenceReluIdeal := by
  pair_intro
  · run_from Cert.KernelReluIdeal.Gen.run_main m g
  · run_from Cert.ReferenceReluIdeal.Value.run m' g'
    rw [final m c]
    funext j
    pointwise [G]
    split_ifs with h
    · rfl
    · rw [max_eq_right (not_lt.mp h), mul_zero, mul_zero]

end Cert.Relu

end
-- ==== Proof.Square.lean ====
/- The gradient of the MLP's second weight: the squared ReLU is recomputed inside the product. -/
module

public import proofs.«01_k».proof.Defs
public import proofs.«01_k».proof.Proof.Gen.KernelSquareIdeal.Value
public import proofs.«01_k».proof.Proof.Gen.ReferenceSquareIdeal.Run
public import Idealize.ShloMosaic.Lib.Pipeline.ValueKit
public import Idealize.ShloMosaic.Lib.Claim

@[expose] public section

set_option maxRecDepth 16384

noncomputable section

namespace Cert.Square

open Idealize.ShloMosaic Idealize.ShloMosaic.TcCoe Idealize.SL.Sem
open Idealize.ShloMosaic.Pipeline (Dat)
open Cert.KernelSquareIdeal Cert.KernelSquareIdeal.Gen

variable (m : (ℓ : Loc nD τ sig) → Buf (Elt Ideal) ℓ)

/-- The gradient at one element: the sum over the tokens of the squared rectified activation times the cotangent. -/
def G (a : FVec Ideal S4096x4096 .bf16) (d : FVec Ideal S4096x1024 .bf16) : FVec Ideal S4096x1024 .bf16 :=
  fun j => ∑ s : Fin 4096, (max (a (ix2 s (j 0))) 0 * max (a (ix2 s (j 0))) 0) * d (ix2 s (j 1))

theorem idx : ∀ t : Fin cfg0.N, win0_0.index t = ![0, t.val] ∧ win0_1.index t = ![0, 0] ∧ win0_2.index t = ![t.val, 0] :=
  (by decide +kernel : ∀ t : Fin grid0.N, _)

/-- The array the kernel leaves is `G` of its arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, G]
  blk_point [iblk, V, idx t]

/-- At every argument the kernel's array is the reference's. -/
theorem algebraic : Cert.algebraic_KernelSquareIdeal_ReferenceSquareIdeal := by
  pair_intro
  · run_from Cert.KernelSquareIdeal.Gen.run_main m g
  · run_from Cert.ReferenceSquareIdeal.Value.run m' g'
    rw [final m c]
    funext j
    pointwise [G]
    exact Finset.sum_congr rfl fun s _ => mul_comm _ _

end Cert.Square

end
-- ==== Proof.Finite.lean ====
/- Arrays of reals: what a finiteness precondition says of an array of any shape. -/
module

public import Idealize.ShloMosaic.Lib.Pipeline.ValueKit
public import Idealize.ShloMosaic.Lib.ReduceAll
public import Mathlib.Data.EReal.Operations

@[expose] public section

noncomputable section

namespace Cert.Finite

open Idealize.ShloMosaic

/-- An extended real of absolute value below infinity is a real. -/
theorem real_of_lt (x : EReal) (h : max x (-x) < ⊤) : ∃ t : ℝ, x = (t : EReal) := by
  induction x with
  | bot => simp at h
  | coe t => exact ⟨t, rfl⟩
  | top => simp at h

theorem infinity_word : Ideal.ofBits FTy.f32 2139095040#32 = ⊤ := by simp [Ideal.ofBits, Ideal.ieee]

abbrev S0 : Shape := ⟨0, ![]⟩

/-- Every element below infinity in absolute value: every element is a real. -/
theorem real_of_all {S : Shape} {dims : List (Fin S.rank)} (x : FVec Ideal S .f32) (b : S0.BroadcastsInDim S ![])
    (d : S.ReducesTo dims S0) (u : 0 < S0.numel)
    (h : Host.reduce IntOp.andi (cmpf .olt (Host.absf x) (broadcastInDim S ![] b (constant (F := Ideal) S0 .f32 0x7F800000#32))) (constantI S0 1 1#1) d u ix0 = 1#1) :
    ∀ i, ∃ t : ℝ, (x i : EReal) = (t : EReal) := fun i => by
  have e := Host.reduce_andi_all _ _ d u _ h i
  refine real_of_lt _ ?_
  revert e
  pointwise []
  rw [infinity_word]
  intro e
  have e' : decide (FloatOps.absf (x i) < (⊤ : EReal)) = true := by
    cases hd : decide (FloatOps.absf (x i) < (⊤ : EReal)) with
    | true => rfl
    | false => rw [hd] at e; exact absurd e (by decide)
  exact of_decide_eq_true e'

abbrev S1 : Shape := ⟨1, ![1]⟩
abbrev S3 : Shape := ⟨1, ![3]⟩
abbrev S4 : Shape := ⟨1, ![4]⟩
abbrev S5 : Shape := ⟨1, ![5]⟩

/-- The conjunction of three truth values, as a precondition writes it. -/
theorem all_three (a b c : IVec S0 1) (w : S0.BroadcastsInDim S1 ![]) (k : Shape.Concatenates [S1, S1, S1] S3 0)
    (d : S3.ReducesTo [0] S0) (u : 0 < S0.numel)
    (h : Host.reduce IntOp.andi (concatenate S3 0 [⟨S1, broadcastInDim S1 ![] w a⟩, ⟨S1, broadcastInDim S1 ![] w b⟩, ⟨S1, broadcastInDim S1 ![] w c⟩] k) (constantI S0 1 1#1) d u = fun _ => 1#1) :
    a ix0 = 1#1 ∧ b ix0 = 1#1 ∧ c ix0 = 1#1 := by
  have g := fun k : Fin 3 => Host.reduce_andi_all _ _ _ _ _ (congrFun h ix0) (ix1 k)
  refine ⟨(Eq.trans ?_ (g 0)), (Eq.trans ?_ (g 1)), (Eq.trans ?_ (g 2))⟩ <;> pointwise []

/-- The conjunction of four truth values. -/
theorem all_four (a b c e : IVec S0 1) (w : S0.BroadcastsInDim S1 ![]) (k : Shape.Concatenates [S1, S1, S1, S1] S4 0)
    (d : S4.ReducesTo [0] S0) (u : 0 < S0.numel)
    (h : Host.reduce IntOp.andi (concatenate S4 0 [⟨S1, broadcastInDim S1 ![] w a⟩, ⟨S1, broadcastInDim S1 ![] w b⟩, ⟨S1, broadcastInDim S1 ![] w c⟩, ⟨S1, broadcastInDim S1 ![] w e⟩] k) (constantI S0 1 1#1) d u = fun _ => 1#1) :
    a ix0 = 1#1 ∧ b ix0 = 1#1 ∧ c ix0 = 1#1 ∧ e ix0 = 1#1 := by
  have g := fun k : Fin 4 => Host.reduce_andi_all _ _ _ _ _ (congrFun h ix0) (ix1 k)
  refine ⟨(Eq.trans ?_ (g 0)), (Eq.trans ?_ (g 1)), (Eq.trans ?_ (g 2)), (Eq.trans ?_ (g 3))⟩ <;> pointwise []

/-- The conjunction of five truth values. -/
theorem all_five (a b c e f : IVec S0 1) (w : S0.BroadcastsInDim S1 ![]) (k : Shape.Concatenates [S1, S1, S1, S1, S1] S5 0)
    (d : S5.ReducesTo [0] S0) (u : 0 < S0.numel)
    (h : Host.reduce IntOp.andi (concatenate S5 0 [⟨S1, broadcastInDim S1 ![] w a⟩, ⟨S1, broadcastInDim S1 ![] w b⟩, ⟨S1, broadcastInDim S1 ![] w c⟩, ⟨S1, broadcastInDim S1 ![] w e⟩, ⟨S1, broadcastInDim S1 ![] w f⟩] k) (constantI S0 1 1#1) d u = fun _ => 1#1) :
    a ix0 = 1#1 ∧ b ix0 = 1#1 ∧ c ix0 = 1#1 ∧ e ix0 = 1#1 ∧ f ix0 = 1#1 := by
  have g := fun k : Fin 5 => Host.reduce_andi_all _ _ _ _ _ (congrFun h ix0) (ix1 k)
  refine ⟨(Eq.trans ?_ (g 0)), (Eq.trans ?_ (g 1)), (Eq.trans ?_ (g 2)), (Eq.trans ?_ (g 3)), (Eq.trans ?_ (g 4))⟩ <;> pointwise []

/-- Every element of an array is a real number. -/
def AllReal {S : Shape} {t : FTy} (v : FVec Ideal S t) : Prop := ∀ i, ∃ r : ℝ, (v i : EReal) = r

end Cert.Finite

end
-- ==== Proof.Proj.lean ====
/- The gradient of the mixed output, with the row sums of the attention's gradient times its output: what each grid point writes, and the same in plain lines. -/
module

public import proofs.«01_k».proof.Defs
public import proofs.«01_k».proof.Proof.AttnMath
public import proofs.«01_k».proof.Proof.Finite
public import proofs.«01_k».proof.Proof.Gen.KernelProjIdeal.Value
public import proofs.«01_k».proof.Proof.Gen.ReferenceProjIdeal.Run
public import Idealize.ShloMosaic.Lib.Pipeline.ValueKit
public import Idealize.ShloMosaic.Lib.Claim

@[expose] public section

set_option maxRecDepth 16384

noncomputable section

namespace Cert.Proj

open Idealize.ShloMosaic Idealize.ShloMosaic.TcCoe Idealize.SL.Sem
open Idealize.ShloMosaic.Pipeline (Dat)
open Cert.KernelProjIdeal Cert.KernelProjIdeal.Gen

variable (m : (ℓ : Loc nD τ sig) → Buf (Elt Ideal) ℓ)

/-- The gradient of the mixed output. -/
def dmix (d : FVec Ideal S4096x1024 .bf16) (w : FVec Ideal S4x1024x1024 .bf16) (s : Fin 4096) (r : Fin 1024) : EReal :=
  ∑ e : Fin 1024, d (ix2 s e) * w (ix3 0 r e)

/-- Column `r` of the attention's half of the mix. -/
def lower (r : Fin 512) : Fin 1024 := ⟨r, by omega⟩

/-- Column `r` of the other half. -/
def upper (r : Fin 512) : Fin 1024 := ⟨512 + r, by omega⟩

/-- The sum of the attention's gradient times its output over the 64 columns of head `l`; nothing past the eighth head. -/
def heads (d : FVec Ideal S4096x1024 .bf16) (w : FVec Ideal S4x1024x1024 .bf16) (o : FVec Ideal S4096x1024 .bf16) (s : Fin 4096) (l : Fin 128) : EReal :=
  if h : (l : ℕ) < 8 then ∑ k : Fin 64, dmix d w s (lower ⟨l * 64 + k, by omega⟩) * o (ix2 s (lower ⟨l * 64 + k, by omega⟩)) else 0

theorem idx : ∀ t : Fin cfg0.N, win0_0.index t = ![t.val, 0] ∧ win0_1.index t = ![0, 0, 0] ∧ win0_2.index t = ![t.val, 0]
    ∧ win0_3.index t = ![t.val, 0] ∧ win0_4.index t = ![0, t.val] ∧ win0_5.index t = ![t.val, 0] ∧ win0_6.index t = ![t.val, 0] :=
  (by decide +kernel : ∀ t : Fin grid0.N, _)

theorem final_do (c : Dev nD) : (dats m 0 c).arrAt 3 (cfgs 0).N
    = fun j => dmix (m ((c : Thread nD τ).loc main_arg0)) (m ((c : Thread nD τ).loc main_arg1)) (j 0) (lower (j 1)) := by
  refine (dats m 0 c).arrAt_eq_of_covers 3 _ (by decide +kernel) fun t _ y => ?_
  blk_simp
  rw [after0_3]; frame_out
  pointwise [k0_pay4, k0_pay3, k0_pay2, dmix]
  blk_point [iblk, V, idx t, lower]

theorem final_dot (c : Dev nD) : (dats m 0 c).arrAt 4 (cfgs 0).N
    = fun j => dmix (m ((c : Thread nD τ).loc main_arg0)) (m ((c : Thread nD τ).loc main_arg1)) (j 1) (lower (j 0)) := by
  refine (dats m 0 c).arrAt_eq_of_covers 4 _ (by decide +kernel) fun t _ y => ?_
  blk_simp
  rw [after0_4]; frame_out
  pointwise [k0_pay5, k0_pay2, dmix]
  refine Eq.trans (Fin.sum_fin_congr fun e => EReal.mul_comm _ _) ?_
  blk_point [iblk, V, idx t, lower]

theorem final_rest (c : Dev nD) : (dats m 0 c).arrAt 5 (cfgs 0).N
    = fun j => dmix (m ((c : Thread nD τ).loc main_arg0)) (m ((c : Thread nD τ).loc main_arg1)) (j 0) (upper (j 1)) := by
  refine (dats m 0 c).arrAt_eq_of_covers 5 _ (by decide +kernel) fun t _ y => ?_
  blk_simp
  rw [after0_5]; frame_out
  pointwise [k0_pay6, dmix]
  blk_point [iblk, V, idx t, upper]

/-- The head a column belongs to, as the kernel computes it: a quotient rounded down. -/
def headWord (r : ℕ) : BitVec 32 :=
  Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 r) 64#32) 0#32))
    (IntOp.subi (IntOp.divsi ArithUnit.vector (BitVec.ofNat 32 r) 64#32) 1#32)
    (IntOp.divsi ArithUnit.vector (BitVec.ofNat 32 r) 64#32)

theorem headWord_eq : ∀ r : Fin 512, headWord r = BitVec.ofNat 32 (r / 64) := by decide +kernel

/-- Choosing by the equality of two words that are small numbers. -/
theorem select_eq {α : Type} (p q : ℕ) (hp : p < 2 ^ 32) (hq : q < 2 ^ 32) (a b : α) :
    Scalar.select (IntOp.cmpi CmpIPredicate.eq (BitVec.ofNat 32 p) (BitVec.ofNat 32 q)) a b = if p = q then a else b := by
  by_cases h : p = q
  · subst h
    simp [Scalar.select, IntOp.cmpi]
  · have : BitVec.ofNat 32 p ≠ BitVec.ofNat 32 q := fun e => h (by
      have := congrArg BitVec.toNat e
      rwa [BitVec.toNat_ofNat, BitVec.toNat_ofNat, Nat.mod_eq_of_lt hp, Nat.mod_eq_of_lt hq] at this)
    simp [Scalar.select, IntOp.cmpi, h, beq_eq_false_iff_ne.mpr this]

/-- A sum over the columns of one head, written over all columns. -/
theorem sum_head (f : Fin 512 → EReal) (l : Fin 128) :
    (∑ r : Fin 512, if (r : ℕ) / 64 = l then f r else 0) = if h : (l : ℕ) < 8 then ∑ k : Fin 64, f ⟨l * 64 + k, by omega⟩ else 0 := by
  rw [← Fin.sum_mul_add_fin 8 64 (fun r : Fin 512 => if (r : ℕ) / 64 = l then f r else 0) rfl]
  split_ifs with h
  · rw [Finset.sum_eq_single (⟨l, h⟩ : Fin 8)]
    · exact Finset.sum_congr rfl fun k _ => if_pos (by dsimp only; omega)
    · intro b _ hb
      refine Finset.sum_eq_zero fun k _ => if_neg fun e => hb (Fin.ext ?_)
      dsimp only at e ⊢
      omega
    · exact fun e => absurd (Finset.mem_univ _) e
  · exact Finset.sum_eq_zero fun b _ => Finset.sum_eq_zero fun k _ => if_neg (by dsimp only; omega)

/-- The row sums one grid point computes. -/
theorem pay_heads (x : FVec Ideal S1024x512 .f32) (o : FVec Ideal S1024x512 .bf16) (hx : ∀ i, ∃ t : ℝ, (x i : EReal) = t)
    (ho : ∀ i, ∃ t : ℝ, (o i : EReal) = t) (y : S1024x128.Idx) :
    k0_pay1 (F := Ideal) x k0_pay7 k0_pay8 k0_pay9 k0_pay10 o y
      = if h : ((y 1 : Fin 128) : ℕ) < 8 then ∑ k : Fin 64, x (ix2 (y 0) ⟨(y 1 : Fin 128) * 64 + k, by omega⟩) * o (ix2 (y 0) ⟨(y 1 : Fin 128) * 64 + k, by omega⟩) else 0 := by
  obtain ⟨s, l, rfl⟩ : ∃ (s : Fin 1024) (l : Fin 128), y = ix2 s l := ⟨y 0, y 1, eq_ix2 y⟩
  pointwise [k0_pay1, k0_pay7, k0_pay8, k0_pay9, k0_pay10]
  refine Eq.trans (b := (∑ r : Fin 512, Scalar.select (IntOp.cmpi CmpIPredicate.eq (headWord r) (BitVec.ofNat 32 l)) (x (ix2 s r) * o (ix2 s r)) 0)
    + ∑ r : Fin 512, Scalar.select (IntOp.cmpi CmpIPredicate.eq (headWord r) (BitVec.ofNat 32 l)) (x (ix2 s r) * o (ix2 s r) - x (ix2 s r) * o (ix2 s r)) 0) rfl ?_
  have h0 : ∀ r : Fin 512, x (ix2 s r) * o (ix2 s r) - x (ix2 s r) * o (ix2 s r) = 0 := fun r => by
    obtain ⟨a, ha⟩ := hx (ix2 s r)
    obtain ⟨b, hb⟩ := ho (ix2 s r)
    rw [ha, hb, ← EReal.coe_mul, ← EReal.coe_sub, sub_self, EReal.coe_zero]
  have e1 : (∑ r : Fin 512, Scalar.select (IntOp.cmpi CmpIPredicate.eq (headWord r) (BitVec.ofNat 32 l)) ((x (ix2 s r) : EReal) * o (ix2 s r)) 0)
      = ∑ r : Fin 512, if (r : ℕ) / 64 = l then (x (ix2 s r) : EReal) * o (ix2 s r) else 0 :=
    Finset.sum_congr rfl fun r _ => by rw [headWord_eq, select_eq _ _ (by omega) (by omega)]
  have e2 : (∑ r : Fin 512, Scalar.select (IntOp.cmpi CmpIPredicate.eq (headWord r) (BitVec.ofNat 32 l)) ((x (ix2 s r) : EReal) * o (ix2 s r) - x (ix2 s r) * o (ix2 s r)) 0) = 0 :=
    Finset.sum_eq_zero fun r _ => by rw [h0, headWord_eq, select_eq _ _ (by omega) (by omega), ite_self]
  exact (congrArg₂ (fun a b : EReal => a + b) e1 e2).trans ((add_zero _).trans (sum_head (fun r => (x (ix2 s r) : EReal) * o (ix2 s r)) l))

/-- One block of the kernel's product is a block of rows of the gradient of the mix. -/
theorem block_mix (c : Dev nD) (t : Fin cfg0.N) (s : Fin 1024) (r : Fin 512) (R : Fin 4096) (hR : (R : ℕ) = t.val * 1024 + s) :
    (k0_pay3 (iblk m c 0 t) (View.ld (iblk m c 1 t) r0_1) : FVec Ideal S1024x512 .f32) (ix2 s r)
      = dmix (m ((c : Thread nD τ).loc main_arg0)) (m ((c : Thread nD τ).loc main_arg1)) R (lower r) := by
  pointwise [k0_pay3, k0_pay2, dmix]
  blk_point [iblk, V, idx t, lower]

theorem block_out (c : Dev nD) (t : Fin cfg0.N) (s : Fin 1024) (r : Fin 512) (R : Fin 4096) (hR : (R : ℕ) = t.val * 1024 + s) :
    (iblk m c 2 t : FVec Ideal S1024x512 .bf16) (ix2 s r) = (m ((c : Thread nD τ).loc main_arg2) : FVec Ideal S4096x1024 .bf16) (ix2 R (lower r)) := by
  blk_ext [iblk, V, idx t, lower]

/-- The gradient of the mix is real where its factors are. -/
theorem dmix_real (d : FVec Ideal S4096x1024 .bf16) (w : FVec Ideal S4x1024x1024 .bf16) (h0 : Finite.AllReal d) (h1 : Finite.AllReal w) (s : Fin 4096) (r : Fin 1024) :
    ∃ t : ℝ, dmix d w s r = t := by
  choose a ha using h0
  choose b hb using h1
  refine ⟨_, Eq.trans (Finset.sum_congr rfl fun f _ => ?_) (Attn.coe_sum _ fun f => a (ix2 s f) * b (ix3 0 r f))⟩
  rw [ha, hb, ← EReal.coe_mul]

theorem heads_block (d : FVec Ideal S4096x1024 .bf16) (w : FVec Ideal S4x1024x1024 .bf16) (o : FVec Ideal S4096x1024 .bf16) (h0 : Finite.AllReal d) (h1 : Finite.AllReal w)
    (h2 : Finite.AllReal o) (t : ℕ) (x : FVec Ideal S1024x512 .f32) (b : FVec Ideal S1024x512 .bf16)
    (hx : ∀ (s : Fin 1024) (r : Fin 512) (R : Fin 4096), (R : ℕ) = t * 1024 + s → x (ix2 s r) = dmix d w R (lower r))
    (hb : ∀ (s : Fin 1024) (r : Fin 512) (R : Fin 4096), (R : ℕ) = t * 1024 + s → b (ix2 s r) = o (ix2 R (lower r)))
    (ht : t < 4) (y : S1024x128.Idx) (R : Fin 4096) (l : Fin 128) (hR : (R : ℕ) = t * 1024 + (y 0 : Fin 1024)) (hl : l = y 1) :
    k0_pay1 (F := Ideal) x k0_pay7 k0_pay8 k0_pay9 k0_pay10 b y = heads d w o R l := by
  subst hl
  refine (pay_heads x b (fun i => ?_) (fun i => ?_) y).trans ?_
  · rw [eq_ix2 i, hx (i 0) (i 1) ⟨t * 1024 + (i 0 : Fin 1024), by have : ((i 0 : Fin 1024) : ℕ) < 1024 := (i 0 : Fin 1024).isLt; omega⟩ rfl]
    exact dmix_real d w h0 h1 _ _
  · rw [eq_ix2 i, hb (i 0) (i 1) ⟨t * 1024 + (i 0 : Fin 1024), by have : ((i 0 : Fin 1024) : ℕ) < 1024 := (i 0 : Fin 1024).isLt; omega⟩ rfl]
    exact h2 _
  · unfold heads
    split_ifs
    · exact Finset.sum_congr rfl fun k _ => congrArg₂ (fun a b : EReal => a * b) (hx _ _ R hR) (hb _ _ R hR)
    · rfl

theorem final_heads (c : Dev nD) (h0 : Finite.AllReal (S := S4096x1024) (t := .bf16) (m ((c : Thread nD τ).loc main_arg0)))
    (h1 : Finite.AllReal (S := S4x1024x1024) (t := .bf16) (m ((c : Thread nD τ).loc main_arg1)))
    (h2 : Finite.AllReal (S := S4096x1024) (t := .bf16) (m ((c : Thread nD τ).loc main_arg2))) : (dats m 0 c).arrAt 6 (cfgs 0).N
    = fun j => heads (m ((c : Thread nD τ).loc main_arg0)) (m ((c : Thread nD τ).loc main_arg1)) (m ((c : Thread nD τ).loc main_arg2)) (j 0) (j 1) := by
  refine (dats m 0 c).arrAt_eq_of_covers 6 _ (by decide +kernel) fun t _ y => ?_
  blk_simp
  rw [after0_6]; frame_out
  exact heads_block _ _ _ h0 h1 h2 t.val _ _ (fun s r R h => block_mix m c t s r R h) (fun s r R h => block_out m c t s r R h)
    (t.isLt.trans_eq N_0) y _ _ (by blk_simp [idx t] <;> try omega) (Fin.ext (by blk_simp [idx t] <;> try omega))

/-- The side conditions of the precondition's operations. -/
instance finite_facts : Cert.Pre_finite_proj.Facts where
  bitsLt_bf16_f32 := by decide
  bcast_S_S4096x1024 := by decide
  reducesTo_S4096x1024_S_d0_1 := by decide
  h_S_ := by decide
  bcast_S_S4x1024x1024 := by decide
  reducesTo_S4x1024x1024_S_d0_1_2 := by decide
  bcast_S_S1 := by decide
  concatenates_S1_S1_S1_S3_d0 := by decide
  reducesTo_S3_S_d0 := by decide

/-- The precondition makes the three arrays ones of reals. -/
theorem finite_reals (d : FVec Ideal S4096x1024 .bf16) (w : FVec Ideal S4x1024x1024 .bf16) (o : FVec Ideal S4096x1024 .bf16)
    (h : Cert.Pre_finite_proj.fn (F := Ideal) d w o = fun _ => 1#1) : Finite.AllReal d ∧ Finite.AllReal w ∧ Finite.AllReal o := by
  unfold Cert.Pre_finite_proj.fn Cert.Pre_finite_proj.fn_part1 at h
  dsimp only at h
  obtain ⟨h0, h1, h2⟩ := Finite.all_three _ _ _ _ _ _ _ h
  exact ⟨Finite.real_of_all (extf .f32 d _) _ _ _ h0, Finite.real_of_all (extf .f32 w _) _ _ _ h1, Finite.real_of_all (extf .f32 o _) _ _ _ h2⟩

/-- At real arguments the kernel's four arrays are the reference's. -/
theorem algebraic : Cert.algebraic_KernelProjIdeal_ReferenceProjIdeal_pre_finite_proj := by
  intro m g m' g' hp he
  have last : ∀ c : Dev nD, (dats m 0 c).arrAt 6 (cfgs 0).N
      = fun j => heads (m ((c : Thread nD τ).loc main_arg0)) (m ((c : Thread nD τ).loc main_arg1)) (m ((c : Thread nD τ).loc main_arg2)) (j 0) (j 1) := fun c => by
    obtain ⟨p0, p1, p2⟩ := finite_reals _ _ _ (hp c)
    exact final_heads m c p0 p1 p2
  refine ⟨_, _, _, _, (θ_run Cert.KernelProjIdeal.defs _ _).mono (fun _ h c => ⟨(h c).1.trans (final_do m c), (h c).2.1.trans (final_dot m c),
    (h c).2.2.1.trans (final_rest m c), (h c).2.2.2.1.trans (last c), (h c).2.2.2.2⟩)
    (Cert.KernelProjIdeal.Value.run_blocks m g), ?_⟩
  refine (θ_run Cert.ReferenceProjIdeal.defs _ _).mono (fun _ h c => ?_) (Cert.ReferenceProjIdeal.Value.run (F := Ideal) m' g')
  obtain ⟨r0, r1, r2, r3, ra⟩ := h c
  obtain ⟨e0, e1, e2⟩ := he c
  refine ⟨r0.trans ?_, r1.trans ?_, r2.trans ?_, r3.trans ?_, ra⟩
  · funext j
    obtain ⟨s, i, rfl⟩ : ∃ (s : Fin 4096) (i : Fin 512), j = ix2 s i := ⟨j 0, j 1, eq_ix2 j⟩
    rw [e0, e1]
    pointwise [dmix, lower]
  · funext j
    obtain ⟨s, i, rfl⟩ : ∃ (s : Fin 512) (i : Fin 4096), j = ix2 s i := ⟨j 0, j 1, eq_ix2 j⟩
    rw [e0, e1]
    pointwise [dmix, lower]
  · funext j
    obtain ⟨s, i, rfl⟩ : ∃ (s : Fin 4096) (i : Fin 512), j = ix2 s i := ⟨j 0, j 1, eq_ix2 j⟩
    rw [e0, e1]
    pointwise [dmix, upper]
  · funext j
    obtain ⟨s, i, rfl⟩ : ∃ (s : Fin 4096) (i : Fin 128), j = ix2 s i := ⟨j 0, j 1, eq_ix2 j⟩
    rw [e0, e1, e2]
    pointwise [heads, dmix, lower]
    have hz : (FloatOps.sitofp (F := Ideal) FTy.f32 (0#32) : EReal) = 0 := by
      show (((0#32 : BitVec 32).toInt : ℝ) : EReal) = 0
      norm_num
    split_ifs
    · rfl
    · exact hz

end Cert.Proj

end
-- ==== Proof.Loss.lean ====
/- The last layer's MLP with the loss and its gradient: what each grid point writes, the loss summed over the points, and the derivative of the loss in plain lines. -/
module

public import proofs.«01_k».proof.Defs
public import proofs.«01_k».proof.Proof.Gen.KernelLossIdeal.Value
public import proofs.«01_k».proof.Proof.Gen.ReferenceLossIdeal.Run
public import Idealize.ShloMosaic.Lib.Pipeline.ValueKit
public import Idealize.ShloMosaic.Lib.Claim

@[expose] public section

set_option maxRecDepth 16384

noncomputable section

namespace Cert.Loss

open Idealize.ShloMosaic Idealize.ShloMosaic.TcCoe Idealize.SL.Sem
open Idealize.ShloMosaic.Pipeline (Dat)
open Cert.KernelLossIdeal Cert.KernelLossIdeal.Gen

variable (m : (ℓ : Loc nD τ sig) → Buf (Elt Ideal) ℓ)

/-- The MLP's activation before its rectifier. -/
def act (h : FVec Ideal S4096x1024 .bf16) (w1 : FVec Ideal S4x1024x4096 .bf16) (r : Fin 4096) (f : Fin 4096) : EReal :=
  ∑ k : Fin 1024, h (ix2 r k) * w1 (ix3 3 k f)

/-- The error at one element: the layer's output minus the target. -/
def err (h : FVec Ideal S4096x1024 .bf16) (w1 : FVec Ideal S4x1024x4096 .bf16) (w2 : FVec Ideal S4x4096x1024 .bf16)
    (x g : FVec Ideal S4096x1024 .f32) (r : Fin 4096) (d : Fin 1024) : EReal :=
  x (ix2 r d) + (∑ f : Fin 4096, (max (act h w1 r f) 0 * max (act h w1 r f) 0) * w2 (ix3 3 f d)) - g (ix2 r d)

theorem half : Ideal.ofBits FTy.f32 1056964608#32 = ((1 / 2 : ℝ) : EReal) := by
  simp [Ideal.ofBits, Ideal.ieee, -EReal.coe_mul]; norm_num

theorem one : Ideal.ofBits FTy.f32 1065353216#32 = ((1 : ℝ) : EReal) := by
  simp [Ideal.ofBits, Ideal.ieee, -EReal.coe_mul]; norm_num

theorem two : Ideal.ofBits FTy.f32 1073741824#32 = ((2 : ℝ) : EReal) := by
  simp [Ideal.ofBits, Ideal.ieee, -EReal.coe_mul]; norm_num

theorem width : Ideal.ofBits FTy.f32 1149239296#32 = ((1024 : ℝ) : EReal) := by
  simp [Ideal.ofBits, Ideal.ieee, -EReal.coe_mul]; norm_num

theorem inv_width : Ideal.ofBits FTy.f32 981467136#32 = ((1 / 1024 : ℝ) : EReal) := by
  simp [Ideal.ofBits, Ideal.ieee, -EReal.coe_mul]; norm_num

theorem idx : ∀ t : Fin cfg0.N, win0_0.index t = ![t.val, 0] ∧ win0_1.index t = ![3, 0, 0] ∧ win0_2.index t = ![3, 0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] :=
  (by decide +kernel : ∀ t : Fin grid0.N, _)

/-- The activation one grid point computes for its rows. -/
theorem pay_act (h : FVec Ideal S256x1024 .bf16) (w : FVec Ideal S1x1024x4096 .bf16) (y : S256x4096.Idx) :
    k0_pay2 (F := Ideal) h w y = ∑ k : Fin 1024, h (ix2 (y 0) k) * w (ix3 0 k (y 1)) := by
  pointwise [k0_pay2]

/-- The error one grid point computes for its rows. -/
theorem pay_err (h : FVec Ideal S256x1024 .bf16) (w : FVec Ideal S1x1024x4096 .bf16) (x : FVec Ideal S256x1024 .f32)
    (w2 : FVec Ideal S1x4096x1024 .bf16) (g : FVec Ideal S256x1024 .f32) (y : S256x1024.Idx) :
    k0_pay3 (F := Ideal) h w x w2 g y = x y + (∑ f : Fin 4096, (max (∑ k : Fin 1024, h (ix2 (y 0) k) * w (ix3 0 k f)) 0
      * max (∑ k : Fin 1024, h (ix2 (y 0) k) * w (ix3 0 k f)) 0) * w2 (ix3 0 f (y 1))) - g y := by
  pointwise [k0_pay3, pay_act]

/-- The part of the loss one grid point computes: half the sum over its rows of the mean squared error. -/
theorem pay_loss (h : FVec Ideal S256x1024 .bf16) (w : FVec Ideal S1x1024x4096 .bf16) (x : FVec Ideal S256x1024 .f32)
    (w2 : FVec Ideal S1x4096x1024 .bf16) (g : FVec Ideal S256x1024 .f32) (y : S1x1.Idx) :
    k0_pay6 (F := Ideal) h w x w2 g y = ((1 / 2 : ℝ) : EReal) * ∑ r : Fin 256, Ideal.div (∑ d : Fin 1024,
      k0_pay3 (F := Ideal) h w x w2 g (ix2 r d) * k0_pay3 (F := Ideal) h w x w2 g (ix2 r d)) ((1024 : ℝ) : EReal) := by
  pointwise [k0_pay6]
  rw [half, width]

/-- The first point's number is no successor. -/
theorem first {t : Fin cfg0.N} (h0 : t.val % 16 = 0) : ¬ 1 ≤ t.val := by
  have h := t.isLt
  exact fun h1 => absurd (h.trans_eq N_0) (by omega)

/-- The array of activations the kernel leaves. -/
theorem final_act (c : Dev nD) : (dats m 0 c).arrAt 5 (cfgs 0).N
    = fun j => act (m ((c : Thread nD τ).loc main_arg0)) (m ((c : Thread nD τ).loc main_arg1)) (j 0) (j 1) := by
  refine (dats m 0 c).arrAt_eq_of_covers 5 _ (by decide +kernel) fun t _ y => ?_
  blk_simp
  rw [after0_5]
  by_cases h0 : t.val % 16 = 0
  · rw [outsAt0_A m c t h0 (first h0)]; frame_out
    rw [pay_act]
    blk_point [act, iblk, V, idx t]
  · rw [outsAt0_B m c t h0 (by omega)]; frame_out
    rw [pay_act]
    blk_point [act, iblk, V, idx t]

/-- The error of the block of rows at point `t` is the error of those rows. -/
theorem err_block (c : Dev nD) (t : Fin cfg0.N) (r : Fin 256) (d : Fin 1024) (R : Fin 4096) (hR : (R : ℕ) = t.val * 256 + r) :
    k0_pay3 (F := Ideal) (iblk m c 0 t) (iblk m c 1 t) (iblk m c 3 t) (iblk m c 2 t) (iblk m c 4 t) (ix2 r d)
      = err (m ((c : Thread nD τ).loc main_arg0)) (m ((c : Thread nD τ).loc main_arg1)) (m ((c : Thread nD τ).loc main_arg2))
          (m ((c : Thread nD τ).loc main_arg3)) (m ((c : Thread nD τ).loc main_arg4)) R d := by
  rw [pay_err]
  have e0 : ∀ k, (iblk m c 0 t : FVec Ideal S256x1024 .bf16) (ix2 r k) = (m ((c : Thread nD τ).loc main_arg0) : FVec Ideal S4096x1024 .bf16) (ix2 R k) := fun k => by
    blk_ext [iblk, V, idx t]
  have e1 : ∀ k f, (iblk m c 1 t : FVec Ideal S1x1024x4096 .bf16) (ix3 0 k f) = (m ((c : Thread nD τ).loc main_arg1) : FVec Ideal S4x1024x4096 .bf16) (ix3 3 k f) := fun k f => by
    blk_ext [iblk, V, idx t]
  have e2 : ∀ f, (iblk m c 2 t : FVec Ideal S1x4096x1024 .bf16) (ix3 0 f d) = (m ((c : Thread nD τ).loc main_arg2) : FVec Ideal S4x4096x1024 .bf16) (ix3 3 f d) := fun f => by
    blk_ext [iblk, V, idx t]
  have e3 : (iblk m c 3 t : FVec Ideal S256x1024 .f32) (ix2 r d) = (m ((c : Thread nD τ).loc main_arg3) : FVec Ideal S4096x1024 .f32) (ix2 R d) := by
    blk_ext [iblk, V, idx t]
  have e4 : (iblk m c 4 t : FVec Ideal S256x1024 .f32) (ix2 r d) = (m ((c : Thread nD τ).loc main_arg4) : FVec Ideal S4096x1024 .f32) (ix2 R d) := by
    blk_ext [iblk, V, idx t]
  unfold err act
  simp only [ix2_0, ix2_1]
  simp only [e0, e1, e2, e3, e4]

/-- The gradient one grid point writes. -/
theorem dy_block (c : Dev nD) (t : Fin cfg0.N) (y : S256x1024.Idx) (j : S4096x1024.Idx) (h0 : (j 0 : ℕ) = t.val * 256 + y 0) (h1 : (j 1 : ℕ) = y 1) :
    k0_pay4 (F := Ideal) (iblk m c 0 t) (iblk m c 1 t) (iblk m c 3 t) (iblk m c 2 t) (iblk m c 4 t) y
      = err (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) * ((1 / 1024 : ℝ) : EReal) := by
  rw [← err_block m c t (y 0) (j 1) (j 0) h0, show j 1 = y 1 from Fin.ext h1, ← eq_ix2 y]
  pointwise [k0_pay4]
  rw [inv_width]

/-- The array of output gradients the kernel leaves. -/
theorem final_dy (c : Dev nD) : (dats m 0 c).arrAt 6 (cfgs 0).N
    = fun j => err (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) * ((1 / 1024 : ℝ) : EReal) := by
  refine (dats m 0 c).arrAt_eq_of_covers 6 _ (by decide +kernel) fun t _ y => ?_
  blk_simp
  rw [after0_6]
  by_cases h0 : t.val % 16 = 0
  · rw [outsAt0_A m c t h0 (first h0)]; frame_out
    exact dy_block m c t y _ (by blk_simp [idx t] <;> try omega) (by blk_simp [idx t] <;> try omega)
  · rw [outsAt0_B m c t h0 (by omega)]; frame_out
    exact dy_block m c t y _ (by blk_simp [idx t] <;> try omega) (by blk_simp [idx t] <;> try omega)

/-- The same array rounded to the narrower type: over the reals, the same numbers. -/
theorem final_dyb (c : Dev nD) : (dats m 0 c).arrAt 7 (cfgs 0).N
    = fun j => err (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) * ((1 / 1024 : ℝ) : EReal) := by
  refine (dats m 0 c).arrAt_eq_of_covers 7 _ (by decide +kernel) fun t _ y => ?_
  have e : ∀ h w x w2 g (z : S256x1024.Idx), k0_pay5 (F := Ideal) h w x w2 g z = k0_pay4 (F := Ideal) h w x w2 g z := fun _ _ _ _ _ _ => rfl
  blk_simp
  rw [after0_7]
  by_cases h0 : t.val % 16 = 0
  · rw [outsAt0_A m c t h0 (first h0)]; frame_out
    rw [e]
    exact dy_block m c t y _ (by blk_simp [idx t] <;> try omega) (by blk_simp [idx t] <;> try omega)
  · rw [outsAt0_B m c t h0 (by omega)]; frame_out
    rw [e]
    exact dy_block m c t y _ (by blk_simp [idx t] <;> try omega) (by blk_simp [idx t] <;> try omega)

/-- A nonnegative real factor goes out of any sum of extended reals that are not negative. -/
theorem mul_sum {ι : Type} (s : Finset ι) (r : ℝ) (f : ι → EReal) (hf : ∀ i, 0 ≤ f i) :
    (r : EReal) * ∑ i ∈ s, f i = ∑ i ∈ s, (r : EReal) * f i := by
  classical
  induction s using Finset.induction_on with
  | empty => simp
  | insert i s hi ih =>
    rw [Finset.sum_insert hi, Finset.sum_insert hi, EReal.left_distrib_of_nonneg (hf i) (Finset.sum_nonneg fun j _ => hf j), ih]

/-- The mean squared error of one row. -/
def row (h : FVec Ideal S4096x1024 .bf16) (w1 : FVec Ideal S4x1024x4096 .bf16) (w2 : FVec Ideal S4x4096x1024 .bf16)
    (x g : FVec Ideal S4096x1024 .f32) (r : Fin 4096) : EReal :=
  Ideal.div (∑ d : Fin 1024, err h w1 w2 x g r d * err h w1 w2 x g r d) ((1024 : ℝ) : EReal)

theorem squares_nonneg {n : ℕ} (f : Fin n → EReal) : 0 ≤ ∑ d, f d * f d := Finset.sum_nonneg fun d _ => by
  rcases le_total 0 (f d) with e | e
  · exact mul_nonneg e e
  · exact EReal.mul_nonneg_iff.mpr (Or.inr ⟨e, e⟩)

theorem row_nonneg (h : FVec Ideal S4096x1024 .bf16) (w1 : FVec Ideal S4x1024x4096 .bf16) (w2 : FVec Ideal S4x4096x1024 .bf16)
    (x g : FVec Ideal S4096x1024 .f32) (r : Fin 4096) : 0 ≤ row h w1 w2 x g r := by
  unfold row
  rw [Ideal.div_coe (by norm_num)]
  exact mul_nonneg (squares_nonneg _) (EReal.coe_nonneg.2 (by norm_num))

/-- The loss the kernel leaves: the points' parts added. -/
theorem final_loss (c : Dev nD) : (dats m 0 c).arrAt 8 (cfgs 0).N
    = fun _ => ((1 / 2 : ℝ) : EReal) * ∑ r : Fin 4096, row (m ((c : Thread nD τ).loc main_arg0)) (m ((c : Thread nD τ).loc main_arg1))
        (m ((c : Thread nD τ).loc main_arg2)) (m ((c : Thread nD τ).loc main_arg3)) (m ((c : Thread nD τ).loc main_arg4)) r := by
  have hadd : ∀ (a b : FVec Ideal S1x1 .f32) j, k0_pay1 (F := Ideal) a b j = b j + a j := fun a b j => by pointwise [k0_pay1]
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t j => k0_pay6 (F := Ideal) (iblk m c 0 t) (iblk m c 1 t) (iblk m c 3 t) (iblk m c 2 t) (iblk m c 4 t) j)
    (fun t h j => by rw [outsAt0_A m c t h (first h)]; frame_out; rw [zero_add])
    (fun t h j => by rw [outsAt0_B m c t h (by omega)]; frame_out; rw [hadd])
    (le_of_eq N_0) t0_15 rfl j, zero_add]
  rw [mul_sum _ _ _ (row_nonneg _ _ _ _ _)]
  refine Eq.trans (b := ∑ t : Fin cfg0.N, ∑ r : Fin 256, ((1 / 2 : ℝ) : EReal) * Ideal.div (∑ d : Fin 1024,
    k0_pay3 (F := Ideal) (iblk m c 0 t) (iblk m c 1 t) (iblk m c 3 t) (iblk m c 2 t) (iblk m c 4 t) (ix2 r d)
    * k0_pay3 (F := Ideal) (iblk m c 0 t) (iblk m c 1 t) (iblk m c 3 t) (iblk m c 2 t) (iblk m c 4 t) (ix2 r d)) ((1024 : ℝ) : EReal)) ?_ ?_
  · refine Fin.sum_fin_congr fun t => ?_
    rw [pay_loss, mul_sum]
    intro r
    rw [Ideal.div_coe (by norm_num)]
    exact mul_nonneg (squares_nonneg _) (EReal.coe_nonneg.2 (by norm_num))
  · refine Fin.sum_mul_add_congr (L := 4096) (S := cfg0.N) (n := 256) (fun t r hl => ?_) (by rw [show cfg0.N = 16 from N_0])
    unfold row
    rw [Finset.sum_congr rfl fun d _ => by rw [err_block m c t r d ⟨t.val * 256 + r.val, hl⟩ rfl]]

/-- The gradient of half the mean square: twice the error, halved, over the width. -/
theorem scale (e : EReal) : Ideal.div (Ideal.ofBits FTy.f32 1056964608#32) (Ideal.ofBits FTy.f32 1149239296#32)
    * (Ideal.ofBits FTy.f32 1073741824#32 * e) = e * ((1 / 1024 : ℝ) : EReal) := by
  rw [half, width, two, Ideal.div_coe (by norm_num), ← mul_assoc, ← EReal.coe_mul, ← EReal.coe_mul, mul_comm]
  norm_num

/-- At every argument the kernel's four arrays are the reference's. -/
theorem algebraic : Cert.algebraic_KernelLossIdeal_ReferenceLossIdeal := by
  pair_intro
  · run_from Cert.KernelLossIdeal.Gen.run_main m g
  · run_from Cert.ReferenceLossIdeal.Value.run m' g'
    · rw [final_act m c]
      funext j
      pointwise [act]
    · rw [final_dy m c]
      funext j
      pointwise [err, act]
      exact scale _
    · rw [final_dyb m c]
      funext j
      pointwise [err, act]
      exact scale _
    · rw [final_loss m c]
      funext j
      pointwise [row, err, act]
      rw [half, width]

end Cert.Loss

end
-- ==== Proof.Norm.lean ====
/- The gradient through an RMSNorm, fused with the product by the weight behind it: what each grid point writes, the gain's gradient summed over the points, and the derivative of the norm. -/
module

public import proofs.«01_k».proof.Defs
public import proofs.«01_k».proof.Proof.AttnMath
public import proofs.«01_k».proof.Proof.Finite
public import proofs.«01_k».proof.Proof.Gen.KernelNormIdeal.Value
public import proofs.«01_k».proof.Proof.Gen.ReferenceNormIdeal.Run
public import Idealize.ShloMosaic.Lib.Pipeline.ValueKit
public import Idealize.ShloMosaic.Lib.Claim

@[expose] public section

set_option maxRecDepth 16384

noncomputable section

namespace Cert.Norm

open Idealize.ShloMosaic Idealize.ShloMosaic.TcCoe Idealize.SL.Sem
open Idealize.ShloMosaic.Pipeline (Dat)
open Cert.KernelNormIdeal Cert.KernelNormIdeal.Gen

variable (m : (ℓ : Loc nD τ sig) → Buf (Elt Ideal) ℓ)

/-- The row's mean square, with the small constant. -/
def meanSq (x : Fin 1024 → EReal) : EReal :=
  Ideal.div (∑ i, x i * x i) (Ideal.ofBits FTy.f32 1149239296#32) + Ideal.ofBits FTy.f32 897988541#32

/-- The row's inverse root mean square. -/
def scaleOf (x : Fin 1024 → EReal) : EReal := Ideal.rsqrt (meanSq x)

/-- The input's gradient in one row, as the kernel computes it, from the gradient `d` at the norm's output. -/
def dxOf (x d g : Fin 1024 → EReal) (i : Fin 1024) : EReal :=
  scaleOf x * (d i * g i - x i * scaleOf x * Ideal.div (∑ j, d j * g j * (x j * scaleOf x)) (Ideal.ofBits FTy.f32 1149239296#32))

/-- The gradient at the norm's output. -/
def back (gy : FVec Ideal S4096x4096 .bf16) (w : FVec Ideal S4x1024x4096 .bf16) (r : Fin 4096) (i : Fin 1024) : EReal :=
  ∑ f : Fin 4096, gy (ix2 r f) * w (ix3 0 i f)

/-- The input's gradient, with the residual's. -/
def dx (gy : FVec Ideal S4096x4096 .bf16) (w : FVec Ideal S4x1024x4096 .bf16) (x : FVec Ideal S4096x1024 .f32)
    (g : FVec Ideal S1x1024 .f32) (res : FVec Ideal S4096x1024 .f32) (r : Fin 4096) (i : Fin 1024) : EReal :=
  dxOf (fun k => x (ix2 r k)) (back gy w r) (fun k => g (ix2 0 k)) i + res (ix2 r i)

/-- The gain's gradient. -/
def dgain (gy : FVec Ideal S4096x4096 .bf16) (w : FVec Ideal S4x1024x4096 .bf16) (x : FVec Ideal S4096x1024 .f32) (i : Fin 1024) : EReal :=
  ∑ r : Fin 4096, back gy w r i * (x (ix2 r i) * scaleOf (fun k => x (ix2 r k)))

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- The gradient at the norm's output in a block of rows. -/
def blockBack (a : FVec Ideal S512x4096 .bf16) (w : FVec Ideal S1x1024x4096 .bf16) (r : Fin 512) (i : Fin 1024) : EReal :=
  ∑ f : Fin 4096, a (ix2 r f) * w (ix3 0 i f)

theorem pay_dx (a : FVec Ideal S512x4096 .bf16) (w : FVec Ideal S1x1024x4096 .bf16) (x : FVec Ideal S512x1024 .f32)
    (g : FVec Ideal S1x1024 .f32) (res : FVec Ideal S512x1024 .f32) (y : S512x1024.Idx) :
    k0_pay6 (F := Ideal) a w x g res y = dxOf (fun k => x (ix2 (y 0) k)) (blockBack a w (y 0))
      (fun k => g (ix2 0 k)) (y 1) + res y := by
  pointwise [k0_pay6, k0_pay5, k0_pay4, k0_pay3, dxOf, scaleOf, meanSq, blockBack]

/-- One row's part of the gain's gradient. -/
def part (a : FVec Ideal S512x4096 .bf16) (w : FVec Ideal S1x1024x4096 .bf16) (x : FVec Ideal S512x1024 .f32) (i : Fin 1024) (r : Fin 512) : EReal :=
  (∑ f : Fin 4096, a (ix2 r f) * w (ix3 0 i f)) * (x (ix2 r i) * scaleOf (fun k => x (ix2 r k)))

theorem pay_dg (a : FVec Ideal S512x4096 .bf16) (w : FVec Ideal S1x1024x4096 .bf16) (x : FVec Ideal S512x1024 .f32) (y : S1x1024.Idx) :
    k0_pay1 (F := Ideal) (k0_pay8 (F := Ideal) a w x) y = ∑ r : Fin 512, part a w x (y 1) r := by
  pointwise [part, k0_pay1, k0_pay8, k0_pay5, k0_pay4, k0_pay3, scaleOf, meanSq]

theorem first {t : Fin cfg0.N} (h0 : t.val % 8 = 0) : ¬ 1 ≤ t.val := by
  have h := t.isLt
  exact fun h1 => absurd (h.trans_eq N_0) (by omega)

theorem gy_block (c : Dev nD) (t : Fin cfg0.N) (r : Fin 512) (f : Fin 4096) (R : Fin 4096) (hR : (R : ℕ) = t.val * 512 + r) :
    (iblk m c 0 t : FVec Ideal S512x4096 .bf16) (ix2 r f) = (m ((c : Thread nD τ).loc main_arg0) : FVec Ideal S4096x4096 .bf16) (ix2 R f) := by
  blk_ext [iblk, V, idx t]

theorem w_block (c : Dev nD) (t : Fin cfg0.N) (i : Fin 1024) (f : Fin 4096) :
    (iblk m c 1 t : FVec Ideal S1x1024x4096 .bf16) (ix3 0 i f) = (m ((c : Thread nD τ).loc main_arg1) : FVec Ideal S4x1024x4096 .bf16) (ix3 0 i f) := by
  blk_ext [iblk, V, idx t]

theorem x_block (c : Dev nD) (t : Fin cfg0.N) (r : Fin 512) (k : Fin 1024) (R : Fin 4096) (hR : (R : ℕ) = t.val * 512 + r) :
    (iblk m c 2 t : FVec Ideal S512x1024 .f32) (ix2 r k) = (m ((c : Thread nD τ).loc main_arg2) : FVec Ideal S4096x1024 .f32) (ix2 R k) := by
  blk_ext [iblk, V, idx t]

theorem g_block (c : Dev nD) (t : Fin cfg0.N) (k : Fin 1024) :
    (iblk m c 3 t : FVec Ideal S1x1024 .f32) (ix2 0 k) = (m ((c : Thread nD τ).loc main_arg3) : FVec Ideal S1x1024 .f32) (ix2 0 k) := by
  blk_ext [iblk, V, idx t]

theorem res_block (c : Dev nD) (t : Fin cfg0.N) (r : Fin 512) (k : Fin 1024) (R : Fin 4096) (hR : (R : ℕ) = t.val * 512 + r) :
    (iblk m c 4 t : FVec Ideal S512x1024 .f32) (ix2 r k) = (m ((c : Thread nD τ).loc main_arg4) : FVec Ideal S4096x1024 .f32) (ix2 R k) := by
  blk_ext [iblk, V, idx t]

/-- The input's gradient one grid point writes. -/
theorem dx_block (c : Dev nD) (t : Fin cfg0.N) (y : S512x1024.Idx) (j : S4096x1024.Idx) (h0 : (j 0 : ℕ) = t.val * 512 + y 0) (h1 : (j 1 : ℕ) = y 1) :
    k0_pay6 (F := Ideal) (iblk m c 0 t) (iblk m c 1 t) (iblk m c 2 t) (iblk m c 3 t) (iblk m c 4 t) y
      = dx (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) := by
  refine (pay_dx _ _ _ _ _ _).trans ?_
  have e0 := funext fun k => x_block m c t (y 0) k (j 0) h0
  have e1 : blockBack (iblk m c 0 t) (iblk m c 1 t) (y 0)
      = back (m ((c : Thread nD τ).loc main_arg0)) (m ((c : Thread nD τ).loc main_arg1)) (j 0) :=
    funext fun i => Finset.sum_congr rfl fun f _ => congrArg₂ (fun a b : EReal => a * b) (gy_block m c t (y 0) f (j 0) h0) (w_block m c t i f)
  have e2 := funext fun k => g_block m c t k
  have e3 := (congrArg (iblk m c 4 t : FVec Ideal S512x1024 .f32) (eq_ix2 y)).trans (res_block m c t (y 0) (y 1) (j 0) h0)
  unfold dx
  rw [show j 1 = y 1 from Fin.ext h1]
  exact congrArg₂ (· + ·) (congrFun (congr (congr (congrArg dxOf e0) e1) e2) (y 1)) e3

/-- The array of gradients the kernel leaves. -/
theorem final_dx (c : Dev nD) : (dats m 0 c).arrAt 5 (cfgs 0).N
    = fun j => dx (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) := by
  refine (dats m 0 c).arrAt_eq_of_covers 5 _ (by decide +kernel) fun t _ y => ?_
  blk_simp
  rw [after0_5]
  by_cases h0 : t.val % 8 = 0
  · rw [outsAt0_A m c t h0 (first h0)]; frame_out
    exact dx_block m c t y _ (by blk_simp [idx t] <;> try omega) (by blk_simp [idx t] <;> try omega)
  · rw [outsAt0_B m c t h0 (by omega)]; frame_out
    exact dx_block m c t y _ (by blk_simp [idx t] <;> try omega) (by blk_simp [idx t] <;> try omega)

/-- The same array rounded to the narrower type: over the reals, the same numbers. -/
theorem final_dxb (c : Dev nD) : (dats m 0 c).arrAt 6 (cfgs 0).N
    = fun j => dx (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) := by
  refine (dats m 0 c).arrAt_eq_of_covers 6 _ (by decide +kernel) fun t _ y => ?_
  have e : ∀ a w x g r (z : S512x1024.Idx), k0_pay7 (F := Ideal) a w x g r z = k0_pay6 (F := Ideal) a w x g r z := fun _ _ _ _ _ _ => rfl
  blk_simp
  rw [after0_6]
  by_cases h0 : t.val % 8 = 0
  · rw [outsAt0_A m c t h0 (first h0)]; frame_out
    rw [e]
    exact dx_block m c t y _ (by blk_simp [idx t] <;> try omega) (by blk_simp [idx t] <;> try omega)
  · rw [outsAt0_B m c t h0 (by omega)]; frame_out
    rw [e]
    exact dx_block m c t y _ (by blk_simp [idx t] <;> try omega) (by blk_simp [idx t] <;> try omega)

/-- The gain's gradient the kernel leaves: the points' parts added. -/
theorem final_dg (c : Dev nD) : (dats m 0 c).arrAt 7 (cfgs 0).N
    = fun j => dgain (m ((c : Thread nD τ).loc main_arg0)) (m ((c : Thread nD τ).loc main_arg1)) (m ((c : Thread nD τ).loc main_arg2)) (j 1) := by
  have hadd : ∀ (a : FVec Ideal S1024 .f32) (b : FVec Ideal S1x1024 .f32) j, k0_pay2 (F := Ideal) a b j = b j + k0_pay1 (F := Ideal) a j := fun a b j => by
    pointwise [k0_pay2]
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => k0_pay1 (F := Ideal) (k0_pay8 (F := Ideal) (iblk m c 0 t) (iblk m c 1 t) (iblk m c 2 t)) j)
    (fun t h j => by rw [outsAt0_A m c t h (first h)]; frame_out; rw [zero_add])
    (fun t h j => by rw [outsAt0_B m c t h (by omega)]; frame_out; rw [hadd])
    (le_of_eq N_0) t0_7 rfl j, zero_add]
  refine Eq.trans (b := ∑ t : Fin cfg0.N, ∑ r : Fin 512, part (iblk m c 0 t) (iblk m c 1 t) (iblk m c 2 t) (j 1) r) ?_ ?_
  · exact Fin.sum_fin_congr fun t => pay_dg _ _ _ _
  · refine Fin.sum_mul_add_congr (L := 4096) (S := cfg0.N) (n := 512) (fun t r hl => ?_) (by rw [show cfg0.N = 8 from N_0])
    exact congrArg₂ (· * ·) (Finset.sum_congr rfl fun f _ => congrArg₂ (fun a b : EReal => a * b) (gy_block m c t r f ⟨t.val * 512 + r.val, hl⟩ rfl) (w_block m c t (j 1) f))
      (congrArg₂ (· * ·) (x_block m c t r (j 1) ⟨t.val * 512 + r.val, hl⟩ rfl) (congrArg scaleOf (funext fun k => x_block m c t r k ⟨t.val * 512 + r.val, hl⟩ rfl)))

/-- The side conditions of the precondition's operations. -/
instance finite_facts : Cert.Pre_finite_norm.Facts where
  bitsLt_bf16_f32 := by decide
  bcast_S_S4096x4096 := by decide
  reducesTo_S4096x4096_S_d0_1 := by decide
  h_S_ := by decide
  bcast_S_S4x1024x4096 := by decide
  reducesTo_S4x1024x4096_S_d0_1_2 := by decide
  bcast_S_S4096x1024 := by decide
  reducesTo_S4096x1024_S_d0_1 := by decide
  bcast_S_S1x1024 := by decide
  reducesTo_S1x1024_S_d0_1 := by decide
  bcast_S_S1 := by decide
  concatenates_S1_S1_S1_S1_S4_d0 := by decide
  reducesTo_S4_S_d0 := by decide

/-- The precondition makes the four arrays ones of reals. -/
theorem finite_reals (gy : FVec Ideal S4096x4096 .bf16) (w : FVec Ideal S4x1024x4096 .bf16) (x : FVec Ideal S4096x1024 .f32)
    (g : FVec Ideal S1x1024 .f32) (res : FVec Ideal S4096x1024 .f32) (h : Cert.Pre_finite_norm.fn (F := Ideal) gy w x g res = fun _ => 1#1) :
    (∀ i, ∃ t : ℝ, (gy i : EReal) = t) ∧ (∀ i, ∃ t : ℝ, (w i : EReal) = t) ∧ (∀ i, ∃ t : ℝ, (x i : EReal) = t) ∧ ∀ i, ∃ t : ℝ, (g i : EReal) = t := by
  unfold Cert.Pre_finite_norm.fn Cert.Pre_finite_norm.fn_part1 at h
  dsimp only at h
  obtain ⟨h0, h1, h2, h3⟩ := Finite.all_four _ _ _ _ _ _ _ _ h
  exact ⟨Finite.real_of_all (extf .f32 gy _) _ _ _ h0, Finite.real_of_all (extf .f32 w _) _ _ _ h1, Finite.real_of_all x _ _ _ h2, Finite.real_of_all g _ _ _ h3⟩

/-- The derivative through the mean square, as the chain rule gives it. -/
def through (x d g : Fin 1024 → EReal) : EReal :=
  ∑ _k : Fin 1, Ideal.div ((∑ k, x k * (d k * g k)) * (Ideal.ofBits FTy.f32 3204448256#32 * Ideal.div (scaleOf x) (meanSq x))) (Ideal.ofBits FTy.f32 1149239296#32)

theorem width : Ideal.ofBits FTy.f32 1149239296#32 = ((1024 : ℝ) : EReal) := by
  simp [Ideal.ofBits, Ideal.ieee, -EReal.coe_mul]; norm_num

theorem minus_half : Ideal.ofBits FTy.f32 3204448256#32 = ((-(1 / 2) : ℝ) : EReal) := by
  simp [Ideal.ofBits, Ideal.ieee, -EReal.coe_mul]; norm_num

theorem small : ∃ e : ℝ, 0 < e ∧ Ideal.ofBits FTy.f32 897988541#32 = (e : EReal) := by
  refine ⟨_, ?_, by simp [Ideal.ofBits, Ideal.ieee, -EReal.coe_mul]; rfl⟩
  norm_num

/-- Over the reals the two forms of the norm's derivative are one. -/
theorem forms (x d g : Fin 1024 → EReal) (hx : ∀ k, ∃ t : ℝ, x k = t) (hd : ∀ k, ∃ t : ℝ, d k = t) (hg : ∀ k, ∃ t : ℝ, g k = t)
    (res : EReal) (i : Fin 1024) :
    res + d i * g i * scaleOf x + x i * through x d g + through x d g * x i = dxOf x d g i + res := by
  choose a ha using hx
  choose b hb using hd
  choose e he using hg
  obtain ⟨z, hz, hZ⟩ := small
  have hm : meanSq x = (((∑ k, a k * a k) * (1 / 1024) + z : ℝ) : EReal) := by
    unfold meanSq
    rw [width, hZ, Ideal.div_coe (by norm_num), Finset.sum_congr rfl fun k _ => by rw [ha k, ← EReal.coe_mul], Attn.coe_sum, ← EReal.coe_mul, ← EReal.coe_add]
  have hp : 0 < (∑ k, a k * a k) * (1 / 1024) + z :=
    add_pos_of_nonneg_of_pos (mul_nonneg (Finset.sum_nonneg fun k _ => mul_self_nonneg _) (by norm_num)) hz
  generalize (∑ k, a k * a k) * (1 / 1024) + z = M at hm hp
  have hs : scaleOf x = (((Real.sqrt M)⁻¹ : ℝ) : EReal) := by
    unfold scaleOf
    rw [hm, Ideal.rsqrt_coe, if_neg (not_lt.2 hp.le), if_neg hp.ne']
  have ht : through x d g = (((∑ k, a k * (b k * e k)) * (-(1 / 2) * ((Real.sqrt M)⁻¹ * (1 / M))) * (1 / 1024) : ℝ) : EReal) := by
    unfold through
    rw [Fin.sum_univ_one, hs, hm, minus_half, width, Ideal.div_coe hp.ne', Ideal.div_coe (by norm_num),
      Finset.sum_congr rfl fun k _ => by rw [ha k, hb k, he k, ← EReal.coe_mul, ← EReal.coe_mul], Attn.coe_sum]
    simp only [← EReal.coe_mul]
  have hk : dxOf x d g i = (((Real.sqrt M)⁻¹ * (b i * e i - a i * (Real.sqrt M)⁻¹ * ((∑ k, b k * e k * (a k * (Real.sqrt M)⁻¹)) * (1 / 1024))) : ℝ) : EReal) := by
    unfold dxOf
    rw [hs, width, Ideal.div_coe (by norm_num),
      Finset.sum_congr rfl fun k _ => by rw [ha k, hb k, he k, ← EReal.coe_mul, ← EReal.coe_mul, ← EReal.coe_mul], Attn.coe_sum, ha i, hb i, he i]
    simp only [← EReal.coe_mul, ← EReal.coe_sub]
  rw [hk, ht, hs, ha i, hb i, he i]
  simp only [← EReal.coe_mul]
  rw [add_assoc, add_assoc, ← EReal.coe_add, ← EReal.coe_add, add_comm]
  refine congrArg (fun r : ℝ => (r : EReal) + res) ?_
  have hr : (1 / M : ℝ) = (Real.sqrt M)⁻¹ * (Real.sqrt M)⁻¹ := by
    rw [← mul_inv, Real.mul_self_sqrt hp.le, one_div]
  rw [hr]
  have hsum : ∑ k, b k * e k * (a k * (Real.sqrt M)⁻¹) = (∑ k, a k * (b k * e k)) * (Real.sqrt M)⁻¹ := by
    rw [Finset.sum_mul]
    exact Finset.sum_congr rfl fun k _ => by ring
  rw [hsum]
  ring

/-- The reference's gradient at one element. -/
theorem ref_at (w' : (ℓ : Loc Cert.ReferenceNormIdeal.nD Cert.ReferenceNormIdeal.τ Cert.ReferenceNormIdeal.sig) → Buf (Elt Ideal) ℓ) (c : Dev Cert.ReferenceNormIdeal.nD) (j : S4096x1024.Idx)
    (gy : FVec Ideal S4096x4096 .bf16) (w : FVec Ideal S4x1024x4096 .bf16) (x : FVec Ideal S4096x1024 .f32) (g : FVec Ideal S1x1024 .f32) (res : FVec Ideal S4096x1024 .f32)
    (h0 : w' ((c.tc : Thread _ _).loc Cert.ReferenceNormIdeal.main_arg0) = gy) (h1 : w' ((c.tc : Thread _ _).loc Cert.ReferenceNormIdeal.main_arg1) = w)
    (h2 : w' ((c.tc : Thread _ _).loc Cert.ReferenceNormIdeal.main_arg2) = x) (h3 : w' ((c.tc : Thread _ _).loc Cert.ReferenceNormIdeal.main_arg3) = g)
    (h4 : w' ((c.tc : Thread _ _).loc Cert.ReferenceNormIdeal.main_arg4) = res) :
    ((Cert.ReferenceNormIdeal.Value.res_main_v40 w' c : FVec Ideal S4096x1024 .f32) j : EReal)
      = res j + back gy w (j 0) (j 1) * g (ix2 0 (j 1)) * scaleOf (fun k => x (ix2 (j 0) k))
        + x j * through (fun k => x (ix2 (j 0) k)) (back gy w (j 0)) (fun k => g (ix2 0 k))
        + through (fun k => x (ix2 (j 0) k)) (back gy w (j 0)) (fun k => g (ix2 0 k)) * x j := by
  unfold Cert.ReferenceNormIdeal.Value.res_main_v40
  rw [h0, h1, h2, h3, h4]
  pointwise [through, back, scaleOf, meanSq]

/-- The reference's gain gradient at one element. -/
theorem ref_gain (gy : FVec Ideal S4096x4096 .bf16) (w : FVec Ideal S4x1024x4096 .bf16) (x : FVec Ideal S4096x1024 .f32) (i : Fin 1024) :
    ∑ r : Fin 4096, x (ix2 r i) * scaleOf (fun k => x (ix2 r k)) * back gy w r i = dgain gy w x i :=
  Finset.sum_congr rfl fun _ _ => mul_comm _ _

/-- The gradient behind the product is real where its factors are. -/
theorem back_real (gy : FVec Ideal S4096x4096 .bf16) (w : FVec Ideal S4x1024x4096 .bf16) (h0 : ∀ i, ∃ t : ℝ, (gy i : EReal) = t)
    (h1 : ∀ i, ∃ t : ℝ, (w i : EReal) = t) (r : Fin 4096) (k : Fin 1024) : ∃ t : ℝ, back gy w r k = t := by
  choose a ha using h0
  choose b hb using h1
  refine ⟨_, Eq.trans (Finset.sum_congr rfl fun f _ => ?_) (Attn.coe_sum _ fun f => a (ix2 r f) * b (ix3 0 k f))⟩
  rw [ha, hb, ← EReal.coe_mul]

/-- At real arguments the kernel's three arrays are the reference's. -/
theorem algebraic : Cert.algebraic_KernelNormIdeal_ReferenceNormIdeal_pre_finite_norm := by
  intro m g m' g' hp he
  refine ⟨_, _, _, (θ_run Cert.KernelNormIdeal.defs _ _).mono (fun _ h c => ⟨(h c).1.trans (final_dx m c), (h c).2.1.trans (final_dxb m c), (h c).2.2.1.trans (final_dg m c), (h c).2.2.2⟩)
    (Cert.KernelNormIdeal.Value.run_blocks m g), ?_⟩
  refine (θ_run Cert.ReferenceNormIdeal.defs _ _).mono (fun _ h c => ?_) (Cert.ReferenceNormIdeal.Value.run (F := Ideal) m' g')
  obtain ⟨r0, r1, r2, ra⟩ := h c
  obtain ⟨e0, e1, e2, e3, e4⟩ := he c
  obtain ⟨p0, p1, p2, p3⟩ := finite_reals _ _ _ _ _ (hp c)
  have key : ∀ j : S4096x1024.Idx, ((Cert.ReferenceNormIdeal.Value.res_main_v40 m' c : FVec Ideal S4096x1024 .f32) j : EReal)
      = dx (m ((c : Thread nD τ).loc main_arg0)) (m ((c : Thread nD τ).loc main_arg1)) (m ((c : Thread nD τ).loc main_arg2))
          (m ((c : Thread nD τ).loc main_arg3)) (m ((c : Thread nD τ).loc main_arg4)) (j 0) (j 1) := fun j => by
    obtain ⟨s, i, rfl⟩ : ∃ (s : Fin 4096) (i : Fin 1024), j = ix2 s i := ⟨j 0, j 1, eq_ix2 j⟩
    refine (ref_at m' c _ _ _ _ _ _ e0 e1 e2 e3 e4).trans ?_
    exact forms _ _ _ (fun k => p2 _) (fun k => back_real _ _ p0 p1 _ k) (fun k => p3 _) _ _
  refine ⟨r0.trans (funext key), r1.trans (funext fun j => (show _ = _ from rfl).trans (key j)), r2.trans ?_, ra⟩
  funext j
  rw [e0, e1, e2]
  refine Eq.trans ?_ (ref_gain _ _ _ _)
  pointwise [back, scaleOf, meanSq]

end Cert.Norm

end
-- ==== Proof.Bias.lean ====
/- The gradient of the bias table: the kernel sums the entries of a band along each of its diagonals and adds a diagonal at the place of the table that
   the diagonal reads; the reference adds every entry at the place it reads. Both are one sum over a band's entries. -/
module

public import proofs.«01_k».proof.Defs
public import proofs.«01_k».proof.Proof.AttnData
public import proofs.«01_k».proof.Proof.Gen.KernelBiasIdeal.Frame
public import proofs.«01_k».proof.Proof.Gen.ReferenceBiasIdeal.Run
public import proofs.«01_k».proof.Proof.Proj
public import Idealize.ShloMosaic.Lib.Pipeline.ValueKit
public import Idealize.ShloMosaic.Lib.Claim

@[expose] public section

set_option maxRecDepth 16384

noncomputable section

namespace Cert.Bias

open Idealize.ShloMosaic Idealize.ShloMosaic.TcCoe Idealize.SL.Sem
open Idealize.ShloMosaic.Pipeline (Dat)

/-! ## The reference's scatter -/

abbrev Table : Shape := ⟨3, ![4, 8, 257]⟩
abbrev Places : Shape := ⟨3, ![64, 576, 1]⟩
abbrev Bands : Shape := ⟨4, ![4, 8, 64, 576]⟩

/-- The scatter that adds each entry of a band at its place of the table. -/
abbrev sd (wf : ScatterDims.WF Table Places Bands [0, 1] [2] [2] 2) : ScatterDims Table Places Bands where
  updateWindowDims := [0, 1]
  insertedWindowDims := [2]
  scatterDimsToOperandDims := [2]
  indexVectorDim := 2
  wf := wf

/-- Where an update lands: at its own layer and head, in the place its index names. -/
theorem lands (wf) (w : IVec Places 32) (j : Bands.Idx) (i : Table.Idx) :
    (sd wf).resultIdx? j w = some i ↔ (j 0).val = (i 0).val ∧ (j 1).val = (i 1).val ∧ (w (ix3 (j 2) (j 3) 0)).toInt = ((i 2).val : Int) := by
  have w0 : (sd wf).window j 0 = (j 0).val := rfl
  have w1 : (sd wf).window j 1 = (j 1).val := rfl
  have w2 : (sd wf).window j 2 = 0 := rfl
  have s0 : (sd wf).start j w 0 = 0 := rfl
  have s1 : (sd wf).start j w 1 = 0 := rfl
  have s2 : (sd wf).start j w 2 = (w (ix3 (j 2) (j 3) 0)).toInt := by
    have e : ∀ q, (sd wf).siIdx j q = ix3 (j 2) (j 3) 0 := fun q => by
      funext b
      match b with
      | ⟨0, _⟩ => rfl
      | ⟨1, _⟩ => rfl
      | ⟨2, _⟩ => exact Subsingleton.elim (α := Fin 1) _ _
    unfold ScatterDims.start
    rw [dif_pos (show (2 : Fin 3) ∈ (sd wf).scatterDimsToOperandDims from List.mem_singleton.mpr rfl), e]; rfl
  have i0 := (i 0).isLt
  have i1 := (i 1).isLt
  have i2 := (i 2).isLt
  unfold ScatterDims.resultIdx?
  split
  · next h =>
    have h0 := h 0; have h1 := h 1; have h2 := h 2
    rw [s0, w0] at h0; rw [s1, w1] at h1; rw [s2, w2] at h2
    rw [Option.some.injEq, funext_iff]
    constructor
    · intro e
      have e0 := congrArg Fin.val (e 0); have e1 := congrArg Fin.val (e 1); have e2 := congrArg Fin.val (e 2)
      simp only [s0, w0, s1, w1, s2, w2] at e0 e1 e2
      omega
    · rintro ⟨e0, e1, e2⟩ a
      apply Fin.ext
      match a with
      | ⟨0, _⟩ => show ((sd wf).start j w 0 + (sd wf).window j 0).toNat = (i 0).val; rw [s0, w0]; omega
      | ⟨1, _⟩ => show ((sd wf).start j w 1 + (sd wf).window j 1).toNat = (i 1).val; rw [s1, w1]; omega
      | ⟨2, _⟩ => show ((sd wf).start j w 2 + (sd wf).window j 2).toNat = (i 2).val; rw [s2, w2]; omega
  · next h =>
    constructor
    · intro e; cases e
    · rintro ⟨e0, e1, e2⟩
      refine (h fun a => ?_).elim
      match a with
      | ⟨0, _⟩ => show 0 ≤ (sd wf).start j w 0 + (sd wf).window j 0 ∧ (sd wf).start j w 0 + (sd wf).window j 0 < ((4 : ℕ) : Int); rw [s0, w0]; change _ < 4 at i0; omega
      | ⟨1, _⟩ => show 0 ≤ (sd wf).start j w 1 + (sd wf).window j 1 ∧ (sd wf).start j w 1 + (sd wf).window j 1 < ((8 : ℕ) : Int); rw [s1, w1]; change _ < 8 at i1; omega
      | ⟨2, _⟩ => show 0 ≤ (sd wf).start j w 2 + (sd wf).window j 2 ∧ (sd wf).start j w 2 + (sd wf).window j 2 < ((257 : ℕ) : Int); rw [s2, w2]; change _ < 257 at i2; omega

/-- The scatter at one element: the sum of the updates of its layer and head whose index is its place. -/
theorem scatter_apply (wf) (x : FVec Ideal Table .f32) (w : IVec Places 32) (u : FVec Ideal Bands .f32) (i : Table.Idx) :
    Host.scatterAdd (sd wf) x w u i = x i + ∑ p : Fin 64, ∑ k : Fin 576, if (w (ix3 p k 0)).toInt = ((i 2).val : Int) then u (ix4 (i 0) (i 1) p k) else 0 := by
  show x i + ∑ j ∈ Finset.univ.filter (fun j => (sd wf).resultIdx? j w = some i), u j = _
  congr 1
  rw [← Finset.sum_product' Finset.univ Finset.univ (fun (p : Fin 64) (k : Fin 576) => if (w (ix3 p k 0)).toInt = ((i 2).val : Int) then u (ix4 (i 0) (i 1) p k) else 0),
    ← Finset.sum_filter]
  refine Finset.sum_bij (fun j _ => ((j 2 : Fin 64), (j 3 : Fin 576))) ?_ ?_ ?_ ?_
  · intro j hj
    have h := (lands wf w j i).1 (Finset.mem_filter.1 hj).2
    simp only [Finset.mem_filter, Finset.mem_product, Finset.mem_univ, true_and]
    exact ⟨⟨Finset.mem_univ _, Finset.mem_univ _⟩, h.2.2⟩
  · intro j hj j' hj' e
    have h := (lands wf w j i).1 (Finset.mem_filter.1 hj).2
    have h' := (lands wf w j' i).1 (Finset.mem_filter.1 hj').2
    have e2 := congrArg Prod.fst e
    have e3 := congrArg Prod.snd e
    funext a
    match a with
    | ⟨0, _⟩ => exact Fin.ext (h.1.trans h'.1.symm)
    | ⟨1, _⟩ => exact Fin.ext (h.2.1.trans h'.2.1.symm)
    | ⟨2, _⟩ => exact e2
    | ⟨3, _⟩ => exact e3
  · rintro ⟨p, k⟩ h
    refine ⟨ix4 (i 0) (i 1) p k, Finset.mem_filter.2 ⟨Finset.mem_univ _, (lands wf w _ i).2 ⟨rfl, rfl, ?_⟩⟩, rfl⟩
    exact (Finset.mem_filter.1 h).2
  · intro j hj
    have h := (lands wf w j i).1 (Finset.mem_filter.1 hj).2
    congr 1
    funext a
    match a with
    | ⟨0, _⟩ => exact Fin.ext h.1
    | ⟨1, _⟩ => exact Fin.ext h.2.1
    | ⟨2, _⟩ => rfl
    | ⟨3, _⟩ => rfl

/-- The same with every index word and update named. -/
theorem scatter_at (wf) (x : FVec Ideal Table .f32) (w : IVec Places 32) (u : FVec Ideal Bands .f32) (l : Fin 4) (h : Fin 8) (v : Fin 257)
    (D : Fin 64 → Fin 576 → EReal) (hx : x (ix3 l h v) = 0) (hw : ∀ (i : Fin 64) (k : Fin 576), (w (ix3 i k 0)).toInt = ((min 256 (640 + i.val - k.val) : ℕ) : Int))
    (hu : ∀ (i : Fin 64) (k : Fin 576), u (ix4 l h i k) = D i k) :
    Host.scatterAdd (sd wf) x w u (ix3 l h v) = ∑ i : Fin 64, ∑ k : Fin 576, if min 256 (640 + i.val - k.val) = v.val then D i k else 0 := by
  rw [scatter_apply, hx]
  refine (zero_add _).trans (Finset.sum_congr rfl fun i _ => Finset.sum_congr rfl fun k _ => ?_)
  rw [hw]
  exact if_congr Nat.cast_inj (hu i k) rfl

/-! ## Sums along diagonals -/

/-- A sum along one diagonal, read at the places the table gives that diagonal: the sum of all entries whose diagonal the table puts there. -/
theorem along (x : Fin 4096 → EReal) (T : ℕ → Prop) [DecidablePred T] :
    (∑ b : Fin 128, if T b.val then (∑ r : Fin 4096, if r.val % 64 + 63 - r.val / 64 = b.val then x r else 0) else 0)
      = ∑ r : Fin 4096, if T (r.val % 64 + 63 - r.val / 64) then x r else 0 := by
  have e : ∀ b : Fin 128, (if T b.val then (∑ r : Fin 4096, if r.val % 64 + 63 - r.val / 64 = b.val then x r else 0) else (0 : EReal))
      = ∑ r : Fin 4096, if (⟨r.val % 64 + 63 - r.val / 64, by omega⟩ : Fin 128) = b then (if T (r.val % 64 + 63 - r.val / 64) then x r else 0) else 0 := fun b => by
    by_cases h : T b.val
    · rw [if_pos h]
      refine Finset.sum_congr rfl fun r _ => ?_
      by_cases g : r.val % 64 + 63 - r.val / 64 = b.val
      · rw [if_pos g, if_pos (Fin.ext g), if_pos (g ▸ h)]
      · rw [if_neg g, if_neg fun q => g (congrArg Fin.val q)]
    · rw [if_neg h]
      refine (Finset.sum_eq_zero fun r _ => ?_).symm
      by_cases g : r.val % 64 + 63 - r.val / 64 = b.val
      · rw [if_pos (Fin.ext g), if_neg (g ▸ h)]
      · rw [if_neg fun q => g (congrArg Fin.val q)]
  rw [Finset.sum_congr rfl fun b _ => e b, Finset.sum_comm]
  refine Finset.sum_congr rfl fun r _ => ?_
  rw [Finset.sum_ite_eq Finset.univ, if_pos (Finset.mem_univ _)]

/-- A sum over nine squares of 64 rows and columns side by side: a sum over 64 rows and 576 columns. -/
theorem regroup (F : Fin 64 → Fin 576 → EReal) :
    (∑ a : Fin 9, ∑ r : Fin 4096, F ⟨r.val / 64, by omega⟩ ⟨64 * a.val + r.val % 64, by omega⟩) = ∑ i : Fin 64, ∑ k : Fin 576, F i k := by
  have e : ∀ a : Fin 9, (∑ r : Fin 4096, F ⟨r.val / 64, by omega⟩ ⟨64 * a.val + r.val % 64, by omega⟩)
      = ∑ i : Fin 64, ∑ k : Fin 64, F i ⟨a.val * 64 + k.val, by omega⟩ := fun a => by
    rw [← Fin.sum_mul_add_fin 64 64 (fun r : Fin 4096 => F ⟨r.val / 64, by omega⟩ ⟨64 * a.val + r.val % 64, by omega⟩) rfl]
    refine Finset.sum_congr rfl fun i _ => Finset.sum_congr rfl fun k _ => congrArg₂ F (Fin.ext ?_) (Fin.ext ?_)
    · show (i.val * 64 + k.val) / 64 = i.val
      omega
    · show 64 * a.val + (i.val * 64 + k.val) % 64 = a.val * 64 + k.val
      omega
  rw [Finset.sum_congr rfl fun a _ => e a, Finset.sum_comm]
  refine Finset.sum_congr rfl fun i _ => ?_
  exact Fin.sum_mul_add_fin 9 64 (fun k : Fin 576 => F i k) rfl

/-- The gradient of one place of the table: all entries of a layer's and head's band that read it. -/
def bias (d : FVec Ideal (⟨4, ![4, 4, 576, 128]⟩ : Shape) .f32) (l : Fin 4) (h : Fin 8) (x : ℕ) : EReal :=
  ∑ i : Fin 64, ∑ k : Fin 576, if min 256 (640 + i.val - k.val) = x
    then d (ix4 l ⟨h.val / 2, by omega⟩ k ⟨h.val % 2 * 64 + i.val, by omega⟩) else 0

open Cert.KernelBiasIdeal Cert.KernelBiasIdeal.Gen

/-! ## What a grid point computes -/

/-- The word of the place that a diagonal of a square reads. -/
def tab (a m : ℕ) : BitVec 32 :=
  IntOp.addi (IntOp.minsi 128#32 (IntOp.maxsi 4294967168#32 (IntOp.subi 575#32 (IntOp.addi (BitVec.ofNat 32 a) (BitVec.ofNat 32 m))))) 128#32

theorem tab_word : ∀ (a : Fin 9) (k : Fin 128), tab (64 * a.val) k.val = BitVec.ofNat 32 (min 256 (703 - (64 * a.val + k.val))) := by
  decide +kernel

/-- The place that an entry of a band reads, as the reference computes its word. -/
theorem ref_word : ∀ (i : Fin 64) (a : Fin 576), (Scalar.select (IntOp.cmpi CmpIPredicate.slt (Attn.dist i.val a.val) 0#32) (IntOp.addi (Attn.dist i.val a.val) 257#32) (Attn.dist i.val a.val)).toInt
   = ((min 256 (640 + i.val - a.val) : ℕ) : Int) := by
  decide +kernel
/-- The word of an entry's diagonal: its column less its row, plus 63, the entry's number divided by 64. -/
def diagWord (x : ℕ) : BitVec 32 :=
  (IntOp.addi
            (IntOp.subi
              (Scalar.select
                (IntOp.andi
                  (IntOp.xori
                    (IntOp.cmpi CmpIPredicate.slt
                      (IntOp.remsi ArithUnit.vector (BitVec.ofNat 32 x)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 x)
                      (Scalar.select (Scalar.cmpi CmpIPredicate.eq 64#32 0#32) 1#32 64#32))
                    0#32))
                (IntOp.addi
                  (IntOp.remsi ArithUnit.vector (BitVec.ofNat 32 x)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 x)
                  (Scalar.select (Scalar.cmpi CmpIPredicate.eq 64#32 0#32) 1#32 64#32)))
              (Scalar.select
                (IntOp.andi
                  (IntOp.cmpi CmpIPredicate.ne
                    (IntOp.subi (BitVec.setWidth 32 (IntOp.cmpi CmpIPredicate.sgt (BitVec.ofNat 32 x) 0#32))
                      (BitVec.setWidth 32 (IntOp.cmpi CmpIPredicate.slt (BitVec.ofNat 32 x) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 x) 64#32) 0#32))
                (IntOp.subi (IntOp.divsi ArithUnit.vector (BitVec.ofNat 32 x) 64#32) 1#32)
                (IntOp.divsi ArithUnit.vector (BitVec.ofNat 32 x) 64#32)))
            63#32)

set_option maxRecDepth 100000 in
theorem diag_word : ∀ r : Fin 4096, diagWord r.val = BitVec.ofNat 32 (r.val % 64 + 63 - r.val / 64) := by
  decide +kernel

theorem diagonal_word (b : FVec Ideal S1x72x4096 .f32) (q : Fin 72) (k : Fin 128) :
   k0_pay25 (F := Ideal) b (ix2 q k) = ∑ r : Fin 4096, Scalar.select (IntOp.cmpi .eq (diagWord r.val) (BitVec.ofNat 32 k.val)) (b (ix3 0 q r)) 0 := by
  pointwise [k0_pay25, k0_pay24, k0_pay23, k0_pay22, k0_pay21, k0_pay20, k0_pay19, k0_pay7, k0_pay6, k0_pay5, k0_pay4, k0_pay3, k0_pay2, diagWord]

set_option maxHeartbeats 2000000 in
theorem table_word (v1 v3 v19 v21 v40 v42) (h : Fin 8) (x : Fin 384) (w) (hw : k0_pay7 v1 v3 v19 v21 v40 v42 = w) (i0 i1 i2 i3) :
   k0_pay1 (F := Ideal) (k0_pay16 w (k0_pay14 w (k0_pay11 w (k0_pay8 v1 v3 v19 v21 v40 v42) (k0_pay9 v1 v3 v19 v21 v40 v42)
      (iota .tc S128x384 32 [1] i0) k0_pay10) (k0_pay12 w) k0_pay13) (k0_pay15 w) (iota .tc S128x384 32 [0] i1) (iota .tc S128x384 32 [1] i2)) (k0_pay17 w)
      (iota .tc S128x384 32 [1] i3) k0_pay18 (ix3 0 h x)
    = ∑ a : Fin 9, ∑ m : Fin 128, Scalar.select (IntOp.cmpi .eq (tab (64 * a.val) m.val) (BitVec.ofNat 32 x.val)) (w (ix2 ⟨8 * a.val + h.val, by omega⟩ m)) 0 := by
  rw [Fin.sum_univ_castSucc, Fin.sum_univ_eight]
  pointwise [k0_pay1, k0_pay16, k0_pay14, k0_pay11, k0_pay8, k0_pay9, k0_pay10, k0_pay12, k0_pay13, k0_pay15, k0_pay17, k0_pay18, tab, hw]
  iterate 8 refine congrArg₂ (· + ·) ?_ ?_
  all_goals
    refine Finset.sum_congr rfl fun m _ => congrArg₂ (fun p q => Scalar.select p (w (ix2 q m)) 0) ?_ (Fin.ext (by simp))
    rfl

/-- A grid point's output: the sum of the entries that read a place. -/
theorem point (b : FVec Ideal S1x72x4096 .f32) (d : FVec Ideal S4x4x576x128 .f32) (l : Fin 4) (h : Fin 8) (x : Fin 384)
    (hb : ∀ (q : Fin 72) (r : Fin 4096), b (ix3 0 q r)
      = d (ix4 l ⟨q.val / 2 % 4, by omega⟩ ⟨q.val / 8 * 64 + r.val % 64, by omega⟩ ⟨q.val % 2 * 64 + r.val / 64, by omega⟩)) :
    (∑ a : Fin 9, ∑ m : Fin 128, Scalar.select (IntOp.cmpi .eq (tab (64 * a.val) m.val) (BitVec.ofNat 32 x.val))
      (k0_pay25 (F := Ideal) b (ix2 ⟨8 * a.val + h.val, by omega⟩ m) : EReal) 0) = bias d l h x.val := by
  refine Eq.trans (Finset.sum_congr rfl fun a _ => ?_) (regroup fun i k => if min 256 (640 + i.val - k.val) = x.val
    then d (ix4 l ⟨h.val / 2, by omega⟩ k ⟨h.val % 2 * 64 + i.val, by omega⟩) else 0)
  refine Eq.trans (Finset.sum_congr rfl fun m _ => ?_) ((along (fun r => b (ix3 0 ⟨8 * a.val + h.val, by omega⟩ r)) fun n =>
    min 256 (703 - (64 * a.val + n)) = x.val).trans (Finset.sum_congr rfl fun r _ => ?_))
  · rw [tab_word, Proj.select_eq _ _ (by omega) (by omega), diagonal_word]
    refine if_congr Iff.rfl (Finset.sum_congr rfl fun r _ => ?_) rfl
    rw [diag_word, Proj.select_eq _ _ (by omega) (by omega)]
  · refine if_congr ?_ ((hb _ r).trans (congrArg d ?_)) rfl
    · show min 256 (703 - (64 * a.val + (r.val % 64 + 63 - r.val / 64))) = x.val ↔ min 256 (640 + r.val / 64 - (64 * a.val + r.val % 64)) = x.val
      have : 703 - (64 * a.val + (r.val % 64 + 63 - r.val / 64)) = 640 + r.val / 64 - (64 * a.val + r.val % 64) := by omega
      rw [this]
    · rw [show (⟨(8 * a.val + h.val) / 2 % 4, by omega⟩ : Fin 4) = ⟨h.val / 2, by omega⟩ from Fin.ext (by show (8 * a.val + h.val) / 2 % 4 = h.val / 2; omega),
        show (⟨(8 * a.val + h.val) / 8 * 64 + r.val % 64, by omega⟩ : Fin 576) = ⟨64 * a.val + r.val % 64, by omega⟩ from
          Fin.ext (by show (8 * a.val + h.val) / 8 * 64 + r.val % 64 = 64 * a.val + r.val % 64; omega),
        show (⟨(8 * a.val + h.val) % 2 * 64 + r.val / 64, by omega⟩ : Fin 128) = ⟨h.val % 2 * 64 + r.val / 64, by omega⟩ from
          Fin.ext (by show (8 * a.val + h.val) % 2 * 64 + r.val / 64 = h.val % 2 * 64 + r.val / 64; omega)]

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- The array the host lines hand over: its rows are a square's and head's, its columns an entry's row and column in the square. -/
theorem host (c : Dev nD) (t : Fin 4) (q : Fin 72) (r : Fin 4096) : (V m c main_v2 : FVec Ideal S4x72x4096 .f32) (ix3 t q r)
    = (m ((c : Thread nD τ).loc main_arg0) : FVec Ideal S4x4x576x128 .f32)
        (ix4 t ⟨q.val / 2 % 4, by omega⟩ ⟨q.val / 8 * 64 + r.val % 64, by omega⟩ ⟨q.val % 2 * 64 + r.val / 64, by omega⟩) := by
  simp only [V, hostOps0]
  after_results_simp
  pointwise []

theorem block (c : Dev nD) (t : Fin cfg0.N) (T : Fin 4) (hT : T.val = t.val) (q : Fin 72) (r : Fin 4096) :
    (iblk m c 0 t : FVec Ideal S1x72x4096 .f32) (ix3 0 q r) = (V m c main_v2 : FVec Ideal S4x72x4096 .f32) (ix3 T q r) := by
  unfold iblk
  generalize V m c = Vc
  blk_ext [idx t]

/-- The gradients of all places; a column past the table's 257 places is zero. -/
def out (d : FVec Ideal S4x4x576x128 .f32) : FVec Ideal S4x8x384 .f32 := fun j => bias d (j 0) (j 1) (j 2).val

/-- What one grid point writes. -/
theorem pay (c : Dev nD) (t : Fin cfg0.N) (y : S1x8x384.Idx) (j : S4x8x384.Idx) (h0 : (j 0 : ℕ) = t.val) (h1 : (j 1 : ℕ) = y 1) (h2 : (j 2 : ℕ) = y 2) (i0 i1 i2 i3)
    (b : Vec Ideal S1x72x4096 .f32) (hb : b = iblk m c 0 t) :
    k0_pay1 (F := Ideal) (k0_pay16 (k0_pay25 b) (k0_pay14 (k0_pay25 b) (k0_pay11 (k0_pay25 b)
        (k0_pay8 (k0_pay20 b) (k0_pay19 b) (k0_pay21 b) (k0_pay22 b) (k0_pay23 b) (k0_pay24 b))
        (k0_pay9 (k0_pay20 b) (k0_pay19 b) (k0_pay21 b) (k0_pay22 b) (k0_pay23 b) (k0_pay24 b))
      (iota .tc S128x384 32 [1] i0) k0_pay10) (k0_pay12 (k0_pay25 b)) k0_pay13) (k0_pay15 (k0_pay25 b)) (iota .tc S128x384 32 [0] i1) (iota .tc S128x384 32 [1] i2))
      (k0_pay17 (k0_pay25 b)) (iota .tc S128x384 32 [1] i3) k0_pay18 y
    = out (m ((c : Thread nD τ).loc main_arg0)) j := by
  obtain ⟨h, x, rfl⟩ : ∃ (h : Fin 8) (x : Fin 384), y = ix3 0 h x :=
    ⟨y 1, y 2, (eq_ix3 y).trans (congrArg (fun z => ix3 z (y 1) (y 2)) (Subsingleton.elim (α := Fin 1) _ _))⟩
  refine (table_word _ _ _ _ _ _ h x (k0_pay25 b) rfl i0 i1 i2 i3).trans ((point b (m ((c : Thread nD τ).loc main_arg0)) (j 0) h x fun q r => ?_).trans ?_)
  · rw [hb]
    exact (block m c t (j 0) h0 q r).trans (host m c (j 0) q r)
  · exact congrArg₂ (bias (m ((c : Thread nD τ).loc main_arg0)) (j 0)) (Fin.ext h1.symm) h2.symm

/-- The array the kernel leaves. -/
theorem final (c : Dev nD) : (dats m 0 c).arrAt 1 (cfgs 0).N = out (m ((c : Thread nD τ).loc main_arg0)) := by
  refine (dats m 0 c).arrAt_eq_of_covers 1 _ (by decide +kernel) fun t _ y => ?_
  blk_simp
  rw [after0_1]; frame_out
  refine pay m c t y _ ?_ ?_ ?_ _ _ _ _ (iblk m c 0 t) rfl <;> blk_simp [idx t] <;> try omega

/-- At every argument the kernel's array is the reference's. -/
theorem algebraic : Cert.algebraic_KernelBiasIdeal_ReferenceBiasIdeal := by
  pair_intro
  · run_from Cert.KernelBiasIdeal.Gen.run_main m g
  · run_from Cert.ReferenceBiasIdeal.Value.run m' g'
    · rw [final m c]
      funext j
      unfold out
      pointwise []
      by_cases hx : (j 2).val < 257
      · rw [dif_pos hx]
        have e : ReferenceBiasIdeal.scatter_S4x8x257_S64x576x1_S4x8x64x576_01_2_2_2
          = sd ReferenceBiasIdeal.scatter_S4x8x257_S64x576x1_S4x8x64x576_01_2_2_2.wf := rfl
        rw [e]
        refine (scatter_at _ _ _ _ (j 0) (j 1) ⟨(j 2).val, hx⟩ (fun i k => (m ((c : Thread nD τ).loc main_arg0) : FVec Ideal S4x4x576x128 .f32)
          (ix4 (j 0) ⟨(j 1).val / 2, by have : (j 1).val < 8 := (j 1).isLt; omega⟩ k ⟨(j 1).val % 2 * 64 + i.val, by omega⟩)) ?_ (fun i k => ?_) (fun i k => ?_)).trans rfl
        · pointwise []
        · rw [← ref_word]
          pointwise [Attn.dist]
        · pointwise []
      · rw [dif_neg hx, Attn.no_word]
        refine EReal.coe_zero.trans (Finset.sum_eq_zero fun i _ => Finset.sum_eq_zero fun k _ => if_neg ?_).symm
        omega

end Cert.Bias

end
-- ==== Proof.Qkv.lean ====
/- The gradient of the QK-norm: what each grid point writes, and the derivative of the same lines. -/
module

public import proofs.«01_k».proof.Defs
public import proofs.«01_k».proof.Proof.AttnMath
public import proofs.«01_k».proof.Proof.Finite
public import proofs.«01_k».proof.Proof.Proj
public import proofs.«01_k».proof.Proof.Norm
public import proofs.«01_k».proof.Proof.Gen.KernelQkvIdeal.Value
public import proofs.«01_k».proof.Proof.Gen.ReferenceQkvIdeal.Run
public import Idealize.ShloMosaic.Lib.Pipeline.ValueKit
public import Idealize.ShloMosaic.Lib.WritesUnit
public import Idealize.ShloMosaic.Lib.Claim

@[expose] public section

set_option maxRecDepth 16384

noncomputable section

namespace Cert.Qkv

open Idealize.ShloMosaic Idealize.ShloMosaic.TcCoe Idealize.SL.Sem
open Idealize.ShloMosaic.Pipeline (Dat)
open Cert.KernelQkvIdeal Cert.KernelQkvIdeal.Gen

variable (m : (ℓ : Loc nD τ sig) → Buf (Elt Ideal) ℓ)

/-- The mean over a head as the kernel takes it, a product with a matrix in two parts. -/
def headMean (f : Fin 512 → EReal) (l : Fin 512) : EReal :=
  (∑ r : Fin 512, Scalar.select (IntOp.cmpi CmpIPredicate.eq (Proj.headWord r) (Proj.headWord l)) (f r * Ideal.ofBits FTy.f32 1015021568#32) 0)
    + ∑ r : Fin 512, Scalar.select (IntOp.cmpi CmpIPredicate.eq (Proj.headWord r) (Proj.headWord l)) ((f r - f r) * Ideal.ofBits FTy.f32 1015021568#32) 0

/-- The kernel's factor of one row, at column `l`. -/
def kerScale (v : Fin 512 → EReal) (l : Fin 512) : EReal :=
  Ideal.rsqrt (headMean (fun r => v r * v r) l + Ideal.ofBits FTy.f32 897988541#32)

/-- The kernel's gradient of one row, at column `l`. -/
def kerGrad (v d g : Fin 512 → EReal) (l : Fin 512) : EReal :=
  kerScale v l * (d l * g l - v l * kerScale v l * headMean (fun r => d r * g r * (v r * kerScale v r)) l)

theorem pay_dq (v : FVec Ideal S512x512 .f32) (g : FVec Ideal S1x512 .f32) (d : FVec Ideal S512x512 .f32) (s l : Fin 512) :
    k0_pay2 (F := Ideal) (k0_pay14 k0_pay6 k0_pay7 k0_pay8 k0_pay9 v g d) (ix2 s l)
      = kerGrad (fun r => v (ix2 s r)) (fun r => d (ix2 s r) * Ideal.ofBits FTy.f32 1040187392#32) (fun r => g (ix2 0 r)) l := by
  pointwise [k0_pay2, k0_pay14, k0_pay13, k0_pay12, k0_pay11, k0_pay10, k0_pay6, k0_pay7, k0_pay8, k0_pay9]
  rfl

theorem pay_dk (v : FVec Ideal S512x512 .f32) (g : FVec Ideal S1x512 .f32) (d : FVec Ideal S512x512 .f32) (s l : Fin 512) :
    k0_pay3 (F := Ideal) (k0_pay21 (k0_pay10 k0_pay6 k0_pay7 k0_pay8 k0_pay9) v g d) (ix2 s l)
      = kerGrad (fun r => v (ix2 s r)) (fun r => d (ix2 s r)) (fun r => g (ix2 0 r)) l := by
  pointwise [k0_pay3, k0_pay21, k0_pay20, k0_pay19, k0_pay10, k0_pay6, k0_pay7, k0_pay8, k0_pay9]
  rfl

/-- One row's part of the gain's gradient, at column `l`. -/
def kerGain (v d : Fin 512 → EReal) (l : Fin 512) : EReal := d l * (v l * kerScale v l)

/-- The eight columns with the place of `l` in their head. -/
def eight (f : Fin 512 → EReal) (l : Fin 128) : EReal :=
  ∑ h : Fin 8, f ⟨h * 64 + l % 64, by omega⟩

theorem eight_eq (f : Fin 512 → EReal) (l : Fin 128) :
    f ⟨l, by omega⟩ + f ⟨128 + l, by omega⟩ + (f ⟨256 + l, by omega⟩ + f ⟨384 + l, by omega⟩)
      + (f ⟨(l + 128 - 64) % 128, by omega⟩ + f ⟨128 + (l + 128 - 64) % 128, by omega⟩
        + (f ⟨256 + (l + 128 - 64) % 128, by omega⟩ + f ⟨384 + (l + 128 - 64) % 128, by omega⟩)) = eight f l := by
  let F : ℕ → EReal := fun n => if h : n < 512 then f ⟨n, h⟩ else 0
  have e : ∀ (n : ℕ) (h : n < 512), f ⟨n, h⟩ = F n := fun n h => by
    show f ⟨n, h⟩ = if h : n < 512 then f ⟨n, h⟩ else 0
    rw [dif_pos h]
  unfold eight
  rw [Fin.sum_univ_eight]
  simp only [e]
  by_cases h : (l : ℕ) < 64
  · rw [show (l + 128 - 64) % 128 = (l : ℕ) + 64 by omega, show (l : ℕ) % 64 = l by omega]
    show _ = F (0 * 64 + l) + F (1 * 64 + l) + F (2 * 64 + l) + F (3 * 64 + l) + F (4 * 64 + l) + F (5 * 64 + l) + F (6 * 64 + l) + F (7 * 64 + l)
    rw [show 0 * 64 + (l : ℕ) = l by omega, show 1 * 64 + (l : ℕ) = l + 64 by omega, show 2 * 64 + (l : ℕ) = 128 + l by omega,
      show 3 * 64 + (l : ℕ) = 128 + (l + 64) by omega, show 4 * 64 + (l : ℕ) = 256 + l by omega, show 5 * 64 + (l : ℕ) = 256 + (l + 64) by omega,
      show 6 * 64 + (l : ℕ) = 384 + l by omega, show 7 * 64 + (l : ℕ) = 384 + (l + 64) by omega]
    abel
  · obtain ⟨k, hk⟩ : ∃ k : ℕ, (l : ℕ) = k + 64 := ⟨l - 64, by omega⟩
    rw [hk, show (k + 64 + 128 - 64) % 128 = k by omega, show (k + 64) % 64 = k by omega]
    show _ = F (0 * 64 + k) + F (1 * 64 + k) + F (2 * 64 + k) + F (3 * 64 + k) + F (4 * 64 + k) + F (5 * 64 + k) + F (6 * 64 + k) + F (7 * 64 + k)
    rw [show 0 * 64 + k = k by omega, show 1 * 64 + k = k + 64 by omega, show 2 * 64 + k = 128 + k by omega,
      show 3 * 64 + k = 128 + (k + 64) by omega, show 4 * 64 + k = 256 + k by omega, show 5 * 64 + k = 256 + (k + 64) by omega,
      show 6 * 64 + k = 384 + k by omega, show 7 * 64 + k = 384 + (k + 64) by omega]
    abel

theorem pay_cols_q (v : FVec Ideal S512x512 .f32) (d : FVec Ideal S512x512 .f32) (c : Fin 512) :
    k0_pay15 (F := Ideal) k0_pay6 k0_pay7 k0_pay8 k0_pay9 v d (ix2 0 c)
      = ∑ s : Fin 512, kerGain (fun r => v (ix2 s r)) (fun r => d (ix2 s r) * Ideal.ofBits FTy.f32 1040187392#32) c := by
  pointwise [k0_pay15, k0_pay13, k0_pay12, k0_pay11, k0_pay10, k0_pay6, k0_pay7, k0_pay8, k0_pay9]
  rfl

/-- The queries' gain's gradient one grid point computes. -/
theorem pay_gq (v : FVec Ideal S512x512 .f32) (d : FVec Ideal S512x512 .f32) (l : Fin 128) :
    k0_pay18 (F := Ideal) (k0_pay15 k0_pay6 k0_pay7 k0_pay8 k0_pay9 v d) (k0_pay16 k0_pay6 k0_pay7 k0_pay8 k0_pay9 v d) (k0_pay17 k0_pay6 k0_pay7 k0_pay8 k0_pay9 v d) (ix2 0 l)
      = eight (fun c => ∑ s : Fin 512, kerGain (fun r => v (ix2 s r)) (fun r => d (ix2 s r) * Ideal.ofBits FTy.f32 1040187392#32) c) l := by
  rw [← eight_eq]
  simp only [← pay_cols_q]
  pointwise [k0_pay18, k0_pay16, k0_pay17]

/-- The keys' gain's gradient one grid point computes. -/
theorem pay_gk (v : FVec Ideal S512x512 .f32) (d : FVec Ideal S512x512 .f32) (l : Fin 128) :
    k0_pay1 (F := Ideal) (k0_pay22 (k0_pay10 k0_pay6 k0_pay7 k0_pay8 k0_pay9) v d) (k0_pay23 (k0_pay10 k0_pay6 k0_pay7 k0_pay8 k0_pay9) v d) (ix2 0 l)
      = eight (fun c => ∑ s : Fin 512, kerGain (fun r => v (ix2 s r)) (fun r => d (ix2 s r)) c) l := by
  rw [← eight_eq]
  pointwise [k0_pay1, k0_pay23, k0_pay22, k0_pay20, k0_pay19, k0_pay10, k0_pay6, k0_pay7, k0_pay8, k0_pay9]
  rfl

/-- Head `l / 64` of a row. -/
def head (f : Fin 512 → EReal) (l : Fin 512) (k : Fin 64) : EReal := f ⟨l / 64 * 64 + k, by omega⟩

theorem width : Ideal.ofBits FTy.f32 1115684864#32 = ((64 : ℝ) : EReal) := by
  simp [Ideal.ofBits, Ideal.ieee, -EReal.coe_mul]; norm_num

theorem inverse_width : Ideal.ofBits FTy.f32 1015021568#32 = ((1 / 64 : ℝ) : EReal) := by
  simp [Ideal.ofBits, Ideal.ieee, -EReal.coe_mul]; norm_num

theorem eighth : Ideal.ofBits FTy.f32 1040187392#32 = ((1 / 8 : ℝ) : EReal) := by
  simp [Ideal.ofBits, Ideal.ieee, -EReal.coe_mul]; norm_num

/-- The mean square of one head, with the norm's small constant. -/
def meanSq (x : Fin 64 → EReal) : EReal := Ideal.div (∑ k, x k * x k) (Ideal.ofBits FTy.f32 1115684864#32) + Ideal.ofBits FTy.f32 897988541#32

def scaleOf (x : Fin 64 → EReal) : EReal := Ideal.rsqrt (meanSq x)

/-- The derivative through the mean square of one head, as the chain rule gives it. -/
def through (x d g : Fin 64 → EReal) : EReal :=
  ∑ _k : Fin 1, Ideal.div ((∑ k, x k * (d k * g k)) * (Ideal.ofBits FTy.f32 3204448256#32 * Ideal.div (scaleOf x) (meanSq x))) (Ideal.ofBits FTy.f32 1115684864#32)

/-- The gradient of one head, as the chain rule gives it. -/
def refGrad (x d g : Fin 64 → EReal) (e : Fin 64) : EReal := d e * g e * scaleOf x + x e * through x d g + through x d g * x e

/-- The sum over the columns of the head of `l`, written over all columns. -/
theorem sum_pick (f : Fin 512 → EReal) (l : Fin 512) :
    ∑ r : Fin 512, Scalar.select (IntOp.cmpi CmpIPredicate.eq (Proj.headWord r) (Proj.headWord l)) (f r) 0 = ∑ k, head f l k := by
  have h := Proj.sum_head f ⟨l / 64, by omega⟩
  rw [dif_pos (by dsimp only; omega)] at h
  refine (Finset.sum_congr rfl fun r _ => ?_).trans h
  rw [Proj.headWord_eq, Proj.headWord_eq, Proj.select_eq _ _ (by omega) (by omega)]

/-- At reals the mean in two parts is the mean of the head. -/
theorem headMean_real (f : Fin 512 → EReal) (a : Fin 512 → ℝ) (h : ∀ r, f r = a r) (l : Fin 512) :
    headMean f l = (((∑ k : Fin 64, a ⟨l / 64 * 64 + k, by omega⟩) * (1 / 64) : ℝ) : EReal) := by
  have h0 : ∀ r, f r - f r = 0 := fun r => by rw [h r, ← EReal.coe_sub, sub_self, EReal.coe_zero]
  unfold headMean
  rw [sum_pick (fun r => f r * _), sum_pick (fun r => (f r - f r) * _)]
  unfold head
  simp only [h0, zero_mul]
  rw [Finset.sum_const_zero, add_zero, inverse_width,
    Finset.sum_congr rfl fun k _ => by rw [h, ← EReal.coe_mul], Attn.coe_sum, Finset.sum_mul]

/-- A head's columns have that head. -/
theorem head_of (l : Fin 512) (k : Fin 64) : (l / 64 * 64 + k : ℕ) / 64 = l / 64 := by omega

/-- Over the reals the two forms of a head's gradient are one, and so are the factors. -/
theorem forms (x d g : Fin 512 → EReal) (hx : ∀ k, ∃ t : ℝ, x k = t) (hd : ∀ k, ∃ t : ℝ, d k = t) (hg : ∀ k, ∃ t : ℝ, g k = t) (l : Fin 512) :
    kerScale x l = scaleOf (head x l) ∧ kerGrad x d g l = refGrad (head x l) (head d l) (head g l) ⟨l % 64, by omega⟩ := by
  choose a ha using hx
  choose b hb using hd
  choose e he using hg
  obtain ⟨z, hz, hZ⟩ := Norm.small
  have M : ∀ l : Fin 512, ∃ M : ℝ, 0 < M ∧ M = (∑ k : Fin 64, a ⟨l / 64 * 64 + k, by omega⟩ * a ⟨l / 64 * 64 + k, by omega⟩) * (1 / 64) + z := fun l =>
    ⟨_, add_pos_of_nonneg_of_pos (mul_nonneg (Finset.sum_nonneg fun k _ => mul_self_nonneg _) (by norm_num)) hz, rfl⟩
  choose M hp hM using M
  have hs : ∀ l, kerScale x l = (((Real.sqrt (M l))⁻¹ : ℝ) : EReal) := fun l => by
    unfold kerScale
    rw [headMean_real _ (fun r => a r * a r) (fun r => by rw [ha, ← EReal.coe_mul]), hZ, ← EReal.coe_add, ← hM, Ideal.rsqrt_coe, if_neg (not_lt.2 (hp l).le), if_neg (hp l).ne']
  have hm : meanSq (head x l) = ((M l : ℝ) : EReal) := by
    unfold meanSq head
    rw [width, hZ, Ideal.div_coe (by norm_num), Finset.sum_congr rfl fun k _ => by rw [ha, ← EReal.coe_mul], Attn.coe_sum, ← EReal.coe_mul, ← EReal.coe_add, ← hM]
  have hr : scaleOf (head x l) = (((Real.sqrt (M l))⁻¹ : ℝ) : EReal) := by
    unfold scaleOf
    rw [hm, Ideal.rsqrt_coe, if_neg (not_lt.2 (hp l).le), if_neg (hp l).ne']
  have hN : ∀ k : Fin 64, M ⟨l / 64 * 64 + k, by omega⟩ = M l := fun k => by
    rw [hM, hM]
    simp only [head_of]
  refine ⟨(hs l).trans hr.symm, ?_⟩
  have ht : through (head x l) (head d l) (head g l)
      = (((∑ k : Fin 64, a ⟨l / 64 * 64 + k, by omega⟩ * (b ⟨l / 64 * 64 + k, by omega⟩ * e ⟨l / 64 * 64 + k, by omega⟩)) * (-(1 / 2) * ((Real.sqrt (M l))⁻¹ * (1 / M l))) * (1 / 64) : ℝ) : EReal) := by
    unfold through
    rw [Fin.sum_univ_one, hr, hm, Norm.minus_half, width, Ideal.div_coe (hp l).ne', Ideal.div_coe (by norm_num)]
    unfold head
    rw [Finset.sum_congr rfl fun k _ => by rw [ha, hb, he, ← EReal.coe_mul, ← EReal.coe_mul], Attn.coe_sum]
    simp only [← EReal.coe_mul]
  have hk : kerGrad x d g l = (((Real.sqrt (M l))⁻¹ * (b l * e l - a l * (Real.sqrt (M l))⁻¹ * ((∑ k : Fin 64, b ⟨l / 64 * 64 + k, by omega⟩ * e ⟨l / 64 * 64 + k, by omega⟩ * (a ⟨l / 64 * 64 + k, by omega⟩ * (Real.sqrt (M l))⁻¹)) * (1 / 64))) : ℝ) : EReal) := by
    unfold kerGrad
    rw [headMean_real _ (fun r => b r * e r * (a r * (Real.sqrt (M r))⁻¹)) (fun r => by rw [hs, ha, hb, he]; simp only [← EReal.coe_mul]), hs, ha, hb, he]
    simp only [← EReal.coe_mul, ← EReal.coe_sub, hN]
  have hl : (⟨l / 64 * 64 + (⟨l % 64, by omega⟩ : Fin 64), by dsimp only; omega⟩ : Fin 512) = l := Fin.ext (by dsimp only; omega)
  rw [hk]
  unfold refGrad
  rw [ht, hr]
  unfold head
  rw [hl, ha, hb, he]
  simp only [← EReal.coe_mul]
  rw [← EReal.coe_add, ← EReal.coe_add]
  refine congrArg (fun r : ℝ => (r : EReal)) ?_
  have hq : (1 / M l : ℝ) = (Real.sqrt (M l))⁻¹ * (Real.sqrt (M l))⁻¹ := by
    rw [← mul_inv, Real.mul_self_sqrt (hp l).le, one_div]
  rw [hq, Finset.sum_congr (g := fun k : Fin 64 => a ⟨l / 64 * 64 + k, by omega⟩ * (b ⟨l / 64 * 64 + k, by omega⟩ * e ⟨l / 64 * 64 + k, by omega⟩) * (Real.sqrt (M l))⁻¹) rfl
    fun k _ => by ring, ← Finset.sum_mul]
  ring

theorem idx : ∀ t : Fin cfg0.N, win0_0.index t = ![t.val, 0] ∧ win0_1.index t = ![t.val, 1] ∧ win0_2.index t = ![t.val, 0]
    ∧ win0_3.index t = ![t.val + 1, 0] ∧ win0_4.index t = ![t.val + 1, 0] ∧ win0_5.index t = ![t.val, 0] ∧ win0_6.index t = ![0, 0] ∧ win0_7.index t = ![0, 0]
    ∧ win0_8.index t = ![t.val, 0] ∧ win0_9.index t = ![0, 0] ∧ win0_10.index t = ![0, 0] :=
  (by decide +kernel : ∀ t : Fin grid0.N, _)

theorem first {t : Fin cfg0.N} (h0 : t.val % 8 = 0) : ¬ 1 ≤ t.val := by
  have h := t.isLt
  exact fun h1 => absurd (h.trans_eq N_0) (by omega)

/-- A row's queries before the norm. -/
def xq (p : FVec Ideal S4096x2560 .f32) (s : Fin 4096) (r : Fin 512) : EReal := p (ix2 s ⟨r, by omega⟩)

/-- A row's keys before the norm. -/
def xk (p : FVec Ideal S4096x2560 .f32) (s : Fin 4096) (r : Fin 512) : EReal := p (ix2 s ⟨512 + r, by omega⟩)

/-- The gradient of a row's scaled queries, scaled. -/
def dq (d : FVec Ideal S4096x512 .f32) (s : Fin 4096) (r : Fin 512) : EReal := d (ix2 s r) * Ideal.ofBits FTy.f32 1040187392#32

/-- The gradient of a row's keys, behind the padding. -/
def dk (d : FVec Ideal S4608x512 .f32) (s : Fin 4096) (r : Fin 512) : EReal := d (ix2 ⟨512 + s, by omega⟩ r)

/-- A gain, repeated for every head. -/
def gain (g : FVec Ideal S1x64 .f32) (r : Fin 512) : EReal := g (ix2 0 ⟨r % 64, by omega⟩)

theorem xq_block (c : Dev nD) (t : Fin cfg0.N) (s r : Fin 512) (R : Fin 4096) (hR : (R : ℕ) = t.val * 512 + s) :
    (iblk m c 0 t : FVec Ideal S512x512 .f32) (ix2 s r) = xq (m ((c : Thread nD τ).loc main_arg0)) R r := by
  unfold xq
  blk_ext [iblk, V, idx t]

theorem xk_block (c : Dev nD) (t : Fin cfg0.N) (s r : Fin 512) (R : Fin 4096) (hR : (R : ℕ) = t.val * 512 + s) :
    (iblk m c 1 t : FVec Ideal S512x512 .f32) (ix2 s r) = xk (m ((c : Thread nD τ).loc main_arg0)) R r := by
  unfold xk
  blk_ext [iblk, V, idx t]

theorem dq_block (c : Dev nD) (t : Fin cfg0.N) (s r : Fin 512) (R : Fin 4096) (hR : (R : ℕ) = t.val * 512 + s) :
    (iblk m c 2 t : FVec Ideal S512x512 .f32) (ix2 s r) = (m ((c : Thread nD τ).loc main_arg1) : FVec Ideal S4096x512 .f32) (ix2 R r) := by
  blk_ext [iblk, V, idx t]

theorem dk_block (c : Dev nD) (t : Fin cfg0.N) (s r : Fin 512) (R : Fin 4096) (hR : (R : ℕ) = t.val * 512 + s) :
    (iblk m c 3 t : FVec Ideal S512x512 .f32) (ix2 s r) = dk (m ((c : Thread nD τ).loc main_arg2)) R r := by
  unfold dk
  blk_ext [iblk, V, idx t]

theorem dv_block (c : Dev nD) (t : Fin cfg0.N) (s r : Fin 512) (R : Fin 4096) (hR : (R : ℕ) = t.val * 512 + s) :
    (iblk m c 4 t : FVec Ideal S512x512 .bf16) (ix2 s r) = (m ((c : Thread nD τ).loc main_arg3) : FVec Ideal S4608x512 .bf16) (ix2 ⟨512 + R, by omega⟩ r) := by
  blk_ext [iblk, V, idx t]

theorem dc_block (c : Dev nD) (t : Fin cfg0.N) (s : Fin 512) (r : Fin 1024) (R : Fin 4096) (hR : (R : ℕ) = t.val * 512 + s) :
    (iblk m c 5 t : FVec Ideal S512x1024 .bf16) (ix2 s r) = (m ((c : Thread nD τ).loc main_arg4) : FVec Ideal S4096x1024 .bf16) (ix2 R r) := by
  blk_ext [iblk, V, idx t]

/-- A gain repeated for every head, as the host lines write it. -/
theorem tiled (g : FVec Ideal S1x64 .f32) (h1 : S1x64.ShapeCasts S1x1x1x64) (hb) (h2 : S1x1x8x64.ShapeCasts S1x512) (r : Fin 512) :
    shapeCast S1x512 (broadcastInDim S1x1x8x64 ![0, 1, 2, 3] hb (shapeCast S1x1x1x64 g h1)) h2 (ix2 0 r) = gain g r := by
  pointwise [gain]

theorem entry_qg (c : Dev nD) (r : Fin 512) : (V m c main_v2 : FVec Ideal S1x512 .f32) (ix2 0 r) = gain (m ((c : Thread nD τ).loc main_arg5)) r := by
  entry_read
  exact tiled _ _ _ _ r

theorem entry_kg (c : Dev nD) (r : Fin 512) : (V m c main_v5 : FVec Ideal S1x512 .f32) (ix2 0 r) = gain (m ((c : Thread nD τ).loc main_arg6)) r := by
  entry_read
  exact tiled _ _ _ _ r

theorem qg_block (c : Dev nD) (t : Fin cfg0.N) (r : Fin 512) :
    (iblk m c 6 t : FVec Ideal S1x512 .f32) (ix2 0 r) = gain (m ((c : Thread nD τ).loc main_arg5)) r := by
  refine Eq.trans ?_ (entry_qg m c r)
  blk_ext [iblk, idx t]

theorem kg_block (c : Dev nD) (t : Fin cfg0.N) (r : Fin 512) :
    (iblk m c 7 t : FVec Ideal S1x512 .f32) (ix2 0 r) = gain (m ((c : Thread nD τ).loc main_arg6)) r := by
  refine Eq.trans ?_ (entry_kg m c r)
  blk_ext [iblk, idx t]

/-- The gradient of the projections' output. -/
def grad (p : FVec Ideal S4096x2560 .f32) (a : FVec Ideal S4096x512 .f32) (b : FVec Ideal S4608x512 .f32) (v : FVec Ideal S4608x512 .bf16) (e : FVec Ideal S4096x1024 .bf16)
    (g h : FVec Ideal S1x64 .f32) (s : Fin 4096) (i : Fin 2560) : EReal :=
  if h0 : (i : ℕ) < 512 then kerGrad (xq p s) (dq a s) (gain g) ⟨i, h0⟩
  else if h1 : (i : ℕ) < 1024 then kerGrad (xk p s) (dk b s) (gain h) ⟨i - 512, by omega⟩
  else if h2 : (i : ℕ) < 1536 then v (ix2 ⟨512 + s, by omega⟩ ⟨i - 1024, by omega⟩)
  else e (ix2 s ⟨i - 1536, by omega⟩)

/-- The gradient a row takes from a kernel point depends on the entries only. -/
theorem kerGrad_congr {x x' d d' g g' : Fin 512 → EReal} (hx : ∀ r, x r = x' r) (hd : ∀ r, d r = d' r) (hg : ∀ r, g r = g' r) (l : Fin 512) :
    kerGrad x d g l = kerGrad x' d' g' l := by
  rw [funext hx, funext hd, funext hg]

/-- A block of the result read by columns, from the four pieces stored into it. -/
theorem pieces (w3 w2 w1 w0) (s : Fin 512) (i : Fin 2560) :
    (View.canon (Val := Elt Ideal) (s := S512x2560) (e := .bf16)
      [⟨Rect.unit ![0, 1536] ![512, 1024] inb_S512x2560_S512x1024_0_1536, w3⟩, ⟨Rect.unit ![0, 1024] ![512, 512] inb_S512x2560_S512x512_0_1024, w2⟩,
        ⟨Rect.unit ![0, 512] ![512, 512] inb_S512x2560_S512x512_0_512, w1⟩, ⟨Rect.unit ![0, 0] ![512, 512] inb_S512x2560_S512x512_0_0, w0⟩] : FVec Ideal S512x2560 .bf16) (ix2 s i)
      = if h0 : (i : ℕ) < 512 then (w0 : FVec Ideal S512x512 .bf16) (ix2 s ⟨i, h0⟩)
        else if h1 : (i : ℕ) < 1024 then (w1 : FVec Ideal S512x512 .bf16) (ix2 s ⟨i - 512, by omega⟩)
        else if h2 : (i : ℕ) < 1536 then (w2 : FVec Ideal S512x512 .bf16) (ix2 s ⟨i - 1024, by omega⟩)
        else (w3 : FVec Ideal S512x1024 .bf16) (ix2 s ⟨i - 1536, by omega⟩) := by
  rw [← View.read_writes_junk_eq_canon VO0_8]
  split_ifs with h0 h1 h2
  · refine (View.read_writes_cons_unit_of_not_mem _ _ _ _ _ _ rfl (1 : Fin 2) (Or.inl ?_)).trans
      ((View.read_writes_cons_unit_of_not_mem _ _ _ _ _ _ rfl (1 : Fin 2) (Or.inl ?_)).trans
      ((View.read_writes_cons_unit_of_not_mem _ _ _ _ _ _ rfl (1 : Fin 2) (Or.inl ?_)).trans
      (View.read_writes_cons_unit_of_mem VO0_8 _ inb_S512x2560_S512x512_0_0 w0 _ (ix2 s i) (ix2 s (⟨i, h0⟩ : Fin 512)) rfl (Fin.forall_fin_two.2 ⟨?_, ?_⟩))))
    · show (i : ℕ) < 1536; omega
    · show (i : ℕ) < 1024; omega
    · show (i : ℕ) < 512; omega
    · show (s : ℕ) = 0 + s; omega
    · show (i : ℕ) = 0 + i; omega
  · refine (View.read_writes_cons_unit_of_not_mem _ _ _ _ _ _ rfl (1 : Fin 2) (Or.inl ?_)).trans
      ((View.read_writes_cons_unit_of_not_mem _ _ _ _ _ _ rfl (1 : Fin 2) (Or.inl ?_)).trans
      (View.read_writes_cons_unit_of_mem VO0_8 _ inb_S512x2560_S512x512_0_512 w1 _ (ix2 s i) (ix2 s (⟨i - 512, by omega⟩ : Fin 512)) rfl (Fin.forall_fin_two.2 ⟨?_, ?_⟩)))
    · show (i : ℕ) < 1536; omega
    · show (i : ℕ) < 1024; omega
    · show (s : ℕ) = 0 + s; omega
    · show (i : ℕ) = 512 + (i - 512); omega
  · refine (View.read_writes_cons_unit_of_not_mem _ _ _ _ _ _ rfl (1 : Fin 2) (Or.inl ?_)).trans
      (View.read_writes_cons_unit_of_mem VO0_8 _ inb_S512x2560_S512x512_0_1024 w2 _ (ix2 s i) (ix2 s (⟨i - 1024, by omega⟩ : Fin 512)) rfl (Fin.forall_fin_two.2 ⟨?_, ?_⟩))
    · show (i : ℕ) < 1536; omega
    · show (s : ℕ) = 0 + s; omega
    · show (i : ℕ) = 1024 + (i - 1024); omega
  · refine View.read_writes_cons_unit_of_mem VO0_8 _ inb_S512x2560_S512x1024_0_1536 w3 _ (ix2 s i) (ix2 s (⟨i - 1536, by omega⟩ : Fin 1024)) rfl (Fin.forall_fin_two.2 ⟨?_, ?_⟩)
    · show (s : ℕ) = 0 + s; omega
    · show (i : ℕ) = 1536 + (i - 1536); omega

/-- The block of the result a grid point writes. -/
theorem dp_block (c : Dev nD) (t : Fin cfg0.N) (s : Fin 512) (i : Fin 2560) (R : Fin 4096) (k : Fin 2560) (hR : (R : ℕ) = t.val * 512 + s) (hk : (k : ℕ) = i) :
    (View.canon (Val := Elt Ideal) (s := S512x2560) (e := .bf16)
      [⟨Rect.unit ![0, 1536] ![512, 1024] inb_S512x2560_S512x1024_0_1536, iblk m c 5 t⟩, ⟨Rect.unit ![0, 1024] ![512, 512] inb_S512x2560_S512x512_0_1024, iblk m c 4 t⟩,
        ⟨Rect.unit ![0, 512] ![512, 512] inb_S512x2560_S512x512_0_512,
          k0_pay3 (k0_pay21 (k0_pay10 k0_pay6 k0_pay7 k0_pay8 k0_pay9) (iblk m c 1 t) (iblk m c 7 t) (iblk m c 3 t))⟩,
        ⟨Rect.unit ![0, 0] ![512, 512] inb_S512x2560_S512x512_0_0,
          k0_pay2 (k0_pay14 k0_pay6 k0_pay7 k0_pay8 k0_pay9 (iblk m c 0 t) (iblk m c 6 t) (iblk m c 2 t))⟩] : FVec Ideal S512x2560 .bf16) (ix2 s i)
      = grad (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) R k := by
  obtain rfl : k = i := Fin.ext hk
  refine (pieces _ _ _ _ s k).trans ?_
  unfold grad
  split_ifs with h0 h1 h2
  · exact (pay_dq _ _ _ s _).trans (kerGrad_congr (fun r => xq_block m c t s r R hR) (fun r => congrArg (fun a : EReal => a * Ideal.ofBits FTy.f32 1040187392#32) (dq_block m c t s r R hR))
      (fun r => qg_block m c t r) _)
  · exact (pay_dk _ _ _ s _).trans (kerGrad_congr (fun r => xk_block m c t s r R hR) (fun r => dk_block m c t s r R hR) (fun r => kg_block m c t r) _)
  · exact dv_block m c t s _ R hR
  · exact dc_block m c t s _ R hR

theorem final_dp (c : Dev nD) : (dats m 0 c).arrAt 8 (cfgs 0).N
    = fun j => grad (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (j 0) (j 1) := by
  refine (dats m 0 c).arrAt_eq_of_covers 8 _ (by decide +kernel) fun t _ y => ?_
  blk_simp
  rw [after0_8]
  by_cases h0 : t.val % 8 = 0
  · rw [outsAt0_A m c t h0 (first h0)]
    obtain ⟨s, i, rfl⟩ : ∃ (s : Fin 512) (i : Fin 2560), y = ix2 s i := ⟨y 0, y 1, eq_ix2 y⟩
    dsimp only
    frame_out
    exact dp_block m c t s i _ _ (by blk_simp [idx t] <;> try omega) (by blk_simp [idx t] <;> try omega)
  · rw [outsAt0_B m c t h0 (by omega)]
    obtain ⟨s, i, rfl⟩ : ∃ (s : Fin 512) (i : Fin 2560), y = ix2 s i := ⟨y 0, y 1, eq_ix2 y⟩
    dsimp only
    frame_out
    exact dp_block m c t s i _ _ (by blk_simp [idx t] <;> try omega) (by blk_simp [idx t] <;> try omega)

/-- A gain's gradient: every row's part, summed over the rows and the heads. -/
def dgain (v d : Fin 4096 → Fin 512 → EReal) (l : Fin 128) : EReal := eight (fun k => ∑ s : Fin 4096, kerGain (v s) (d s) k) l

/-- One grid point's part of the queries' gain's gradient. -/
def partQ (v d : FVec Ideal S512x512 .f32) (l : Fin 128) : EReal :=
  eight (fun c => ∑ s : Fin 512, kerGain (fun r => v (ix2 s r)) (fun r => d (ix2 s r) * Ideal.ofBits FTy.f32 1040187392#32) c) l

/-- One grid point's part of the keys' gain's gradient. -/
def partK (v d : FVec Ideal S512x512 .f32) (l : Fin 128) : EReal :=
  eight (fun c => ∑ s : Fin 512, kerGain (fun r => v (ix2 s r)) (fun r => d (ix2 s r)) c) l

/-- The points' parts, each over its own rows, add up to the sum over all rows. -/
theorem points_sum (v d : Fin 4096 → Fin 512 → EReal) (w e : Fin cfg0.N → Fin 512 → Fin 512 → EReal)
    (hw : ∀ t (s : Fin 512) (R : Fin 4096), (R : ℕ) = t.val * 512 + s → ∀ r, w t s r = v R r) (he : ∀ t (s : Fin 512) (R : Fin 4096), (R : ℕ) = t.val * 512 + s → ∀ r, e t s r = d R r) (l : Fin 128) :
    ∑ t : Fin cfg0.N, eight (fun c => ∑ s : Fin 512, kerGain (w t s) (e t s) c) l = dgain v d l := by
  unfold dgain eight
  rw [Finset.sum_comm]
  refine Finset.sum_congr rfl fun h _ => ?_
  refine Fin.sum_mul_add_congr (L := 4096) (S := cfg0.N) (n := 512) (fun t s hl => ?_) (by rw [show cfg0.N = 8 from N_0])
  rw [funext (hw t s ⟨t.val * 512 + s.val, hl⟩ rfl), funext (he t s ⟨t.val * 512 + s.val, hl⟩ rfl)]

theorem final_gq (c : Dev nD) : (dats m 0 c).arrAt 9 (cfgs 0).N = fun j => dgain (xq (m ((c : Thread nD τ).loc main_arg0))) (dq (m ((c : Thread nD τ).loc main_arg1))) (j 1) := by
  have hadd : ∀ (a : FVec Ideal S1x128 .f32) (b : FVec Ideal S1x128 .f32) j, k0_pay4 (F := Ideal) a b j = b j + a j := fun a b j => by
    pointwise [k0_pay4]
  refine (dats m 0 c).arrAt_eq_of_after_last 9 t0_7 (by decide +kernel) _ fun j => ?_
  blk_simp
  rw [after0_9, Pipeline.eq_sum_fin_of_reset_step_apply_last (fun n h => (outsAt0 m c n h).2.1) 8 (fun _ => 0)
    (fun t j => k0_pay18 (F := Ideal) (k0_pay15 k0_pay6 k0_pay7 k0_pay8 k0_pay9 (iblk m c 0 t) (iblk m c 2 t)) (k0_pay16 k0_pay6 k0_pay7 k0_pay8 k0_pay9 (iblk m c 0 t) (iblk m c 2 t)) (k0_pay17 k0_pay6 k0_pay7 k0_pay8 k0_pay9 (iblk m c 0 t) (iblk m c 2 t)) j)
    (fun t h j => by rw [outsAt0_A m c t h (first h)]; frame_out; rw [zero_add])
    (fun t h j => by rw [outsAt0_B m c t h (by omega)]; frame_out; rw [hadd])
    (le_of_eq N_0) t0_7 rfl j, zero_add]
  obtain ⟨z, l, rfl⟩ : ∃ (z : Fin 1) (l : Fin 128), j = ix2 z l := ⟨j 0, j 1, eq_ix2 j⟩
  obtain rfl : z = 0 := Fin.ext (by omega)
  refine Eq.trans (b := ∑ t : Fin cfg0.N, partQ (iblk m c 0 t) (iblk m c 2 t) l) ?_ ?_
  · exact Fin.sum_fin_congr fun t => pay_gq _ _ _
  · exact points_sum (xq (m ((c : Thread nD τ).loc main_arg0))) (dq (m ((c : Thread nD τ).loc main_arg1))) _ _ (fun t s R hR r => xq_block m c t s r R hR)
      (fun t s R hR r => congrArg (fun a : EReal => a * Ideal.ofBits FTy.f32 1040187392#32) (dq_block m c t s r R hR)) l

theorem final_gk (c : Dev nD) : (dats m 0 c).arrAt 10 (cfgs 0).N = fun j => dgain (xk (m ((c : Thread nD τ).loc main_arg0))) (dk (m ((c : Thread nD τ).loc main_arg2))) (j 1) := by
  have hadd : ∀ (a : FVec Ideal S1x128 .f32) (b' : FVec Ideal S1x128 .f32) (b : FVec Ideal S1x128 .f32) j, k0_pay5 (F := Ideal) a b' b j = b j + k0_pay1 (F := Ideal) a b' j := fun a b' b j => by
    pointwise [k0_pay5]
  refine (dats m 0 c).arrAt_eq_of_after_last 10 t0_7 (by decide +kernel) _ fun j => ?_
  blk_simp
  rw [after0_10, Pipeline.eq_sum_fin_of_reset_step_apply_last (fun n h => (outsAt0 m c n h).2.2) 8 (fun _ => 0)
    (fun t j => k0_pay1 (F := Ideal) (k0_pay22 (k0_pay10 k0_pay6 k0_pay7 k0_pay8 k0_pay9) (iblk m c 1 t) (iblk m c 3 t)) (k0_pay23 (k0_pay10 k0_pay6 k0_pay7 k0_pay8 k0_pay9) (iblk m c 1 t) (iblk m c 3 t)) j)
    (fun t h j => by rw [outsAt0_A m c t h (first h)]; frame_out; rw [zero_add])
    (fun t h j => by rw [outsAt0_B m c t h (by omega)]; frame_out; rw [hadd])
    (le_of_eq N_0) t0_7 rfl j, zero_add]
  obtain ⟨z, l, rfl⟩ : ∃ (z : Fin 1) (l : Fin 128), j = ix2 z l := ⟨j 0, j 1, eq_ix2 j⟩
  obtain rfl : z = 0 := Fin.ext (by omega)
  refine Eq.trans (b := ∑ t : Fin cfg0.N, partK (iblk m c 1 t) (iblk m c 3 t) l) ?_ ?_
  · exact Fin.sum_fin_congr fun t => pay_gk _ _ _
  · exact points_sum (xk (m ((c : Thread nD τ).loc main_arg0))) (dk (m ((c : Thread nD τ).loc main_arg2))) _ _ (fun t s R hR r => xk_block m c t s r R hR) (fun t s R hR r => dk_block m c t s r R hR) l

/-- A gain read over one head. -/
theorem head_gain (g : FVec Ideal S1x64 .f32) (l : Fin 512) : head (gain g) l = fun k => g (ix2 0 k) := funext fun k => by
  unfold head gain
  exact congrArg (fun k : Fin 64 => g (ix2 0 k)) (Fin.ext (by dsimp only; omega))

theorem head_self (f : Fin 512 → EReal) (l : Fin 512) : head f l ⟨l % 64, by omega⟩ = f l := by
  unfold head
  exact congrArg f (Fin.ext (by dsimp only; omega))

/-- An array set behind `lo` columns, read at its own columns. -/
theorem pad_in {n lo hi : ℕ} (E : FVec Ideal ⟨2, ![4096, n]⟩ .f32) (z : FVec Ideal Cert.ReferenceQkvIdeal.S_ .f32) (h) (u) (s : Fin 4096) (k : Fin n) (hk : lo + k < 2560) :
    pad Cert.ReferenceQkvIdeal.S4096x2560 ![0, lo] ![0, hi] ![0, 0] E z h u (ix2 s ⟨lo + k, hk⟩) = E (ix2 s k) := by
  unfold pad
  rw [dif_pos (Fin.forall_fin_two.2 ⟨⟨Nat.zero_le _, Nat.mod_one _, by show ((s : ℕ) - 0) / 1 < 4096; omega⟩,
    ⟨by show lo ≤ lo + (k : ℕ); omega, Nat.mod_one _, by show (lo + (k : ℕ) - lo) / 1 < n; omega⟩⟩)]
  refine congrArg E ((eq_ix2 _).trans (congrArg₂ ix2 (Fin.ext ?_) (Fin.ext ?_)))
  · show ((s : ℕ) - 0) / 1 = s
    omega
  · show (lo + (k : ℕ) - lo) / 1 = k
    omega

/-- An array set behind `lo` columns leaves the padding elsewhere. -/
theorem pad_out {n lo hi : ℕ} (E : FVec Ideal ⟨2, ![4096, n]⟩ .f32) (z : FVec Ideal Cert.ReferenceQkvIdeal.S_ .f32) (h) (u) (s : Fin 4096) (i : Fin 2560) (ho : (i : ℕ) < lo ∨ lo + n ≤ i) (hz : ∀ j, z j = 0) :
    (pad Cert.ReferenceQkvIdeal.S4096x2560 ![0, lo] ![0, hi] ![0, 0] E z h u (ix2 s i) : EReal) = 0 := by
  unfold pad
  rw [dif_neg (fun q => ?_)]
  · exact hz _
  · obtain ⟨q0, -, q1⟩ := q 1
    have e0 : lo ≤ (i : ℕ) := q0
    have e1 : ((i : ℕ) - lo) / 1 < n := q1
    omega

/-- The reference's gradient is a sum of four arrays, each behind its columns. -/
theorem res_add {F0 F1 F2 F3 : FVec Ideal Cert.ReferenceQkvIdeal.S4096x2560 .f32} (s : Fin 4096) (i : Fin 2560) :
    ((truncf .bf16 (addf (addf (addf F0 F1) F2) F3) Cert.ReferenceQkvIdeal.Gen.bitsLt_bf16_f32 : FVec Ideal S4096x2560 .bf16) (ix2 s i) : EReal)
      = F0 (ix2 s i) + F1 (ix2 s i) + F2 (ix2 s i) + F3 (ix2 s i) := rfl

/-- The padding. -/
theorem padding (j) : (constant (F := Ideal) Cert.ReferenceQkvIdeal.S_ .f32 0x00000000#32 j : EReal) = 0 := by
  show Ideal.ofBits FTy.f32 0x00000000#32 = 0
  simp [Ideal.ofBits, Ideal.ieee]

/-- The reference's gradient at the columns of the queries. -/
theorem read_q (w' : (ℓ : Loc Cert.ReferenceQkvIdeal.nD Cert.ReferenceQkvIdeal.τ Cert.ReferenceQkvIdeal.sig) → Buf (Elt Ideal) ℓ) (c : Dev Cert.ReferenceQkvIdeal.nD) (s : Fin 4096) (k : Fin 512) :
    ((Cert.ReferenceQkvIdeal.Value.res_main_v103 w' c : FVec Ideal S4096x2560 .bf16) (ix2 s ⟨0 + k, by omega⟩) : EReal) = refGrad (head (xq (w' ((c.tc : Thread _ _).loc Cert.ReferenceQkvIdeal.main_arg0)) s) k) (head (dq (w' ((c.tc : Thread _ _).loc Cert.ReferenceQkvIdeal.main_arg1)) s) k) (head (gain (w' ((c.tc : Thread _ _).loc Cert.ReferenceQkvIdeal.main_arg5))) k) ⟨k % 64, by omega⟩ := by
  unfold Cert.ReferenceQkvIdeal.Value.res_main_v103
  refine (res_add _ _).trans ((congrArg₂ (fun a b : EReal => a + b) (congrArg₂ (fun a b : EReal => a + b) (congrArg₂ (fun a b : EReal => a + b) (pad_out _ _ _ _ s ⟨0 + k, by omega⟩ (by dsimp only; omega) padding) (pad_out _ _ _ _ s ⟨0 + k, by omega⟩ (by dsimp only; omega) padding)) (pad_out _ _ _ _ s ⟨0 + k, by omega⟩ (by dsimp only; omega) padding)) (pad_in _ _ _ _ s k (by omega))).trans ?_)
  dsimp only
  rw [zero_add, zero_add, zero_add]
  unfold refGrad
  simp only [head_self]
  rw [head_gain]
  unfold through scaleOf meanSq gain head xq dq
  pointwise []

/-- The reference's gradient at the columns of the keys. -/
theorem read_k (w' : (ℓ : Loc Cert.ReferenceQkvIdeal.nD Cert.ReferenceQkvIdeal.τ Cert.ReferenceQkvIdeal.sig) → Buf (Elt Ideal) ℓ) (c : Dev Cert.ReferenceQkvIdeal.nD) (s : Fin 4096) (k : Fin 512) :
    ((Cert.ReferenceQkvIdeal.Value.res_main_v103 w' c : FVec Ideal S4096x2560 .bf16) (ix2 s ⟨512 + k, by omega⟩) : EReal) = refGrad (head (xk (w' ((c.tc : Thread _ _).loc Cert.ReferenceQkvIdeal.main_arg0)) s) k) (head (dk (w' ((c.tc : Thread _ _).loc Cert.ReferenceQkvIdeal.main_arg2)) s) k) (head (gain (w' ((c.tc : Thread _ _).loc Cert.ReferenceQkvIdeal.main_arg6))) k) ⟨k % 64, by omega⟩ := by
  unfold Cert.ReferenceQkvIdeal.Value.res_main_v103
  refine (res_add _ _).trans ((congrArg₂ (fun a b : EReal => a + b) (congrArg₂ (fun a b : EReal => a + b) (congrArg₂ (fun a b : EReal => a + b) (pad_out _ _ _ _ s ⟨512 + k, by omega⟩ (by dsimp only; omega) padding) (pad_out _ _ _ _ s ⟨512 + k, by omega⟩ (by dsimp only; omega) padding)) (pad_in _ _ _ _ s k (by omega))) (pad_out _ _ _ _ s ⟨512 + k, by omega⟩ (by dsimp only; omega) padding)).trans ?_)
  dsimp only
  rw [zero_add, zero_add, add_zero]
  unfold refGrad
  simp only [head_self]
  rw [head_gain]
  unfold through scaleOf meanSq gain head xk dk
  pointwise []

/-- The reference's gradient at the columns of the values. -/
theorem read_v (w' : (ℓ : Loc Cert.ReferenceQkvIdeal.nD Cert.ReferenceQkvIdeal.τ Cert.ReferenceQkvIdeal.sig) → Buf (Elt Ideal) ℓ) (c : Dev Cert.ReferenceQkvIdeal.nD) (s : Fin 4096) (k : Fin 512) :
    ((Cert.ReferenceQkvIdeal.Value.res_main_v103 w' c : FVec Ideal S4096x2560 .bf16) (ix2 s ⟨1024 + k, by omega⟩) : EReal) = ((w' ((c.tc : Thread _ _).loc Cert.ReferenceQkvIdeal.main_arg3)) : FVec Ideal S4608x512 .bf16) (ix2 ⟨512 + s, by omega⟩ k) := by
  unfold Cert.ReferenceQkvIdeal.Value.res_main_v103
  refine (res_add _ _).trans ((congrArg₂ (fun a b : EReal => a + b) (congrArg₂ (fun a b : EReal => a + b) (congrArg₂ (fun a b : EReal => a + b) (pad_out _ _ _ _ s ⟨1024 + k, by omega⟩ (by dsimp only; omega) padding) (pad_in _ _ _ _ s k (by omega))) (pad_out _ _ _ _ s ⟨1024 + k, by omega⟩ (by dsimp only; omega) padding)) (pad_out _ _ _ _ s ⟨1024 + k, by omega⟩ (by dsimp only; omega) padding)).trans ?_)
  rw [zero_add, add_zero, add_zero]
  pointwise []

/-- The reference's gradient at the other columns. -/
theorem read_c (w' : (ℓ : Loc Cert.ReferenceQkvIdeal.nD Cert.ReferenceQkvIdeal.τ Cert.ReferenceQkvIdeal.sig) → Buf (Elt Ideal) ℓ) (c : Dev Cert.ReferenceQkvIdeal.nD) (s : Fin 4096) (k : Fin 1024) :
    ((Cert.ReferenceQkvIdeal.Value.res_main_v103 w' c : FVec Ideal S4096x2560 .bf16) (ix2 s ⟨1536 + k, by omega⟩) : EReal) = ((w' ((c.tc : Thread _ _).loc Cert.ReferenceQkvIdeal.main_arg4)) : FVec Ideal S4096x1024 .bf16) (ix2 s k) := by
  unfold Cert.ReferenceQkvIdeal.Value.res_main_v103
  refine (res_add _ _).trans ((congrArg₂ (fun a b : EReal => a + b) (congrArg₂ (fun a b : EReal => a + b) (congrArg₂ (fun a b : EReal => a + b) (pad_in _ _ _ _ s k (by omega)) (pad_out _ _ _ _ s ⟨1536 + k, by omega⟩ (by dsimp only; omega) padding)) (pad_out _ _ _ _ s ⟨1536 + k, by omega⟩ (by dsimp only; omega) padding)) (pad_out _ _ _ _ s ⟨1536 + k, by omega⟩ (by dsimp only; omega) padding)).trans ?_)
  rw [add_zero, add_zero, add_zero]
  rfl

/-- The side conditions of the precondition's operations. -/
instance finite_facts : Cert.Pre_finite_qkv.Facts where
  bcast_S_S4096x2560 := by decide
  reducesTo_S4096x2560_S_d0_1 := by decide
  h_S_ := by decide
  bcast_S_S4096x512 := by decide
  reducesTo_S4096x512_S_d0_1 := by decide
  bcast_S_S4608x512 := by decide
  reducesTo_S4608x512_S_d0_1 := by decide
  bcast_S_S1x64 := by decide
  reducesTo_S1x64_S_d0_1 := by decide
  bcast_S_S1 := by decide
  concatenates_S1_S1_S1_S1_S1_S5_d0 := by decide
  reducesTo_S5_S_d0 := by decide

/-- The precondition makes the five arrays ones of reals. -/
theorem finite_reals (p : FVec Ideal S4096x2560 .f32) (a : FVec Ideal S4096x512 .f32) (b : FVec Ideal S4608x512 .f32) (v : FVec Ideal S4608x512 .bf16)
    (e : FVec Ideal S4096x1024 .bf16) (g h : FVec Ideal S1x64 .f32) (hp : Cert.Pre_finite_qkv.fn (F := Ideal) p a b v e g h = fun _ => 1#1) :
    Finite.AllReal p ∧ Finite.AllReal a ∧ Finite.AllReal b ∧ Finite.AllReal g ∧ Finite.AllReal h := by
  unfold Cert.Pre_finite_qkv.fn Cert.Pre_finite_qkv.fn_part1 at hp
  dsimp only at hp
  obtain ⟨h0, h1, h2, h3, h4⟩ := Finite.all_five _ _ _ _ _ _ _ _ _ hp
  exact ⟨Finite.real_of_all p _ _ _ h0, Finite.real_of_all a _ _ _ h1, Finite.real_of_all b _ _ _ h2, Finite.real_of_all g _ _ _ h3, Finite.real_of_all h _ _ _ h4⟩

/-- A host sum over the first two of three axes. -/
theorem sum_two {n0 n1 n2 : ℕ} (h : (⟨3, ![n0, n1, n2]⟩ : Shape).ReducesTo [0, 1] ⟨1, ![n2]⟩) (v : (⟨3, ![n0, n1, n2]⟩ : Shape).Idx → EReal) (z : EReal) (j : Fin n2) :
    Ideal.hostReduceAdd h v z (ix1 j) = z + ∑ k0 : Fin n0, ∑ k1 : Fin n1, v (ix3 k0 k1 j) := by
  refine congrArg (z + ·) ?_
  refine (Finset.sum_filter_eq_sum_of_fiber (fun i => h.drop i = ix1 j) (fun k : Fin n0 × Fin n1 => ix3 k.1 k.2 j) (fun _ _ e => Prod.ext (congrFun e 0) (congrFun e 1)) (fun i => ?_) v).trans
    (Fintype.sum_prod_type _)
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A gain's gradient as the reference sums it, at the place `k` of a head. -/
def refGain (v d : Fin 4096 → Fin 512 → EReal) (k : Fin 64) : EReal :=
  ∑ s : Fin 4096, ∑ h : Fin 8, v s ⟨h * 64 + k, by omega⟩ * scaleOf (fun j => v s ⟨h * 64 + j, by omega⟩) * d s ⟨h * 64 + k, by omega⟩

/-- Over the reals a gain's gradient summed by rows and heads is the kernel's. -/
theorem gains (v d : Fin 4096 → Fin 512 → EReal) (hv : ∀ s k, ∃ t : ℝ, v s k = t) (l : Fin 128) :
    refGain v d ⟨l % 64, by omega⟩ = dgain v d l := by
  unfold refGain dgain eight kerGain
  rw [Finset.sum_comm]
  refine Finset.sum_congr rfl fun h _ => Finset.sum_congr rfl fun s _ => ?_
  dsimp only
  have hh : (fun j : Fin 64 => v s ⟨h * 64 + j, by omega⟩) = head (v s) ⟨h * 64 + l % 64, by omega⟩ := funext fun j => by
    unfold head
    exact congrArg (v s) (Fin.ext (by dsimp only; omega))
  rw [hh, (forms (v s) (fun _ => 0) (fun _ => 0) (hv s) (fun _ => ⟨0, EReal.coe_zero.symm⟩) (fun _ => ⟨0, EReal.coe_zero.symm⟩) _).1, mul_comm]

/-- At real arguments the reference's gradient is the kernel's. -/
theorem whole (w' : (ℓ : Loc Cert.ReferenceQkvIdeal.nD Cert.ReferenceQkvIdeal.τ Cert.ReferenceQkvIdeal.sig) → Buf (Elt Ideal) ℓ) (c : Dev Cert.ReferenceQkvIdeal.nD) (p : FVec Ideal S4096x2560 .f32) (a : FVec Ideal S4096x512 .f32) (b : FVec Ideal S4608x512 .f32) (v : FVec Ideal S4608x512 .bf16)
    (e : FVec Ideal S4096x1024 .bf16) (g h : FVec Ideal S1x64 .f32)
    (h0 : w' ((c.tc : Thread _ _).loc Cert.ReferenceQkvIdeal.main_arg0) = p)
    (h1 : w' ((c.tc : Thread _ _).loc Cert.ReferenceQkvIdeal.main_arg1) = a)
    (h2 : w' ((c.tc : Thread _ _).loc Cert.ReferenceQkvIdeal.main_arg2) = b)
    (h3 : w' ((c.tc : Thread _ _).loc Cert.ReferenceQkvIdeal.main_arg3) = v)
    (h4 : w' ((c.tc : Thread _ _).loc Cert.ReferenceQkvIdeal.main_arg4) = e)
    (h5 : w' ((c.tc : Thread _ _).loc Cert.ReferenceQkvIdeal.main_arg5) = g)
    (h6 : w' ((c.tc : Thread _ _).loc Cert.ReferenceQkvIdeal.main_arg6) = h)
    (p0 : Finite.AllReal p) (p1 : Finite.AllReal a) (p2 : Finite.AllReal b) (p3 : Finite.AllReal g) (p4 : Finite.AllReal h) (s : Fin 4096) (i : Fin 2560) :
    ((Cert.ReferenceQkvIdeal.Value.res_main_v103 w' c : FVec Ideal S4096x2560 .bf16) (ix2 s i) : EReal) = grad p a b v e g h s i := by
  subst h0 h1 h2 h3 h4 h5 h6
  have hq : ∀ k, ∃ t : ℝ, dq (w' ((c.tc : Thread _ _).loc Cert.ReferenceQkvIdeal.main_arg1)) s k = t := fun k => by
    obtain ⟨t, ht⟩ := p1 (ix2 s k)
    exact ⟨t * (1 / 8), by unfold dq; rw [ht, eighth, ← EReal.coe_mul]⟩
  unfold grad
  split_ifs with i0 i1 i2
  · obtain ⟨k, hk⟩ : ∃ k : Fin 512, (i : ℕ) = 0 + k := ⟨⟨i, i0⟩, by dsimp only; omega⟩
    obtain rfl : i = ⟨0 + k, (Nat.add_lt_add_left k.isLt 0).trans_le (by decide)⟩ := Fin.ext hk
    refine (read_q w' c s k).trans ((forms _ _ _ (fun k => p0 _) hq (fun k => p3 _) _).2.symm.trans ?_)
    exact congrArg _ (Fin.ext (by dsimp only; omega))
  · obtain ⟨k, hk⟩ : ∃ k : Fin 512, (i : ℕ) = 512 + k := ⟨⟨i - 512, by omega⟩, by dsimp only; omega⟩
    obtain rfl : i = ⟨512 + k, (Nat.add_lt_add_left k.isLt 512).trans_le (by decide)⟩ := Fin.ext hk
    refine (read_k w' c s k).trans ((forms _ _ _ (fun k => p0 _) (fun k => p2 _) (fun k => p4 _) _).2.symm.trans ?_)
    exact congrArg _ (Fin.ext (by dsimp only; omega))
  · obtain ⟨k, hk⟩ : ∃ k : Fin 512, (i : ℕ) = 1024 + k := ⟨⟨i - 1024, by omega⟩, by dsimp only; omega⟩
    obtain rfl : i = ⟨1024 + k, (Nat.add_lt_add_left k.isLt 1024).trans_le (by decide)⟩ := Fin.ext hk
    refine (read_v w' c s k).trans ?_
    exact congrArg (fun k : Fin 512 => (w' ((c.tc : Thread _ _).loc Cert.ReferenceQkvIdeal.main_arg3) : FVec Ideal S4608x512 .bf16) (ix2 ⟨512 + s, by omega⟩ k)) (Fin.ext (by dsimp only; omega))
  · obtain ⟨k, hk⟩ : ∃ k : Fin 1024, (i : ℕ) = 1536 + k := ⟨⟨i - 1536, by omega⟩, by dsimp only; omega⟩
    obtain rfl : i = ⟨1536 + k, (Nat.add_lt_add_left k.isLt 1536).trans_le (by decide)⟩ := Fin.ext hk
    refine (read_c w' c s k).trans ?_
    exact congrArg (fun k : Fin 1024 => (w' ((c.tc : Thread _ _).loc Cert.ReferenceQkvIdeal.main_arg4) : FVec Ideal S4096x1024 .bf16) (ix2 s k)) (Fin.ext (by dsimp only; omega))

/-- At real arguments the kernel's three arrays are the reference's. -/
theorem algebraic : Cert.algebraic_KernelQkvIdeal_ReferenceQkvIdeal_pre_finite_qkv := by
  intro m g m' g' hp he
  refine ⟨_, _, _, (θ_run Cert.KernelQkvIdeal.defs _ _).mono (fun _ h c => ⟨(h c).1.trans (final_dp m c), (h c).2.1.trans (final_gq m c), (h c).2.2.1.trans (final_gk m c), (h c).2.2.2⟩)
    (Cert.KernelQkvIdeal.Value.run_blocks m g), ?_⟩
  refine (θ_run Cert.ReferenceQkvIdeal.defs _ _).mono (fun _ h c => ?_) (Cert.ReferenceQkvIdeal.Value.run (F := Ideal) m' g')
  obtain ⟨r0, r1, r2, ra⟩ := h c
  obtain ⟨e0, e1, e2, e3, e4, e5, e6⟩ := he c
  obtain ⟨p0, p1, p2, p3, p4⟩ := finite_reals _ _ _ _ _ _ _ (hp c)
  refine ⟨r0.trans ?_, r1.trans ?_, r2.trans ?_, ra⟩
  · funext j
    obtain ⟨s, i, rfl⟩ : ∃ (s : Fin 4096) (i : Fin 2560), j = ix2 s i := ⟨j 0, j 1, eq_ix2 j⟩
    exact whole m' c _ _ _ _ _ _ _ e0 e1 e2 e3 e4 e5 e6 p0 p1 p2 p3 p4 s i
  · funext j
    obtain ⟨z, l, rfl⟩ : ∃ (z : Fin 1) (l : Fin 128), j = ix2 z l := ⟨j 0, j 1, eq_ix2 j⟩
    rw [e0, e1]
    refine Eq.trans ?_ (gains (xq (m ((c : Thread nD τ).loc main_arg0))) (dq (m ((c : Thread nD τ).loc main_arg1))) (fun s k => p0 _) l)
    obtain ⟨k, hk⟩ : ∃ k : Fin 64, (l : ℕ) % 64 = k := ⟨⟨l % 64, by omega⟩, rfl⟩
    rw [show (⟨l % 64, by omega⟩ : Fin 64) = k from Fin.ext hk]
    unfold refGain scaleOf meanSq xq dq
    by_cases hl : (l : ℕ) < 64
    · obtain rfl : l = ⟨k, k.isLt.trans (by decide)⟩ := Fin.ext (by dsimp only; omega)
      pointwise [sum_two]
      exact (Fin.sum_univ_one _).trans (Fin.sum_univ_one _)
    · obtain rfl : l = ⟨64 + k, (Nat.add_lt_add_left k.isLt 64).trans_le (by decide)⟩ := Fin.ext (by dsimp only; omega)
      pointwise [sum_two]
      exact (Fin.sum_univ_one _).trans (Fin.sum_univ_one _)
  · funext j
    obtain ⟨z, l, rfl⟩ : ∃ (z : Fin 1) (l : Fin 128), j = ix2 z l := ⟨j 0, j 1, eq_ix2 j⟩
    rw [e0, e2]
    refine Eq.trans ?_ (gains (xk (m ((c : Thread nD τ).loc main_arg0))) (dk (m ((c : Thread nD τ).loc main_arg2))) (fun s k => p0 _) l)
    obtain ⟨k, hk⟩ : ∃ k : Fin 64, (l : ℕ) % 64 = k := ⟨⟨l % 64, by omega⟩, rfl⟩
    rw [show (⟨l % 64, by omega⟩ : Fin 64) = k from Fin.ext hk]
    unfold refGain scaleOf meanSq xk dk
    by_cases hl : (l : ℕ) < 64
    · obtain rfl : l = ⟨k, k.isLt.trans (by decide)⟩ := Fin.ext (by dsimp only; omega)
      pointwise [sum_two]
      exact (Fin.sum_univ_one _).trans (Fin.sum_univ_one _)
    · obtain rfl : l = ⟨64 + k, (Nat.add_lt_add_left k.isLt 64).trans_le (by decide)⟩ := Fin.ext (by dsimp only; omega)
      pointwise [sum_two]
      exact (Fin.sum_univ_one _).trans (Fin.sum_univ_one _)

end Cert.Qkv

end
-- ==== Proof.FwdState.lean ====
/- What the attention's forward kernel holds after each of its units, in closed form. A unit is 128 query rows (two
   chunks of 64) against their band of 640 key rows, for one pair of heads; the block of a grid point has 32 units, and
   each writes its own rows of the output and its own row of the log-sums. -/
module

public import proofs.«01_k».proof.Proof.Gen.KernelFwdIdeal.Loops
public import Idealize.ShloMosaic.Lib.VecWindow

@[expose] public section

set_option maxRecDepth 16384

noncomputable section

namespace Cert.KernelFwdIdeal.Fwd

open Idealize.ShloMosaic Idealize.ShloMosaic.TcCoe Idealize.ShloMosaic.Tactic
open Idealize.ShloMosaic.VecWindow
open Cert.KernelFwdIdeal Cert.KernelFwdIdeal.Gen

variable {F : FTy → Type} [FloatOps F] [Named F]

/-! ## One chunk of a unit -/

/-- The scores of a unit's first chunk, and of its second: keys by scaled queries, plus the bias. -/
abbrev chunk0 (k : Vec F S640x128 .bf16) (q : Vec F S128x128 .bf16) (b : Vec F S1x1x640x128 .f32) : FVec F S640x128 .f32 := k0_pay6 k q b
abbrev chunk1 (k : Vec F S640x128 .bf16) (q : Vec F S128x128 .bf16) (b : Vec F S1x1x640x128 .f32) : FVec F S640x128 .f32 := k0_pay12 (k0_pay3 k) (k0_pay5 q) b

/-- Scores whose rows in front of the sequence are masked; `w` is the band's first row. -/
def masked (w : BitVec 32) (S : FVec F S640x128 .f32) : FVec F S640x128 .f32 :=
  select (cmpi .sge (addi (broadcast S640x128 w) (iota .tc S640x128 32 [0] iota_S640x128_d0_w32)) (broadcast S640x128 512#32)) S
    (broadcast S640x128 (Named.named κ "mask" 0xF149F2CA#32))

/-- The values weighed by a chunk's exponentials, over their sum. -/
def part (S : FVec F S640x128 .f32) (v : FVec F S128x640 .bf16) : FVec F S128x128 .f32 :=
  mulf (matmul dot_S128x640_S640x128_S128x128_1_0_0_1_n_n none v (truncf .bf16 (k0_pay23 S) bitsLt_bf16_f32) (constant S128x128 .f32 0x00000000#32))
    (broadcastTo S128x128 (divf (broadcast S1x128 (Scalar.ofBits .f32 0x3F800000#32)) (k0_pay24 S)) broadcasts_S1x128_S128x128)

/-- A unit's rows of the output, from its chunks' scores and its values. -/
def rows (S0 S1 : FVec F S640x128 .f32) (v : FVec F S128x640 .bf16) : FVec F S128x128 .bf16 :=
  k0_pay34
    (extractStridedSlice S128x128 ![0, 0] (concatenate S128x256 1 [⟨S128x128, part S0 v⟩, ⟨S128x128, part S1 v⟩] concatenates_S128x128_S128x128_S128x256_d1) slices_S128x256_o0_0_S128x128)
    (extractStridedSlice S128x128 ![0, 128] (concatenate S128x256 1 [⟨S128x128, part S0 v⟩, ⟨S128x128, part S1 v⟩] concatenates_S128x128_S128x128_S128x256_d1) slices_S128x256_o0_128_S128x128)

/-- A unit's row of the log-sums. -/
def logs (S0 S1 : FVec F S640x128 .f32) : FVec F S1x1x8x256 .f32 := k0_pay35 (k0_pay25 S0) (k0_pay25 S1)

/-! ## The blocks of a grid point -/

/-- The four blocks one grid point reads: keys, transposed queries, transposed values and the bias of the unit's scores. -/
structure In (F : FTy → Type) where
  k : Vec F S4608x128 .bf16
  qt : Vec F S128x4096 .bf16
  vt : Vec F S128x4608 .bf16
  bias : Vec F S1x1x640x256 .f32

theorem inb_band (u : Fin 32) : ∀ a, (![128 * u.val, 0] : Fin 2 → ℕ) a + S640x128.size a ≤ S4608x128.size a :=
  Fin.forall_fin_two.mpr ⟨show 128 * u.val + 640 ≤ 4608 by omega, show 0 + 128 ≤ 128 by omega⟩
theorem inb_rows (u : Fin 32) : ∀ a, (![128 * u.val, 0] : Fin 2 → ℕ) a + S128x128.size a ≤ S4096x128.size a :=
  Fin.forall_fin_two.mpr ⟨show 128 * u.val + 128 ≤ 4096 by omega, show 0 + 128 ≤ 128 by omega⟩
theorem inb_cols (u : Fin 32) : ∀ a, (![0, 128 * u.val] : Fin 2 → ℕ) a + S128x128.size a ≤ S128x4096.size a :=
  Fin.forall_fin_two.mpr ⟨show 0 + 128 ≤ 128 by omega, show 128 * u.val + 128 ≤ 4096 by omega⟩
theorem inb_bandT (u : Fin 32) : ∀ a, (![0, 128 * u.val] : Fin 2 → ℕ) a + S128x640.size a ≤ S128x4608.size a :=
  Fin.forall_fin_two.mpr ⟨show 0 + 128 ≤ 128 by omega, show 128 * u.val + 640 ≤ 4608 by omega⟩
theorem inb_row (u : Fin 32) : ∀ a, (![0, u.val, 0, 0] : Fin 4 → ℕ) a + S1x1x8x256.size a ≤ S1x32x8x256.size a := by
  intro a; fin_cases a
  · show 0 + 1 ≤ 1; omega
  · show u.val + 1 ≤ 32; omega
  · show 0 + 8 ≤ 8; omega
  · show 0 + 256 ≤ 256; omega
theorem inb_lo : ∀ a, (![0, 0, 0, 0] : Fin 4 → ℕ) a + S1x1x640x128.size a ≤ S1x1x640x256.size a := by decide
theorem inb_hi : ∀ a, (![0, 0, 0, 128] : Fin 4 → ℕ) a + S1x1x640x128.size a ≤ S1x1x640x256.size a := by decide

namespace In
variable (A : In F) (u : Fin 32)

/-- The unit's windows of the blocks. -/
def kB : Vec F S640x128 .bf16 := window A.k ![128 * u.val, 0] S640x128.size (inb_band u)
def qB : Vec F S128x128 .bf16 := window A.qt ![0, 128 * u.val] S128x128.size (inb_cols u)
def vB : Vec F S128x640 .bf16 := window A.vt ![0, 128 * u.val] S128x640.size (inb_bandT u)
def lo : Vec F S1x1x640x128 .f32 := window A.bias ![0, 0, 0, 0] S1x1x640x128.size inb_lo
def hi : Vec F S1x1x640x128 .f32 := window A.bias ![0, 0, 0, 128] S1x1x640x128.size inb_hi

/-- The scores of the unit's chunks. In the first four units the rows of the padding in front of the sequence are masked. -/
def S0 : FVec F S640x128 .f32 :=
  if u.val < 4 then masked (BitVec.ofNat 32 (128 * u.val)) (chunk0 (A.kB u) (A.qB u) A.lo) else chunk0 (A.kB u) (A.qB u) A.lo
def S1 : FVec F S640x128 .f32 :=
  if u.val < 4 then masked (BitVec.ofNat 32 (128 * u.val)) (chunk1 (A.kB u) (A.qB u) A.hi) else chunk1 (A.kB u) (A.qB u) A.hi

/-- The unit's rows of the output, and its row of the log-sums. -/
def oU : FVec F S128x128 .bf16 := rows (A.S0 u) (A.S1 u) (k0_pay4 (A.vB u))
def lU : FVec F S1x1x8x256 .f32 := logs (A.S0 u) (A.S1 u)

end In

/-! ## Filling an array unit by unit -/

/-- An array's rows filled unit by unit: once those before unit `n` hold what is wanted and unit `n`'s window is put, those up to it do. -/
theorem put_step {s : Shape} {Val : Type} (size : Fin s.rank → ℕ) (key : s.Idx → ℕ) (x w : s.Idx → Val) (n : ℕ) (off : Fin s.rank → ℕ)
    (U : Shape.Idx ⟨s.rank, size⟩ → Val) (hk : ∀ y, key y = n → ∀ a, off a ≤ (y a).val ∧ (y a).val < off a + size a)
    (hw : ∀ y (hm : ∀ a, off a ≤ (y a).val ∧ (y a).val < off a + size a), w y = U (Rect.unitLocal (s := s) (off := off) (size := size) y hm))
    (h : ∀ y, key y < n → x y = w y) : ∀ y, key y < n + 1 → put x off size U y = w y := by
  intro y hy
  unfold put
  by_cases hm : ∀ a, off a ≤ (y a).val ∧ (y a).val < off a + size a
  · rw [dif_pos hm]; exact (hw y hm).symm
  · rw [dif_neg hm]
    exact h y (lt_of_le_of_ne (Nat.lt_succ_iff.mp hy) fun e => hm (hk y e))

end Cert.KernelFwdIdeal.Fwd

end
-- ==== Proof.FwdMath.lean ====
/- The mathematics of the attention's forward pass: a row's softmax over scores of which some are −∞. -/
module

public import proofs.«01_k».proof.Proof.AttnData

@[expose] public section

set_option maxRecDepth 16384

noncomputable section

namespace Cert.Attn

open Idealize.ShloMosaic

namespace Data
variable (D : Data)

/-- A place's weight: the exponential of its score, nothing at a place in front of the sequence. -/
def w (n h i a : ℕ) : ℝ := if 512 ≤ 64 * n + a then Real.exp (D.sc n h i a) else 0

/-- A row's weights, summed. -/
def Zw (n h i : ℕ) : ℝ := ∑ a : Fin 576, D.w n h i a.val

/-- The output: the values weighed, over the sum of the weights. -/
def o (s j : ℕ) : ℝ := (∑ a : Fin 576, D.vp (64 * (s / 64) + a.val) j * D.w (s / 64) (j / 64) (s % 64) a.val) / D.Zw (s / 64) (j / 64) (s % 64)

theorem w_nonneg (n h i a : ℕ) : 0 ≤ D.w n h i a := by
  unfold w; split_ifs
  · exact (Real.exp_pos _).le
  · exact le_refl _

theorem Zw_pos (n h i : ℕ) : 0 < D.Zw n h i :=
  Finset.sum_pos' (fun _ _ => D.w_nonneg _ _ _ _) ⟨⟨512, by omega⟩, Finset.mem_univ _, by
    unfold w; rw [if_pos (show 512 ≤ 64 * n + 512 by omega)]; exact Real.exp_pos _⟩

end Data

/-- A score: a real where it counts, −∞ where it doesn't. -/
def orBot (p : Prop) [Decidable p] (x : ℝ) : EReal := if p then (x : EReal) else ⊥

theorem exp_orBot (p : Prop) [Decidable p] (x t : ℝ) :
    Ideal.exp (orBot p x - (t : EReal)) = (((if p then Real.exp x else 0) * Real.exp (-t) : ℝ) : EReal) := by
  unfold orBot
  split_ifs
  · rw [← EReal.coe_sub, Ideal.exp_coe, ← Real.exp_add, sub_eq_add_neg]
  · rw [EReal.bot_sub, zero_mul]
    rfl

theorem orBot_cases (p : Prop) [Decidable p] (x : ℝ) : orBot p x = ⊥ ∨ ∃ r : ℝ, orBot p x = (r : EReal) := by
  unfold orBot; split_ifs
  · exact .inr ⟨x, rfl⟩
  · exact .inl rfl

/-- The largest of finitely many scores, one of which counts, is a real. -/
theorem fold_max_real {n : ℕ} (f : Fin n → EReal) (hf : ∀ i, f i = ⊥ ∨ ∃ r : ℝ, f i = (r : EReal)) (i : Fin n) (hi : ∃ r : ℝ, f i = (r : EReal)) :
    ∃ t : ℝ, Finset.fold max ⊥ f Finset.univ = (t : EReal) := by
  obtain ⟨k, -, hk⟩ := Finset.exists_mem_eq_sup (Finset.univ : Finset (Fin n)) ⟨i, Finset.mem_univ _⟩ f
  have e : Finset.fold max ⊥ f Finset.univ = f k := hk
  rw [e]
  rcases hf k with h | h
  · have hle : f i ≤ f k := hk ▸ Finset.le_sup (Finset.mem_univ i)
    obtain ⟨r, hr⟩ := hi
    rw [h, hr] at hle
    exact absurd (le_bot_iff.mp hle) (EReal.coe_ne_bot r)
  · exact h

/-- The same of a reduction by the greater of two. -/
theorem reduce_max_score {s t u : Shape} {axes : List (Fin s.rank)} (x : s.Idx → EReal) (init : u.Idx → EReal) (h : s.ReducesTo axes t) (hu : 0 < u.numel)
    (hi : init (Shape.Idx.first hu) = ⊥) (hx : ∀ i, x i = ⊥ ∨ ∃ r : ℝ, x i = (r : EReal)) (j : t.Idx) (i : s.Idx) (hj : h.drop i = j) (hr : ∃ r : ℝ, x i = (r : EReal)) :
    ∃ r : ℝ, Host.reduce (FloatOps.maximumf (F := Ideal) (φ := .f32)) x init h hu j = (r : EReal) := by
  rw [Host.reduce_eq_foldl, hi]
  have kept : ∀ (l : List s.Idx) (b : EReal), (b = ⊥ ∨ ∃ r : ℝ, b = (r : EReal)) →
      (l.foldl (fun r i => FloatOps.maximumf (F := Ideal) (φ := .f32) r (x i)) b = ⊥ ∨ ∃ r : ℝ, l.foldl (fun r i => FloatOps.maximumf (F := Ideal) (φ := .f32) r (x i)) b = (r : EReal)) := by
    intro l
    induction l with
    | nil => exact fun b hb => hb
    | cons q l ih =>
      intro b hb
      refine ih _ ?_
      show max b (x q) = ⊥ ∨ ∃ r : ℝ, max b (x q) = (r : EReal)
      rcases max_choice b (x q) with e | e <;> rw [e]
      · exact hb
      · exact hx q
  have grows : ∀ (l : List s.Idx) (b : EReal), b ≤ l.foldl (fun r i => FloatOps.maximumf (F := Ideal) (φ := .f32) r (x i)) b
      ∧ ∀ q ∈ l, x q ≤ l.foldl (fun r i => FloatOps.maximumf (F := Ideal) (φ := .f32) r (x i)) b := by
    intro l
    induction l with
    | nil => exact fun b => ⟨le_refl _, fun _ h => absurd h List.not_mem_nil⟩
    | cons q l ih =>
      intro b
      obtain ⟨h1, h2⟩ := ih (max b (x q))
      refine ⟨(le_max_left _ _).trans h1, fun q' hq' => ?_⟩
      rcases List.mem_cons.mp hq' with rfl | hq'
      · exact (le_max_right _ _).trans h1
      · exact h2 q' hq'
  have hm : i ∈ ((List.finRange s.numel).map s.rowMajor.symm).filter fun i => h.drop i = j :=
    List.mem_filter.mpr ⟨List.mem_map.mpr ⟨s.rowMajor i, List.mem_finRange _, s.rowMajor.symm_apply_apply i⟩, by simpa using hj⟩
  rcases kept _ ⊥ (.inl rfl) with e | e
  · have := (grows _ ⊥).2 i hm
    obtain ⟨r, hr⟩ := hr
    rw [hr] at this
    exact absurd (le_bot_iff.mp (this.trans e.le)) (EReal.coe_ne_bot r)
  · exact e

section
variable {n : ℕ} (f : Fin n → EReal) (e : Fin n → ℝ) (t : ℝ) (hf : ∀ i, Ideal.exp (f i - (t : EReal)) = ((e i * Real.exp (-t) : ℝ) : EReal))
include hf

/-- The exponentials over the largest score, summed. -/
theorem sum_exp : ∑ i, Ideal.exp (f i - (t : EReal)) = (((∑ i, e i) * Real.exp (-t) : ℝ) : EReal) := by
  rw [Finset.sum_congr rfl fun i _ => hf i, coe_sum, Finset.sum_mul]

variable (he : 0 < ∑ i, e i)
include he

/-- The largest score plus the logarithm of the exponentials over it: the logarithm of the plain sum. -/
theorem log_sum : (t : EReal) + Ideal.log (∑ i, Ideal.exp (f i - (t : EReal))) = ((Real.log (∑ i, e i) : ℝ) : EReal) := by
  rw [sum_exp f e t hf, log_real _ (mul_pos he (Real.exp_pos _)), ← EReal.coe_add, Real.log_mul he.ne' (Real.exp_pos _).ne', Real.log_exp]
  congr 1; ring

/-- Values weighed by the exponentials, times one over the exponentials' sum. -/
theorem weighed (v : Fin n → EReal) (x : Fin n → ℝ) (hv : ∀ i, v i = (x i : EReal)) :
    (∑ i, v i * Ideal.exp (f i - (t : EReal))) * Ideal.div 1 (∑ i, Ideal.exp (f i - (t : EReal))) = (((∑ i, x i * e i) / ∑ i, e i : ℝ) : EReal) := by
  rw [sum_exp f e t hf, show (1 : EReal) = ((1 : ℝ) : EReal) from rfl, div_real _ _ (mul_pos he (Real.exp_pos _)),
    Finset.sum_congr rfl fun i _ => show v i * Ideal.exp (f i - (t : EReal)) = ((x i * (e i * Real.exp (-t)) : ℝ) : EReal) by rw [hv, hf, ← EReal.coe_mul],
    coe_sum, ← EReal.coe_mul]
  congr 1
  simp only [← mul_assoc, ← Finset.sum_mul]
  have := (Real.exp_pos (-t)).ne'
  have := he.ne'
  field_simp

/-- One exponential over the exponentials' sum. -/
theorem share (i : Fin n) : Ideal.div (Ideal.exp (f i - (t : EReal))) (∑ i, Ideal.exp (f i - (t : EReal))) = ((e i / ∑ i, e i : ℝ) : EReal) := by
  rw [sum_exp f e t hf, hf, div_real _ _ (mul_pos he (Real.exp_pos _))]
  congr 1
  exact mul_div_mul_right _ _ (Real.exp_pos _).ne'

end

end Cert.Attn

end
-- ==== Proof.FwdUnit.lean ====
/- One unit of the attention's forward kernel, entry by entry over the extended reals: the chunks' scores, each column's
   largest score, exponentials, their sum and its logarithm, the weighed values, and how the two heads' columns are laid
   out in the unit's rows. -/
module

public import proofs.«01_k».proof.Proof.FwdState
public import proofs.«01_k».proof.Proof.AttnPair
public import proofs.«01_k».proof.Proof.FwdMath

@[expose] public section

set_option maxRecDepth 16384

noncomputable section

namespace Cert.KernelFwdIdeal.Fwd

open Idealize.ShloMosaic Idealize.ShloMosaic.TcCoe Idealize.ShloMosaic.VecWindow
open Cert.KernelFwdIdeal Cert.KernelFwdIdeal.Gen Cert.Attn
open Cert.KernelAttnIdeal.Att (pw_at lt64 sel_one sel_zero)

/-- The query operand of a pair of heads is the gradient kernel's. -/
abbrev pw (x : Vec Ideal S128x128 .bf16) : FVec Ideal S128x256 .bf16 := Cert.KernelAttnIdeal.Gen.k0_pay14 x
theorem pw_eq (x : Vec Ideal S128x128 .bf16) : k0_pay5 x = pw x := rfl

theorem chunk0_at (k : Vec Ideal S640x128 .bf16) (x : Vec Ideal S128x128 .bf16) (b : Vec Ideal S1x1x640x128 .f32) (r : Fin 640) (j : Fin 128) :
    chunk0 k x b (ix2 r j) = (∑ f : Fin 128, k (ix2 r f) * pw x (ix2 f ⟨j.val, by omega⟩)) + b (ix4 0 0 r j) := by
  unfold chunk0 k0_pay6
  rw [pw_eq]
  generalize pw x = y
  pointwise [k0_pay3]

theorem chunk1_at (k : Vec Ideal S640x128 .bf16) (x : Vec Ideal S128x128 .bf16) (b : Vec Ideal S1x1x640x128 .f32) (r : Fin 640) (j : Fin 128) :
    chunk1 k x b (ix2 r j) = (∑ f : Fin 128, k (ix2 r f) * pw x (ix2 f ⟨128 + j.val, by omega⟩)) + b (ix4 0 0 r j) := by
  unfold chunk1
  rw [pw_eq]
  generalize pw x = y
  pointwise [k0_pay12, k0_pay3]

theorem masked_at (w : BitVec 32) (S : FVec Ideal S640x128 .f32) (r : Fin 640) (j : Fin 128) :
    masked w S (ix2 r j) = Scalar.select (IntOp.cmpi .sge (IntOp.addi w (BitVec.ofNat 32 r.val)) 512#32) (S (ix2 r j)) ⊥ := by
  pointwise [masked]
  rfl

theorem top_at (S : FVec Ideal S640x128 .f32) (j : Fin 128) :
    k0_pay22 S (ix2 0 j) = Finset.fold max ⊥ (fun r => S (ix2 r j)) Finset.univ := by
  pointwise [k0_pay22]
  rw [neg_infinity]

theorem expo_at (S : FVec Ideal S640x128 .f32) (r : Fin 640) (j : Fin 128) :
    k0_pay23 S (ix2 r j) = Ideal.exp (S (ix2 r j) - k0_pay22 S (ix2 0 j)) := by
  unfold k0_pay23
  generalize k0_pay22 S = y
  pointwise []

theorem total_at (S : FVec Ideal S640x128 .f32) (j : Fin 128) :
    k0_pay24 S (ix2 0 j) = ∑ r : Fin 640, k0_pay23 S (ix2 r j) := by
  unfold k0_pay24
  generalize k0_pay23 S = y
  pointwise []

theorem stat_at (S : FVec Ideal S640x128 .f32) (j : Fin 128) :
    k0_pay25 S (ix2 0 j) = k0_pay22 S (ix2 0 j) + Ideal.log (k0_pay24 S (ix2 0 j)) := by
  unfold k0_pay25
  generalize k0_pay24 S = y
  generalize k0_pay22 S = z
  pointwise []

theorem part_at (S : FVec Ideal S640x128 .f32) (v : FVec Ideal S128x640 .bf16) (f j : Fin 128) :
    part S v (ix2 f j) = (∑ r : Fin 640, v (ix2 f r) * k0_pay23 S (ix2 r j)) * Ideal.div 1 (k0_pay24 S (ix2 0 j)) := by
  unfold part
  generalize k0_pay24 S = y
  generalize k0_pay23 S = z
  pointwise []

theorem logs_at (S0 S1 : FVec Ideal S640x128 .f32) (e : Fin 8) (j : Fin 256) :
    logs S0 S1 (ix4 0 0 e j) = if h : j.val < 128 then k0_pay25 S0 (ix2 0 ⟨j.val, h⟩) else k0_pay25 S1 (ix2 0 ⟨j.val - 128, by omega⟩) := by
  unfold logs
  generalize k0_pay25 S0 = y
  generalize k0_pay25 S1 = z
  pointwise [k0_pay35]

theorem rows_at (S0 S1 : FVec Ideal S640x128 .f32) (v : FVec Ideal S128x640 .bf16) (s f : Fin 128) :
    rows S0 S1 v (ix2 s f) = if s.val < 64 then part S0 v (ix2 f ⟨64 * (f.val / 64) + s.val % 64, by omega⟩)
      else part S1 v (ix2 f ⟨64 * (f.val / 64) + s.val % 64, by omega⟩) := by
  unfold rows
  generalize part S0 v = y
  generalize part S1 v = z
  pointwise [k0_pay34]
  rw [lt64 f.val (by omega), lt64 s.val (by omega)]
  by_cases h1 : f.val < 64 <;> by_cases h2 : s.val < 64 <;> simp only [h1, h2, if_true, if_false, sel_one, sel_zero]
  · exact congrArg (fun z => y (ix2 f z)) (Fin.ext (by show s.val = 64 * (f.val / 64) + s.val % 64; omega))
  · exact congrArg (fun x => z (ix2 f x)) (Fin.ext (by show (s.val + 128 - 64) % 128 = 64 * (f.val / 64) + s.val % 64; omega))
  · rw [dif_pos (show (s.val + 128 - 64) % 128 < 128 by omega)]
    exact congrArg (fun z => y (ix2 f z)) (Fin.ext (by show (s.val + 128 - 64) % 128 = 64 * (f.val / 64) + s.val % 64; omega))
  · exact congrArg (fun x => z (ix2 f x)) (Fin.ext (by show s.val = 64 * (f.val / 64) + s.val % 64; omega))

end Cert.KernelFwdIdeal.Fwd

end
-- ==== Proof.FwdLoop.lean ====
/- The 28 trips of the attention's forward kernel, one unit each: the pieces they write leave those units' rows of the
   output and of the log-sums. -/
module

public import proofs.«01_k».proof.Proof.FwdState

@[expose] public section

set_option maxRecDepth 16384

noncomputable section

namespace Cert.KernelFwdIdeal.Fwd

open Idealize.ShloMosaic Idealize.ShloMosaic.TcCoe Idealize.ShloMosaic.Tactic
open Idealize.ShloMosaic.VecWindow
open Cert.KernelFwdIdeal Cert.KernelFwdIdeal.Gen

variable {F : FTy → Type} [FloatOps F] [Named F]

theorem trips_eq : k0_t1_loop.trips = 28 := by decide +kernel
/-- The unit of a trip. -/
def tu (k : Fin k0_t1_loop.trips) : Fin 32 := ⟨4 + k.val, by have := k.isLt; have := trips_eq; omega⟩

theorem off5_eq : ∀ k : Fin k0_t1_loop.trips, k0_off5 k = ![128 * (tu k).val, 0] := by decide +kernel
theorem off6_eq : ∀ k : Fin k0_t1_loop.trips, k0_off6 k = ![0, 128 * (tu k).val] := by decide +kernel
theorem off7_eq : ∀ k : Fin k0_t1_loop.trips, k0_off7 k = ![0, 128 * (tu k).val] := by decide +kernel
theorem off8_eq : ∀ k : Fin k0_t1_loop.trips, k0_off8 k = ![128 * (tu k).val, 0] := by decide +kernel
theorem off9_eq : ∀ k : Fin k0_t1_loop.trips, k0_off9 k = ![0, (tu k).val, 0, 0] := by decide +kernel

variable (c : Dev nD) (i : grid0.Coords)
  (arg1 : Memref sig .tc .vmem S4608x128 .bf16) (harg1 : arg1.IsWhole)
  (arg2 : Memref sig .tc .vmem S128x4096 .bf16) (harg2 : arg2.IsWhole)
  (arg3 : Memref sig .tc .vmem S128x4608 .bf16) (harg3 : arg3.IsWhole)
  (arg4 : Memref sig .tc .vmem S1x1x640x256 .f32) (harg4 : arg4.IsWhole)
  (arg5 : Memref sig .tc .vmem S4096x128 .bf16) (harg5 : arg5.IsWhole)
  (arg6 : Memref sig .tc .vmem S1x32x8x256 .f32) (harg6 : arg6.IsWhole)
  (A : In F)

/-- One trip's pieces. -/
def tripP (k : Fin k0_t1_loop.trips) : List (View.Piece (Elt F) S4096x128 .bf16) × List (View.Piece (Elt F) S1x32x8x256 .f32) :=
  tripL_k0_t1 (F := F) Variants.none c none i arg1 harg1 arg2 harg2 arg3 harg3 arg4 harg4 arg5 harg5 arg6 harg6 (harg1.unread A.k) (harg2.unread A.qt) (harg3.unread A.vt) (harg4.unread A.bias) k

set_option maxHeartbeats 2000000 in
/-- One trip writes its unit's rows. -/
theorem tripP_eq (k : Fin k0_t1_loop.trips) :
    ∃ i8 i9, tripP c i arg1 harg1 arg2 harg2 arg3 harg3 arg4 harg4 arg5 harg5 arg6 harg6 A k
      = ([⟨Rect.unit (k0_off8 k) S128x128.size i8, A.oU (tu k)⟩], [⟨Rect.unit (k0_off9 k) S1x1x8x256.size i9, A.lU (tu k)⟩]) := by
  have h0 : A.S0 (tu k) = chunk0 (A.kB (tu k)) (A.qB (tu k)) A.lo := if_neg (by show ¬ (4 + k.val < 4); omega)
  have h1 : A.S1 (tu k) = chunk1 (A.kB (tu k)) (A.qB (tu k)) A.hi := if_neg (by show ¬ (4 + k.val < 4); omega)
  have e1 := arg1.view.readAt_unit (harg1.unread A.k) (k0_off5_inb k) (off5_eq k) (inb_band (tu k))
  rw [harg1.read_unread] at e1
  have e2 := arg2.view.readAt_unit (harg2.unread A.qt) (k0_off7_inb k) (off7_eq k) (inb_cols (tu k))
  rw [harg2.read_unread] at e2
  have e3 := arg3.view.readAt_unit (harg3.unread A.vt) (k0_off6_inb k) (off6_eq k) (inb_bandT (tu k))
  rw [harg3.read_unread] at e3
  have e4 := arg4.view.readAt_unit (harg4.unread A.bias) inb_lo rfl inb_lo
  rw [harg4.read_unread] at e4
  have e5 := arg4.view.readAt_unit (harg4.unread A.bias) inb_hi rfl inb_hi
  rw [harg4.read_unread] at e5
  refine ⟨k0_off8_inb k, k0_off9_inb k, ?_⟩
  unfold In.oU In.lU
  rw [h0, h1]
  unfold In.kB In.qB In.vB In.lo In.hi
  rw [← e1, ← e2, ← e3, ← e4, ← e5]
  unfold tripP
  with_unfolding_all rfl

/-- The pieces of the trips before `n`. -/
def pieces (n : ℕ) : List (View.Piece (Elt F) S4096x128 .bf16) × List (View.Piece (Elt F) S1x32x8x256 .f32) :=
  pb_k0_t1 (F := F) Variants.none c none i arg1 harg1 arg2 harg2 arg3 harg3 arg4 harg4 arg5 harg5 arg6 harg6 (harg1.unread A.k) (harg2.unread A.qt) (harg3.unread A.vt) (harg4.unread A.bias) n

/-- The pieces of one more trip are that trip's in front of the earlier ones'. -/
theorem pieces_succ (k : Fin k0_t1_loop.trips) :
    pieces c i arg1 harg1 arg2 harg2 arg3 harg3 arg4 harg4 arg5 harg5 arg6 harg6 A (k.val + 1)
      = ((tripP c i arg1 harg1 arg2 harg2 arg3 harg3 arg4 harg4 arg5 harg5 arg6 harg6 A k).1 ++ (pieces c i arg1 harg1 arg2 harg2 arg3 harg3 arg4 harg4 arg5 harg5 arg6 harg6 A k.val).1,
         (tripP c i arg1 harg1 arg2 harg2 arg3 harg3 arg4 harg4 arg5 harg5 arg6 harg6 A k).2 ++ (pieces c i arg1 harg1 arg2 harg2 arg3 harg3 arg4 harg4 arg5 harg5 arg6 harg6 A k.val).2) :=
  pb_k0_t1_succ (F := F) Variants.none c none i arg1 harg1 arg2 harg2 arg3 harg3 arg4 harg4 arg5 harg5 arg6 harg6 (harg1.unread A.k) (harg2.unread A.qt) (harg3.unread A.vt) (harg4.unread A.bias) k

/-! ## What the output's rows and the log-sums are -/

/-- The unit of a row of the output, and the row within it; the same of a log-sum. -/
def unitO (y : S4096x128.Idx) : Fin 32 := ⟨(y 0).val / 128, by have := (y 0).isLt; have e : S4096x128.size 0 = 4096 := rfl; omega⟩
def rowO (y : S4096x128.Idx) : S128x128.Idx :=
  fun a => ⟨(y a).val - (![128 * (unitO y).val, 0] : Fin 2 → ℕ) a, by
    fin_cases a
    · show (y 0).val - 128 * ((y 0).val / 128) < 128; omega
    · show (y 1).val - 0 < 128; have := (y 1).isLt; have e : S4096x128.size 1 = 128 := rfl; omega⟩
def unitL (y : S1x32x8x256.Idx) : Fin 32 := y 1
def rowL (y : S1x32x8x256.Idx) : S1x1x8x256.Idx :=
  fun a => ⟨(y a).val - (![0, (unitL y).val, 0, 0] : Fin 4 → ℕ) a, by
    fin_cases a
    · show (y 0).val - 0 < 1; have := (y 0).isLt; have e : S1x32x8x256.size 0 = 1 := rfl; omega
    · show (y 1).val - (y 1).val < 1; omega
    · show (y 2).val - 0 < 8; have := (y 2).isLt; have e : S1x32x8x256.size 2 = 8 := rfl; omega
    · show (y 3).val - 0 < 256; have := (y 3).isLt; have e : S1x32x8x256.size 3 = 256 := rfl; omega⟩

/-- The block's output and log-sums. -/
def O : Vec F S4096x128 .bf16 := fun y => A.oU (unitO y) (rowO y)
def L : Vec F S1x32x8x256 .f32 := fun y => A.lU (unitL y) (rowL y)

theorem O_step (u : Fin 32) (x : Vec F S4096x128 .bf16) (h : ∀ y : S4096x128.Idx, (unitO y).val < u.val → x y = O A y) :
    ∀ y : S4096x128.Idx, (unitO y).val < u.val + 1 → put x ![128 * u.val, 0] S128x128.size (A.oU u) y = O A y := by
  refine put_step (s := S4096x128) S128x128.size (fun y => (unitO y).val) x (O A) u.val ![128 * u.val, 0] (A.oU u) ?_ ?_ h
  · intro y hy
    have hy : (y 0).val / 128 = u.val := hy
    exact Fin.forall_fin_two.mpr ⟨⟨show 128 * u.val ≤ (y 0).val by omega, show (y 0).val < 128 * u.val + 128 by omega⟩,
      ⟨Nat.zero_le _, show (y 1).val < 0 + 128 by have := (y 1).isLt; have e : S4096x128.size 1 = 128 := rfl; omega⟩⟩
  · intro y hm
    have h0 : 128 * u.val ≤ (y 0).val ∧ (y 0).val < 128 * u.val + 128 := hm 0
    have hu : unitO y = u := Fin.ext (show (y 0).val / 128 = u.val by omega)
    unfold O
    have hr : rowO y = Rect.unitLocal (s := S4096x128) (off := ![128 * u.val, 0]) (size := S128x128.size) y hm := by
      funext a; apply Fin.ext
      show (y a).val - (![128 * (unitO y).val, 0] : Fin 2 → ℕ) a = (y a).val - (![128 * u.val, 0] : Fin 2 → ℕ) a
      rw [hu]
    rw [hu, hr]

theorem L_step (u : Fin 32) (x : Vec F S1x32x8x256 .f32) (h : ∀ y : S1x32x8x256.Idx, (unitL y).val < u.val → x y = L A y) :
    ∀ y : S1x32x8x256.Idx, (unitL y).val < u.val + 1 → put x ![0, u.val, 0, 0] S1x1x8x256.size (A.lU u) y = L A y := by
  refine put_step (s := S1x32x8x256) S1x1x8x256.size (fun y => (unitL y).val) x (L A) u.val ![0, u.val, 0, 0] (A.lU u) ?_ ?_ h
  · intro y hy a
    have hy : (y 1).val = u.val := hy
    fin_cases a
    · exact ⟨Nat.zero_le _, show (y 0).val < 0 + 1 by have := (y 0).isLt; have e : S1x32x8x256.size 0 = 1 := rfl; omega⟩
    · exact ⟨show u.val ≤ (y 1).val by omega, show (y 1).val < u.val + 1 by omega⟩
    · exact ⟨Nat.zero_le _, show (y 2).val < 0 + 8 by have := (y 2).isLt; have e : S1x32x8x256.size 2 = 8 := rfl; omega⟩
    · exact ⟨Nat.zero_le _, show (y 3).val < 0 + 256 by have := (y 3).isLt; have e : S1x32x8x256.size 3 = 256 := rfl; omega⟩
  · intro y hm
    have h0 : u.val ≤ (y 1).val ∧ (y 1).val < u.val + 1 := hm 1
    have hu : unitL y = u := Fin.ext (show (y 1).val = u.val by omega)
    unfold L
    have hr : rowL y = Rect.unitLocal (s := S1x32x8x256) (off := ![0, u.val, 0, 0]) (size := S1x1x8x256.size) y hm := by
      funext a; apply Fin.ext
      show (y a).val - (![0, (unitL y).val, 0, 0] : Fin 4 → ℕ) a = (y a).val - (![0, u.val, 0, 0] : Fin 4 → ℕ) a
      rw [hu]
    rw [hu, hr]

/-- After `n` trips the buffers hold the first `4 + n` units, if they held the first four before. -/
theorem pieces_read (V5 : View sig .tc .vmem S4096x128 .bf16) (V6 : View sig .tc .vmem S1x32x8x256 .f32) (G5 : V5.ty.Contents (Elt F)) (G6 : V6.ty.Contents (Elt F))
    (h5 : ∀ y : S4096x128.Idx, (unitO y).val < 4 → V5.read (Elt F) G5 y = O A y)
    (h6 : ∀ y : S1x32x8x256.Idx, (unitL y).val < 4 → V6.read (Elt F) G6 y = L A y) (n : ℕ) (hn : n ≤ 28) :
    (∀ y : S4096x128.Idx, (unitO y).val < 4 + n → V5.read (Elt F) (V5.writes (Elt F) G5 (pieces c i arg1 harg1 arg2 harg2 arg3 harg3 arg4 harg4 arg5 harg5 arg6 harg6 A n).1) y = O A y)
    ∧ (∀ y : S1x32x8x256.Idx, (unitL y).val < 4 + n → V6.read (Elt F) (V6.writes (Elt F) G6 (pieces c i arg1 harg1 arg2 harg2 arg3 harg3 arg4 harg4 arg5 harg5 arg6 harg6 A n).2) y = L A y) := by
  induction n with
  | zero => exact ⟨h5, h6⟩
  | succ n ih =>
    obtain ⟨j5, j6⟩ := ih (by omega)
    have hk : n < k0_t1_loop.trips := by rw [trips_eq]; omega
    obtain ⟨i8, i9, hT⟩ := tripP_eq c i arg1 harg1 arg2 harg2 arg3 harg3 arg4 harg4 arg5 harg5 arg6 harg6 A ⟨n, hk⟩
    have hs := pieces_succ c i arg1 harg1 arg2 harg2 arg3 harg3 arg4 harg4 arg5 harg5 arg6 harg6 A ⟨n, hk⟩
    rw [hT] at hs
    have hs : pieces c i arg1 harg1 arg2 harg2 arg3 harg3 arg4 harg4 arg5 harg5 arg6 harg6 A (n + 1) = _ := hs
    rw [hs]
    generalize pieces c i arg1 harg1 arg2 harg2 arg3 harg3 arg4 harg4 arg5 harg5 arg6 harg6 A (Fin.mk n hk).val = P at j5 j6 ⊢
    refine ⟨fun y hy => ?_, fun y hy => ?_⟩
    · refine (congrFun (V5.read_writes_cons_put G5 i8 (A.oU (tu ⟨n, hk⟩)) P.1 (off8_eq ⟨n, hk⟩)) y).trans ?_
      exact O_step A (tu ⟨n, hk⟩) _ j5 y hy
    · refine (congrFun (V6.read_writes_cons_put G6 i9 (A.lU (tu ⟨n, hk⟩)) P.2 (off9_eq ⟨n, hk⟩)) y).trans ?_
      exact L_step A (tu ⟨n, hk⟩) _ j6 y hy

end Cert.KernelFwdIdeal.Fwd

end
-- ==== Proof.FwdPair.lean ====
/- One grid point of the attention's forward kernel, a pair of heads, from blocks that hold the problem's arrays: the
   rows each unit writes are the output's, its row of log-sums the logarithms of the rows' weights. -/
module

public import proofs.«01_k».proof.Proof.FwdUnit
public import proofs.«01_k».proof.Proof.FwdLoop

@[expose] public section

set_option maxRecDepth 16384

noncomputable section

namespace Cert.KernelFwdIdeal.Fwd

open Idealize.ShloMosaic Idealize.ShloMosaic.TcCoe Idealize.ShloMosaic.VecWindow
open Cert.KernelFwdIdeal Cert.KernelFwdIdeal.Gen Cert.Attn
open Cert.KernelAttnIdeal.Att (unit_val)
open Cert.KernelAttnIdeal.Att.Reads (dot_pair)

/-- The blocks of pair `p`, read as the problem's arrays. -/
structure Reads (A : In Ideal) (D : Data) (p : ℕ) : Prop where
  k : ∀ (s : Fin 4608) (f : Fin 128), A.k (ix2 s f) = ((D.kp s.val (128 * p + f.val) : ℝ) : EReal)
  qt : ∀ (f : Fin 128) (s : Fin 4096), A.qt (ix2 f s) = ((D.q s.val (128 * p + f.val) * (1 / 8) : ℝ) : EReal)
  vt : ∀ (f : Fin 128) (s : Fin 4608), A.vt (ix2 f s) = ((D.vp s.val (128 * p + f.val) : ℝ) : EReal)
  bias : ∀ (r : Fin 640) (j : Fin 256), A.bias (ix4 0 0 r j) =
    if 64 * (j.val / 128) ≤ r.val ∧ r.val < 64 * (j.val / 128) + 576 then
      ((D.tab (2 * p + j.val / 64 % 2) (j.val % 64) (r.val - 64 * (j.val / 128)) : ℝ) : EReal) else ⊥

/-- A place of a unit's band counts for chunk `c` where it is in the chunk's band and in the sequence. -/
abbrev Counts (u : Fin 32) (c : ℕ) (r : ℕ) : Prop := (64 * c ≤ r ∧ r < 64 * c + 576) ∧ 512 ≤ 128 * u.val + r

/-- An array holds chunk `c`'s scores. -/
def Scores (S : FVec Ideal S640x128 .f32) (D : Data) (p : ℕ) (u : Fin 32) (c : ℕ) : Prop :=
  ∀ (r : Fin 640) (j : Fin 128), S (ix2 r j) = orBot (Counts u c r.val) (D.sc (2 * u.val + c) (2 * p + j.val / 64) (j.val % 64) (r.val - 64 * c))

namespace Reads

variable {A : In Ideal} {D : Data} {p : ℕ} (H : Reads A D p) (u : Fin 32)
include H

theorem kB (r : Fin 640) (f : Fin 128) : A.kB u (ix2 r f) = ((D.kp (128 * u.val + r.val) (128 * p + f.val) : ℝ) : EReal) := by
  rw [← H.k ⟨128 * u.val + r.val, by omega⟩ f]
  refine congrArg A.k (funext fun a => Fin.ext ((unit_val _ _ _ _ a).trans ?_))
  fin_cases a
  · rfl
  · show 0 + f.val = f.val; omega

theorem qB (f s : Fin 128) : A.qB u (ix2 f s) = ((D.q (128 * u.val + s.val) (128 * p + f.val) * (1 / 8) : ℝ) : EReal) := by
  rw [← H.qt f ⟨128 * u.val + s.val, by omega⟩]
  refine congrArg A.qt (funext fun a => Fin.ext ((unit_val _ _ _ _ a).trans ?_))
  fin_cases a
  · show 0 + f.val = f.val; omega
  · rfl

theorem vB (f : Fin 128) (r : Fin 640) : k0_pay4 (A.vB u) (ix2 f r) = ((D.vp (128 * u.val + r.val) (128 * p + f.val) : ℝ) : EReal) := by
  rw [← H.vt f ⟨128 * u.val + r.val, by omega⟩]
  have e : k0_pay4 (A.vB u) (ix2 f r) = A.vB u (ix2 f r) := by pointwise [k0_pay4]
  rw [e]
  refine congrArg A.vt (funext fun a => Fin.ext ((unit_val _ _ _ _ a).trans ?_))
  fin_cases a
  · show 0 + f.val = f.val; omega
  · rfl

theorem lo (r : Fin 640) (j : Fin 128) : A.lo (ix4 0 0 r j) = if 64 * 0 ≤ r.val ∧ r.val < 64 * 0 + 576 then
    ((D.tab (2 * p + j.val / 64) (j.val % 64) (r.val - 64 * 0) : ℝ) : EReal) else ⊥ := by
  have e : A.lo (ix4 0 0 r j) = A.bias (ix4 0 0 r ⟨j.val, by omega⟩) := by
    refine congrArg A.bias (funext fun a => Fin.ext ((unit_val _ _ _ _ a).trans ?_))
    fin_cases a
    · rfl
    · rfl
    · show 0 + r.val = r.val; omega
    · show 0 + j.val = j.val; omega
  rw [e, H.bias]
  show (if 64 * (j.val / 128) ≤ r.val ∧ r.val < 64 * (j.val / 128) + 576 then ((D.tab (2 * p + j.val / 64 % 2) (j.val % 64) (r.val - 64 * (j.val / 128)) : ℝ) : EReal) else ⊥) = _
  rw [show j.val / 128 = 0 by omega, show j.val / 64 % 2 = j.val / 64 by omega]

theorem hi (r : Fin 640) (j : Fin 128) : A.hi (ix4 0 0 r j) = if 64 * 1 ≤ r.val ∧ r.val < 64 * 1 + 576 then
    ((D.tab (2 * p + j.val / 64) (j.val % 64) (r.val - 64 * 1) : ℝ) : EReal) else ⊥ := by
  have e : A.hi (ix4 0 0 r j) = A.bias (ix4 0 0 r ⟨128 + j.val, by omega⟩) := by
    refine congrArg A.bias (funext fun a => Fin.ext ((unit_val _ _ _ _ a).trans ?_))
    fin_cases a
    · rfl
    · rfl
    · show 0 + r.val = r.val; omega
    · rfl
  rw [e, H.bias]
  show (if 64 * ((128 + j.val) / 128) ≤ r.val ∧ r.val < 64 * ((128 + j.val) / 128) + 576 then ((D.tab (2 * p + (128 + j.val) / 64 % 2) ((128 + j.val) % 64) (r.val - 64 * ((128 + j.val) / 128)) : ℝ) : EReal) else ⊥) = _
  rw [show (128 + j.val) / 128 = 1 by omega, show (128 + j.val) / 64 % 2 = j.val / 64 by omega, show (128 + j.val) % 64 = j.val % 64 by omega]

/-- A chunk's products of queries and keys, plus its bias: the score in the chunk's band, −∞ outside. -/
theorem plain (c : ℕ) (hc : c < 2) (r : Fin 640) (j : Fin 128) (J : Fin 256) (hJ : J.val = 128 * c + j.val) (b : EReal)
    (hb : b = if 64 * c ≤ r.val ∧ r.val < 64 * c + 576 then ((D.tab (2 * p + j.val / 64) (j.val % 64) (r.val - 64 * c) : ℝ) : EReal) else ⊥)
    (hs : 512 ≤ 128 * u.val + r.val) :
    (∑ f : Fin 128, A.kB u (ix2 r f) * pw (A.qB u) (ix2 f J)) + b
      = orBot (Counts u c r.val) (D.sc (2 * u.val + c) (2 * p + j.val / 64) (j.val % 64) (r.val - 64 * c)) := by
  have e1 : J.val / 128 = c := by omega
  have e2 : J.val / 64 % 2 = j.val / 64 := by omega
  have e3 : J.val % 64 = j.val % 64 := by omega
  rw [dot_pair (fun f => A.kB u (ix2 r f)) (A.qB u) J (fun e => D.kp (128 * u.val + r.val) (128 * p + e))
    (fun e => D.q (128 * u.val + (64 * (J.val / 128) + J.val % 64)) (128 * p + e) * (1 / 8)) (fun e => H.kB u r e) (fun e => H.qB u e _), hb, e1, e2, e3]
  unfold orBot
  by_cases h : 64 * c ≤ r.val ∧ r.val < 64 * c + 576
  · rw [if_pos h, if_pos ⟨h, hs⟩, ← EReal.coe_add]
    congr 1
    unfold Data.sc
    rw [if_pos (show 512 ≤ 64 * (2 * u.val + c) + (r.val - 64 * c) by omega), Finset.sum_mul]
    congr 1
    refine Finset.sum_congr rfl fun d _ => ?_
    rw [show 128 * u.val + (64 * c + j.val % 64) = 64 * (2 * u.val + c) + j.val % 64 by omega,
      show 128 * u.val + r.val = 64 * (2 * u.val + c) + (r.val - 64 * c) by omega,
      show 128 * p + (64 * (j.val / 64) + d.val) = 64 * (2 * p + j.val / 64) + d.val by omega]
    ring
  · rw [if_neg h, if_neg fun g => h g.1, EReal.add_bot]

omit H in
/-- The mask: the band's rows from the sequence's first on. -/
theorem seen (hu : u.val < 4) (r : Fin 640) : IntOp.cmpi .sge (IntOp.addi (BitVec.ofNat 32 (128 * u.val)) (BitVec.ofNat 32 r.val)) 512#32
    = if 512 ≤ 128 * u.val + r.val then 1#1 else 0#1 := by
  rw [show IntOp.addi (BitVec.ofNat 32 (128 * u.val)) (BitVec.ofNat 32 r.val) = BitVec.ofNat 32 (128 * u.val + r.val) from (BitVec.ofNat_add ..).symm,
    show (512#32) = BitVec.ofNat 32 512 from rfl, WordCmp.cmpi_sge_ofNat (by omega) (by omega)]
  by_cases h : 512 ≤ 128 * u.val + r.val <;> simp [h]

omit H in
/-- Masked where the unit is one of the first four, the chunk's products are its scores. -/
theorem masked_scores (c : ℕ) (S : FVec Ideal S640x128 .f32)
    (h : ∀ (r : Fin 640) (j : Fin 128), 512 ≤ 128 * u.val + r.val → S (ix2 r j) = orBot (Counts u c r.val) (D.sc (2 * u.val + c) (2 * p + j.val / 64) (j.val % 64) (r.val - 64 * c))) :
    Scores (if u.val < 4 then masked (BitVec.ofNat 32 (128 * u.val)) S else S) D p u c := by
  intro r j
  by_cases hu : u.val < 4
  · rw [if_pos hu, masked_at, seen u hu]
    by_cases hs : 512 ≤ 128 * u.val + r.val
    · rw [if_pos hs]; exact h r j hs
    · rw [if_neg hs]
      unfold orBot
      rw [if_neg fun g => hs g.2]
      rfl
  · rw [if_neg hu]
    exact h r j (by omega)

theorem scores0 : Scores (A.S0 u) D p u 0 :=
  masked_scores u 0 _ fun r j hs => (chunk0_at _ _ _ r j).trans (H.plain u 0 (by omega) r j _ (by show j.val = 128 * 0 + j.val; omega) _ (H.lo r j) hs)

theorem scores1 : Scores (A.S1 u) D p u 1 :=
  masked_scores u 1 _ fun r j hs => (chunk1_at _ _ _ r j).trans (H.plain u 1 (by omega) r j _ (by show 128 + j.val = 128 * 1 + j.val; omega) _ (H.hi r j) hs)

end Reads

/-! ## A column of scores -/

section
variable {S : FVec Ideal S640x128 .f32} {D : Data} {p : ℕ} {u : Fin 32} {c : ℕ} (hc : c < 2) (h : Scores S D p u c) (j : Fin 128)
include hc h

/-- A place's weight in a unit's band. -/
abbrev wt (D : Data) (p : ℕ) (u : Fin 32) (c : ℕ) (j : Fin 128) (r : Fin 640) : ℝ :=
  if Counts u c r.val then Real.exp (D.sc (2 * u.val + c) (2 * p + j.val / 64) (j.val % 64) (r.val - 64 * c)) else 0

omit h in
theorem wt_eq (r : Fin 640) : wt D p u c j r = if 64 * c ≤ r.val ∧ r.val < 64 * c + 576 then D.w (2 * u.val + c) (2 * p + j.val / 64) (j.val % 64) (r.val - 64 * c) else 0 := by
  unfold wt Counts Data.w
  by_cases hb : 64 * c ≤ r.val ∧ r.val < 64 * c + 576
  · rw [if_pos hb]
    exact if_congr (by omega) rfl rfl
  · rw [if_neg hb, if_neg fun g => hb g.1]

omit h in
theorem sum_wt (x : ℕ → ℝ) : ∑ r : Fin 640, x r.val * wt D p u c j r = ∑ a : Fin 576, x (64 * c + a.val) * D.w (2 * u.val + c) (2 * p + j.val / 64) (j.val % 64) a.val := by
  rw [Finset.sum_congr rfl fun r _ => show x r.val * wt D p u c j r
    = if 64 * c ≤ r.val ∧ r.val < 64 * c + 576 then (fun r => x r * D.w (2 * u.val + c) (2 * p + j.val / 64) (j.val % 64) (r - 64 * c)) r.val else 0 by
      rw [wt_eq hc, mul_ite, mul_zero],
    sum_band c hc fun r => x r * D.w (2 * u.val + c) (2 * p + j.val / 64) (j.val % 64) (r - 64 * c)]
  exact Finset.sum_congr rfl fun a _ => by rw [show 64 * c + a.val - 64 * c = a.val by omega]

omit h in
theorem total_wt : ∑ r : Fin 640, wt D p u c j r = D.Zw (2 * u.val + c) (2 * p + j.val / 64) (j.val % 64) := by
  have := sum_wt (D := D) (p := p) (u := u) hc j fun _ => 1
  simp only [one_mul] at this
  exact this

/-- The column's largest score is a real. -/
theorem top_real : ∃ t : ℝ, k0_pay22 S (ix2 0 j) = (t : EReal) := by
  rw [top_at]
  refine fold_max_real _ (fun r => ?_) ⟨512 + 64 * c, by omega⟩ ?_
  · rw [h r j]; exact orBot_cases _ _
  · rw [h _ j]; unfold orBot
    rw [if_pos (show Counts u c (512 + 64 * c) from ⟨by omega, by omega⟩)]
    exact ⟨_, rfl⟩

theorem col_exp (t : ℝ) (r : Fin 640) : Ideal.exp (S (ix2 r j) - (t : EReal)) = ((wt D p u c j r * Real.exp (-t) : ℝ) : EReal) := by
  rw [h r j]; exact exp_orBot _ _ t

/-- The column's log-sum. -/
theorem stat_val : k0_pay25 S (ix2 0 j) = ((Real.log (D.Zw (2 * u.val + c) (2 * p + j.val / 64) (j.val % 64)) : ℝ) : EReal) := by
  obtain ⟨t, ht⟩ := top_real hc h j
  rw [stat_at, total_at, Finset.sum_congr rfl fun r _ => expo_at S r j, ht,
    log_sum _ (wt D p u c j) t (col_exp hc h j t) (by rw [total_wt hc]; exact D.Zw_pos _ _ _), total_wt hc]

/-- The column's weighed values. -/
theorem part_val (v : FVec Ideal S128x640 .bf16) (f : Fin 128) (x : ℕ → ℝ) (hv : ∀ r : Fin 640, v (ix2 f r) = ((x r.val : ℝ) : EReal)) :
    part S v (ix2 f j) = (((∑ a : Fin 576, x (64 * c + a.val) * D.w (2 * u.val + c) (2 * p + j.val / 64) (j.val % 64) a.val) / D.Zw (2 * u.val + c) (2 * p + j.val / 64) (j.val % 64) : ℝ) : EReal) := by
  obtain ⟨t, ht⟩ := top_real hc h j
  rw [part_at, total_at]
  simp only [expo_at]
  rw [ht, weighed _ (wt D p u c j) t (col_exp hc h j t) (by rw [total_wt hc]; exact D.Zw_pos _ _ _) _ (fun r => x r.val) hv, total_wt hc, sum_wt hc]

end

namespace Reads

variable {A : In Ideal} {D : Data} {p : ℕ} (H : Reads A D p) (u : Fin 32)
include H

/-- A unit's rows are the output's. -/
theorem oU (s f : Fin 128) : A.oU u (ix2 s f) = ((D.o (128 * u.val + s.val) (128 * p + f.val) : ℝ) : EReal) := by
  unfold In.oU
  rw [rows_at]
  unfold Data.o
  rw [show (128 * u.val + s.val) / 64 = 2 * u.val + s.val / 64 by omega, show (128 * p + f.val) / 64 = 2 * p + f.val / 64 by omega, show (128 * u.val + s.val) % 64 = s.val % 64 by omega]
  have e1 : (64 * (f.val / 64) + s.val % 64) / 64 = f.val / 64 := by omega
  have e2 : (64 * (f.val / 64) + s.val % 64) % 64 = s.val % 64 := by omega
  by_cases hs : s.val < 64
  · rw [if_pos hs, part_val (by omega) (H.scores0 u) _ _ f (fun r => D.vp (128 * u.val + r) (128 * p + f.val)) (fun r => H.vB u f r), show s.val / 64 = 0 by omega]
    simp only [e1, e2]
    refine congrArg (fun z : ℝ => ((z / _ : ℝ) : EReal)) (Finset.sum_congr rfl fun a _ => ?_)
    rw [show 128 * u.val + (64 * 0 + a.val) = 64 * (2 * u.val + 0) + a.val by omega]
  · rw [if_neg hs, part_val (by omega) (H.scores1 u) _ _ f (fun r => D.vp (128 * u.val + r) (128 * p + f.val)) (fun r => H.vB u f r), show s.val / 64 = 1 by omega]
    simp only [e1, e2]
    refine congrArg (fun z : ℝ => ((z / _ : ℝ) : EReal)) (Finset.sum_congr rfl fun a _ => ?_)
    rw [show 128 * u.val + (64 * 1 + a.val) = 64 * (2 * u.val + 1) + a.val by omega]

/-- A unit's row of log-sums. -/
theorem lU (e : Fin 8) (j : Fin 256) : A.lU u (ix4 0 0 e j) = ((Real.log (D.Zw (2 * u.val + j.val / 128) (2 * p + j.val / 64 % 2) (j.val % 64)) : ℝ) : EReal) := by
  unfold In.lU
  rw [logs_at]
  by_cases hj : j.val < 128
  · rw [dif_pos hj, stat_val (by omega) (H.scores0 u)]
    show ((Real.log (D.Zw (2 * u.val + 0) (2 * p + j.val / 64) (j.val % 64)) : ℝ) : EReal) = _
    rw [show j.val / 128 = 0 by omega, show j.val / 64 % 2 = j.val / 64 by omega]
  · rw [dif_neg hj, stat_val (by omega) (H.scores1 u)]
    show ((Real.log (D.Zw (2 * u.val + 1) (2 * p + (j.val - 128) / 64) ((j.val - 128) % 64)) : ℝ) : EReal) = _
    rw [show j.val / 128 = 1 by omega, show j.val / 64 % 2 = (j.val - 128) / 64 by omega, show j.val % 64 = (j.val - 128) % 64 by omega]

end Reads

end Cert.KernelFwdIdeal.Fwd

end
-- ==== Proof.FwdRun.lean ====
/- One run of the attention's forward kernel: from its four blocks it leaves the output and the log-sums of `FwdLoop`.
   The first four units are written out one by one, the other 28 are the trips of a loop. -/
module

public import proofs.«01_k».proof.Proof.FwdLoop
public import proofs.«01_k».proof.Proof.Gen.KernelFwdIdeal.Frame

@[expose] public section

set_option maxRecDepth 16384

noncomputable section

namespace Cert.KernelFwdIdeal.Fwd

open Idealize.ShloMosaic Idealize.ShloMosaic.TcCoe Idealize.ShloMosaic.Tactic
open Idealize.ShloMosaic.VecWindow
open Cert.KernelFwdIdeal Cert.KernelFwdIdeal.Gen

variable {F : FTy → Type} [FloatOps F] [Named F]

variable (c : Dev nD) (i : grid0.Coords)
  (arg1 : Memref sig .tc .vmem S4608x128 .bf16) (harg1 : arg1.IsWhole)
  (arg2 : Memref sig .tc .vmem S128x4096 .bf16) (harg2 : arg2.IsWhole)
  (arg3 : Memref sig .tc .vmem S128x4608 .bf16) (harg3 : arg3.IsWhole)
  (arg4 : Memref sig .tc .vmem S1x1x640x256 .f32) (harg4 : arg4.IsWhole)
  (arg5 : Memref sig .tc .vmem S4096x128 .bf16) (harg5 : arg5.IsWhole)
  (arg6 : Memref sig .tc .vmem S1x32x8x256 .f32) (harg6 : arg6.IsWhole)
  (A : In F) (u : Fin 32)

/-! ## A unit's blocks, as the loads read them -/

def ldK : Vec F S640x128 .bf16 := arg1.view.readAt (Elt F) (Rect.unit (s := S4608x128) ![128 * u.val, 0] S640x128.size (inb_band u)).toLoadRect (harg1.unread A.k)
def ldQ : Vec F S128x128 .bf16 := arg2.view.readAt (Elt F) (Rect.unit (s := S128x4096) ![0, 128 * u.val] S128x128.size (inb_cols u)).toLoadRect (harg2.unread A.qt)
def ldV : Vec F S128x640 .bf16 := arg3.view.readAt (Elt F) (Rect.unit (s := S128x4608) ![0, 128 * u.val] S128x640.size (inb_bandT u)).toLoadRect (harg3.unread A.vt)
def ldLo : Vec F S1x1x640x128 .f32 := arg4.view.readAt (Elt F) (Rect.unit (s := S1x1x640x256) ![0, 0, 0, 0] S1x1x640x128.size inb_lo).toLoadRect (harg4.unread A.bias)
def ldHi : Vec F S1x1x640x128 .f32 := arg4.view.readAt (Elt F) (Rect.unit (s := S1x1x640x256) ![0, 0, 0, 128] S1x1x640x128.size inb_hi).toLoadRect (harg4.unread A.bias)

theorem ldK_eq : ldK arg1 harg1 A u = A.kB u := by
  have e := arg1.view.readAt_unit (harg1.unread A.k) (inb_band u) rfl (inb_band u)
  rw [harg1.read_unread] at e; exact e
theorem ldQ_eq : ldQ arg2 harg2 A u = A.qB u := by
  have e := arg2.view.readAt_unit (harg2.unread A.qt) (inb_cols u) rfl (inb_cols u)
  rw [harg2.read_unread] at e; exact e
theorem ldV_eq : ldV arg3 harg3 A u = A.vB u := by
  have e := arg3.view.readAt_unit (harg3.unread A.vt) (inb_bandT u) rfl (inb_bandT u)
  rw [harg3.read_unread] at e; exact e
theorem ldLo_eq : ldLo arg4 harg4 A = A.lo := by
  have e := arg4.view.readAt_unit (harg4.unread A.bias) inb_lo rfl inb_lo
  rw [harg4.read_unread] at e; exact e
theorem ldHi_eq : ldHi arg4 harg4 A = A.hi := by
  have e := arg4.view.readAt_unit (harg4.unread A.bias) inb_hi rfl inb_hi
  rw [harg4.read_unread] at e; exact e

/-- In the first four units the chunks' scores, and what is written of them, from the loads. -/
def ldS0 : FVec F S640x128 .f32 := masked (BitVec.ofNat 32 (128 * u.val)) (chunk0 (ldK arg1 harg1 A u) (ldQ arg2 harg2 A u) (ldLo arg4 harg4 A))
def ldS1 : FVec F S640x128 .f32 := masked (BitVec.ofNat 32 (128 * u.val)) (chunk1 (ldK arg1 harg1 A u) (ldQ arg2 harg2 A u) (ldHi arg4 harg4 A))
def ldO : FVec F S128x128 .bf16 := rows (ldS0 arg1 harg1 arg2 harg2 arg4 harg4 A u) (ldS1 arg1 harg1 arg2 harg2 arg4 harg4 A u) (k0_pay4 (ldV arg3 harg3 A u))
def ldL : FVec F S1x1x8x256 .f32 := logs (ldS0 arg1 harg1 arg2 harg2 arg4 harg4 A u) (ldS1 arg1 harg1 arg2 harg2 arg4 harg4 A u)

theorem ldS0_eq (hu : u.val < 4) : ldS0 arg1 harg1 arg2 harg2 arg4 harg4 A u = A.S0 u := by
  unfold ldS0 In.S0
  rw [ldK_eq, ldQ_eq, ldLo_eq, if_pos hu]
theorem ldS1_eq (hu : u.val < 4) : ldS1 arg1 harg1 arg2 harg2 arg4 harg4 A u = A.S1 u := by
  unfold ldS1 In.S1
  rw [ldK_eq, ldQ_eq, ldHi_eq, if_pos hu]
theorem ldO_eq (hu : u.val < 4) : ldO arg1 harg1 arg2 harg2 arg3 harg3 arg4 harg4 A u = A.oU u := by
  unfold ldO In.oU
  rw [ldS0_eq _ _ _ _ _ _ _ _ hu, ldS1_eq _ _ _ _ _ _ _ _ hu, ldV_eq]
theorem ldL_eq (hu : u.val < 4) : ldL arg1 harg1 arg2 harg2 arg4 harg4 A u = A.lU u := by
  unfold ldL In.lU
  rw [ldS0_eq _ _ _ _ _ _ _ _ hu, ldS1_eq _ _ _ _ _ _ _ _ hu]

/-! ## The run's pieces -/

/-- The pieces of the first four units. -/
def firstO : List (View.Piece (Elt F) S4096x128 .bf16) :=
  [⟨Rect.unit (s := S4096x128) ![128 * (3 : Fin 32).val, 0] S128x128.size (inb_rows 3), ldO arg1 harg1 arg2 harg2 arg3 harg3 arg4 harg4 A 3⟩,
   ⟨Rect.unit (s := S4096x128) ![128 * (2 : Fin 32).val, 0] S128x128.size (inb_rows 2), ldO arg1 harg1 arg2 harg2 arg3 harg3 arg4 harg4 A 2⟩,
   ⟨Rect.unit (s := S4096x128) ![128 * (1 : Fin 32).val, 0] S128x128.size (inb_rows 1), ldO arg1 harg1 arg2 harg2 arg3 harg3 arg4 harg4 A 1⟩,
   ⟨Rect.unit (s := S4096x128) ![128 * (0 : Fin 32).val, 0] S128x128.size (inb_rows 0), ldO arg1 harg1 arg2 harg2 arg3 harg3 arg4 harg4 A 0⟩]
def firstL : List (View.Piece (Elt F) S1x32x8x256 .f32) :=
  [⟨Rect.unit (s := S1x32x8x256) ![0, (3 : Fin 32).val, 0, 0] S1x1x8x256.size (inb_row 3), ldL arg1 harg1 arg2 harg2 arg4 harg4 A 3⟩,
   ⟨Rect.unit (s := S1x32x8x256) ![0, (2 : Fin 32).val, 0, 0] S1x1x8x256.size (inb_row 2), ldL arg1 harg1 arg2 harg2 arg4 harg4 A 2⟩,
   ⟨Rect.unit (s := S1x32x8x256) ![0, (1 : Fin 32).val, 0, 0] S1x1x8x256.size (inb_row 1), ldL arg1 harg1 arg2 harg2 arg4 harg4 A 1⟩,
   ⟨Rect.unit (s := S1x32x8x256) ![0, (0 : Fin 32).val, 0, 0] S1x1x8x256.size (inb_row 0), ldL arg1 harg1 arg2 harg2 arg4 harg4 A 0⟩]

set_option maxHeartbeats 2000000 in
theorem run_pieces_O : (kernelRun0_A (F := F) c i arg1 harg1 arg2 harg2 arg3 harg3 arg4 harg4 arg5 harg5 arg6 harg6 A.k A.qt A.vt A.bias).1
    = (pieces c i arg1 harg1 arg2 harg2 arg3 harg3 arg4 harg4 arg5 harg5 arg6 harg6 A (Scf.trips (4#32) (Scalar.addi 4#32 28#32) 1#32)).1
      ++ firstO arg1 harg1 arg2 harg2 arg3 harg3 arg4 harg4 A := by
  with_unfolding_all rfl

set_option maxHeartbeats 2000000 in
theorem run_pieces_L : (kernelRun0_A (F := F) c i arg1 harg1 arg2 harg2 arg3 harg3 arg4 harg4 arg5 harg5 arg6 harg6 A.k A.qt A.vt A.bias).2.1
    = (pieces c i arg1 harg1 arg2 harg2 arg3 harg3 arg4 harg4 arg5 harg5 arg6 harg6 A (Scf.trips (4#32) (Scalar.addi 4#32 28#32) 1#32)).2
      ++ firstL arg1 harg1 arg2 harg2 arg4 harg4 A := by
  with_unfolding_all rfl

theorem trips_all : Scf.trips (4#32) (Scalar.addi 4#32 28#32) 1#32 = 28 := by decide +kernel

/-- After the first four units their rows are written. -/
theorem first_read (V5 : View sig .tc .vmem S4096x128 .bf16) (V6 : View sig .tc .vmem S1x32x8x256 .f32) (G5 : V5.ty.Contents (Elt F)) (G6 : V6.ty.Contents (Elt F)) :
    (∀ y : S4096x128.Idx, (unitO y).val < 4 → V5.read (Elt F) (V5.writes (Elt F) G5 (firstO arg1 harg1 arg2 harg2 arg3 harg3 arg4 harg4 A)) y = O A y)
    ∧ (∀ y : S1x32x8x256.Idx, (unitL y).val < 4 → V6.read (Elt F) (V6.writes (Elt F) G6 (firstL arg1 harg1 arg2 harg2 arg4 harg4 A)) y = L A y) := by
  have stepO : ∀ (u : Fin 32) (hu : u.val < 4) (P : List (View.Piece (Elt F) S4096x128 .bf16)),
      (∀ y : S4096x128.Idx, (unitO y).val < u.val → V5.read (Elt F) (V5.writes (Elt F) G5 P) y = O A y) →
      ∀ y : S4096x128.Idx, (unitO y).val < u.val + 1 → V5.read (Elt F) (V5.writes (Elt F) G5
        (⟨Rect.unit (s := S4096x128) ![128 * u.val, 0] S128x128.size (inb_rows u), ldO arg1 harg1 arg2 harg2 arg3 harg3 arg4 harg4 A u⟩ :: P)) y = O A y := by
    intro u hu P h y hy
    rw [ldO_eq _ _ _ _ _ _ _ _ _ _ hu]
    exact (congrFun (V5.read_writes_cons_put G5 (inb_rows u) (A.oU u) P rfl) y).trans (O_step A u _ h y hy)
  have stepL : ∀ (u : Fin 32) (hu : u.val < 4) (P : List (View.Piece (Elt F) S1x32x8x256 .f32)),
      (∀ y : S1x32x8x256.Idx, (unitL y).val < u.val → V6.read (Elt F) (V6.writes (Elt F) G6 P) y = L A y) →
      ∀ y : S1x32x8x256.Idx, (unitL y).val < u.val + 1 → V6.read (Elt F) (V6.writes (Elt F) G6
        (⟨Rect.unit (s := S1x32x8x256) ![0, u.val, 0, 0] S1x1x8x256.size (inb_row u), ldL arg1 harg1 arg2 harg2 arg4 harg4 A u⟩ :: P)) y = L A y := by
    intro u hu P h y hy
    rw [ldL_eq _ _ _ _ _ _ _ _ hu]
    exact (congrFun (V6.read_writes_cons_put G6 (inb_row u) (A.lU u) P rfl) y).trans (L_step A u _ h y hy)
  exact ⟨stepO 3 (by decide) _ (stepO 2 (by decide) _ (stepO 1 (by decide) _ (stepO 0 (by decide) _ fun y hy => absurd hy (Nat.not_lt_zero _)))),
    stepL 3 (by decide) _ (stepL 2 (by decide) _ (stepL 1 (by decide) _ (stepL 0 (by decide) _ fun y hy => absurd hy (Nat.not_lt_zero _))))⟩

/-- What the run leaves in its two output blocks. -/
theorem out_O : out0_A_4 (F := F) c i arg1 harg1 arg2 harg2 arg3 harg3 arg4 harg4 arg5 harg5 arg6 harg6 A.k A.qt A.vt A.bias = O A := by
  unfold out0_A_4
  rw [run_pieces_O, trips_all, View.writes_append]
  obtain ⟨f5, f6⟩ := first_read arg1 harg1 arg2 harg2 arg3 harg3 arg4 harg4 A VO0_4 VO0_5 VO0_4.junk VO0_5.junk
  funext y
  exact (pieces_read c i arg1 harg1 arg2 harg2 arg3 harg3 arg4 harg4 arg5 harg5 arg6 harg6 A VO0_4 VO0_5 _ _ f5 f6 28 le_rfl).1 y (unitO y).isLt
theorem out_L : out0_A_5 (F := F) c i arg1 harg1 arg2 harg2 arg3 harg3 arg4 harg4 arg5 harg5 arg6 harg6 A.k A.qt A.vt A.bias = L A := by
  unfold out0_A_5
  rw [run_pieces_L, trips_all, View.writes_append]
  obtain ⟨f5, f6⟩ := first_read arg1 harg1 arg2 harg2 arg3 harg3 arg4 harg4 A VO0_4 VO0_5 VO0_4.junk VO0_5.junk
  funext y
  exact (pieces_read c i arg1 harg1 arg2 harg2 arg3 harg3 arg4 harg4 arg5 harg5 arg6 harg6 A VO0_4 VO0_5 _ _ f5 f6 28 le_rfl).2 y (unitL y).isLt

end Cert.KernelFwdIdeal.Fwd

end
-- ==== Proof.FwdHost.lean ====
/- What the program's host lines hand the attention's forward kernel, entry by entry. -/
module

public import proofs.«01_k».proof.Proof.FwdPair
public import proofs.«01_k».proof.Proof.FwdRun
public import proofs.«01_k».proof.Proof.AttnReads
public import proofs.«01_k».proof.Proof.Gen.KernelFwdIdeal.Value
public import Idealize.ShloMosaic.Lib.Claim
public import Idealize.ShloMosaic.Lib.Pipeline.ValueKit

@[expose] public section

set_option maxRecDepth 16384

noncomputable section

namespace Cert.KernelFwdIdeal.Fwd

open Idealize.ShloMosaic Idealize.ShloMosaic.TcCoe Idealize.SL.Sem
open Cert.KernelFwdIdeal Cert.KernelFwdIdeal.Gen Cert.Attn
open Cert.KernelAttnIdeal.Att (padded bias_layout)

variable (W : Valuation τ sig (Elt Ideal))

/-- The program's arguments. -/
abbrev qA : FVec Ideal S4096x512 .f32 := W (Proc.tc.devRef main_arg0)
abbrev kA : FVec Ideal S4096x512 .f32 := W (Proc.tc.devRef main_arg1)
abbrev vA : FVec Ideal S4096x512 .f32 := W (Proc.tc.devRef main_arg2)
abbrev tA : FVec Ideal S8x257 .f32 := W (Proc.tc.devRef main_arg3)

/-- They as data; the forward pass has no cotangent. -/
abbrev dat : Data := data (qA W) (kA W) (vA W) (tA W) fun _ => 0

/-- They are reals. -/
structure Fine : Prop where
  q : Reals (qA W)
  k : Reals (kA W)
  v : Reals (vA W)
  t : Reals (tA W)

/-- The host lines: the places of the bias table that are read; the table's layout and the arguments'. -/
abbrev early : List (HloOp τ sig (Elt Ideal)) := [hostOps0, hostOps0_1, hostOps0_2.take 11].flatten
abbrev read : List (HloOp τ sig (Elt Ideal)) := (hostOps0_2.drop 11).take 1
abbrev late : List (HloOp τ sig (Elt Ideal)) :=
  [hostOps0_2.drop 12, hostOps0_3, hostOps0_4, hostOps0_5, hostOps0_6, hostOps0_7, hostOps0_8, hostOps0_9, hostOps0_10].flatten

abbrev handed (W : Valuation τ sig (Elt Ideal)) : Valuation τ sig (Elt Ideal) := StableHlo.after late (StableHlo.after read (StableHlo.after early W))

theorem V_eq (m : (ℓ : Loc nD τ sig) → Buf (Elt Ideal) ℓ) (c : Dev nD) (b : Ref sig Kind.tc) :
    V m c b = handed (fun b => m (c, b)) (Proc.tc.devRef b) := by
  show StableHlo.after (early ++ (read ++ late)) _ _ = _
  rw [StableHlo.after_append, StableHlo.after_append]

theorem early_args : qA (StableHlo.after early W) = qA W ∧ kA (StableHlo.after early W) = kA W ∧ vA (StableHlo.after early W) = vA W
    ∧ tA (StableHlo.after early W) = tA W := by
  unfold qA kA vA tA
  simp only [hostOps0, hostOps0_1, hostOps0_2, List.take_succ_cons, List.take_zero, List.flatten_cons, List.flatten_nil, List.cons_append, List.nil_append, List.append_nil]
  after_results_simp
  exact ⟨trivial, trivial, trivial, trivial⟩

theorem read_args (E : Valuation τ sig (Elt Ideal)) : qA (StableHlo.after read E) = qA E ∧ kA (StableHlo.after read E) = kA E ∧ vA (StableHlo.after read E) = vA E := by
  unfold qA kA vA
  simp only [read, hostOps0_2, List.take_succ_cons, List.take_zero, List.drop_succ_cons, List.drop_zero]
  after_results_simp
  exact ⟨trivial, trivial, trivial⟩

/-- The places of the table that are read. -/
abbrev placed (E : Valuation τ sig (Elt Ideal)) : IVec S64x576x1 32 := E (Proc.tc.devRef main_v17)

/-- The clipped distances behind them. -/
abbrev clipped (E : Valuation τ sig (Elt Ideal)) : IVec S64x576 32 := E (Proc.tc.devRef main_v11)

set_option maxHeartbeats 2000000 in
theorem early_dist (i : Fin 64) (a : Fin 576) : clipped (StableHlo.after early W) (ix2 i a) = Cert.Attn.dist i.val a.val := by
  unfold clipped Cert.Attn.dist
  simp only [hostOps0, hostOps0_1, hostOps0_2, List.flatten_cons, List.flatten_nil, List.cons_append, List.nil_append, List.append_nil, List.take_succ_cons, List.take_zero]
  after_results_simp
  simp only [StableHlo.TRef.toBuf, StableHlo.TRef.ofBuf, cast_eq]
  pointwise []
  rfl

set_option maxHeartbeats 2000000 in
theorem early_placed (i : Fin 64) (a : Fin 576) : placed (StableHlo.after early W) (ix3 i a 0)
    = Scalar.select (IntOp.cmpi CmpIPredicate.slt (dist i.val a.val) 0#32) (IntOp.addi (dist i.val a.val) 257#32) (dist i.val a.val) := by
  rw [← early_dist W i a]
  unfold clipped placed
  simp only [hostOps0, hostOps0_1, hostOps0_2, List.flatten_cons, List.flatten_nil, List.cons_append, List.nil_append, List.append_nil, List.take_succ_cons, List.take_zero]
  after_results_simp
  simp only [StableHlo.TRef.toBuf, StableHlo.TRef.ofBuf, cast_eq]
  pointwise []

/-- The bias by head, row of the chunk and place in the band, as the host reads it from the table. -/
abbrev gathered (T : FVec Ideal S8x257 .f32) (X : IVec S64x576x1 32) : FVec Ideal S8x64x576 .f32 :=
  Host.gather gather_S8x257_S64x576x1_S8x64x576_0_1_n_n_1_2_81 T X

/-- The table's layout is made of it. -/
abbrev laid (E : Valuation τ sig (Elt Ideal)) : FVec Ideal S8x64x576 .f32 := E (Proc.tc.devRef main_v18)

theorem read_gathered (E : Valuation τ sig (Elt Ideal)) : laid (StableHlo.after read E) = gathered (tA E) (placed E) := by
  unfold laid gathered tA placed
  simp only [read, hostOps0_2, List.take_succ_cons, List.take_zero, List.drop_succ_cons, List.drop_zero]
  after_results_simp

theorem gathered_at (T : FVec Ideal S8x257 .f32) (hT : Reals T) (X : IVec S64x576x1 32) (h : Fin 8) (i : Fin 64) (a : Fin 576)
    (hd : X (ix3 i a 0) = Scalar.select (IntOp.cmpi CmpIPredicate.slt (dist i.val a.val) 0#32) (IntOp.addi (dist i.val a.val) 257#32) (dist i.val a.val)) :
    gathered T X (ix3 h i a) = ((cell T h.val (column i.val a.val) : ℝ) : EReal) := by
  refine Eq.trans ?_ (hT.at h ⟨column i.val a.val, by unfold column; omega⟩ h.val (column i.val a.val) rfl rfl)
  refine (gather_tab _ _ _ h i a).trans ?_
  refine congrArg (fun c => T (ix2 h c)) (Fin.ext ?_)
  unfold column
  dsimp only
  rw [hd]

set_option maxHeartbeats 2000000 in
theorem late_bias (E : Valuation τ sig (Elt Ideal)) (l p : Fin 4) (r : Fin 640) (j : Fin 256) :
    ((StableHlo.after late E (Proc.tc.devRef main_v30) : FVec Ideal S4x4x640x256 .f32) (ix4 l p r j) : EReal) = if h : 64 * (j.val / 128) ≤ r.val ∧ r.val < 64 * (j.val / 128) + 576 then
      laid E (ix3 ⟨2 * p.val + j.val / 64 % 2, by omega⟩ ⟨j.val % 64, by omega⟩ ⟨r.val - 64 * (j.val / 128), by omega⟩) else ⊥ := by
  unfold laid
  simp only [hostOps0_2, List.drop_succ_cons, List.drop_zero, hostOps0_3, hostOps0_4, hostOps0_5, hostOps0_6, hostOps0_7, hostOps0_8, hostOps0_9, hostOps0_10, List.flatten_cons, List.flatten_nil, List.cons_append, List.nil_append, List.append_nil]
  after_results_simp
  after_results_loop
  simp only [StableHlo.TRef.toBuf, StableHlo.TRef.ofBuf, cast_eq]
  pointwise []
  exact bias_layout (laid E) _ neg_infinity p r j

set_option maxHeartbeats 2000000 in
theorem late_qt (E : Valuation τ sig (Elt Ideal)) (s : Fin 4096) (j : Fin 512) :
    ((StableHlo.after late E (Proc.tc.devRef main_v38) : FVec Ideal S512x4096 .bf16) (ix2 j s) : EReal) = qA E (ix2 s j) * Ideal.ofBits FTy.f32 1040187392#32 := by
  simp only [hostOps0_2, List.drop_succ_cons, List.drop_zero, hostOps0_3, hostOps0_4, hostOps0_5, hostOps0_6, hostOps0_7, hostOps0_8, hostOps0_9, hostOps0_10, List.flatten_cons, List.flatten_nil, List.cons_append, List.nil_append, List.append_nil]
  after_results_simp
  pointwise []

set_option maxHeartbeats 2000000 in
theorem late_k (E : Valuation τ sig (Elt Ideal)) (s : Fin 4608) (j : Fin 512) :
    ((StableHlo.after late E (Proc.tc.devRef main_v32) : FVec Ideal S4608x512 .bf16) (ix2 s j) : EReal) = if h : 512 ≤ s.val ∧ s.val - 512 < 4096 then kA E (ix2 ⟨s.val - 512, h.2⟩ j) else FloatOps.sitofp (F := Ideal) FTy.f32 0#32 := by
  simp only [hostOps0_2, List.drop_succ_cons, List.drop_zero, hostOps0_3, hostOps0_4, hostOps0_5, hostOps0_6, hostOps0_7, hostOps0_8, hostOps0_9, hostOps0_10, List.flatten_cons, List.flatten_nil, List.cons_append, List.nil_append, List.append_nil]
  after_results_simp
  simp only [StableHlo.TRef.toBuf, StableHlo.TRef.ofBuf, cast_eq]
  pointwise []

set_option maxHeartbeats 2000000 in
theorem late_vt (E : Valuation τ sig (Elt Ideal)) (s : Fin 4608) (j : Fin 512) :
    ((StableHlo.after late E (Proc.tc.devRef main_v39) : FVec Ideal S512x4608 .bf16) (ix2 j s) : EReal) = if h : 512 ≤ s.val ∧ s.val - 512 < 4096 then vA E (ix2 ⟨s.val - 512, h.2⟩ j) else FloatOps.sitofp (F := Ideal) FTy.f32 0#32 := by
  simp only [hostOps0_2, List.drop_succ_cons, List.drop_zero, hostOps0_3, hostOps0_4, hostOps0_5, hostOps0_6, hostOps0_7, hostOps0_8, hostOps0_9, hostOps0_10, List.flatten_cons, List.flatten_nil, List.cons_append, List.nil_append, List.append_nil]
  after_results_simp
  simp only [StableHlo.TRef.toBuf, StableHlo.TRef.ofBuf, cast_eq]
  pointwise []

/-! ## The blocks -/

theorem idx : ∀ t : Fin cfg0.N, win0_0.index t = ![0, t.val] ∧ win0_1.index t = ![t.val, 0] ∧ win0_2.index t = ![t.val, 0] ∧ win0_3.index t = ![0, t.val, 0, 0]
    ∧ win0_4.index t = ![0, t.val] ∧ win0_5.index t = ![t.val, 0, 0, 0] :=
  (by decide +kernel : ∀ t : Fin grid0.N, _)

section
variable (t : Fin cfg0.N)

theorem t_lt : t.val < 4 := t.isLt

theorem blk_0 (X : FVec Ideal S4608x512 .bf16) (s : Fin 4608) (f : Fin 128) :
    ((cfg0.win 0).blk t).view.read (Elt Ideal) X (ix2 s f) = X (ix2 s ⟨128 * t.val + f.val, by have := t_lt t; omega⟩) := by
  blk_ext [idx t]
theorem blk_1 (X : FVec Ideal S512x4096 .bf16) (f : Fin 128) (s : Fin 4096) :
    ((cfg0.win 1).blk t).view.read (Elt Ideal) X (ix2 f s) = X (ix2 ⟨128 * t.val + f.val, by have := t_lt t; omega⟩ s) := by
  blk_ext [idx t]
theorem blk_2 (X : FVec Ideal S512x4608 .bf16) (f : Fin 128) (s : Fin 4608) :
    ((cfg0.win 2).blk t).view.read (Elt Ideal) X (ix2 f s) = X (ix2 ⟨128 * t.val + f.val, by have := t_lt t; omega⟩ s) := by
  blk_ext [idx t]
theorem blk_3 (X : FVec Ideal S4x4x640x256 .f32) (r : Fin 640) (j : Fin 256) :
    ((cfg0.win 3).blk t).view.read (Elt Ideal) X (ix4 0 0 r j) = X (ix4 0 ⟨t.val, t_lt t⟩ r j) := by
  blk_ext [idx t]
end

section Handed
variable {W} (H : Fine W)
include H

theorem qt_handed (s : Fin 4096) (j : Fin 512) : ((handed W (Proc.tc.devRef main_v38) : FVec Ideal S512x4096 .bf16) (ix2 j s) : EReal) = (((dat W).q s.val j.val * (1 / 8) : ℝ) : EReal) := by
  refine (late_qt _ s j).trans ?_
  rw [(read_args _).1, (early_args W).1, eighth, H.q.cell, ← EReal.coe_mul]
  rfl
theorem k_handed (s : Fin 4608) (j : Fin 512) : ((handed W (Proc.tc.devRef main_v32) : FVec Ideal S4608x512 .bf16) (ix2 s j) : EReal) = (((dat W).kp s.val j.val : ℝ) : EReal) := by
  refine (late_k _ s j).trans ?_
  rw [(read_args _).2.1, (early_args W).2.1]
  exact padded H.k _ _ _ _ _ (by omega) (fun _ => rfl) rfl
theorem vt_handed (s : Fin 4608) (j : Fin 512) : ((handed W (Proc.tc.devRef main_v39) : FVec Ideal S512x4608 .bf16) (ix2 j s) : EReal) = (((dat W).vp s.val j.val : ℝ) : EReal) := by
  refine (late_vt _ s j).trans ?_
  rw [(read_args _).2.2, (early_args W).2.2.1]
  exact padded H.v _ _ _ _ _ (by omega) (fun _ => rfl) rfl
theorem bias_handed (p : Fin 4) (r : Fin 640) (j : Fin 256) : ((handed W (Proc.tc.devRef main_v30) : FVec Ideal S4x4x640x256 .f32) (ix4 0 p r j) : EReal)
    = if 64 * (j.val / 128) ≤ r.val ∧ r.val < 64 * (j.val / 128) + 576 then
      (((dat W).tab (2 * p.val + j.val / 64 % 2) (j.val % 64) (r.val - 64 * (j.val / 128)) : ℝ) : EReal) else ⊥ := by
  have D := early_placed W
  have T := (early_args W).2.2.2
  refine (late_bias _ 0 p r j).trans ?_
  rw [read_gathered]
  generalize StableHlo.after early W = E at D T ⊢
  rw [T]
  by_cases h : 64 * (j.val / 128) ≤ r.val ∧ r.val < 64 * (j.val / 128) + 576
  · rw [dif_pos h, if_pos h]
    exact gathered_at (tA W) H.t _ _ _ _ (D _ _)
  · rw [dif_neg h, if_neg h]

end Handed

/-- The blocks of a grid point. -/
abbrev inp (m : (ℓ : Loc nD τ sig) → Buf (Elt Ideal) ℓ) (c : Dev nD) (t : Fin cfg0.N) : In Ideal :=
  ⟨iblk m c 0 t, iblk m c 1 t, iblk m c 2 t, iblk m c 3 t⟩

set_option maxHeartbeats 2000000 in
/-- The blocks of pair `t` hold the problem's arrays. -/
theorem reads (m : (ℓ : Loc nD τ sig) → Buf (Elt Ideal) ℓ) (c : Dev nD) (t : Fin cfg0.N) (H : Fine (fun b => m (c, b))) :
    Reads (inp m c t) (dat (fun b => m (c, b))) t.val := by
  constructor
  · intro s f
    exact (blk_0 t _ s f).trans ((congrFun (V_eq m c main_v32) _).trans (k_handed H s _))
  · intro f s
    exact (blk_1 t _ f s).trans ((congrFun (V_eq m c main_v38) _).trans (qt_handed H s _))
  · intro f s
    exact (blk_2 t _ f s).trans ((congrFun (V_eq m c main_v39) _).trans (vt_handed H s _))
  · intro r j
    exact (blk_3 t _ r j).trans ((congrFun (V_eq m c main_v30) _).trans (bias_handed H ⟨t.val, t_lt t⟩ r j))

end Cert.KernelFwdIdeal.Fwd

end
-- ==== Proof.FwdRef.lean ====
/- The reference's two arrays of the attention's forward pass, entry by entry. -/
module

public import proofs.«01_k».proof.Proof.FwdMath
public import proofs.«01_k».proof.Proof.AttnRefScores
public import proofs.«01_k».proof.Proof.Gen.ReferenceFwdIdeal.Run
public import proofs.«01_k».proof.Proof.Gen.ReferenceFwdIdeal.Read
public import Idealize.ShloMosaic.Lib.Pointwise

@[expose] public section

set_option maxRecDepth 16384

noncomputable section

namespace Cert.ReferenceFwdIdeal.Fwd

open Idealize.ShloMosaic Idealize.ShloMosaic.TcCoe Idealize.SL.Sem
open Cert.ReferenceFwdIdeal Cert.ReferenceFwdIdeal.Gen Cert.ReferenceFwdIdeal.Read Cert.Attn
open Cert.KernelAttnIdeal.Att (band_word valid_word)
open Cert.ReferenceAttnIdeal.Att (padded zero_word)

/-- The chunk a place of the band lies in. -/
theorem chunk (n : Fin 64) (a : Fin 9) : (val_main_v15 (F := Ideal) : IVec S64x9 32) (ix2 n a) = IntOp.addi (BitVec.ofNat 32 n.val) (BitVec.ofNat 32 a.val) := by
  unfold val_main_v15 val_main_v13 val_main_v14 val_main_v10 val_main_v12 val_main_v9 val_main_v11
  pointwise []

theorem place (n : Fin 64) (a : Fin 9) : ((val_main_v21 (F := Ideal) : IVec S64x9x1 32) (ix3 n a 0)).toInt = ((n.val + a.val : ℕ) : Int) := by
  rw [← band_word n a, ← chunk n a]
  unfold val_main_v21 val_main_v20 val_main_v19 val_main_v18 val_main_v17 val_main_v16 val_main_c val_main_c_0
  pointwise []

theorem place' (n : Fin 64) (a : Fin 9) : ((val_main_v29 (F := Ideal) : IVec S64x9x1 32) (ix3 n a 0)).toInt = ((n.val + a.val : ℕ) : Int) := by
  rw [← band_word n a, ← chunk n a]
  unfold val_main_v29 val_main_v28 val_main_v27 val_main_v26 val_main_v25 val_main_v24 val_main_c_1 val_main_c_2
  pointwise []

theorem valid (n : Fin 64) (h : Fin 8) (i : Fin 64) (A : Fin 576) :
    (val_main_call1_v1 (F := Ideal) : IVec S1x64x8x64x576 1) (ix5 0 n h i A) = if 512 ≤ 64 * n.val + A.val then 1#1 else 0#1 := by
  have e : (if 512 ≤ 64 * n.val + A.val then 1#1 else 0#1 : BitVec 1) = if 8 ≤ n.val + (A.val / 64) then 1#1 else 0#1 := if_congr (by omega) rfl rfl
  refine Eq.trans ?_ ((valid_word n ⟨A.val / 64, by omega⟩).trans e.symm)
  rw [← chunk]
  unfold val_main_call1_v1 val_main_v58 val_main_v57 val_main_v56 val_main_v55 val_main_v54 val_main_c_10
  pointwise []

theorem distance (i : Fin 64) (a : Fin 576) : (val_main_v43 (F := Ideal) : IVec S64x576 32) (ix2 i a) = Cert.Attn.dist i.val a.val := by
  unfold val_main_v43 val_main_v42 val_main_v41 val_main_call0_v4 val_main_call0_v3 val_main_call0_v2 val_main_call0_v1 val_main_call0_v0 val_main_v40 val_main_v39
    val_main_v38 val_main_v37 val_main_v36 val_main_v35 val_main_v34 val_main_v33 val_main_v32 val_main_c_3 val_main_c_4 val_main_c_5 val_main_c_6 Cert.Attn.dist
  pointwise []
  rfl

theorem kb {x : FVec Ideal S4096x512 .f32} (H : Reals x) (n : Fin 64) (A : Fin 576) (h : Fin 8) (e : Fin 64) :
    (val_main_v23 (F := Ideal) x : FVec Ideal S1x64x576x8x64 .f32) (ix5 0 n A h e)
      = (((if 64 * n.val + A.val < 512 then 0 else cell x (64 * n.val + A.val - 512) (64 * h.val + e.val)) : ℝ) : EReal) := by
  have p := place n ⟨A.val / 64, by omega⟩
  unfold val_main_v23 val_main_v22 val_main_v6 val_main_v5 val_main_v4 val_main_v1 val_main_cst
  generalize val_main_v21 (F := Ideal) = idx at p ⊢
  pointwise []
  refine (gather_band _ _ _ _ _ _ _ _ ⟨n.val + A.val / 64, by omega⟩ ?_).trans ?_
  · exact p
  · pointwise []
    exact padded H _ _ _ _ _ (by omega) (fun _ => by show (n.val + A.val / 64 - 8) * 64 + A.val % 64 = _; omega) (by show h.val * 64 + e.val = _; omega)

theorem vb {x : FVec Ideal S4096x512 .f32} (H : Reals x) (n : Fin 64) (A : Fin 576) (h : Fin 8) (e : Fin 64) :
    (val_main_v31 (F := Ideal) x : FVec Ideal S1x64x576x8x64 .f32) (ix5 0 n A h e)
      = (((if 64 * n.val + A.val < 512 then 0 else cell x (64 * n.val + A.val - 512) (64 * h.val + e.val)) : ℝ) : EReal) := by
  have p := place' n ⟨A.val / 64, by omega⟩
  unfold val_main_v31 val_main_v30 val_main_v8 val_main_v7 val_main_v4 val_main_v2 val_main_cst
  generalize val_main_v29 (F := Ideal) = idx at p ⊢
  pointwise []
  refine (gather_band _ _ _ _ _ _ _ _ ⟨n.val + A.val / 64, by omega⟩ ?_).trans ?_
  · exact p
  · pointwise []
    exact padded H _ _ _ _ _ (by omega) (fun _ => by show (n.val + A.val / 64 - 8) * 64 + A.val % 64 = _; omega) (by show h.val * 64 + e.val = _; omega)

theorem qb {x : FVec Ideal S4096x512 .f32} (H : Reals x) (n i : Fin 64) (h : Fin 8) (e : Fin 64) : (val_main_v3 (F := Ideal) x : FVec Ideal S1x64x64x8x64 .f32) (ix5 0 n i h e)
    = ((cell x (64 * n.val + i.val) (64 * h.val + e.val) : ℝ) : EReal) := by
  unfold val_main_v3 val_main_v0
  pointwise []
  exact H.at _ _ _ _ (by show n.val * 64 + i.val = _; omega) (by show h.val * 64 + e.val = _; omega)

theorem tab {T : FVec Ideal S8x257 .f32} (H : Reals T) (h : Fin 8) (i : Fin 64) (a : Fin 576) :
    (val_main_v50 (F := Ideal) T : FVec Ideal S8x64x576 .f32) (ix3 h i a) = ((cell T h.val (column i.val a.val) : ℝ) : EReal) := by
  have hd := distance i a
  refine Eq.trans ?_ (H.at h ⟨column i.val a.val, by unfold column; omega⟩ h.val (column i.val a.val) rfl rfl)
  unfold val_main_v50
  refine (gather_tab _ _ _ h i a).trans ?_
  unfold val_main_v49 val_main_v48 val_main_v47 val_main_v46 val_main_v45 val_main_v44 val_main_c_7 val_main_c_8
  generalize val_main_v43 (F := Ideal) = X at hd ⊢
  pointwise []
  refine congrArg (fun c => T (ix2 h c)) (Fin.ext ?_)
  unfold column
  dsimp only
  rw [hd]

section
variable {q k v : FVec Ideal S4096x512 .f32} {t : FVec Ideal S8x257 .f32} (Hq : Reals q) (Hk : Reals k) (Hv : Reals v) (Ht : Reals t) (g : FVec Ideal S4096x512 .f32)

section
include Hq Hk Ht

/-- The scores: of a place before the first chunk −∞. -/
theorem scores (n : Fin 64) (h : Fin 8) (i : Fin 64) (A : Fin 576) :
    (val_main_v62 (F := Ideal) q k t : FVec Ideal S1x64x8x64x576 .f32) (ix5 0 n h i A) = orBot (512 ≤ 64 * n.val + A.val) ((data q k v t g).sc n.val h.val i.val A.val) := by
  have tb := tab Ht h i A
  have va := valid n h i A
  have kk := fun e => kb Hk n A h e
  have qq := fun e => qb Hq n i h e
  unfold val_main_v62 val_main_v61 val_main_v60 val_main_v59 val_main_v53 val_main_v52 val_main_v51 val_main_cst_9 val_main_call1_v2 val_main_call1_v0 val_main_cst_11
  generalize val_main_v50 (F := Ideal) t = T at tb ⊢
  generalize val_main_call1_v1 (F := Ideal) = M at va ⊢
  generalize val_main_v23 (F := Ideal) k = K at kk ⊢
  generalize val_main_v3 (F := Ideal) q = Q at qq ⊢
  pointwise []
  rw [va, tb, eighth, show (id (constant (F := Ideal) S_ FTy.f32 4286578688#32) ix0 : EReal) = ⊥ from neg_infinity, Finset.sum_congr rfl fun x _ => show (Q (ix5 0 n i h x) * K (ix5 0 n A h x) : EReal)
    = ((cell q (64 * n.val + i.val) (64 * h.val + x.val) * (if 64 * n.val + A.val < 512 then 0 else cell k (64 * n.val + A.val - 512) (64 * h.val + x.val)) : ℝ) : EReal) by rw [qq, kk, ← EReal.coe_mul],
    coe_sum, ← EReal.coe_mul, ← EReal.coe_add]
  by_cases hb : 512 ≤ 64 * n.val + A.val
  · rw [if_pos hb, orBot, if_pos hb]
    unfold Data.sc
    rw [if_pos hb]
    rfl
  · rw [if_neg hb, orBot, if_neg hb]
    rfl

/-- A row's largest score is a real. -/
theorem top (n : Fin 64) (h : Fin 8) (i : Fin 64) : ∃ r : ℝ, (val_main_v63 (F := Ideal) q k t : FVec Ideal S1x64x8x64 .f32) (ix4 0 n h i) = (r : EReal) := by
  unfold val_main_v63
  have sc := scores (v := k) Hq Hk Ht q
  generalize val_main_v62 (F := Ideal) q k t = X at sc ⊢
  refine reduce_max_score X _ _ _ neg_infinity ?_ _ (ix5 0 n h i 512) ?_ ?_
  · intro y
    obtain ⟨a, n, h, i, A, rfl⟩ : ∃ a n h i A, y = ix5 a n h i A := ⟨_, _, _, _, _, eq_ix5 y⟩
    obtain rfl : a = 0 := Subsingleton.elim _ _
    rw [sc]
    exact orBot_cases _ _
  · funext b
    fin_cases b <;> rfl
  · rw [sc, orBot, if_pos (by show 512 ≤ 64 * n.val + 512; omega)]
    exact ⟨_, rfl⟩

/-- The exponentials of a row's scores over the largest. -/
theorem expd (n : Fin 64) (h : Fin 8) (i : Fin 64) (r : ℝ) (A : Fin 576) :
    Ideal.exp ((val_main_v62 (F := Ideal) q k t : FVec Ideal S1x64x8x64x576 .f32) (ix5 0 n h i A) - (r : EReal))
      = (((data q k v t g).w n.val h.val i.val A.val * Real.exp (-r) : ℝ) : EReal) := by
  rw [scores Hq Hk Ht g, exp_orBot]
  rfl

omit Hq Hk Ht

theorem bottom (n : Fin 64) (h : Fin 8) (i : Fin 64) : ((val_main_v64 (F := Ideal) : FVec Ideal S1x64x8x64 .f32) (ix4 0 n h i) : EReal) = ⊥ := by
  unfold val_main_v64 val_main_cst_13
  pointwise []
  exact neg_infinity

theorem largest (n : Fin 64) (h : Fin 8) (i : Fin 64) (r : ℝ) (hr : (val_main_v63 (F := Ideal) q k t : FVec Ideal S1x64x8x64 .f32) (ix4 0 n h i) = (r : EReal)) :
    (val_main_v65 (F := Ideal) q k t : FVec Ideal S1x64x8x64 .f32) (ix4 0 n h i) = (r : EReal) := by
  rw [val_main_v65_apply, hr, bottom]
  exact max_eq_right bot_le

/-- The scores over the largest, exponentials. -/
theorem over (n : Fin 64) (h : Fin 8) (i : Fin 64) (r : ℝ) (hr : (val_main_v63 (F := Ideal) q k t : FVec Ideal S1x64x8x64 .f32) (ix4 0 n h i) = (r : EReal)) (A : Fin 576) :
    (val_main_v69 (F := Ideal) q k t : FVec Ideal S1x64x8x64x576 .f32) (ix5 0 n h i A)
      = Ideal.exp ((val_main_v62 (F := Ideal) q k t : FVec Ideal S1x64x8x64x576 .f32) (ix5 0 n h i A) - (r : EReal)) := by
  have hr := largest n h i r hr
  unfold val_main_v69 val_main_v68 val_main_v67 val_main_v66
  generalize val_main_v65 (F := Ideal) q k t = M at hr ⊢
  generalize val_main_v62 (F := Ideal) q k t = X
  pointwise []
  rw [hr]

theorem over' (n : Fin 64) (h : Fin 8) (i : Fin 64) (r : ℝ) (hr : (val_main_v63 (F := Ideal) q k t : FVec Ideal S1x64x8x64 .f32) (ix4 0 n h i) = (r : EReal)) (A : Fin 576) :
    (val_main_v80 (F := Ideal) q k t : FVec Ideal S1x64x8x64x576 .f32) (ix5 0 n h i A)
      = Ideal.exp ((val_main_v62 (F := Ideal) q k t : FVec Ideal S1x64x8x64x576 .f32) (ix5 0 n h i A) - (r : EReal)) := by
  have hr : (val_main_v76 (F := Ideal) q k t : FVec Ideal S1x64x8x64 .f32) (ix4 0 n h i) = (r : EReal) := hr
  unfold val_main_v80 val_main_v79 val_main_v78 val_main_v77
  generalize val_main_v76 (F := Ideal) q k t = M at hr ⊢
  generalize val_main_v62 (F := Ideal) q k t = X
  pointwise []
  rw [hr]

/-- A row's sum, and what one place has of it. -/
theorem part (n : Fin 64) (h : Fin 8) (i : Fin 64) (A : Fin 576) :
    (val_main_v73 (F := Ideal) q k t : FVec Ideal S1x64x8x64x576 .f32) (ix5 0 n h i A)
      = Ideal.div ((val_main_v69 (F := Ideal) q k t : FVec Ideal S1x64x8x64x576 .f32) (ix5 0 n h i A))
        (∑ B : Fin 576, ((val_main_v69 (F := Ideal) q k t : FVec Ideal S1x64x8x64x576 .f32) (ix5 0 n h i B) : EReal)) := by
  unfold val_main_v73 val_main_v72 val_main_v71 val_main_v70 val_main_cst_14
  generalize val_main_v69 (F := Ideal) q k t = X
  pointwise []

theorem placed (s : Fin 4096) (f : Fin 512) (n : Fin 64) (h : Fin 8) (i e : Fin 64) (hs : 64 * n.val + i.val = s.val) (hf : 64 * h.val + e.val = f.val) :
    (val_main_v90 (F := Ideal) q k v t : FVec Ideal S4096x512 .bf16) (ix2 s f) = (val_main_v74 (F := Ideal) q k v t : FVec Ideal S1x64x8x64x64 .f32) (ix5 0 n h e i) := by
  unfold val_main_v90 val_main_v89 val_main_v75
  generalize val_main_v74 (F := Ideal) q k v t = X
  pointwise []
  have en : (⟨s.val / 64, by omega⟩ : Fin 64) = n := Fin.ext (by show s.val / 64 = n.val; omega)
  have ei : (⟨s.val % 64, by omega⟩ : Fin 64) = i := Fin.ext (by show s.val % 64 = i.val; omega)
  have eh : (⟨f.val / 64, by omega⟩ : Fin 8) = h := Fin.ext (by show f.val / 64 = h.val; omega)
  have ee : (⟨f.val % 64, by omega⟩ : Fin 64) = e := Fin.ext (by show f.val % 64 = e.val; omega)
  rw [en, ei, eh, ee]

theorem summed (n : Fin 64) (h : Fin 8) (e i : Fin 64) :
    (val_main_v74 (F := Ideal) q k v t : FVec Ideal S1x64x8x64x64 .f32) (ix5 0 n h e i)
      = ∑ A : Fin 576, ((val_main_v31 (F := Ideal) v : FVec Ideal S1x64x576x8x64 .f32) (ix5 0 n A h e) * (val_main_v73 (F := Ideal) q k t : FVec Ideal S1x64x8x64x576 .f32) (ix5 0 n h i A) : EReal) := by
  unfold val_main_v74
  generalize val_main_v31 (F := Ideal) v = V
  generalize val_main_v73 (F := Ideal) q k t = X
  pointwise []

theorem nought : (val_main_cst_16 (F := Ideal) (Shape.Idx.first h_S_) : EReal) = 0 := by
  unfold val_main_cst_16
  exact zero_word.trans EReal.coe_zero

theorem row (n : Fin 64) (h : Fin 8) (i : Fin 64) : (val_main_v84 (F := Ideal) q k t : FVec Ideal S1x64x8x64x1 .f32) (ix5 0 n h i 0)
    = (val_main_v76 (F := Ideal) q k t : FVec Ideal S1x64x8x64 .f32) (ix4 0 n h i)
      + Ideal.log (∑ B : Fin 576, ((val_main_v80 (F := Ideal) q k t : FVec Ideal S1x64x8x64x576 .f32) (ix5 0 n h i B) : EReal)) := by
  rw [val_main_v84_apply, val_main_v83_apply, val_main_v82_apply, val_main_v81_apply, val_main_v77_apply, nought]
  generalize val_main_v80 (F := Ideal) q k t = X
  generalize val_main_v76 (F := Ideal) q k t = M
  refine congrArg₂ (fun a b : EReal => a + b) (congrArg M ?_) (congrArg Ideal.log ((zero_add _).trans (Finset.sum_congr rfl fun B _ => congrArg X ?_)))
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl | ⟨4, _⟩ => rfl)

theorem logged (p : Fin 4) (u : Fin 32) (e : Fin 8) (j : Fin 256) (n : Fin 64) (h : Fin 8) (i : Fin 64) (hn : n.val = 2 * u.val + j.val / 128)
    (hh : h.val = 2 * p.val + j.val / 64 % 2) (hi : i.val = j.val % 64) :
    (val_main_v91 (F := Ideal) q k t : FVec Ideal S4x32x8x256 .f32) (ix4 p u e j) = (val_main_v84 (F := Ideal) q k t : FVec Ideal S1x64x8x64x1 .f32) (ix5 0 n h i 0) := by
  unfold val_main_v91 val_main_v88 val_main_v87 val_main_v86 val_main_v85
  generalize val_main_v84 (F := Ideal) q k t = X
  pointwise []
  have en : (⟨u.val * 2 + j.val / 128, by omega⟩ : Fin 64) = n := Fin.ext (by show u.val * 2 + j.val / 128 = n.val; omega)
  have ei : (⟨j.val % 64, by omega⟩ : Fin 64) = i := Fin.ext (by show j.val % 64 = i.val; omega)
  have eh : (⟨p.val * 2 + j.val / 64 % 2, by omega⟩ : Fin 8) = h := Fin.ext (by show p.val * 2 + j.val / 64 % 2 = h.val; omega)
  rw [en, ei, eh]

section
include Hq Hk Hv Ht

/-- The output. -/
theorem out (s : Fin 4096) (f : Fin 512) : (val_main_v90 (F := Ideal) q k v t : FVec Ideal S4096x512 .bf16) (ix2 s f) = (((data q k v t g).o s.val f.val : ℝ) : EReal) := by
  obtain ⟨n, hn⟩ : ∃ n : Fin 64, n.val = s.val / 64 := ⟨⟨s.val / 64, by omega⟩, rfl⟩
  obtain ⟨i, hi⟩ : ∃ i : Fin 64, i.val = s.val % 64 := ⟨⟨s.val % 64, by omega⟩, rfl⟩
  obtain ⟨h, hh⟩ : ∃ h : Fin 8, h.val = f.val / 64 := ⟨⟨f.val / 64, by omega⟩, rfl⟩
  obtain ⟨e, he⟩ : ∃ e : Fin 64, e.val = f.val % 64 := ⟨⟨f.val % 64, by omega⟩, rfl⟩
  obtain ⟨r, hr⟩ := top Hq Hk Ht n h i
  have ex := expd (v := v) Hq Hk Ht g n h i r
  have z := (data q k v t g).Zw_pos n.val h.val i.val
  rw [placed s f n h i e (by omega) (by omega), summed,
    Finset.sum_congr rfl fun A _ => show ((val_main_v31 (F := Ideal) v : FVec Ideal S1x64x576x8x64 .f32) (ix5 0 n A h e) * (val_main_v73 (F := Ideal) q k t : FVec Ideal S1x64x8x64x576 .f32) (ix5 0 n h i A) : EReal)
      = (((data q k v t g).vp (64 * n.val + A.val) (64 * h.val + e.val) * ((data q k v t g).w n.val h.val i.val A.val / (data q k v t g).Zw n.val h.val i.val) : ℝ) : EReal) by
      rw [vb Hv, part, over n h i r hr, Finset.sum_congr rfl fun B _ => over n h i r hr B, share _ _ r ex z A, ← EReal.coe_mul]
      rfl,
    coe_sum]
  unfold Data.o
  rw [hn, hh, hi, show 64 * (f.val / 64) + e.val = f.val by omega, Finset.sum_div]
  exact congrArg _ (Finset.sum_congr rfl fun A _ => (mul_div_assoc _ _ _).symm)

/-- The logarithm of a row's sum. -/
theorem lse (p : Fin 4) (u : Fin 32) (e : Fin 8) (j : Fin 256) : (val_main_v91 (F := Ideal) q k t : FVec Ideal S4x32x8x256 .f32) (ix4 p u e j)
    = ((Real.log ((data q k v t g).Zw (2 * u.val + j.val / 128) (2 * p.val + j.val / 64 % 2) (j.val % 64)) : ℝ) : EReal) := by
  obtain ⟨n, hn⟩ : ∃ n : Fin 64, n.val = 2 * u.val + j.val / 128 := ⟨⟨2 * u.val + j.val / 128, by omega⟩, rfl⟩
  obtain ⟨i, hi⟩ : ∃ i : Fin 64, i.val = j.val % 64 := ⟨⟨j.val % 64, by omega⟩, rfl⟩
  obtain ⟨h, hh⟩ : ∃ h : Fin 8, h.val = 2 * p.val + j.val / 64 % 2 := ⟨⟨2 * p.val + j.val / 64 % 2, by omega⟩, rfl⟩
  obtain ⟨r, hr⟩ := top Hq Hk Ht n h i
  have hr' : (val_main_v76 (F := Ideal) q k t : FVec Ideal S1x64x8x64 .f32) (ix4 0 n h i) = (r : EReal) := hr
  have ex := expd (v := v) Hq Hk Ht g n h i r
  have z := (data q k v t g).Zw_pos n.val h.val i.val
  rw [logged p u e j n h i hn hh hi, row, hr', Finset.sum_congr rfl fun B _ => over' n h i r hr B, ← hn, ← hh, ← hi]
  exact log_sum _ _ r ex z

end
end
end
end Cert.ReferenceFwdIdeal.Fwd
-- ==== Proof.Fwd.lean ====
/- The attention's forward call computes the attention. -/
module

public import proofs.«01_k».proof.Defs
public import proofs.«01_k».proof.Proof.FwdHost
public import proofs.«01_k».proof.Proof.FwdRef
public import proofs.«01_k».proof.Proof.AttnPre
public import proofs.«01_k».proof.Proof.Finite
public import proofs.«01_k».proof.Proof.Gen.KernelFwd.Frame
public import proofs.«01_k».proof.Proof.Gen.KernelFwdIdeal.Frame
public import Idealize.ShloMosaic.Lib.Claim

@[expose] public section

set_option maxRecDepth 16384

noncomputable section

namespace Cert.KernelFwdIdeal.Fwd

open Idealize.ShloMosaic Idealize.ShloMosaic.TcCoe Idealize.SL.Sem
open Cert.KernelFwdIdeal Cert.KernelFwdIdeal.Gen Cert.KernelFwdIdeal.Value Cert.Attn

/-- The output, and the logarithms of the rows' sums. -/
def outO (D : Data) : FVec Ideal S4096x512 .bf16 := fun j => ((D.o (j 0).val (j 1).val : ℝ) : EReal)
def outL (D : Data) : FVec Ideal S4x32x8x256 .f32 := fun j =>
  ((Real.log (D.Zw (2 * (j 1).val + (j 3).val / 128) (2 * (j 0).val + (j 3).val / 64 % 2) ((j 3).val % 64)) : ℝ) : EReal)

section
variable (m : (ℓ : Loc nD τ sig) → Buf (Elt Ideal) ℓ) (c : Dev nD) (H : Fine (fun b => m (c, b)))
include H

/-- What one grid point leaves in its blocks. -/
theorem block_o (t : Fin cfg0.N) (y : S4096x128.Idx) (Y : S4096x512.Idx) (hR : (Y 0 : Fin 4096).val = (y 0 : Fin 4096).val) (hJ : (Y 1 : Fin 512).val = 128 * t.val + (y 1 : Fin 128).val) :
    O (inp m c t) y = outO (dat (fun b => m (c, b))) Y := by
  obtain ⟨R, J, rfl⟩ : ∃ (R : Fin 4096) (J : Fin 512), Y = ix2 R J := ⟨Y 0, Y 1, eq_ix2 Y⟩
  obtain ⟨s, f, rfl⟩ : ∃ (s : Fin 4096) (f : Fin 128), y = ix2 s f := ⟨y 0, y 1, eq_ix2 y⟩
  obtain rfl : R = s := Fin.ext hR
  have e : rowO (ix2 R f) = ix2 ⟨R.val % 128, by omega⟩ f := by
    funext a
    match a with
    | ⟨0, _⟩ => exact Fin.ext (show R.val - 128 * (R.val / 128) = R.val % 128 by omega)
    | ⟨1, _⟩ => exact Fin.ext (show f.val - 0 = f.val by omega)
  unfold O outO
  rw [e, (reads m c t H).oU]
  refine congrArg (fun x : ℝ => (x : EReal)) (congrArg₂ _ ?_ hJ.symm)
  show 128 * (R.val / 128) + R.val % 128 = R.val
  omega

theorem block_l (t : Fin cfg0.N) (y : S1x32x8x256.Idx) (Y : S4x32x8x256.Idx) (hp : (Y 0 : Fin 4).val = t.val) (h1 : (Y 1 : Fin 32).val = (y 1 : Fin 32).val) (h3 : (Y 3 : Fin 256).val = (y 3 : Fin 256).val) :
    L (inp m c t) y = outL (dat (fun b => m (c, b))) Y := by
  obtain ⟨p, U, E, J, rfl⟩ : ∃ (p : Fin 4) (U : Fin 32) (E : Fin 8) (J : Fin 256), Y = ix4 p U E J := ⟨Y 0, Y 1, Y 2, Y 3, eq_ix4 Y⟩
  obtain ⟨a, u, e, j, rfl⟩ : ∃ (a : Fin 1) (u : Fin 32) (e : Fin 8) (j : Fin 256), y = ix4 a u e j := ⟨y 0, y 1, y 2, y 3, eq_ix4 y⟩
  obtain rfl : a = 0 := Subsingleton.elim _ _
  obtain rfl : U = u := Fin.ext h1
  obtain rfl : J = j := Fin.ext h3
  have r : rowL (ix4 0 U e J) = ix4 0 0 e J := by
    funext a
    match a with
    | ⟨0, _⟩ => rfl
    | ⟨1, _⟩ => exact Fin.ext (show U.val - U.val = 0 by omega)
    | ⟨2, _⟩ => rfl
    | ⟨3, _⟩ => rfl
  unfold L outL
  rw [r, (reads m c t H).lU]
  show _ = ((Real.log (Data.Zw _ (2 * U.val + J.val / 128) (2 * p.val + J.val / 64 % 2) (J.val % 64)) : ℝ) : EReal)
  rw [show p.val = t.val from hp]
  rfl

omit H in
set_option maxHeartbeats 2000000 in
theorem left_o (t : Fin cfg0.N) : (outsAt0 m c t).1 = O (inp m c t) := by
  unfold outsAt0
  dsimp only
  exact out_O (A := inp m c t) c (grid0.coords t) (ms0_0 t) (hs0_0 t) (ms0_1 t) (hs0_1 t) (ms0_2 t) (hs0_2 t) (ms0_3 t) (hs0_3 t) (ms0_4 t) (hs0_4 t) (ms0_5 t) (hs0_5 t)

omit H in
set_option maxHeartbeats 2000000 in
theorem left_l (t : Fin cfg0.N) : (outsAt0 m c t).2 = L (inp m c t) := by
  unfold outsAt0
  dsimp only
  exact out_L (A := inp m c t) c (grid0.coords t) (ms0_0 t) (hs0_0 t) (ms0_1 t) (hs0_1 t) (ms0_2 t) (hs0_2 t) (ms0_3 t) (hs0_3 t) (ms0_4 t) (hs0_4 t) (ms0_5 t) (hs0_5 t)

theorem final_o : (dats m 0 c).arrAt 4 (cfgs 0).N = outO (dat (fun b => m (c, b))) := by
  refine (dats m 0 c).arrAt_eq_of_covers 4 _ (by decide +kernel) fun t _ y => ?_
  blk_simp
  rw [after0_4, left_o]
  exact block_o m c H t y _ (by blk_simp [idx t] <;> try omega) (by blk_simp [idx t] <;> try omega)

theorem final_l : (dats m 0 c).arrAt 5 (cfgs 0).N = outL (dat (fun b => m (c, b))) := by
  refine (dats m 0 c).arrAt_eq_of_covers 5 _ (by decide +kernel) fun t _ y => ?_
  blk_simp
  rw [after0_5, left_l]
  exact block_l m c H t y _ (by blk_simp [idx t] <;> try omega) (by blk_simp [idx t] <;> try omega) (by blk_simp [idx t] <;> try omega)

end

/-- The kernel's run: its two arrays are the attention's, its arguments as they were. -/
theorem value_run (m : (ℓ : Loc nD τ sig) → Buf (Elt Ideal) ℓ) (ρ : Dev nD → PrngReg) (H : ∀ c : Dev nD, Fine (fun b => m (c, b))) :
    θ_run defs (onTc (τ := τ) (main (F := Ideal))) ⟨m, fun _ => 0, ρ⟩ (fun r => ∀ c : Dev nD,
      r.2.mem ((c.tc : Thread nD τ).loc main_v40_0) = outO (dat (fun b => m (c, b)))
      ∧ r.2.mem ((c.tc : Thread nD τ).loc main_v40_1) = outL (dat (fun b => m (c, b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final_o m c (H c)), (h c).2.1.trans (final_l m c (H c)), (h c).2.2⟩) (Value.run_blocks m ρ)

end Cert.KernelFwdIdeal.Fwd

namespace Cert.ReferenceFwdIdeal.Fwd

open Idealize.ShloMosaic Idealize.ShloMosaic.TcCoe Idealize.SL.Sem
open Cert.ReferenceFwdIdeal Cert.ReferenceFwdIdeal.Gen Cert.Attn
open Cert.KernelFwdIdeal.Fwd (outO outL)

/-- The reference's arguments as data. -/
abbrev dat (m : (ℓ : Loc nD τ sig) → Buf (Elt Ideal) ℓ) (c : Dev nD) : Data :=
  data (m ((c.tc : Thread nD τ).loc main_arg0)) (m ((c.tc : Thread nD τ).loc main_arg1)) (m ((c.tc : Thread nD τ).loc main_arg2)) (m ((c.tc : Thread nD τ).loc main_arg3)) fun _ => 0

/-- The reference's run: the same two arrays of its own arguments. -/
theorem value_run (m : (ℓ : Loc nD τ sig) → Buf (Elt Ideal) ℓ) (ρ : Dev nD → PrngReg)
    (H : ∀ c : Dev nD, Reals (r := 4096) (c := 512) (m ((c.tc : Thread nD τ).loc main_arg0)) ∧ Reals (r := 4096) (c := 512) (m ((c.tc : Thread nD τ).loc main_arg1))
      ∧ Reals (r := 4096) (c := 512) (m ((c.tc : Thread nD τ).loc main_arg2)) ∧ Reals (r := 8) (c := 257) (m ((c.tc : Thread nD τ).loc main_arg3))) :
    θ_run defs (onTc (τ := τ) (main (F := Ideal))) ⟨m, fun _ => 0, ρ⟩ (fun r => ∀ c : Dev nD,
      r.2.mem ((c.tc : Thread nD τ).loc main_v90) = outO (dat m c)
      ∧ r.2.mem ((c.tc : Thread nD τ).loc main_v91) = outL (dat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ?_) (Value.run (F := Ideal) m ρ)
  obtain ⟨h0, h1, ha⟩ := h c
  obtain ⟨p0, p1, p2, p3⟩ := H c
  refine ⟨(h0.trans (Read.val_main_v90_eq m c)).trans ?_, (h1.trans (Read.val_main_v91_eq m c)).trans ?_, ha⟩
  · funext j
    obtain ⟨s, f, rfl⟩ : ∃ (s : Fin 4096) (f : Fin 512), j = ix2 s f := ⟨j 0, j 1, eq_ix2 j⟩
    exact out p0 p1 p2 p3 _ s f
  · funext j
    obtain ⟨p, u, e, i, rfl⟩ : ∃ (p : Fin 4) (u : Fin 32) (e : Fin 8) (i : Fin 256), j = ix4 p u e i := ⟨j 0, j 1, j 2, j 3, eq_ix4 j⟩
    exact lse p0 p1 p2 p3 _ p u e i

end Cert.ReferenceFwdIdeal.Fwd

namespace Cert.Fwd

open Idealize.ShloMosaic Idealize.ShloMosaic.TcCoe Idealize.SL.Sem Cert.Attn

/-- The side conditions of the precondition's operations. -/
instance finite_facts : Cert.Pre_finite_fwd.Facts where
  bcast_S_S4096x512 := by decide
  reducesTo_S4096x512_S_d0_1 := by decide
  h_S_ := by decide
  bcast_S_S8x257 := by decide
  reducesTo_S8x257_S_d0_1 := by decide
  bcast_S_S1 := by decide
  concatenates_S1_S1_S1_S1_S4_d0 := by decide
  reducesTo_S4_S_d0 := by decide

/-- The precondition makes the four arrays ones of reals. -/
theorem finite_reals (q k v : FVec Ideal ⟨2, ![4096, 512]⟩ .f32) (t : FVec Ideal ⟨2, ![8, 257]⟩ .f32)
    (h : Cert.Pre_finite_fwd.fn (F := Ideal) q k v t = fun _ => 1#1) : Reals q ∧ Reals k ∧ Reals v ∧ Reals t := by
  unfold Cert.Pre_finite_fwd.fn Cert.Pre_finite_fwd.fn_part1 at h
  dsimp only at h
  obtain ⟨h0, h1, h2, h3⟩ := Finite.all_four _ _ _ _ _ _ _ _ h
  exact ⟨reals_of_all q _ _ _ h0, reals_of_all k _ _ _ h1, reals_of_all v _ _ _ h2, reals_of_all t _ _ _ h3⟩

/-- At finite arguments the two arrays the kernel leaves are those the reference computes. -/
theorem algebraic : Cert.algebraic_KernelFwdIdeal_ReferenceFwdIdeal_pre_finite_fwd := by
  intro m g m' g' hp he
  have K : ∀ c, Cert.KernelFwdIdeal.Fwd.Fine (fun b => m (c, b)) := fun c => by
    obtain ⟨h0, h1, h2, h3⟩ := finite_reals _ _ _ _ (hp c)
    exact ⟨h0, h1, h2, h3⟩
  have D : ∀ c, Cert.ReferenceFwdIdeal.Fwd.dat m' c = Cert.KernelFwdIdeal.Fwd.dat (fun b => m (c, b)) := fun c => by
    obtain ⟨e0, e1, e2, e3⟩ := he c
    exact congrFun (congr (congr (congr (congrArg data e0) e1) e2) e3) _
  refine ⟨_, _, Cert.KernelFwdIdeal.Fwd.value_run m g K, ?_⟩
  refine (θ_run Cert.ReferenceFwdIdeal.defs _ _).mono (fun _ h c => ?_) (Cert.ReferenceFwdIdeal.Fwd.value_run m' g' fun c => ?_)
  · have := h c
    rw [D c] at this
    exact this
  · obtain ⟨e0, e1, e2, e3⟩ := he c
    obtain ⟨h0, h1, h2, h3⟩ := K c
    exact ⟨Eq.mpr (congrArg (Reals (r := 4096) (c := 512)) e0) h0, Eq.mpr (congrArg (Reals (r := 4096) (c := 512)) e1) h1,
      Eq.mpr (congrArg (Reals (r := 4096) (c := 512)) e2) h2, Eq.mpr (congrArg (Reals (r := 8) (c := 257)) e3) h3⟩

end Cert.Fwd

end
-- ==== Proof.Mid.lean ====
/- The first layer's MLP with its residual and the norm after it: each of the kernel's row blocks is that block of the reference's arrays. -/
module

public import proofs.«01_k».proof.Defs
public import proofs.«01_k».proof.Proof.Gen.KernelMidIdeal.Frame
public import proofs.«01_k».proof.Proof.Gen.ReferenceMidIdeal.Run
public import Idealize.ShloMosaic.Lib.Pipeline.ValueKit
public import Idealize.ShloMosaic.Lib.Claim

@[expose] public section

set_option maxRecDepth 16384

noncomputable section

namespace Cert.Mid

open Idealize.ShloMosaic Idealize.ShloMosaic.TcCoe Idealize.SL.Sem
open Idealize.ShloMosaic.Pipeline (Dat)
open Cert.KernelMidIdeal Cert.KernelMidIdeal.Gen

variable (m : (ℓ : Loc nD τ sig) → Buf (Elt Ideal) ℓ)

/-- One element of a normalised row: the element over the root of the row's mean square, times the gain. -/
def normed (x : Fin 1024 → EReal) (g : EReal) (i : Fin 1024) : EReal :=
  x i * Ideal.rsqrt (Ideal.div (∑ d : Fin 1024, x d * x d) (Ideal.ofBits FTy.f32 1149239296#32) + Ideal.ofBits FTy.f32 897988541#32) * g

/-- The MLP's activation before its rectifier. -/
def act (h : FVec Ideal S4096x1024 .bf16) (w1 : FVec Ideal S4x1024x4096 .bf16) (r : Fin 4096) (f : Fin 4096) : EReal :=
  ∑ k : Fin 1024, h (ix2 r k) * w1 (ix3 0 k f)

/-- The layer's output at one element: the residual plus the MLP. -/
def sum (h : FVec Ideal S4096x1024 .bf16) (w1 : FVec Ideal S4x1024x4096 .bf16) (w2 : FVec Ideal S4x4096x1024 .bf16)
    (x : FVec Ideal S4096x1024 .f32) (r : Fin 4096) (d : Fin 1024) : EReal :=
  x (ix2 r d) + ∑ f : Fin 4096, (max (act h w1 r f) 0 * max (act h w1 r f) 0) * w2 (ix3 0 f d)

theorem idx : ∀ t : Fin cfg0.N, win0_0.index t = ![t.val, 0] ∧ win0_1.index t = ![0, 0, 0] ∧ win0_2.index t = ![0, 0, 0]
    ∧ win0_3.index t = ![t.val, 0] ∧ win0_4.index t = ![0, 0] ∧ win0_5.index t = ![t.val, 0]
    ∧ win0_6.index t = ![t.val, 0] ∧ win0_7.index t = ![t.val, 0] :=
  (by decide +kernel : ∀ t : Fin grid0.N, _)

/-- The activation one grid point computes for its rows. -/
theorem pay_act (h : FVec Ideal S256x1024 .bf16) (w : FVec Ideal S1x1024x4096 .bf16) (y : S256x4096.Idx) :
    k0_pay1 (F := Ideal) h w y = ∑ k : Fin 1024, h (ix2 (y 0) k) * w (ix3 0 k (y 1)) := by
  pointwise [k0_pay1]

/-- The output one grid point computes for its rows. -/
theorem pay_sum (h : FVec Ideal S256x1024 .bf16) (w : FVec Ideal S1x1024x4096 .bf16) (x : FVec Ideal S256x1024 .f32)
    (w2 : FVec Ideal S1x4096x1024 .bf16) (y : S256x1024.Idx) :
    k0_pay2 (F := Ideal) h w x w2 y = x y + ∑ f : Fin 4096, (max (∑ k : Fin 1024, h (ix2 (y 0) k) * w (ix3 0 k f)) 0
      * max (∑ k : Fin 1024, h (ix2 (y 0) k) * w (ix3 0 k f)) 0) * w2 (ix3 0 f (y 1)) := by
  pointwise [k0_pay2, pay_act]

/-- The norm one grid point computes for its rows. -/
theorem pay_norm (h : FVec Ideal S256x1024 .bf16) (w : FVec Ideal S1x1024x4096 .bf16) (x : FVec Ideal S256x1024 .f32)
    (w2 : FVec Ideal S1x4096x1024 .bf16) (g : FVec Ideal S1x1024 .f32) (y : S256x1024.Idx) :
    k0_pay3 (F := Ideal) h w x w2 g y = normed (fun d => k0_pay2 (F := Ideal) h w x w2 (ix2 (y 0) d)) (g (ix2 0 (y 1))) (y 1) := by
  pointwise [k0_pay3, normed]

/-- The array of activations the kernel leaves. -/
theorem final_act (c : Dev nD) : (dats m 0 c).arrAt 5 (cfgs 0).N = fun j => act (m ((c : Thread nD τ).loc main_arg0)) (m ((c : Thread nD τ).loc main_arg1)) (j 0) (j 1) := by
  refine (dats m 0 c).arrAt_eq_of_covers 5 _ (by decide +kernel) fun t _ y => ?_
  blk_simp
  rw [after0_5]; frame_out
  rw [pay_act]
  blk_point [act, iblk, V, idx t]

/-- The output of the block of rows at point `t` is the output of those rows. -/
theorem sum_block (c : Dev nD) (t : Fin cfg0.N) (r : Fin 256) (d : Fin 1024) (R : Fin 4096) (hR : (R : ℕ) = t.val * 256 + r) :
    k0_pay2 (F := Ideal) (iblk m c 0 t) (iblk m c 1 t) (iblk m c 3 t) (iblk m c 2 t) (ix2 r d)
      = sum (m ((c : Thread nD τ).loc main_arg0)) (m ((c : Thread nD τ).loc main_arg1)) (m ((c : Thread nD τ).loc main_arg2))
          (m ((c : Thread nD τ).loc main_arg3)) R d := by
  rw [pay_sum]
  have e0 : ∀ k, (iblk m c 0 t : FVec Ideal S256x1024 .bf16) (ix2 r k) = ((m ((c : Thread nD τ).loc main_arg0)) : FVec Ideal S4096x1024 .bf16) (ix2 R k) := fun k => by
    blk_ext [iblk, V, idx t]
  have e1 : ∀ k f, (iblk m c 1 t : FVec Ideal S1x1024x4096 .bf16) (ix3 0 k f) = ((m ((c : Thread nD τ).loc main_arg1)) : FVec Ideal S4x1024x4096 .bf16) (ix3 0 k f) := fun k f => by
    blk_ext [iblk, V, idx t]
  have e2 : ∀ f, (iblk m c 2 t : FVec Ideal S1x4096x1024 .bf16) (ix3 0 f d) = ((m ((c : Thread nD τ).loc main_arg2)) : FVec Ideal S4x4096x1024 .bf16) (ix3 0 f d) := fun f => by
    blk_ext [iblk, V, idx t]
  have e3 : (iblk m c 3 t : FVec Ideal S256x1024 .f32) (ix2 r d) = ((m ((c : Thread nD τ).loc main_arg3)) : FVec Ideal S4096x1024 .f32) (ix2 R d) := by
    blk_ext [iblk, V, idx t]
  unfold sum act
  simp only [ix2_0, ix2_1]
  simp only [e0, e1, e2, e3]

/-- The same at one index of the block. -/
theorem sum_point (c : Dev nD) (t : Fin cfg0.N) (y : S256x1024.Idx) (j : S4096x1024.Idx) (h0 : (j 0 : ℕ) = t.val * 256 + y 0) (h1 : (j 1 : ℕ) = y 1) :
    k0_pay2 (F := Ideal) (iblk m c 0 t) (iblk m c 1 t) (iblk m c 3 t) (iblk m c 2 t) y = sum (m ((c : Thread nD τ).loc main_arg0)) (m ((c : Thread nD τ).loc main_arg1)) (m ((c : Thread nD τ).loc main_arg2))
          (m ((c : Thread nD τ).loc main_arg3)) (j 0) (j 1) := by
  rw [← sum_block m c t (y 0) (j 1) (j 0) h0, show j 1 = y 1 from Fin.ext h1, ← eq_ix2 y]

/-- The array of outputs the kernel leaves. -/
theorem final_sum (c : Dev nD) : (dats m 0 c).arrAt 6 (cfgs 0).N = fun j => sum (m ((c : Thread nD τ).loc main_arg0)) (m ((c : Thread nD τ).loc main_arg1)) (m ((c : Thread nD τ).loc main_arg2))
          (m ((c : Thread nD τ).loc main_arg3)) (j 0) (j 1) := by
  refine (dats m 0 c).arrAt_eq_of_covers 6 _ (by decide +kernel) fun t _ y => ?_
  blk_simp
  rw [after0_6]; frame_out
  exact sum_point m c t y _ (by blk_simp [idx t] <;> try omega) (by blk_simp [idx t] <;> try omega)

/-- The norm of the block of rows at point `t` is the norm of those rows. -/
theorem norm_block (c : Dev nD) (t : Fin cfg0.N) (y : S256x1024.Idx) (j : S4096x1024.Idx) (h0 : (j 0 : ℕ) = t.val * 256 + y 0) (h1 : (j 1 : ℕ) = y 1) :
    k0_pay3 (F := Ideal) (iblk m c 0 t) (iblk m c 1 t) (iblk m c 3 t) (iblk m c 2 t) (iblk m c 4 t) y
      = normed (sum (m ((c : Thread nD τ).loc main_arg0)) (m ((c : Thread nD τ).loc main_arg1)) (m ((c : Thread nD τ).loc main_arg2))
          (m ((c : Thread nD τ).loc main_arg3)) (j 0)) (((m ((c : Thread nD τ).loc main_arg4)) : FVec Ideal S1x1024 .f32) (ix2 0 (j 1))) (j 1) := by
  rw [pay_norm, show j 1 = y 1 from Fin.ext h1, funext fun d => sum_block m c t (y 0) d (j 0) h0]
  have e4 : ∀ d, (iblk m c 4 t : FVec Ideal S1x1024 .f32) (ix2 0 d) = ((m ((c : Thread nD τ).loc main_arg4)) : FVec Ideal S1x1024 .f32) (ix2 0 d) := fun d => by
    blk_ext [iblk, V, idx t]
  exact congrArg (fun z => normed _ z _) (e4 (y 1))

/-- The normalised array the kernel leaves. -/
theorem final_norm (c : Dev nD) : (dats m 0 c).arrAt 7 (cfgs 0).N
    = fun j => normed (sum (m ((c : Thread nD τ).loc main_arg0)) (m ((c : Thread nD τ).loc main_arg1)) (m ((c : Thread nD τ).loc main_arg2))
          (m ((c : Thread nD τ).loc main_arg3)) (j 0)) (((m ((c : Thread nD τ).loc main_arg4)) : FVec Ideal S1x1024 .f32) (ix2 0 (j 1))) (j 1) := by
  refine (dats m 0 c).arrAt_eq_of_covers 7 _ (by decide +kernel) fun t _ y => ?_
  blk_simp
  rw [after0_7]; frame_out
  exact norm_block m c t y _ (by blk_simp [idx t] <;> try omega) (by blk_simp [idx t] <;> try omega)

/-- At every argument the kernel's three arrays are the reference's. -/
theorem algebraic : Cert.algebraic_KernelMidIdeal_ReferenceMidIdeal := by
  pair_intro
  · run_from Cert.KernelMidIdeal.Gen.run_main m g
  · run_from Cert.ReferenceMidIdeal.Value.run m' g'
    · rw [final_act m c]
      funext j
      pointwise [act]
    · rw [final_sum m c]
      funext j
      pointwise [sum, act]
    · rw [final_norm m c]
      funext j
      pointwise [normed, sum, act, ReferenceMidIdeal.Value.res_main_v25]
      obtain ⟨a0, a1, a2, a3, a4⟩ := hagree c
      simp only [a0, a1, a2, a3, a4]

end Cert.Mid

end
-- ==== Proof.Res.lean ====
/- The first layer's output product with its residual and the norm after it: each of the kernel's row blocks is that block of the reference's arrays. -/
module

public import proofs.«01_k».proof.Defs
public import proofs.«01_k».proof.Proof.Gen.KernelResIdeal.Frame
public import proofs.«01_k».proof.Proof.Gen.ReferenceResIdeal.Run
public import Idealize.ShloMosaic.Lib.Pipeline.ValueKit
public import Idealize.ShloMosaic.Lib.Claim

@[expose] public section

set_option maxRecDepth 16384

noncomputable section

namespace Cert.Res

open Idealize.ShloMosaic Idealize.ShloMosaic.TcCoe Idealize.SL.Sem
open Idealize.ShloMosaic.Pipeline (Dat)
open Cert.KernelResIdeal Cert.KernelResIdeal.Gen

variable (m : (ℓ : Loc nD τ sig) → Buf (Elt Ideal) ℓ)

/-- One element of a normalised row: the element over the root of the row's mean square, times the gain. -/
def normed (x : Fin 1024 → EReal) (g : EReal) (i : Fin 1024) : EReal :=
  x i * Ideal.rsqrt (Ideal.div (∑ d : Fin 1024, x d * x d) (Ideal.ofBits FTy.f32 1149239296#32) + Ideal.ofBits FTy.f32 897988541#32) * g

/-- The residual plus the product at one element. -/
def sum (a : FVec Ideal S4096x1024 .bf16) (w : FVec Ideal S4x1024x1024 .bf16) (x : FVec Ideal S4096x1024 .f32) (r : Fin 4096) (d : Fin 1024) : EReal :=
  x (ix2 r d) + ∑ k : Fin 1024, a (ix2 r k) * w (ix3 0 k d)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The sum one grid point computes for its rows. -/
theorem pay_sum (x : FVec Ideal S1024x1024 .f32) (a : FVec Ideal S1024x1024 .bf16) (w : FVec Ideal S1x1024x1024 .bf16) (y : S1024x1024.Idx) :
    k0_pay1 (F := Ideal) x a w y = x y + ∑ k : Fin 1024, a (ix2 (y 0) k) * w (ix3 0 k (y 1)) := by
  pointwise [k0_pay1]

/-- The norm one grid point computes for its rows. -/
theorem pay_norm (x : FVec Ideal S1024x1024 .f32) (a : FVec Ideal S1024x1024 .bf16) (w : FVec Ideal S1x1024x1024 .bf16)
    (g : FVec Ideal S1x1024 .f32) (y : S1024x1024.Idx) :
    k0_pay2 (F := Ideal) x a w g y = normed (fun d => k0_pay1 (F := Ideal) x a w (ix2 (y 0) d)) (g (ix2 0 (y 1))) (y 1) := by
  pointwise [k0_pay2, normed]

/-- The sum of the block of rows at point `t` is the sum of those rows. -/
theorem sum_block (c : Dev nD) (t : Fin cfg0.N) (r : Fin 1024) (d : Fin 1024) (R : Fin 4096) (hR : (R : ℕ) = t.val * 1024 + r) :
    k0_pay1 (F := Ideal) (iblk m c 2 t) (iblk m c 0 t) (iblk m c 1 t) (ix2 r d) = sum (m ((c : Thread nD τ).loc main_arg0)) (m ((c : Thread nD τ).loc main_arg1)) (m ((c : Thread nD τ).loc main_arg2)) R d := by
  rw [pay_sum]
  have e0 : ∀ k, (iblk m c 0 t : FVec Ideal S1024x1024 .bf16) (ix2 r k) = ((m ((c : Thread nD τ).loc main_arg0)) : FVec Ideal S4096x1024 .bf16) (ix2 R k) := fun k => by
    blk_ext [iblk, V, idx t]
  have e1 : ∀ k, (iblk m c 1 t : FVec Ideal S1x1024x1024 .bf16) (ix3 0 k d) = ((m ((c : Thread nD τ).loc main_arg1)) : FVec Ideal S4x1024x1024 .bf16) (ix3 0 k d) := fun k => by
    blk_ext [iblk, V, idx t]
  have e2 : (iblk m c 2 t : FVec Ideal S1024x1024 .f32) (ix2 r d) = ((m ((c : Thread nD τ).loc main_arg2)) : FVec Ideal S4096x1024 .f32) (ix2 R d) := by
    blk_ext [iblk, V, idx t]
  unfold sum
  simp only [ix2_0, ix2_1]
  simp only [e0, e1, e2]

/-- The same at one index of the block. -/
theorem sum_point (c : Dev nD) (t : Fin cfg0.N) (y : S1024x1024.Idx) (j : S4096x1024.Idx) (h0 : (j 0 : ℕ) = t.val * 1024 + y 0) (h1 : (j 1 : ℕ) = y 1) :
    k0_pay1 (F := Ideal) (iblk m c 2 t) (iblk m c 0 t) (iblk m c 1 t) y = sum (m ((c : Thread nD τ).loc main_arg0)) (m ((c : Thread nD τ).loc main_arg1)) (m ((c : Thread nD τ).loc main_arg2)) (j 0) (j 1) := by
  rw [← sum_block m c t (y 0) (j 1) (j 0) h0, show j 1 = y 1 from Fin.ext h1, ← eq_ix2 y]

/-- The array of sums the kernel leaves. -/
theorem final_sum (c : Dev nD) : (dats m 0 c).arrAt 4 (cfgs 0).N = fun j => sum (m ((c : Thread nD τ).loc main_arg0)) (m ((c : Thread nD τ).loc main_arg1)) (m ((c : Thread nD τ).loc main_arg2)) (j 0) (j 1) := by
  refine (dats m 0 c).arrAt_eq_of_covers 4 _ (by decide +kernel) fun t _ y => ?_
  blk_simp
  rw [after0_4]; frame_out
  exact sum_point m c t y _ (by blk_simp [idx t] <;> try omega) (by blk_simp [idx t] <;> try omega)

/-- The norm of the block of rows at point `t` is the norm of those rows. -/
theorem norm_block (c : Dev nD) (t : Fin cfg0.N) (y : S1024x1024.Idx) (j : S4096x1024.Idx) (h0 : (j 0 : ℕ) = t.val * 1024 + y 0) (h1 : (j 1 : ℕ) = y 1) :
    k0_pay2 (F := Ideal) (iblk m c 2 t) (iblk m c 0 t) (iblk m c 1 t) (iblk m c 3 t) y
      = normed (sum (m ((c : Thread nD τ).loc main_arg0)) (m ((c : Thread nD τ).loc main_arg1)) (m ((c : Thread nD τ).loc main_arg2)) (j 0)) (((m ((c : Thread nD τ).loc main_arg3)) : FVec Ideal S1x1024 .f32) (ix2 0 (j 1))) (j 1) := by
  rw [pay_norm, show j 1 = y 1 from Fin.ext h1, funext fun d => sum_block m c t (y 0) d (j 0) h0]
  have e3 : ∀ d, (iblk m c 3 t : FVec Ideal S1x1024 .f32) (ix2 0 d) = ((m ((c : Thread nD τ).loc main_arg3)) : FVec Ideal S1x1024 .f32) (ix2 0 d) := fun d => by
    blk_ext [iblk, V, idx t]
  exact congrArg (fun z => normed _ z _) (e3 (y 1))

/-- The normalised array the kernel leaves. -/
theorem final_norm (c : Dev nD) : (dats m 0 c).arrAt 5 (cfgs 0).N
    = fun j => normed (sum (m ((c : Thread nD τ).loc main_arg0)) (m ((c : Thread nD τ).loc main_arg1)) (m ((c : Thread nD τ).loc main_arg2)) (j 0)) (((m ((c : Thread nD τ).loc main_arg3)) : FVec Ideal S1x1024 .f32) (ix2 0 (j 1))) (j 1) := by
  refine (dats m 0 c).arrAt_eq_of_covers 5 _ (by decide +kernel) fun t _ y => ?_
  blk_simp
  rw [after0_5]; frame_out
  exact norm_block m c t y _ (by blk_simp [idx t] <;> try omega) (by blk_simp [idx t] <;> try omega)

/-- At every argument the kernel's two arrays are the reference's. -/
theorem algebraic : Cert.algebraic_KernelResIdeal_ReferenceResIdeal := by
  pair_intro
  · run_from Cert.KernelResIdeal.Gen.run_main m g
  · run_from Cert.ReferenceResIdeal.Value.run m' g'
    · rw [final_sum m c]
      funext j
      pointwise [sum]
    · rw [final_norm m c]
      funext j
      pointwise [normed, sum]

end Cert.Res

end
-- ==== Proof.Rms.lean ====
/- The first norm: each of the kernel's row blocks is that block of the reference's array. -/
module

public import proofs.«01_k».proof.Defs
public import proofs.«01_k».proof.Proof.Gen.KernelRmsIdeal.Frame
public import proofs.«01_k».proof.Proof.Gen.ReferenceRmsIdeal.Run
public import Idealize.ShloMosaic.Lib.Pipeline.ValueKit
public import Idealize.ShloMosaic.Lib.Claim

@[expose] public section

set_option maxRecDepth 16384

noncomputable section

namespace Cert.Rms

open Idealize.ShloMosaic Idealize.ShloMosaic.TcCoe Idealize.SL.Sem
open Idealize.ShloMosaic.Pipeline (Dat)
open Cert.KernelRmsIdeal Cert.KernelRmsIdeal.Gen

variable (m : (ℓ : Loc nD τ sig) → Buf (Elt Ideal) ℓ)

/-- One element of a normalised row: the element over the root of the row's mean square, times the gain. -/
def normed (x : Fin 1024 → EReal) (g : EReal) (i : Fin 1024) : EReal :=
  x i * Ideal.rsqrt (Ideal.div (∑ d : Fin 1024, x d * x d) (Ideal.ofBits FTy.f32 1149239296#32) + Ideal.ofBits FTy.f32 897988541#32) * g

theorem idx : ∀ t : Fin cfg0.N, win0_0.index t = ![t.val, 0] ∧ win0_1.index t = ![0, 0] ∧ win0_2.index t = ![t.val, 0] :=
  (by decide +kernel : ∀ t : Fin grid0.N, _)

/-- What one grid point computes for its rows. -/
theorem pay (x : FVec Ideal S512x1024 .f32) (g : FVec Ideal S1x1024 .f32) (y : S512x1024.Idx) :
    k0_pay1 (F := Ideal) x g y = normed (fun d => x (ix2 (y 0) d)) (g (ix2 0 (y 1))) (y 1) := by
  pointwise [k0_pay1, normed]

/-- The normalised array. -/
def out (x : FVec Ideal S4096x1024 .f32) (g : FVec Ideal S1x1024 .f32) : FVec Ideal S4096x1024 .bf16 :=
  fun j => normed (fun d => x (ix2 (j 0) d)) (g (ix2 0 (j 1))) (j 1)

/-- The array the kernel leaves. -/
theorem final (c : Dev nD) : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  blk_simp
  rw [after0_2]; frame_out
  rw [pay]
  blk_point [out, normed, iblk, V, idx t]

/-- At every argument the kernel's array is the reference's. -/
theorem algebraic : Cert.algebraic_KernelRmsIdeal_ReferenceRmsIdeal := by
  pair_intro
  · run_from Cert.KernelRmsIdeal.Gen.run_main m g
  · run_from Cert.ReferenceRmsIdeal.Value.run m' g'
    rw [final m c]
    funext j
    pointwise [out, normed]

end Cert.Rms

end
-- ==== Proof.lean ====
/- The claims, assembled. -/
module

public import proofs.«01_k».proof.Defs
public import Idealize.ShloMosaic.Lib.Claim
public import proofs.«01_k».proof.Proof.AttnClaims
public import proofs.«01_k».proof.Proof.AttnValue
public import proofs.«01_k».proof.Proof.Gen.ReferenceAttnIdeal.Read
public import proofs.«01_k».proof.Proof.Gen.KernelRelu.Frame
public import proofs.«01_k».proof.Proof.Gen.KernelReluIdeal.Frame
public import proofs.«01_k».proof.Proof.Gen.ReferenceReluIdeal.Run
public import proofs.«01_k».proof.Proof.Relu
public import proofs.«01_k».proof.Proof.Gen.KernelSquare.Frame
public import proofs.«01_k».proof.Proof.Gen.KernelSquareIdeal.Frame
public import proofs.«01_k».proof.Proof.Gen.ReferenceSquareIdeal.Run
public import proofs.«01_k».proof.Proof.Square
public import proofs.«01_k».proof.Proof.Gen.KernelProj.Frame
public import proofs.«01_k».proof.Proof.Gen.KernelProjIdeal.Frame
public import proofs.«01_k».proof.Proof.Gen.ReferenceProjIdeal.Run
public import proofs.«01_k».proof.Proof.Proj
public import proofs.«01_k».proof.Proof.Gen.KernelLoss.Frame
public import proofs.«01_k».proof.Proof.Gen.KernelLossIdeal.Frame
public import proofs.«01_k».proof.Proof.Gen.ReferenceLossIdeal.Run
public import proofs.«01_k».proof.Proof.Loss
public import proofs.«01_k».proof.Proof.Gen.KernelNorm.Frame
public import proofs.«01_k».proof.Proof.Gen.KernelNormIdeal.Frame
public import proofs.«01_k».proof.Proof.Gen.ReferenceNormIdeal.Run
public import proofs.«01_k».proof.Proof.Norm
public import proofs.«01_k».proof.Proof.Gen.KernelBias.Frame
public import proofs.«01_k».proof.Proof.Gen.KernelBiasIdeal.Frame
public import proofs.«01_k».proof.Proof.Gen.ReferenceBiasIdeal.Run
public import proofs.«01_k».proof.Proof.Bias
public import proofs.«01_k».proof.Proof.Gen.KernelQkv.Frame
public import proofs.«01_k».proof.Proof.Gen.KernelQkvIdeal.Frame
public import proofs.«01_k».proof.Proof.Gen.ReferenceQkvIdeal.Run
public import proofs.«01_k».proof.Proof.Qkv
public import proofs.«01_k».proof.Proof.Gen.KernelPool.Frame
public import proofs.«01_k».proof.Proof.Gen.KernelPoolIdeal.Frame
public import proofs.«01_k».proof.Proof.Gen.ReferencePoolIdeal.Run
public import proofs.«01_k».proof.Proof.Gen.KernelPoolIdeal.Value
public import proofs.«01_k».proof.Proof.Gen.KernelFwd.Frame
public import proofs.«01_k».proof.Proof.Gen.KernelFwdIdeal.Frame
public import proofs.«01_k».proof.Proof.Gen.ReferenceFwdIdeal.Run
public import proofs.«01_k».proof.Proof.Fwd
public import proofs.«01_k».proof.Proof.Gen.KernelMid.Frame
public import proofs.«01_k».proof.Proof.Gen.KernelMidIdeal.Frame
public import proofs.«01_k».proof.Proof.Gen.ReferenceMidIdeal.Run
public import proofs.«01_k».proof.Proof.Mid
public import proofs.«01_k».proof.Proof.Gen.KernelRes.Frame
public import proofs.«01_k».proof.Proof.Gen.KernelResIdeal.Frame
public import proofs.«01_k».proof.Proof.Gen.ReferenceResIdeal.Run
public import proofs.«01_k».proof.Proof.Res
public import proofs.«01_k».proof.Proof.Gen.KernelRms.Frame
public import proofs.«01_k».proof.Proof.Gen.KernelRmsIdeal.Frame
public import proofs.«01_k».proof.Proof.Gen.ReferenceRmsIdeal.Run
public import proofs.«01_k».proof.Proof.Rms

@[expose] public section

noncomputable section

namespace Cert.Proof

open Idealize.ShloMosaic Idealize.ShloMosaic.TcCoe Idealize.SL.Sem

theorem frame_attn_ref : Cert.quiescent_ReferenceAttnIdeal := fun m ρ _ =>
  (θ_run Cert.ReferenceAttnIdeal.defs _ _).mono (fun r h => ⟨fun c => (h c).2.2.2.2, sem_eq_zero_of_no_sems (by decide) r.2⟩)
    (Cert.ReferenceAttnIdeal.Value.run (F := Ideal) m ρ)

theorem frame_relu : Cert.quiescent_KernelRelu := fun m ρ _ => Cert.KernelRelu.Gen.frame m ρ
theorem frame_relu_ideal : Cert.quiescent_KernelReluIdeal := fun m ρ _ => Cert.KernelReluIdeal.Gen.frame m ρ
theorem frame_relu_ref : Cert.quiescent_ReferenceReluIdeal := fun m ρ _ =>
  (θ_run Cert.ReferenceReluIdeal.defs _ _).mono (fun r h => ⟨fun c => (h c).2, sem_eq_zero_of_no_sems (by decide) r.2⟩)
    (Cert.ReferenceReluIdeal.Value.run (F := Ideal) m ρ)

theorem frame_square : Cert.quiescent_KernelSquare := fun m ρ _ => Cert.KernelSquare.Gen.frame m ρ
theorem frame_square_ideal : Cert.quiescent_KernelSquareIdeal := fun m ρ _ => Cert.KernelSquareIdeal.Gen.frame m ρ
theorem frame_square_ref : Cert.quiescent_ReferenceSquareIdeal := fun m ρ _ =>
  (θ_run Cert.ReferenceSquareIdeal.defs _ _).mono (fun r h => ⟨fun c => (h c).2, sem_eq_zero_of_no_sems (by decide) r.2⟩)
    (Cert.ReferenceSquareIdeal.Value.run (F := Ideal) m ρ)

theorem frame_proj : Cert.quiescent_KernelProj := fun m ρ _ => Cert.KernelProj.Gen.frame m ρ
theorem frame_proj_ideal : Cert.quiescent_KernelProjIdeal := fun m ρ _ => Cert.KernelProjIdeal.Gen.frame m ρ
theorem frame_proj_ref : Cert.quiescent_ReferenceProjIdeal := fun m ρ _ =>
  (θ_run Cert.ReferenceProjIdeal.defs _ _).mono (fun r h => ⟨fun c => (h c).2.2.2.2, sem_eq_zero_of_no_sems (by decide) r.2⟩)
    (Cert.ReferenceProjIdeal.Value.run (F := Ideal) m ρ)

theorem frame_loss : Cert.quiescent_KernelLoss := fun m ρ _ => Cert.KernelLoss.Gen.frame m ρ
theorem frame_loss_ideal : Cert.quiescent_KernelLossIdeal := fun m ρ _ => Cert.KernelLossIdeal.Gen.frame m ρ
theorem frame_loss_ref : Cert.quiescent_ReferenceLossIdeal := fun m ρ _ =>
  (θ_run Cert.ReferenceLossIdeal.defs _ _).mono (fun r h => ⟨fun c => (h c).2.2.2.2, sem_eq_zero_of_no_sems (by decide) r.2⟩)
    (Cert.ReferenceLossIdeal.Value.run (F := Ideal) m ρ)

theorem frame_norm : Cert.quiescent_KernelNorm := fun m ρ _ => Cert.KernelNorm.Gen.frame m ρ
theorem frame_norm_ideal : Cert.quiescent_KernelNormIdeal := fun m ρ _ => Cert.KernelNormIdeal.Gen.frame m ρ
theorem frame_norm_ref : Cert.quiescent_ReferenceNormIdeal := fun m ρ _ =>
  (θ_run Cert.ReferenceNormIdeal.defs _ _).mono (fun r h => ⟨fun c => (h c).2.2.2, sem_eq_zero_of_no_sems (by decide) r.2⟩)
    (Cert.ReferenceNormIdeal.Value.run (F := Ideal) m ρ)

theorem frame_bias : Cert.quiescent_KernelBias := fun m ρ _ => Cert.KernelBias.Gen.frame m ρ
theorem frame_bias_ideal : Cert.quiescent_KernelBiasIdeal := fun m ρ _ => Cert.KernelBiasIdeal.Gen.frame m ρ
theorem frame_bias_ref : Cert.quiescent_ReferenceBiasIdeal := fun m ρ _ =>
  (θ_run Cert.ReferenceBiasIdeal.defs _ _).mono (fun r h => ⟨fun c => (h c).2, sem_eq_zero_of_no_sems (by decide) r.2⟩)
    (Cert.ReferenceBiasIdeal.Value.run (F := Ideal) m ρ)

theorem frame_qkv : Cert.quiescent_KernelQkv := fun m ρ _ => Cert.KernelQkv.Gen.frame m ρ
theorem frame_qkv_ideal : Cert.quiescent_KernelQkvIdeal := fun m ρ _ => Cert.KernelQkvIdeal.Gen.frame m ρ
theorem frame_qkv_ref : Cert.quiescent_ReferenceQkvIdeal := fun m ρ _ =>
  (θ_run Cert.ReferenceQkvIdeal.defs _ _).mono (fun r h => ⟨fun c => (h c).2.2.2, sem_eq_zero_of_no_sems (by decide) r.2⟩)
    (Cert.ReferenceQkvIdeal.Value.run (F := Ideal) m ρ)

theorem frame_pool : Cert.quiescent_KernelPool := fun m ρ _ => Cert.KernelPool.Gen.frame m ρ
theorem frame_pool_ideal : Cert.quiescent_KernelPoolIdeal := fun m ρ _ => Cert.KernelPoolIdeal.Gen.frame m ρ
theorem frame_pool_ref : Cert.quiescent_ReferencePoolIdeal := fun m ρ _ =>
  (θ_run Cert.ReferencePoolIdeal.defs _ _).mono (fun r h => ⟨fun c => (h c).2.2.2.2.2.2, sem_eq_zero_of_no_sems (by decide) r.2⟩)
    (Cert.ReferencePoolIdeal.Value.run (F := Ideal) m ρ)

theorem frame_fwd : Cert.quiescent_KernelFwd := fun m ρ _ => Cert.KernelFwd.Gen.frame m ρ
theorem frame_fwd_ideal : Cert.quiescent_KernelFwdIdeal := fun m ρ _ => Cert.KernelFwdIdeal.Gen.frame m ρ
theorem frame_fwd_ref : Cert.quiescent_ReferenceFwdIdeal := fun m ρ _ =>
  (θ_run Cert.ReferenceFwdIdeal.defs _ _).mono (fun r h => ⟨fun c => (h c).2.2, sem_eq_zero_of_no_sems (by decide) r.2⟩)
    (Cert.ReferenceFwdIdeal.Value.run (F := Ideal) m ρ)

theorem frame_mid : Cert.quiescent_KernelMid := fun m ρ _ => Cert.KernelMid.Gen.frame m ρ
theorem frame_mid_ideal : Cert.quiescent_KernelMidIdeal := fun m ρ _ => Cert.KernelMidIdeal.Gen.frame m ρ
theorem frame_mid_ref : Cert.quiescent_ReferenceMidIdeal := fun m ρ _ =>
  (θ_run Cert.ReferenceMidIdeal.defs _ _).mono (fun r h => ⟨fun c => (h c).2.2.2, sem_eq_zero_of_no_sems (by decide) r.2⟩)
    (Cert.ReferenceMidIdeal.Value.run (F := Ideal) m ρ)

theorem frame_res : Cert.quiescent_KernelRes := fun m ρ _ => Cert.KernelRes.Gen.frame m ρ
theorem frame_res_ideal : Cert.quiescent_KernelResIdeal := fun m ρ _ => Cert.KernelResIdeal.Gen.frame m ρ
theorem frame_res_ref : Cert.quiescent_ReferenceResIdeal := fun m ρ _ =>
  (θ_run Cert.ReferenceResIdeal.defs _ _).mono (fun r h => ⟨fun c => (h c).2.2, sem_eq_zero_of_no_sems (by decide) r.2⟩)
    (Cert.ReferenceResIdeal.Value.run (F := Ideal) m ρ)

theorem frame_rms : Cert.quiescent_KernelRms := fun m ρ _ => Cert.KernelRms.Gen.frame m ρ
theorem frame_rms_ideal : Cert.quiescent_KernelRmsIdeal := fun m ρ _ => Cert.KernelRmsIdeal.Gen.frame m ρ
theorem frame_rms_ref : Cert.quiescent_ReferenceRmsIdeal := fun m ρ _ =>
  (θ_run Cert.ReferenceRmsIdeal.defs _ _).mono (fun r h => ⟨fun c => (h c).2, sem_eq_zero_of_no_sems (by decide) r.2⟩)
    (Cert.ReferenceRmsIdeal.Value.run (F := Ideal) m ρ)

theorem claim : Cert.Claim :=
  ⟨Cert.KernelAttn.Gen.facts, Cert.KernelAttnIdeal.Gen.facts, Cert.ReferenceAttnIdeal.Gen.facts,
    Cert.KernelRelu.Gen.facts, Cert.KernelReluIdeal.Gen.facts, Cert.ReferenceReluIdeal.Gen.facts,
    Cert.KernelSquare.Gen.facts, Cert.KernelSquareIdeal.Gen.facts, Cert.ReferenceSquareIdeal.Gen.facts,
    Cert.KernelProj.Gen.facts, Cert.KernelProjIdeal.Gen.facts, Cert.ReferenceProjIdeal.Gen.facts,
    Cert.KernelLoss.Gen.facts, Cert.KernelLossIdeal.Gen.facts, Cert.ReferenceLossIdeal.Gen.facts,
    Cert.KernelNorm.Gen.facts, Cert.KernelNormIdeal.Gen.facts, Cert.ReferenceNormIdeal.Gen.facts,
    Cert.KernelBias.Gen.facts, Cert.KernelBiasIdeal.Gen.facts, Cert.ReferenceBiasIdeal.Gen.facts,
    Cert.KernelQkv.Gen.facts, Cert.KernelQkvIdeal.Gen.facts, Cert.ReferenceQkvIdeal.Gen.facts,
    Cert.KernelPool.Gen.facts, Cert.KernelPoolIdeal.Gen.facts, Cert.ReferencePoolIdeal.Gen.facts,
    Cert.KernelFwd.Gen.facts, Cert.KernelFwdIdeal.Gen.facts, Cert.ReferenceFwdIdeal.Gen.facts,
    Cert.KernelMid.Gen.facts, Cert.KernelMidIdeal.Gen.facts, Cert.ReferenceMidIdeal.Gen.facts,
    Cert.KernelRes.Gen.facts, Cert.KernelResIdeal.Gen.facts, Cert.ReferenceResIdeal.Gen.facts,
    Cert.KernelRms.Gen.facts, Cert.KernelRmsIdeal.Gen.facts, Cert.ReferenceRmsIdeal.Gen.facts,
    Cert.Attn.finite_facts,
    Cert.Proj.finite_facts,
    Cert.Norm.finite_facts,
    Cert.Qkv.finite_facts,
    Cert.Fwd.finite_facts,
    Cert.KernelAttnIdeal.Att.frame_bits, Cert.KernelAttnIdeal.Att.frame_ideal, fun m ρ _ => Cert.KernelAttnIdeal.Att.frame_ideal m ρ trivial,
    frame_attn_ref, fun m ρ _ => frame_attn_ref m ρ trivial,
    frame_relu, frame_relu_ideal, frame_relu_ref,
    frame_square, frame_square_ideal, frame_square_ref,
    frame_proj, frame_proj_ideal, fun m ρ _ => frame_proj_ideal m ρ trivial, frame_proj_ref, fun m ρ _ => frame_proj_ref m ρ trivial,
    frame_loss, frame_loss_ideal, frame_loss_ref,
    frame_norm, frame_norm_ideal, fun m ρ _ => frame_norm_ideal m ρ trivial, frame_norm_ref, fun m ρ _ => frame_norm_ref m ρ trivial,
    frame_bias, frame_bias_ideal, frame_bias_ref,
    frame_qkv, frame_qkv_ideal, fun m ρ _ => frame_qkv_ideal m ρ trivial, frame_qkv_ref, fun m ρ _ => frame_qkv_ref m ρ trivial,
    frame_pool, frame_pool_ideal, frame_pool_ref,
    frame_fwd, frame_fwd_ideal, fun m ρ _ => frame_fwd_ideal m ρ trivial, frame_fwd_ref, fun m ρ _ => frame_fwd_ref m ρ trivial,
    frame_mid, frame_mid_ideal, frame_mid_ref,
    frame_res, frame_res_ideal, frame_res_ref,
    frame_rms, frame_rms_ideal, frame_rms_ref,
    IdealRules.named_const.statement Cert.KernelAttnIdeal.κ "mask" .f32 0xF149F2CA#32 ⊥ rfl, Cert.AttnValue.algebraic,
    trivial, Cert.Relu.algebraic,
    trivial, Cert.Square.algebraic,
    trivial, Cert.Proj.algebraic,
    trivial, Cert.Loss.algebraic,
    trivial, Cert.Norm.algebraic,
    trivial, Cert.Bias.algebraic,
    trivial, Cert.Qkv.algebraic,
    trivial,
    IdealRules.named_const.statement Cert.KernelFwdIdeal.κ "mask" .f32 0xF149F2CA#32 ⊥ rfl, Cert.Fwd.algebraic,
    trivial, Cert.Mid.algebraic,
    trivial, Cert.Res.algebraic,
    trivial, Cert.Rms.algebraic⟩

end Cert.Proof

end
